-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_rope_lanes [hPre_rope_lanes : Cert.Pre_rope_lanes.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_rope_lanes.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_rope_lanes.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_rope_lanes [hPre_rope_lanes : Cert.Pre_rope_lanes.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_rope_lanes.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_rope_lanes.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_rope_lanes6 [hPre_rope_lanes6 : Cert.Pre_rope_lanes6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_rope_lanes6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_rope_lanes6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_rope_lanes6 [hPre_rope_lanes6 : Cert.Pre_rope_lanes6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_rope_lanes6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_rope_lanes6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_rope_lanes [hKernel5Ideal : Cert.Kernel5Ideal.Facts] [hPre_rope_lanes : Cert.Pre_rope_lanes.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_rope_lanes m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_rope_lanes [hReference5Ideal : Cert.Reference5Ideal.Facts] [hPre_rope_lanes : Cert.Pre_rope_lanes.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_rope_lanes m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_rope_lanes6 [hKernel6Ideal : Cert.Kernel6Ideal.Facts] [hPre_rope_lanes6 : Cert.Pre_rope_lanes6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_rope_lanes6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_rope_lanes6 [hReference6Ideal : Cert.Reference6Ideal.Facts] [hPre_rope_lanes6 : Cert.Pre_rope_lanes6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_rope_lanes6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)) (v2 : (c : Dev Cert.Kernel2Ideal.nD) → Buf (Elt Ideal) ((c.tc : Thread Cert.Kernel2Ideal.nD Cert.Kernel2Ideal.τ).loc Cert.Kernel2Ideal.main_v25_2)) (v3 : (c : Dev Cert.Kernel2Ideal.nD) → Buf (Elt Ideal) ((c.tc : Thread Cert.Kernel2Ideal.nD Cert.Kernel2Ideal.τ).loc Cert.Kernel2Ideal.main_v25_3)) (v4 : (c : Dev Cert.Kernel2Ideal.nD) → Buf (Elt Ideal) ((c.tc : Thread Cert.Kernel2Ideal.nD Cert.Kernel2Ideal.τ).loc Cert.Kernel2Ideal.main_v25_4)) (v5 : (c : Dev Cert.Kernel2Ideal.nD) → Buf (Elt Ideal) ((c.tc : Thread Cert.Kernel2Ideal.nD Cert.Kernel2Ideal.τ).loc Cert.Kernel2Ideal.main_v25_5)) (v6 : (c : Dev Cert.Kernel2Ideal.nD) → Buf (Elt Ideal) ((c.tc : Thread Cert.Kernel2Ideal.nD Cert.Kernel2Ideal.τ).loc Cert.Kernel2Ideal.main_v25_6)) (v7 : (c : Dev Cert.Kernel2Ideal.nD) → Buf (Elt Ideal) ((c.tc : Thread Cert.Kernel2Ideal.nD Cert.Kernel2Ideal.τ).loc Cert.Kernel2Ideal.main_v25_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_v25_2) = v2 c
          ∧ r.2.mem ((c.tc : Thread Cert.Kernel2Ideal.nD Cert.Kernel2Ideal.τ).loc Cert.Kernel2Ideal.main_v25_3) = v3 c
          ∧ r.2.mem ((c.tc : Thread Cert.Kernel2Ideal.nD Cert.Kernel2Ideal.τ).loc Cert.Kernel2Ideal.main_v25_4) = v4 c
          ∧ r.2.mem ((c.tc : Thread Cert.Kernel2Ideal.nD Cert.Kernel2Ideal.τ).loc Cert.Kernel2Ideal.main_v25_5) = v5 c
          ∧ r.2.mem ((c.tc : Thread Cert.Kernel2Ideal.nD Cert.Kernel2Ideal.τ).loc Cert.Kernel2Ideal.main_v25_6) = v6 c
          ∧ r.2.mem ((c.tc : Thread Cert.Kernel2Ideal.nD Cert.Kernel2Ideal.τ).loc Cert.Kernel2Ideal.main_v25_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v44) = v3 c
          ∧ r.2.mem ((c.tc : Thread Cert.Reference2Ideal.nD Cert.Reference2Ideal.τ).loc Cert.Reference2Ideal.main_v45) = v4 c
          ∧ r.2.mem ((c.tc : Thread Cert.Reference2Ideal.nD Cert.Reference2Ideal.τ).loc Cert.Reference2Ideal.main_v46) = v5 c
          ∧ r.2.mem ((c.tc : Thread Cert.Reference2Ideal.nD Cert.Reference2Ideal.τ).loc Cert.Reference2Ideal.main_v41) = v6 c
          ∧ r.2.mem ((c.tc : Thread Cert.Reference2Ideal.nD Cert.Reference2Ideal.τ).loc Cert.Reference2Ideal.main_v47) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "q_scale" .f32 0x3E16C740#32 (((Real.sqrt 96)⁻¹ * (Real.log 2)⁻¹ : ℝ) : EReal)
  ∧ IdealRules.named_const.Statement Cert.Kernel4Ideal.κ "inv_qk" .f32 0x3C2AAAAB#32 ((96⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v57)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v111) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "inv_qk" .f32 0x3C2AAAAB#32 ((96⁻¹ : ℝ) : EReal)

def algebraic_Kernel5Ideal_Reference5Ideal_pre_rope_lanes [hKernel5Ideal : Cert.Kernel5Ideal.Facts] [hReference5Ideal : Cert.Reference5Ideal.Facts] [hPre_rope_lanes : Cert.Pre_rope_lanes.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_rope_lanes m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v62_0)) (v1 : (c : Dev Cert.Kernel5Ideal.nD) → Buf (Elt Ideal) ((c.tc : Thread Cert.Kernel5Ideal.nD Cert.Kernel5Ideal.τ).loc Cert.Kernel5Ideal.main_v62_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v62_0) = v0 c
          ∧ r.2.mem ((c.tc : Thread Cert.Kernel5Ideal.nD Cert.Kernel5Ideal.τ).loc Cert.Kernel5Ideal.main_v62_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v111) = v0 c
          ∧ r.2.mem ((c.tc : Thread Cert.Reference5Ideal.nD Cert.Reference5Ideal.τ).loc Cert.Reference5Ideal.main_v113) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "inv_qk" .f32 0x3C2AAAAB#32 ((96⁻¹ : ℝ) : EReal)

def algebraic_Kernel6Ideal_Reference6Ideal_pre_rope_lanes6 [hKernel6Ideal : Cert.Kernel6Ideal.Facts] [hReference6Ideal : Cert.Reference6Ideal.Facts] [hPre_rope_lanes6 : Cert.Pre_rope_lanes6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_rope_lanes6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v128) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v22_0)) (v1 : (c : Dev Cert.Kernel9Ideal.nD) → Buf (Elt Ideal) ((c.tc : Thread Cert.Kernel9Ideal.nD Cert.Kernel9Ideal.τ).loc Cert.Kernel9Ideal.main_v22_1)) (v2 : (c : Dev Cert.Kernel9Ideal.nD) → Buf (Elt Ideal) ((c.tc : Thread Cert.Kernel9Ideal.nD Cert.Kernel9Ideal.τ).loc Cert.Kernel9Ideal.main_v22_2)) (v3 : (c : Dev Cert.Kernel9Ideal.nD) → Buf (Elt Ideal) ((c.tc : Thread Cert.Kernel9Ideal.nD Cert.Kernel9Ideal.τ).loc Cert.Kernel9Ideal.main_v22_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v22_0) = v0 c
          ∧ r.2.mem ((c.tc : Thread Cert.Kernel9Ideal.nD Cert.Kernel9Ideal.τ).loc Cert.Kernel9Ideal.main_v22_1) = v1 c
          ∧ r.2.mem ((c.tc : Thread Cert.Kernel9Ideal.nD Cert.Kernel9Ideal.τ).loc Cert.Kernel9Ideal.main_v22_2) = v2 c
          ∧ r.2.mem ((c.tc : Thread Cert.Kernel9Ideal.nD Cert.Kernel9Ideal.τ).loc Cert.Kernel9Ideal.main_v22_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_v44) = v2 c
          ∧ r.2.mem ((c.tc : Thread Cert.Reference9Ideal.nD Cert.Reference9Ideal.τ).loc Cert.Reference9Ideal.main_v42) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)) (v2 : (c : Dev Cert.Kernel10Ideal.nD) → Buf (Elt Ideal) ((c.tc : Thread Cert.Kernel10Ideal.nD Cert.Kernel10Ideal.τ).loc Cert.Kernel10Ideal.main_v6_2)) (v3 : (c : Dev Cert.Kernel10Ideal.nD) → Buf (Elt Ideal) ((c.tc : Thread Cert.Kernel10Ideal.nD Cert.Kernel10Ideal.τ).loc Cert.Kernel10Ideal.main_v6_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_v6_2) = v2 c
          ∧ r.2.mem ((c.tc : Thread Cert.Kernel10Ideal.nD Cert.Kernel10Ideal.τ).loc Cert.Kernel10Ideal.main_v6_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v69) = v0 c
          ∧ r.2.mem ((c.tc : Thread Cert.Reference10Ideal.nD Cert.Reference10Ideal.τ).loc Cert.Reference10Ideal.main_v70) = v1 c
          ∧ r.2.mem ((c.tc : Thread Cert.Reference10Ideal.nD Cert.Reference10Ideal.τ).loc Cert.Reference10Ideal.main_v71) = v2 c
          ∧ r.2.mem ((c.tc : Thread Cert.Reference10Ideal.nD Cert.Reference10Ideal.τ).loc Cert.Reference10Ideal.main_v72) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_scores : Cert.Pre_finite_scores.Facts) (hPre_rope_lanes : Cert.Pre_rope_lanes.Facts) (hPre_rope_lanes6 : Cert.Pre_rope_lanes6.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_rope_lanes (hKernel5Ideal := hKernel5Ideal) (hPre_rope_lanes := hPre_rope_lanes)
    ∧ quiescent_Reference5Ideal (hReference5Ideal := hReference5Ideal)
    ∧ quiescent_Reference5Ideal_pre_rope_lanes (hReference5Ideal := hReference5Ideal) (hPre_rope_lanes := hPre_rope_lanes)
    ∧ quiescent_Kernel6 (hKernel6 := hKernel6)
    ∧ quiescent_Kernel6Ideal (hKernel6Ideal := hKernel6Ideal)
    ∧ quiescent_Kernel6Ideal_pre_rope_lanes6 (hKernel6Ideal := hKernel6Ideal) (hPre_rope_lanes6 := hPre_rope_lanes6)
    ∧ quiescent_Reference6Ideal (hReference6Ideal := hReference6Ideal)
    ∧ quiescent_Reference6Ideal_pre_rope_lanes6 (hReference6Ideal := hReference6Ideal) (hPre_rope_lanes6 := hPre_rope_lanes6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_rope_lanes (hKernel5Ideal := hKernel5Ideal) (hReference5Ideal := hReference5Ideal) (hPre_rope_lanes := hPre_rope_lanes)
    ∧ preserves_Kernel6_Kernel6Ideal
    ∧ algebraic_Kernel6Ideal_Reference6Ideal_pre_rope_lanes6 (hKernel6Ideal := hKernel6Ideal) (hReference6Ideal := hReference6Ideal) (hPre_rope_lanes6 := hPre_rope_lanes6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_scores.lean ====
abbrev S8x2048x1024 : Shape := ⟨3, ![8, 2048, 1024]⟩
abbrev S8x256x1024 : Shape := ⟨3, ![8, 256, 1024]⟩
abbrev S8x256x512 : Shape := ⟨3, ![8, 256, 512]⟩
abbrev S8x2048x512 : Shape := ⟨3, ![8, 2048, 512]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn {F : FTy → Type} [FloatOps F] (main_arg0 : FVec F S8x2048x1024 .bf16) (main_arg1 : FVec F S8x256x1024 .bf16) (main_arg2 : FVec F S8x2048x1024 .bf16) (main_arg3 : FVec F S8x256x512 .bf16) (main_arg4 : FVec F S8x2048x512 .bf16) : IVec S_ 1 × IVec S_ 1 × IVec S_ 1 :=
  let main_v0 : FVec F S8x2048x1024 .bf16 := Host.absf main_arg0
  let main_cst : FVec F S_ .bf16 := constant S_ .bf16 0x7F80#16
  let main_v1 : FVec F S8x2048x1024 .bf16 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x256x1024 .bf16 := Host.absf main_arg1
  let main_cst_0 : FVec F S_ .bf16 := constant S_ .bf16 0x7F80#16
  let main_v5 : FVec F S8x256x1024 .bf16 := broadcastInDim S8x256x1024 ![] bcast_S_S8x256x1024 main_cst_0
  let main_v6 : IVec S8x256x1024 1 := cmpf .olt main_v4 main_v5
  let main_c_1 : IVec S_ 1 := constantI S_ 1 1#1
  let main_v7 : IVec S_ 1 := (fun x v => Host.reduce IntOp.andi x v reducesTo_S8x256x1024_S_d0_1_2 h_S_) main_v6 main_c_1
  let main_v8 : FVec F S8x2048x1024 .bf16 := Host.absf main_arg2
  let main_cst_2 : FVec F S_ .bf16 := constant S_ .bf16 0x7F80#16
  let main_v9 : FVec F S8x2048x1024 .bf16 := broadcastInDim S8x2048x1024 ![] bcast_S_S8x2048x1024 main_cst_2
  let main_v10 : IVec S8x2048x1024 1 := cmpf .olt main_v8 main_v9
  let main_c_3 : IVec S_ 1 := constantI S_ 1 1#1
  let main_v11 : IVec S_ 1 := (fun x v => Host.reduce IntOp.andi x v reducesTo_S8x2048x1024_S_d0_1_2 h_S_) main_v10 main_c_3
  (main_v3, main_v7, main_v11)
-- ==== Pre_rope_lanes.lean ====
abbrev S8x2048x256 : Shape := ⟨3, ![8, 2048, 256]⟩
abbrev S8x2048x128 : Shape := ⟨3, ![8, 2048, 128]⟩
abbrev S1x256 : Shape := ⟨2, ![1, 256]⟩
abbrev S1x256x1024 : Shape := ⟨3, ![1, 256, 1024]⟩
abbrev S1x96 : Shape := ⟨2, ![1, 96]⟩
abbrev S8x2048x64 : Shape := ⟨3, ![8, 2048, 64]⟩
abbrev S_ : Shape := ⟨0, ![]⟩
abbrev S8x2048x32 : Shape := ⟨3, ![8, 2048, 32]⟩

class Facts : Prop where
  slices_S8x2048x128_S8x2048x64_0_0_0 : S8x2048x128.Slices ![0, 0, 0] S8x2048x64
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  slices_S8x2048x128_S8x2048x32_0_0_96 : S8x2048x128.Slices ![0, 0, 96] S8x2048x32
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn {F : FTy → Type} [FloatOps F] (main_arg0 : FVec F S8x2048x256 .bf16) (main_arg1 : FVec F S8x2048x128 .f32) (main_arg2 : FVec F S1x256 .f32) (main_arg3 : FVec F S1x256x1024 .f32) (main_arg4 : FVec F S1x96 .f32) : IVec S_ 1 × IVec S_ 1 :=
  let main_v0 : FVec F S8x2048x64 .f32 := (extractStridedSlice S8x2048x64 ![0, 0, 0] · slices_S8x2048x128_S8x2048x64_0_0_0) main_arg1
  let main_cst : FVec F S_ .f32 := constant S_ .f32 0x00000000#32
  let main_v1 : FVec F S8x2048x64 .f32 := broadcastInDim S8x2048x64 ![] bcast_S_S8x2048x64 main_cst
  let main_v2 : IVec S8x2048x64 1 := cmpf .oeq main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x32 .f32 := (extractStridedSlice S8x2048x32 ![0, 0, 96] · slices_S8x2048x128_S8x2048x32_0_0_96) main_arg1
  let main_cst_0 : FVec F S_ .f32 := constant S_ .f32 0x00000000#32
  let main_v5 : FVec F S8x2048x32 .f32 := broadcastInDim S8x2048x32 ![] bcast_S_S8x2048x32 main_cst_0
  let main_v6 : IVec S8x2048x32 1 := cmpf .oeq main_v4 main_v5
  let main_c_1 : IVec S_ 1 := constantI S_ 1 1#1
  let main_v7 : IVec S_ 1 := (fun x v => Host.reduce IntOp.andi x v reducesTo_S8x2048x32_S_d0_1_2 h_S_) main_v6 main_c_1
  (main_v3, main_v7)
-- ==== Pre_rope_lanes6.lean ====
abbrev S8x256x256 : Shape := ⟨3, ![8, 256, 256]⟩
abbrev S8x256x128 : Shape := ⟨3, ![8, 256, 128]⟩
abbrev S1x256 : Shape := ⟨2, ![1, 256]⟩
abbrev S1x256x1024 : Shape := ⟨3, ![1, 256, 1024]⟩
abbrev S1x96 : Shape := ⟨2, ![1, 96]⟩
abbrev S8x256x64 : Shape := ⟨3, ![8, 256, 64]⟩
abbrev S_ : Shape := ⟨0, ![]⟩
abbrev S8x256x32 : Shape := ⟨3, ![8, 256, 32]⟩

class Facts : Prop where
  slices_S8x256x128_S8x256x64_0_0_0 : S8x256x128.Slices ![0, 0, 0] S8x256x64
  bcast_S_S8x256x64 : S_.BroadcastsInDim S8x256x64 (![] : Fin 0 → Fin S8x256x64.rank)
  reducesTo_S8x256x64_S_d0_1_2 : S8x256x64.ReducesTo [0, 1, 2] S_
  h_S_ : 0 < S_.numel
  slices_S8x256x128_S8x256x32_0_0_96 : S8x256x128.Slices ![0, 0, 96] S8x256x32
  bcast_S_S8x256x32 : S_.BroadcastsInDim S8x256x32 (![] : Fin 0 → Fin S8x256x32.rank)
  reducesTo_S8x256x32_S_d0_1_2 : S8x256x32.ReducesTo [0, 1, 2] S_

variable [Facts]

def fn {F : FTy → Type} [FloatOps F] (main_arg0 : FVec F S8x256x256 .bf16) (main_arg1 : FVec F S8x256x128 .f32) (main_arg2 : FVec F S1x256 .f32) (main_arg3 : FVec F S1x256x1024 .f32) (main_arg4 : FVec F S1x96 .f32) : IVec S_ 1 × IVec S_ 1 :=
  let main_v0 : FVec F S8x256x64 .f32 := (extractStridedSlice S8x256x64 ![0, 0, 0] · slices_S8x256x128_S8x256x64_0_0_0) main_arg1
  let main_cst : FVec F S_ .f32 := constant S_ .f32 0x00000000#32
  let main_v1 : FVec F S8x256x64 .f32 := broadcastInDim S8x256x64 ![] bcast_S_S8x256x64 main_cst
  let main_v2 : IVec S8x256x64 1 := cmpf .oeq main_v0 main_v1
  let main_c : IVec S_ 1 := constantI S_ 1 1#1
  let main_v3 : IVec S_ 1 := (fun x v => Host.reduce IntOp.andi x v reducesTo_S8x256x64_S_d0_1_2 h_S_) main_v2 main_c
  let main_v4 : FVec F S8x256x32 .f32 := (extractStridedSlice S8x256x32 ![0, 0, 96] · slices_S8x256x128_S8x256x32_0_0_96) main_arg1
  let main_cst_0 : FVec F S_ .f32 := constant S_ .f32 0x00000000#32
  let main_v5 : FVec F S8x256x32 .f32 := broadcastInDim S8x256x32 ![] bcast_S_S8x256x32 main_cst_0
  let main_v6 : IVec S8x256x32 1 := cmpf .oeq main_v4 main_v5
  let main_c_1 : IVec S_ 1 := constantI S_ 1 1#1
  let main_v7 : IVec S_ 1 := (fun x v => Host.reduce IntOp.andi x v reducesTo_S8x256x32_S_d0_1_2 h_S_) main_v6 main_c_1
  (main_v3, main_v7)
-- ==== Kernel.lean ====
abbrev S8x2048x1024 : Shape := ⟨3, ![8, 2048, 1024]⟩
abbrev S8x256x1024 : Shape := ⟨3, ![8, 256, 1024]⟩
abbrev S8x256x512 : Shape := ⟨3, ![8, 256, 512]⟩
abbrev S8x2048x512 : Shape := ⟨3, ![8, 2048, 512]⟩
abbrev S1x512x256 : Shape := ⟨3, ![1, 512, 256]⟩
abbrev S1x256x256 : Shape := ⟨3, ![1, 256, 256]⟩
abbrev S1x2048x256 : Shape := ⟨3, ![1, 2048, 256]⟩
abbrev S1x256x128 : Shape := ⟨3, ![1, 256, 128]⟩
abbrev S1x2048x128 : Shape := ⟨3, ![1, 2048, 128]⟩
abbrev S1x512x128 : Shape := ⟨3, ![1, 512, 128]⟩
abbrev S512x2304 : Shape := ⟨2, ![512, 2304]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S8x2048x1024, .bf16⟩
  | .hbm, ⟨1, _⟩ => ⟨S8x256x1024, .bf16⟩
  | .hbm, ⟨2, _⟩ => ⟨S8x2048x1024, .bf16⟩
  | .hbm, ⟨3, _⟩ => ⟨S8x256x512, .bf16⟩
  | .hbm, ⟨4, _⟩ => ⟨S8x2048x512, .bf16⟩
  | .hbm, ⟨5, _⟩ => ⟨S8x2048x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x128, .bf16⟩
  | .local _ .vmem, ⟨7, _⟩ => ⟨S1x256x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x512x128, .bf16⟩
  | .local _ .vmem, ⟨11, _⟩ => ⟨S1x512x128, .bf16⟩
  | .local _ .vmem, ⟨12, _⟩ => ⟨S512x2304, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x2048x1024 : Shape := ⟨3, ![8, 2048, 1024]⟩
abbrev S8x256x1024 : Shape := ⟨3, ![8, 256, 1024]⟩
abbrev S8x256x512 : Shape := ⟨3, ![8, 256, 512]⟩
abbrev S8x2048x512 : Shape := ⟨3, ![8, 2048, 512]⟩
abbrev S8x2048x8x128 : Shape := ⟨4, ![8, 2048, 8, 128]⟩
abbrev S8x8x2048x128 : Shape := ⟨4, ![8, 8, 2048, 128]⟩
abbrev S8x256x8x128 : Shape := ⟨4, ![8, 256, 8, 128]⟩
abbrev S8x8x256x128 : Shape := ⟨4, ![8, 8, 256, 128]⟩
abbrev S8x8x2304x128 : Shape := ⟨4, ![8, 8, 2304, 128]⟩
abbrev S8x256x8x64 : Shape := ⟨4, ![8, 256, 8, 64]⟩
abbrev S8x8x256x64 : Shape := ⟨4, ![8, 8, 256, 64]⟩
abbrev S8x2048x8x64 : Shape := ⟨4, ![8, 2048, 8, 64]⟩
abbrev S8x8x2048x64 : Shape := ⟨4, ![8, 8, 2048, 64]⟩
abbrev S8x8x2304x64 : Shape := ⟨4, ![8, 8, 2304, 64]⟩
abbrev S8x8x2048x2304 : Shape := ⟨4, ![8, 8, 2048, 2304]⟩
abbrev S_ : Shape := ⟨0, ![]⟩
abbrev S8x8x2048 : Shape := ⟨3, ![8, 8, 2048]⟩
abbrev S8x8x2048x1 : Shape := ⟨4, ![8, 8, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x256x1024, .bf16⟩
  | .hbm, ⟨2, _⟩ => ⟨S8x2048x1024, .bf16⟩
  | .hbm, ⟨3, _⟩ => ⟨S8x256x512, .bf16⟩
  | .hbm, ⟨4, _⟩ => ⟨S8x2048x512, .bf16⟩
  | .hbm, ⟨5, _⟩ => ⟨S8x2048x1024, .f32⟩
  | .hbm, ⟨6, _⟩ => ⟨S8x2048x8x128, .f32⟩
  | .hbm, ⟨7, _⟩ => ⟨S8x8x2048x128, .f32⟩
  | .hbm, ⟨8, _⟩ => ⟨S8x256x1024, .f32⟩
  | .hbm, ⟨9, _⟩ => ⟨S8x256x8x128, .f32⟩
  | .hbm, ⟨10, _⟩ => ⟨S8x8x256x128, .f32⟩
  | .hbm, ⟨11, _⟩ => ⟨S8x2048x1024, .f32⟩
  | .hbm, ⟨12, _⟩ => ⟨S8x2048x8x128, .f32⟩
  | .hbm, ⟨13, _⟩ => ⟨S8x8x2048x128, .f32⟩
  | .hbm, ⟨14, _⟩ => ⟨S8x8x2304x128, .f32⟩
  | .hbm, ⟨15, _⟩ => ⟨S8x256x512, .f32⟩
  | .hbm, ⟨16, _⟩ => ⟨S8x256x8x64, .f32⟩
  | .hbm, ⟨17, _⟩ => ⟨S8x8x256x64, .f32⟩
  | .hbm, ⟨18, _⟩ => ⟨S8x2048x512, .f32⟩
  | .hbm, ⟨19, _⟩ => ⟨S8x2048x8x64, .f32⟩
  | .hbm, ⟨20, _⟩ => ⟨S8x8x2048x64, .f32⟩
  | .hbm, ⟨21, _⟩ => ⟨S8x8x2304x64, .f32⟩
  | .hbm, ⟨22, _⟩ => ⟨S8x8x2048x2304, .f32⟩
  | .hbm, ⟨23, _⟩ => ⟨S_, .f32⟩
  | .hbm, ⟨24, _⟩ => ⟨S_, .f32⟩
  | .hbm, ⟨25, _⟩ => ⟨S8x8x2048x2304, .f32⟩
  | .hbm, ⟨26, _⟩ => ⟨S8x8x2048x2304, .f32⟩
  | .hbm, ⟨27, _⟩ => ⟨S_, .f32⟩
  | .hbm, ⟨28, _⟩ => ⟨S8x8x2048, .f32⟩
  | .hbm, ⟨29, _⟩ => ⟨S_, .f32⟩
  | .hbm, ⟨30, _⟩ => ⟨S8x8x2048, .f32⟩
  | .hbm, ⟨31, _⟩ => ⟨S8x8x2048, .f32⟩
  | .hbm, ⟨32, _⟩ => ⟨S8x8x2048x1, .f32⟩
  | .hbm, ⟨33, _⟩ => ⟨S8x8x2048x2304, .f32⟩
  | .hbm, ⟨34, _⟩ => ⟨S8x8x2048x2304, .f32⟩
  | .hbm, ⟨35, _⟩ => ⟨S8x8x2048x2304, .f32⟩
  | .hbm, ⟨36, _⟩ => ⟨S_, .f32⟩
  | .hbm, ⟨37, _⟩ => ⟨S8x8x2048, .f32⟩
  | .hbm, ⟨38, _⟩ => ⟨S8x8x2048x1, .f32⟩
  | .hbm, ⟨39, _⟩ => ⟨S8x8x2048x2304, .f32⟩
  | .hbm, ⟨40, _⟩ => ⟨S8x8x2048x2304, .f32⟩
  | .hbm, ⟨41, _⟩ => ⟨S8x8x2048x64, .f32⟩
  | .hbm, ⟨42, _⟩ => ⟨S8x2048x8x64, .f32⟩
  | .hbm, ⟨43, _⟩ => ⟨S8x2048x512, .f32⟩
  | .hbm, ⟨44, _⟩ => ⟨S8x2048x512, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel2.lean ====
abbrev S8x2048x1024 : Shape := ⟨3, ![8, 2048, 1024]⟩
abbrev S16x3072 : Shape := ⟨2, ![16, 3072]⟩
abbrev S1x1024 : Shape := ⟨2, ![1, 1024]⟩
abbrev S1x1024x5312 : Shape := ⟨3, ![1, 1024, 5312]⟩
abbrev S1024 : Shape := ⟨1, ![1024]⟩
abbrev S1024x5312 : Shape := ⟨2, ![1024, 5312]⟩
abbrev S16x3x1024 : Shape := ⟨3, ![16, 3, 1024]⟩
abbrev S_ : Shape := ⟨0, ![]⟩
abbrev S16x8x1024 : Shape := ⟨3, ![16, 8, 1024]⟩
abbrev S8x8x1024 : Shape := ⟨3, ![8, 8, 1024]⟩
abbrev S1024x64 : Shape := ⟨2, ![1024, 64]⟩
abbrev S1024x32 : Shape := ⟨2, ![1024, 32]⟩
abbrev S1024x128 : Shape := ⟨2, ![1024, 128]⟩
abbrev S1024x16 : Shape := ⟨2, ![1024, 16]⟩
abbrev S1024x96 : Shape := ⟨2, ![1024, 96]⟩
abbrev S1024x512 : Shape := ⟨2, ![1024, 512]⟩
abbrev S1024x1536 : Shape := ⟨2, ![1024, 1536]⟩
abbrev S1024x384 : Shape := ⟨2, ![1024, 384]⟩
abbrev S1024x256 : Shape := ⟨2, ![1024, 256]⟩
abbrev S1024x2048 : Shape := ⟨2, ![1024, 2048]⟩
abbrev S1024x5504 : Shape := ⟨2, ![1024, 5504]⟩
abbrev S8x2048x384 : Shape := ⟨3, ![8, 2048, 384]⟩
abbrev S8x2048x256 : Shape := ⟨3, ![8, 2048, 256]⟩
abbrev S8x2048x128 : Shape := ⟨3, ![8, 2048, 128]⟩
abbrev S8x2048x512 : Shape := ⟨3, ![8, 2048, 512]⟩
abbrev S8x2048x1536 : Shape := ⟨3, ![8, 2048, 1536]⟩
abbrev S8x2048x2048 : Shape := ⟨3, ![8, 2048, 2048]⟩
abbrev S1x512x1024 : Shape := ⟨3, ![1, 512, 1024]⟩
abbrev S1x8x1024 : Shape := ⟨3, ![1, 8, 1024]⟩
abbrev S1x512x384 : Shape := ⟨3, ![1, 512, 384]⟩
abbrev S1x512x256 : Shape := ⟨3, ![1, 512, 256]⟩
abbrev S1x512x128 : Shape := ⟨3, ![1, 512, 128]⟩
abbrev S1x512x512 : Shape := ⟨3, ![1, 512, 512]⟩
abbrev S1x512x1536 : Shape := ⟨3, ![1, 512, 1536]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩
abbrev S512x1536 : Shape := ⟨2, ![512, 1536]⟩
abbrev S512x2048 : Shape := ⟨2, ![512, 2048]⟩

abbrev nBuf : Space → Nat
  | .hbm => 42
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S16x3072, .f32⟩
  | .hbm, ⟨2, _⟩ => ⟨S1x1024, .f32⟩
  | .hbm, ⟨3, _⟩ => ⟨S1x1024x5312, .f32⟩
  | .hbm, ⟨4, _⟩ => ⟨S1024, .f32⟩
  | .hbm, ⟨5, _⟩ => ⟨S1024x5312, .f32⟩
  | .hbm, ⟨6, _⟩ => ⟨S16x3x1024, .f32⟩
  | .hbm, ⟨7, _⟩ => ⟨S_, .i32⟩
  | .hbm, ⟨8, _⟩ => ⟨S_, .f32⟩
  | .hbm, ⟨9, _⟩ => ⟨S16x8x1024, .f32⟩
  | .hbm, ⟨10, _⟩ => ⟨S8x8x1024, .f32⟩
  | .hbm, ⟨11, _⟩ => ⟨S_, .f32⟩
  | .hbm, ⟨12, _⟩ => ⟨S1024x64, .f32⟩
  | .hbm, ⟨13, _⟩ => ⟨S1024x32, .f32⟩
  | .hbm, ⟨14, _⟩ => ⟨S_, .f32⟩
  | .hbm, ⟨15, _⟩ => ⟨S1024x32, .f32⟩
  | .hbm, ⟨16, _⟩ => ⟨S1024x128, .f32⟩
  | .hbm, ⟨17, _⟩ => ⟨S1024x16, .f32⟩
  | .hbm, ⟨18, _⟩ => ⟨S1024x16, .f32⟩
  | .hbm, ⟨19, _⟩ => ⟨S_, .f32⟩
  | .hbm, ⟨20, _⟩ => ⟨S1024x96, .f32⟩
  | .hbm, ⟨21, _⟩ => ⟨S1024x128, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x1536, .f32⟩
  | .hbm, ⟨26, _⟩ => ⟨S1024x384, .f32⟩
  | .hbm, ⟨27, _⟩ => ⟨S1024x256, .f32⟩
  | .hbm, ⟨28, _⟩ => ⟨S1024x512, .f32⟩
  | .hbm, ⟨29, _⟩ => ⟨S1024x512, .f32⟩
  | .hbm, ⟨30, _⟩ => ⟨S1024x2048, .f32⟩
  | .hbm, ⟨31, _⟩ => ⟨S1024x5504, .f32⟩
  | .hbm, ⟨32, _⟩ => ⟨S1024x5504, .bf16⟩
  | .hbm, ⟨33, _⟩ => ⟨S1x1024, .f32⟩
  | .hbm, ⟨34, _⟩ => ⟨S8x2048x384, .bf16⟩
  | .hbm, ⟨35, _⟩ => ⟨S8x2048x256, .bf16⟩
  | .hbm, ⟨36, _⟩ => ⟨S8x2048x128, .f32⟩
  | .hbm, ⟨37, _⟩ => ⟨S8x2048x512, .bf16⟩
  | .hbm, ⟨38, _⟩ => ⟨S8x2048x1536, .f32⟩
  | .hbm, ⟨39, _⟩ => ⟨S8x2048x512, .bf16⟩
  | .hbm, ⟨40, _⟩ => ⟨S8x2048x128, .f32⟩
  | .hbm, ⟨41, _⟩ => ⟨S8x2048x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x5504, .bf16⟩
  | .local _ .vmem, ⟨6, _⟩ => ⟨S1x512x384, .bf16⟩
  | .local _ .vmem, ⟨7, _⟩ => ⟨S1x512x384, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x128, .f32⟩
  | .local _ .vmem, ⟨11, _⟩ => ⟨S1x512x128, .f32⟩
  | .local _ .vmem, ⟨12, _⟩ => ⟨S1x512x512, .bf16⟩
  | .local _ .vmem, ⟨13, _⟩ => ⟨S1x512x512, .bf16⟩
  | .local _ .vmem, ⟨14, _⟩ => ⟨S1x512x1536, .f32⟩
  | .local _ .vmem, ⟨15, _⟩ => ⟨S1x512x1536, .f32⟩
  | .local _ .vmem, ⟨16, _⟩ => ⟨S1x512x512, .bf16⟩
  | .local _ .vmem, ⟨17, _⟩ => ⟨S1x512x512, .bf16⟩
  | .local _ .vmem, ⟨18, _⟩ => ⟨S1x512x128, .f32⟩
  | .local _ .vmem, ⟨19, _⟩ => ⟨S1x512x128, .f32⟩
  | .local _ .vmem, ⟨20, _⟩ => ⟨S1x512x2048, .bf16⟩
  | .local _ .vmem, ⟨21, _⟩ => ⟨S1x512x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev main_v25_6 : Ref sig .tc := ⟨.hbm, 40, rfl⟩
abbrev main_v25_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5504 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x2048x1024 : Shape := ⟨3, ![8, 2048, 1024]⟩
abbrev S16x3072 : Shape := ⟨2, ![16, 3072]⟩
abbrev S1x1024 : Shape := ⟨2, ![1, 1024]⟩
abbrev S1x1024x5312 : Shape := ⟨3, ![1, 1024, 5312]⟩
abbrev S1024 : Shape := ⟨1, ![1024]⟩
abbrev S1024x5312 : Shape := ⟨2, ![1024, 5312]⟩
abbrev S8x3072 : Shape := ⟨2, ![8, 3072]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x5312 : Shape := ⟨3, ![8, 2048, 5312]⟩
abbrev S8x2048x384 : Shape := ⟨3, ![8, 2048, 384]⟩
abbrev S8x2048x256 : Shape := ⟨3, ![8, 2048, 256]⟩
abbrev S8x2048x32 : Shape := ⟨3, ![8, 2048, 32]⟩
abbrev S8x2048x512 : Shape := ⟨3, ![8, 2048, 512]⟩
abbrev S8x2048x16 : Shape := ⟨3, ![8, 2048, 16]⟩
abbrev S8x2048x2048 : Shape := ⟨3, ![8, 2048, 2048]⟩
abbrev S8x2048x128 : Shape := ⟨3, ![8, 2048, 128]⟩
abbrev S8x2048x1536 : Shape := ⟨3, ![8, 2048, 1536]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x3072, .f32⟩
  | .hbm, ⟨2, _⟩ => ⟨S1x1024, .f32⟩
  | .hbm, ⟨3, _⟩ => ⟨S1x1024x5312, .f32⟩
  | .hbm, ⟨4, _⟩ => ⟨S1024, .f32⟩
  | .hbm, ⟨5, _⟩ => ⟨S1024x5312, .f32⟩
  | .hbm, ⟨6, _⟩ => ⟨S8x3072, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x5312, .f32⟩
  | .hbm, ⟨36, _⟩ => ⟨S8x2048x384, .f32⟩
  | .hbm, ⟨37, _⟩ => ⟨S8x2048x256, .f32⟩
  | .hbm, ⟨38, _⟩ => ⟨S8x2048x32, .f32⟩
  | .hbm, ⟨39, _⟩ => ⟨S8x2048x512, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S8x2048x512, .f32⟩
  | .hbm, ⟨44, _⟩ => ⟨S8x2048x16, .f32⟩
  | .hbm, ⟨45, _⟩ => ⟨S8x2048x16, .f32⟩
  | .hbm, ⟨46, _⟩ => ⟨S8x2048x2048, .f32⟩
  | .hbm, ⟨47, _⟩ => ⟨S_, .i32⟩
  | .hbm, ⟨48, _⟩ => ⟨S_, .f32⟩
  | .hbm, ⟨49, _⟩ => ⟨S8x2048x128, .f32⟩
  | .hbm, ⟨50, _⟩ => ⟨S8x2048x32, .f32⟩
  | .hbm, ⟨51, _⟩ => ⟨S_, .i32⟩
  | .hbm, ⟨52, _⟩ => ⟨S_, .f32⟩
  | .hbm, ⟨53, _⟩ => ⟨S8x2048x128, .f32⟩
  | .hbm, ⟨54, _⟩ => ⟨S8x2048x384, .bf16⟩
  | .hbm, ⟨55, _⟩ => ⟨S8x2048x256, .bf16⟩
  | .hbm, ⟨56, _⟩ => ⟨S8x2048x512, .bf16⟩
  | .hbm, ⟨57, _⟩ => ⟨S8x2048x1536, .f32⟩
  | .hbm, ⟨58, _⟩ => ⟨S8x2048x512, .bf16⟩
  | .hbm, ⟨59, _⟩ => ⟨S8x2048x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c : Ref sig .tc := ⟨.hbm, 47, rfl⟩
abbrev main_call0_v0 : Ref sig .tc := ⟨.hbm, 48, rfl⟩
abbrev main_v39 : Ref sig .tc := ⟨.hbm, 49, rfl⟩
abbrev main_v40 : Ref sig .tc := ⟨.hbm, 50, rfl⟩
abbrev main_c_3 : Ref sig .tc := ⟨.hbm, 51, rfl⟩
abbrev main_call1_v0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Kernel3.lean ====
abbrev S8x2048x1024 : Shape := ⟨3, ![8, 2048, 1024]⟩
abbrev S16x3072 : Shape := ⟨2, ![16, 3072]⟩
abbrev S8x2048x512 : Shape := ⟨3, ![8, 2048, 512]⟩
abbrev S8x2048x2048 : Shape := ⟨3, ![8, 2048, 2048]⟩
abbrev S1x512x1024 : Shape := ⟨3, ![1, 512, 1024]⟩
abbrev S1x64 : Shape := ⟨2, ![1, 64]⟩
abbrev S1x1024x1024 : Shape := ⟨3, ![1, 1024, 1024]⟩
abbrev S512x1024 : Shape := ⟨2, ![512, 1024]⟩
abbrev S64 : Shape := ⟨1, ![64]⟩
abbrev S1024x1024 : Shape := ⟨2, ![1024, 1024]⟩
abbrev S16x3x1024 : Shape := ⟨3, ![16, 3, 1024]⟩
abbrev S_ : Shape := ⟨0, ![]⟩
abbrev S16x8x1024 : Shape := ⟨3, ![16, 8, 1024]⟩
abbrev S8x8x1024 : Shape := ⟨3, ![8, 8, 1024]⟩
abbrev S8x64 : Shape := ⟨2, ![8, 64]⟩
abbrev S512 : Shape := ⟨1, ![512]⟩
abbrev S1x512 : Shape := ⟨2, ![1, 512]⟩
abbrev S1x8x1024 : Shape := ⟨3, ![1, 8, 1024]⟩
abbrev S1x512x512 : Shape := ⟨3, ![1, 512, 512]⟩
abbrev S1x512x2048 : Shape := ⟨3, ![1, 512, 2048]⟩
abbrev S512x512 : Shape := ⟨2, ![512, 512]⟩
abbrev S512x128 : Shape := ⟨2, ![512, 128]⟩
abbrev S512x1 : Shape := ⟨2, ![512, 1]⟩
abbrev S512x2048 : Shape := ⟨2, ![512, 2048]⟩
abbrev S1x1x1024 : Shape := ⟨3, ![1, 1, 1024]⟩
abbrev S1x1024 : Shape := ⟨2, ![1, 1024]⟩

abbrev nBuf : Space → Nat
  | .hbm => 28
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S16x3072, .f32⟩
  | .hbm, ⟨2, _⟩ => ⟨S8x2048x512, .bf16⟩
  | .hbm, ⟨3, _⟩ => ⟨S8x2048x512, .bf16⟩
  | .hbm, ⟨4, _⟩ => ⟨S8x2048x512, .f32⟩
  | .hbm, ⟨5, _⟩ => ⟨S8x2048x512, .bf16⟩
  | .hbm, ⟨6, _⟩ => ⟨S8x2048x2048, .bf16⟩
  | .hbm, ⟨7, _⟩ => ⟨S1x512x1024, .f32⟩
  | .hbm, ⟨8, _⟩ => ⟨S1x64, .f32⟩
  | .hbm, ⟨9, _⟩ => ⟨S1x512x1024, .f32⟩
  | .hbm, ⟨10, _⟩ => ⟨S1x1024x1024, .f32⟩
  | .hbm, ⟨11, _⟩ => ⟨S512x1024, .f32⟩
  | .hbm, ⟨12, _⟩ => ⟨S64, .f32⟩
  | .hbm, ⟨13, _⟩ => ⟨S512x1024, .f32⟩
  | .hbm, ⟨14, _⟩ => ⟨S1024x1024, .f32⟩
  | .hbm, ⟨15, _⟩ => ⟨S16x3x1024, .f32⟩
  | .hbm, ⟨16, _⟩ => ⟨S_, .i32⟩
  | .hbm, ⟨17, _⟩ => ⟨S_, .f32⟩
  | .hbm, ⟨18, _⟩ => ⟨S16x8x1024, .f32⟩
  | .hbm, ⟨19, _⟩ => ⟨S8x8x1024, .f32⟩
  | .hbm, ⟨20, _⟩ => ⟨S1x64, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .bf16⟩
  | .local _ .vmem, ⟨11, _⟩ => ⟨S1x512x512, .bf16⟩
  | .local _ .vmem, ⟨12, _⟩ => ⟨S1x512x2048, .bf16⟩
  | .local _ .vmem, ⟨13, _⟩ => ⟨S1x512x2048, .bf16⟩
  | .local _ .vmem, ⟨14, _⟩ => ⟨S512x1024, .bf16⟩
  | .local _ .vmem, ⟨15, _⟩ => ⟨S1x512, .f32⟩
  | .local _ .vmem, ⟨16, _⟩ => ⟨S512x1024, .bf16⟩
  | .local _ .vmem, ⟨17, _⟩ => ⟨S1024x1024, .bf16⟩
  | .local _ .vmem, ⟨18, _⟩ => ⟨S1x512x1024, .f32⟩
  | .local _ .vmem, ⟨19, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x2048x1024 : Shape := ⟨3, ![8, 2048, 1024]⟩
abbrev S16x3072 : Shape := ⟨2, ![16, 3072]⟩
abbrev S8x2048x512 : Shape := ⟨3, ![8, 2048, 512]⟩
abbrev S8x2048x2048 : Shape := ⟨3, ![8, 2048, 2048]⟩
abbrev S1x512x1024 : Shape := ⟨3, ![1, 512, 1024]⟩
abbrev S1x64 : Shape := ⟨2, ![1, 64]⟩
abbrev S1x1024x1024 : Shape := ⟨3, ![1, 1024, 1024]⟩
abbrev S512x1024 : Shape := ⟨2, ![512, 1024]⟩
abbrev S64 : Shape := ⟨1, ![64]⟩
abbrev S1024x1024 : Shape := ⟨2, ![1024, 1024]⟩
abbrev S8x3072 : Shape := ⟨2, ![8, 3072]⟩
abbrev S8x1024 : Shape := ⟨2, ![8, 1024]⟩
abbrev S_ : Shape := ⟨0, ![]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x1x1024 : Shape := ⟨3, ![8, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x3072, .f32⟩
  | .hbm, ⟨2, _⟩ => ⟨S8x2048x512, .bf16⟩
  | .hbm, ⟨3, _⟩ => ⟨S8x2048x512, .bf16⟩
  | .hbm, ⟨4, _⟩ => ⟨S8x2048x512, .f32⟩
  | .hbm, ⟨5, _⟩ => ⟨S8x2048x512, .bf16⟩
  | .hbm, ⟨6, _⟩ => ⟨S8x2048x2048, .bf16⟩
  | .hbm, ⟨7, _⟩ => ⟨S1x512x1024, .f32⟩
  | .hbm, ⟨8, _⟩ => ⟨S1x64, .f32⟩
  | .hbm, ⟨9, _⟩ => ⟨S1x512x1024, .f32⟩
  | .hbm, ⟨10, _⟩ => ⟨S1x1024x1024, .f32⟩
  | .hbm, ⟨11, _⟩ => ⟨S512x1024, .f32⟩
  | .hbm, ⟨12, _⟩ => ⟨S64, .f32⟩
  | .hbm, ⟨13, _⟩ => ⟨S512x1024, .f32⟩
  | .hbm, ⟨14, _⟩ => ⟨S1024x1024, .f32⟩
  | .hbm, ⟨15, _⟩ => ⟨S8x3072, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x2048x512, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S_, .f32⟩
  | .hbm, ⟨24, _⟩ => ⟨S8x2048x512, .f32⟩
  | .hbm, ⟨25, _⟩ => ⟨S8x2048x512, .f32⟩
  | .hbm, ⟨26, _⟩ => ⟨S_, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S8x2048x1024, .f32⟩
  | .hbm, ⟨32, _⟩ => ⟨S8x2048x8x64, .f32⟩
  | .hbm, ⟨33, _⟩ => ⟨S8x2048x8x64, .f32⟩
  | .hbm, ⟨34, _⟩ => ⟨S_, .f32⟩
  | .hbm, ⟨35, _⟩ => ⟨S8x2048x8, .f32⟩
  | .hbm, ⟨36, _⟩ => ⟨S8x2048x8x1, .f32⟩
  | .hbm, ⟨37, _⟩ => ⟨S_, .f32⟩
  | .hbm, ⟨38, _⟩ => ⟨S8x2048x8x1, .f32⟩
  | .hbm, ⟨39, _⟩ => ⟨S8x2048x8x1, .f32⟩
  | .hbm, ⟨40, _⟩ => ⟨S_, .f32⟩
  | .hbm, ⟨41, _⟩ => ⟨S8x2048x8x1, .f32⟩
  | .hbm, ⟨42, _⟩ => ⟨S8x2048x8x1, .f32⟩
  | .hbm, ⟨43, _⟩ => ⟨S8x2048x8x1, .f32⟩
  | .hbm, ⟨44, _⟩ => ⟨S8x2048x8x64, .f32⟩
  | .hbm, ⟨45, _⟩ => ⟨S8x2048x8x64, .f32⟩
  | .hbm, ⟨46, _⟩ => ⟨S1x1x1x64, .f32⟩
  | .hbm, ⟨47, _⟩ => ⟨S8x2048x8x64, .f32⟩
  | .hbm, ⟨48, _⟩ => ⟨S8x2048x8x64, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S_, .f32⟩
  | .hbm, ⟨54, _⟩ => ⟨S8x2048x512, .f32⟩
  | .hbm, ⟨55, _⟩ => ⟨S8x2048x512, .f32⟩
  | .hbm, ⟨56, _⟩ => ⟨S_, .f32⟩
  | .hbm, ⟨57, _⟩ => ⟨S8x2048x512, .f32⟩
  | .hbm, ⟨58, _⟩ => ⟨S8x2048x512, .f32⟩
  | .hbm, ⟨59, _⟩ => ⟨S8x2048x512, .f32⟩
  | .hbm, ⟨60, _⟩ => ⟨S8x2048x512, .f32⟩
  | .hbm, ⟨61, _⟩ => ⟨S8x2048x1024, .f32⟩
  | .hbm, ⟨62, _⟩ => ⟨S8x2048x2048, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048x1024, .f32⟩
  | .hbm, ⟨69, _⟩ => ⟨S8x2048x1024, .f32⟩
  | .hbm, ⟨70, _⟩ => ⟨S_, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S_, .f32⟩
  | .hbm, ⟨77, _⟩ => ⟨S8x2048x1024, .f32⟩
  | .hbm, ⟨78, _⟩ => ⟨S8x2048x1024, .f32⟩
  | .hbm, ⟨79, _⟩ => ⟨S_, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S8x1x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_2 : Ref sig .tc := ⟨.hbm, 67, rfl⟩
abbrev main_v37 : Ref sig .tc := ⟨.hbm, 68, rfl⟩
abbrev main_v38 : Ref sig .tc := ⟨.hbm, 69, rfl⟩
abbrev main_cst_3 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_4 : Ref sig .tc := ⟨.hbm, 76, rfl⟩
abbrev main_v44 : Ref sig .tc := ⟨.hbm, 77, rfl⟩
abbrev main_v45 : Ref sig .tc := ⟨.hbm, 78, rfl⟩
abbrev main_cst_5 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩

abbrev nD : Nat := 1
abbrev τ : Topo := Topo.v7x

variable {F : FTy → Type} [FloatOps F]
-- ==== Kernel4.lean ====
abbrev S8x2048x384 : Shape := ⟨3, ![8, 2048, 384]⟩
abbrev S1x384 : Shape := ⟨2, ![1, 384]⟩
abbrev S1x384x768 : Shape := ⟨3, ![1, 384, 768]⟩
abbrev S1x96 : Shape := ⟨2, ![1, 96]⟩
abbrev S32 : Shape := ⟨1, ![32]⟩
abbrev S384 : Shape := ⟨1, ![384]⟩
abbrev S384x768 : Shape := ⟨2, ![384, 768]⟩
abbrev S96 : Shape := ⟨1, ![96]⟩
abbrev S384x8x96 : Shape := ⟨3, ![384, 8, 96]⟩
abbrev S_ : Shape := ⟨0, ![]⟩
abbrev S384x8x128 : Shape := ⟨3, ![384, 8, 128]⟩
abbrev S384x1024 : Shape := ⟨2, ![384, 1024]⟩
abbrev S128 : Shape := ⟨1, ![128]⟩
abbrev S1x128 : Shape := ⟨2, ![1, 128]⟩
abbrev S8 : Shape := ⟨1, ![8]⟩
abbrev S32x64 : Shape := ⟨2, ![32, 64]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S64 : Shape := ⟨1, ![64]⟩
abbrev S1x64 : Shape := ⟨2, ![1, 64]⟩
abbrev S2048x32 : Shape := ⟨2, ![2048, 32]⟩
abbrev S2048x64 : Shape := ⟨2, ![2048, 64]⟩
abbrev S2048x128 : Shape := ⟨2, ![2048, 128]⟩
abbrev S1x32 : Shape := ⟨2, ![1, 32]⟩
abbrev S8x2048x1024 : Shape := ⟨3, ![8, 2048, 1024]⟩
abbrev S1x512x384 : Shape := ⟨3, ![1, 512, 384]⟩
abbrev S512x128 : Shape := ⟨2, ![512, 128]⟩
abbrev S1x512x1024 : Shape := ⟨3, ![1, 512, 1024]⟩
abbrev S512x384 : Shape := ⟨2, ![512, 384]⟩
abbrev S512 : Shape := ⟨1, ![512]⟩
abbrev S512x1 : Shape := ⟨2, ![512, 1]⟩
abbrev S512x1024 : Shape := ⟨2, ![512, 1024]⟩
abbrev S1x512x128 : Shape := ⟨3, ![1, 512, 128]⟩

abbrev nBuf : Space → Nat
  | .hbm => 76
  | .vmem => 13
  | .smem => 0
  | _ => 0

abbrev bufTy : (tb : Table) → Fin (tcTables nBuf tb) → BufTy
  | .hbm, ⟨0, _⟩ => ⟨S8x2048x384, .bf16⟩
  | .hbm, ⟨1, _⟩ => ⟨S1x384, .f32⟩
  | .hbm, ⟨2, _⟩ => ⟨S1x384x768, .f32⟩
  | .hbm, ⟨3, _⟩ => ⟨S1x96, .f32⟩
  | .hbm, ⟨4, _⟩ => ⟨S32, .f32⟩
  | .hbm, ⟨5, _⟩ => ⟨S32, .f32⟩
  | .hbm, ⟨6, _⟩ => ⟨S384, .f32⟩
  | .hbm, ⟨7, _⟩ => ⟨S384x768, .f32⟩
  | .hbm, ⟨8, _⟩ => ⟨S96, .f32⟩
  | .hbm, ⟨9, _⟩ => ⟨S384x8x96, .f32⟩
  | .hbm, ⟨10, _⟩ => ⟨S_, .i32⟩
  | .hbm, ⟨11, _⟩ => ⟨S_, .f32⟩
  | .hbm, ⟨12, _⟩ => ⟨S384x8x128, .f32⟩
  | .hbm, ⟨13, _⟩ => ⟨S384x1024, .f32⟩
  | .hbm, ⟨14, _⟩ => ⟨S384x1024, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S32, .f32⟩
  | .hbm, ⟨34, _⟩ => ⟨S32x64, .f32⟩
  | .hbm, ⟨35, _⟩ => ⟨S2048, .f32⟩
  | .hbm, ⟨36, _⟩ => ⟨S2048x1, .f32⟩
  | .hbm, ⟨37, _⟩ => ⟨S1x8, .f32⟩
  | .hbm, ⟨38, _⟩ => ⟨S2048x8, .f32⟩
  | .hbm, ⟨39, _⟩ => ⟨S2048x8, .f32⟩
  | .hbm, ⟨40, _⟩ => ⟨S2048x8, .f32⟩
  | .hbm, ⟨41, _⟩ => ⟨S64, .f32⟩
  | .hbm, ⟨42, _⟩ => ⟨S1x64, .f32⟩
  | .hbm, ⟨43, _⟩ => ⟨S32x64, .f32⟩
  | .hbm, ⟨44, _⟩ => ⟨S2048, .f32⟩
  | .hbm, ⟨45, _⟩ => ⟨S2048x1, .f32⟩
  | .hbm, ⟨46, _⟩ => ⟨S1x8, .f32⟩
  | .hbm, ⟨47, _⟩ => ⟨S2048x8, .f32⟩
  | .hbm, ⟨48, _⟩ => ⟨S2048x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x32, .f32⟩
  | .hbm, ⟨53, _⟩ => ⟨S2048x8, .f32⟩
  | .hbm, ⟨54, _⟩ => ⟨S2048x8, .f32⟩
  | .hbm, ⟨55, _⟩ => ⟨S2048x32, .f32⟩
  | .hbm, ⟨56, _⟩ => ⟨S_, .f32⟩
  | .hbm, ⟨57, _⟩ => ⟨S2048x32, .f32⟩
  | .hbm, ⟨58, _⟩ => ⟨S_, .f32⟩
  | .hbm, ⟨59, _⟩ => ⟨S2048x64, .f32⟩
  | .hbm, ⟨60, _⟩ => ⟨S2048x128, .f32⟩
  | .hbm, ⟨61, _⟩ => ⟨S_, .f32⟩
  | .hbm, ⟨62, _⟩ => ⟨S2048x64, .f32⟩
  | .hbm, ⟨63, _⟩ => ⟨S1x32, .f32⟩
  | .hbm, ⟨64, _⟩ => ⟨S2048x32, .f32⟩
  | .hbm, ⟨65, _⟩ => ⟨S2048x32, .f32⟩
  | .hbm, ⟨66, _⟩ => ⟨S2048x128, .f32⟩
  | .hbm, ⟨67, _⟩ => ⟨S_, .f32⟩
  | .hbm, ⟨68, _⟩ => ⟨S2048x64, .f32⟩
  | .hbm, ⟨69, _⟩ => ⟨S2048x32, .f32⟩
  | .hbm, ⟨70, _⟩ => ⟨S1x32, .f32⟩
  | .hbm, ⟨71, _⟩ => ⟨S2048x32, .f32⟩
  | .hbm, ⟨72, _⟩ => ⟨S2048x32, .f32⟩
  | .hbm, ⟨73, _⟩ => ⟨S2048x128, .f32⟩
  | .hbm, ⟨74, _⟩ => ⟨S1x384, .f32⟩
  | .hbm, ⟨75, _⟩ => ⟨S8x2048x1024, .bf16⟩
  | .local _ .vmem, ⟨0, _⟩ => ⟨S1x512x384, .bf16⟩
  | .local _ .vmem, ⟨1, _⟩ => ⟨S1x512x384, .bf16⟩
  | .local _ .vmem, ⟨2, _⟩ => ⟨S1x384, .f32⟩
  | .local _ .vmem, ⟨3, _⟩ => ⟨S384x1024, .bf16⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512x1024, .bf16⟩
  | .local _ .vmem, ⟨12, _⟩ => ⟨S1x512x1024, .bf16⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel4Ideal.lean ====
variable {F : FTy → Type} [FloatOps F] [Named F]
def κ : String → Option EReal := fun
  | "inv_qk" => some ((96⁻¹ : ℝ) : EReal)
  | "q_scale" => some (((Real.sqrt 96)⁻¹ * (Real.log 2)⁻¹ : ℝ) : EReal)
  | _ => none
-- ==== Reference4Ideal.lean ====
abbrev S8x2048x384 : Shape := ⟨3, ![8, 2048, 384]⟩
abbrev S1x384 : Shape := ⟨2, ![1, 384]⟩
abbrev S1x384x768 : Shape := ⟨3, ![1, 384, 768]⟩
abbrev S1x96 : Shape := ⟨2, ![1, 96]⟩
abbrev S384 : Shape := ⟨1, ![384]⟩
abbrev S_ : Shape := ⟨0, ![]⟩
abbrev S8x2048 : Shape := ⟨2, ![8, 2048]⟩
abbrev S8x2048x1 : Shape := ⟨3, ![8, 2048, 1]⟩
abbrev S1x1x384 : Shape := ⟨3, ![1, 1, 384]⟩
abbrev S384x768 : Shape := ⟨2, ![384, 768]⟩
abbrev S8x2048x768 : Shape := ⟨3, ![8, 2048, 768]⟩
abbrev S8x2048x8x96 : Shape := ⟨4, ![8, 2048, 8, 96]⟩
abbrev S96 : Shape := ⟨1, ![96]⟩
abbrev S8x2048x8 : Shape := ⟨3, ![8, 2048, 8]⟩
abbrev S8x2048x8x1 : Shape := ⟨4, ![8, 2048, 8, 1]⟩
abbrev S1x1x1x96 : Shape := ⟨4, ![1, 1, 1, 96]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x8x8 : Shape := ⟨4, ![8, 2048, 8, 8]⟩
abbrev S8x2048x8x64 : Shape := ⟨4, ![8, 2048, 8, 64]⟩
abbrev S1x2048x1x8 : Shape := ⟨4, ![1, 2048, 1, 8]⟩
abbrev S8x2048x8x128 : Shape := ⟨4, ![8, 2048, 8, 128]⟩
abbrev S8x2048x1024 : Shape := ⟨3, ![8, 2048, 1024]⟩

abbrev nBuf : Space → Nat
  | .hbm => 130
  | .vmem => 0
  | .smem => 0
  | _ => 0

abbrev hbmTy0_0 (i : Nat) : BufTy := match i % 128 with
  | 0 => ⟨S8x2048x384, .bf16⟩
  | 1 => ⟨S1x384, .f32⟩
  | 2 => ⟨S1x384x768, .f32⟩
  | 3 => ⟨S1x96, .f32⟩
  | 4 => ⟨S8x2048x384, .f32⟩
  | 5 => ⟨S384, .f32⟩
  | 6 => ⟨S8x2048x384, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x384, .f32⟩
  | 18 => ⟨S8x2048x384, .f32⟩
  | 19 => ⟨S1x1x384, .f32⟩
  | 20 => ⟨S8x2048x384, .f32⟩
  | 21 => ⟨S8x2048x384, .f32⟩
  | 22 => ⟨S384x768, .f32⟩
  | 23 => ⟨S8x2048x768, .f32⟩
  | 24 => ⟨S8x2048x8x96, .f32⟩
  | 25 => ⟨S96, .f32⟩
  | 26 => ⟨S8x2048x8x96, .f32⟩
  | 27 => ⟨S_, .f32⟩
  | 28 => ⟨S8x2048x8, .f32⟩
  | 29 => ⟨S8x2048x8x1, .f32⟩
  | 30 => ⟨S_, .f32⟩
  | 31 => ⟨S8x2048x8x1, .f32⟩
  | 32 => ⟨S8x2048x8x1, .f32⟩
  | 33 => ⟨S_, .f32⟩
  | 34 => ⟨S8x2048x8x1, .f32⟩
  | 35 => ⟨S8x2048x8x1, .f32⟩
  | 36 => ⟨S8x2048x8x1, .f32⟩
  | 37 => ⟨S8x2048x8x96, .f32⟩
  | 38 => ⟨S8x2048x8x96, .f32⟩
  | 39 => ⟨S1x1x1x96, .f32⟩
  | 40 => ⟨S8x2048x8x96, .f32⟩
  | 41 => ⟨S8x2048x8x96, .f32⟩
  | 42 => ⟨S32, .f32⟩
  | 43 => ⟨S32x64, .f32⟩
  | 44 => ⟨S2048, .f32⟩
  | 45 => ⟨S64, .f32⟩
  | 46 => ⟨S1x64, .f32⟩
  | 47 => ⟨S32x64, .f32⟩
  | 48 => ⟨S2048, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S2048x1, .f32⟩
  | 64 => ⟨S1x8, .f32⟩
  | 65 => ⟨S2048x8, .f32⟩
  | 66 => ⟨S2048x8, .f32⟩
  | 67 => ⟨S2048x8, .f32⟩
  | 68 => ⟨S2048x1, .f32⟩
  | 69 => ⟨S1x8, .f32⟩
  | 70 => ⟨S2048x8, .f32⟩
  | 71 => ⟨S2048x8, .f32⟩
  | 72 => ⟨S2048x8, .f32⟩
  | 73 => ⟨S2048x1x8, .f32⟩
  | 74 => ⟨S2048x1x8, .f32⟩
  | 75 => ⟨S8x2048x8x8, .f32⟩
  | 76 => ⟨S8x2048x8x8, .f32⟩
  | 77 => ⟨S8x2048x8x8, .f32⟩
  | 78 => ⟨S8x2048x8x8, .f32⟩
  | 79 => ⟨S8x2048x8x64, .f32⟩
  | 80 => ⟨S2048x1x8, .f32⟩
  | 81 => ⟨S1x2048x1x8, .f32⟩
  | 82 => ⟨S8x2048x8x8, .f32⟩
  | 83 => ⟨S8x2048x8x8, .f32⟩
  | 84 => ⟨S2048x1x8, .f32⟩
  | 85 => ⟨S1x2048x1x8, .f32⟩
  | 86 => ⟨S8x2048x8x8, .f32⟩
  | 87 => ⟨S8x2048x8x8, .f32⟩
  | 88 => ⟨S8x2048x8x8, .f32⟩
  | 89 => ⟨S2048x1x8, .f32⟩
  | 90 => ⟨S1x2048x1x8, .f32⟩
  | 91 => ⟨S8x2048x8x8, .f32⟩
  | 92 => ⟨S8x2048x8x8, .f32⟩
  | 93 => ⟨S2048x1x8, .f32⟩
  | 94 => ⟨S1x2048x1x8, .f32⟩
  | 95 => ⟨S8x2048x8x8, .f32⟩
  | 96 => ⟨S8x2048x8x8, .f32⟩
  | 97 => ⟨S8x2048x8x8, .f32⟩
  | 98 => ⟨S2048x1x8, .f32⟩
  | 99 => ⟨S1x2048x1x8, .f32⟩
  | 100 => ⟨S8x2048x8x8, .f32⟩
  | 101 => ⟨S8x2048x8x8, .f32⟩
  | 102 => ⟨S2048x1x8, .f32⟩
  | 103 => ⟨S1x2048x1x8, .f32⟩
  | 104 => ⟨S8x2048x8x8, .f32⟩
  | 105 => ⟨S8x2048x8x8, .f32⟩
  | 106 => ⟨S8x2048x8x8, .f32⟩
  | 107 => ⟨S2048x1x8, .f32⟩
  | 108 => ⟨S1x2048x1x8, .f32⟩
  | 109 => ⟨S8x2048x8x8, .f32⟩
  | 110 => ⟨S8x2048x8x8, .f32⟩
  | 111 => ⟨S2048x1x8, .f32⟩
  | 112 => ⟨S1x2048x1x8, .f32⟩
  | 113 => ⟨S8x2048x8x8, .f32⟩
  | 114 => ⟨S8x2048x8x8, .f32⟩
  | 115 => ⟨S8x2048x8x8, .f32⟩
  | 116 => ⟨S8x2048x8x96, .f32⟩
  | 117 => ⟨S_, .f32⟩
  | 118 => ⟨S_, .f32⟩
  | 119 => ⟨S8x2048x8x96, .f32⟩
  | 120 => ⟨S8x2048x8x96, .f32⟩
  | 121 => ⟨S_, .f32⟩
  | 122 => ⟨S_, .f32⟩
  | 123 => ⟨S8x2048x8x96, .f32⟩
  | 124 => ⟨S8x2048x8x96, .f32⟩
  | 125 => ⟨S_, .i32⟩
  | 126 => ⟨S_, .f32⟩
  | 127 => ⟨S8x2048x8x128, .f32⟩
  | _ => ⟨S8x2048x384, .bf16⟩

abbrev hbmTy0_1 (i : Nat) : BufTy := match i % 128 with
  | 0 => ⟨S8x2048x1024, .f32⟩
  | 1 => ⟨S8x2048x1024, .bf16⟩
  | _ => ⟨S8x2048x384, .bf16⟩

abbrev hbmTy (i : Nat) : BufTy := match i / 128 with
  | 0 => hbmTy0_0 i
  | 1 => hbmTy0_1 i
  | _ => ⟨S8x2048x384, .bf16⟩

abbrev bufTy : (tb : Table) → Fin (tcTables nBuf tb) → BufTy
  | .hbm, ⟨i, _⟩ => hbmTy i
  | _, _ => ⟨S8x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_9 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_cst_10 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_c : Ref sig .tc := ⟨.hbm, 125, rfl⟩
abbrev main_call0_v0 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩

abbrev nD : Nat := 1
abbrev τ : Topo := Topo.v7x

variable {F : FTy → Type} [FloatOps F]
-- ==== Kernel5.lean ====
abbrev S8x2048x256 : Shape := ⟨3, ![8, 2048, 256]⟩
abbrev S8x2048x128 : Shape := ⟨3, ![8, 2048, 128]⟩
abbrev S1x256 : Shape := ⟨2, ![1, 256]⟩
abbrev S1x256x1024 : Shape := ⟨3, ![1, 256, 1024]⟩
abbrev S1x96 : Shape := ⟨2, ![1, 96]⟩
abbrev S32 : Shape := ⟨1, ![32]⟩
abbrev S256 : Shape := ⟨1, ![256]⟩
abbrev S256x1024 : Shape := ⟨2, ![256, 1024]⟩
abbrev S96 : Shape := ⟨1, ![96]⟩
abbrev S256x8x128 : Shape := ⟨3, ![256, 8, 128]⟩
abbrev S256x8x64 : Shape := ⟨3, ![256, 8, 64]⟩
abbrev S_ : Shape := ⟨0, ![]⟩
abbrev S256x512 : Shape := ⟨2, ![256, 512]⟩
abbrev S128 : Shape := ⟨1, ![128]⟩
abbrev S1x128 : Shape := ⟨2, ![1, 128]⟩
abbrev S8 : Shape := ⟨1, ![8]⟩
abbrev S32x64 : Shape := ⟨2, ![32, 64]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S64 : Shape := ⟨1, ![64]⟩
abbrev S1x64 : Shape := ⟨2, ![1, 64]⟩
abbrev S2048x32 : Shape := ⟨2, ![2048, 32]⟩
abbrev S2048x64 : Shape := ⟨2, ![2048, 64]⟩
abbrev S2048x128 : Shape := ⟨2, ![2048, 128]⟩
abbrev S1x32 : Shape := ⟨2, ![1, 32]⟩
abbrev S8x2048x1024 : Shape := ⟨3, ![8, 2048, 1024]⟩
abbrev S8x2048x512 : Shape := ⟨3, ![8, 2048, 512]⟩
abbrev S1x512x256 : Shape := ⟨3, ![1, 512, 256]⟩
abbrev S1x512x128 : Shape := ⟨3, ![1, 512, 128]⟩
abbrev S512x128 : Shape := ⟨2, ![512, 128]⟩
abbrev S1x512x1024 : Shape := ⟨3, ![1, 512, 1024]⟩
abbrev S1x512x512 : Shape := ⟨3, ![1, 512, 512]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S512x1024 : Shape := ⟨2, ![512, 1024]⟩

abbrev nBuf : Space → Nat
  | .hbm => 83
  | .vmem => 18
  | .smem => 0
  | _ => 0

abbrev bufTy : (tb : Table) → Fin (tcTables nBuf tb) → BufTy
  | .hbm, ⟨0, _⟩ => ⟨S8x2048x256, .bf16⟩
  | .hbm, ⟨1, _⟩ => ⟨S8x2048x128, .f32⟩
  | .hbm, ⟨2, _⟩ => ⟨S1x256, .f32⟩
  | .hbm, ⟨3, _⟩ => ⟨S1x256x1024, .f32⟩
  | .hbm, ⟨4, _⟩ => ⟨S1x96, .f32⟩
  | .hbm, ⟨5, _⟩ => ⟨S32, .f32⟩
  | .hbm, ⟨6, _⟩ => ⟨S32, .f32⟩
  | .hbm, ⟨7, _⟩ => ⟨S256, .f32⟩
  | .hbm, ⟨8, _⟩ => ⟨S256x1024, .f32⟩
  | .hbm, ⟨9, _⟩ => ⟨S96, .f32⟩
  | .hbm, ⟨10, _⟩ => ⟨S256x8x128, .f32⟩
  | .hbm, ⟨11, _⟩ => ⟨S256x8x64, .f32⟩
  | .hbm, ⟨12, _⟩ => ⟨S_, .i32⟩
  | .hbm, ⟨13, _⟩ => ⟨S_, .f32⟩
  | .hbm, ⟨14, _⟩ => ⟨S256x8x128, .f32⟩
  | .hbm, ⟨15, _⟩ => ⟨S256x1024, .f32⟩
  | .hbm, ⟨16, _⟩ => ⟨S256x1024, .bf16⟩
  | .hbm, ⟨17, _⟩ => ⟨S256x8x128, .f32⟩
  | .hbm, ⟨18, _⟩ => ⟨S256x8x64, .f32⟩
  | .hbm, ⟨19, _⟩ => ⟨S256x512, .f32⟩
  | .hbm, ⟨20, _⟩ => ⟨S256x512, .bf16⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S32, .f32⟩
  | .hbm, ⟨40, _⟩ => ⟨S32x64, .f32⟩
  | .hbm, ⟨41, _⟩ => ⟨S2048, .f32⟩
  | .hbm, ⟨42, _⟩ => ⟨S2048x1, .f32⟩
  | .hbm, ⟨43, _⟩ => ⟨S1x8, .f32⟩
  | .hbm, ⟨44, _⟩ => ⟨S2048x8, .f32⟩
  | .hbm, ⟨45, _⟩ => ⟨S2048x8, .f32⟩
  | .hbm, ⟨46, _⟩ => ⟨S2048x8, .f32⟩
  | .hbm, ⟨47, _⟩ => ⟨S64, .f32⟩
  | .hbm, ⟨48, _⟩ => ⟨S1x64, .f32⟩
  | .hbm, ⟨49, _⟩ => ⟨S32x64, .f32⟩
  | .hbm, ⟨50, _⟩ => ⟨S2048, .f32⟩
  | .hbm, ⟨51, _⟩ => ⟨S2048x1, .f32⟩
  | .hbm, ⟨52, _⟩ => ⟨S1x8, .f32⟩
  | .hbm, ⟨53, _⟩ => ⟨S2048x8, .f32⟩
  | .hbm, ⟨54, _⟩ => ⟨S2048x8, .f32⟩
  | .hbm, ⟨55, _⟩ => ⟨S2048x8, .f32⟩
  | .hbm, ⟨56, _⟩ => ⟨S2048x8, .f32⟩
  | .hbm, ⟨57, _⟩ => ⟨S2048x8, .f32⟩
  | .hbm, ⟨58, _⟩ => ⟨S2048x32, .f32⟩
  | .hbm, ⟨59, _⟩ => ⟨S2048x8, .f32⟩
  | .hbm, ⟨60, _⟩ => ⟨S2048x8, .f32⟩
  | .hbm, ⟨61, _⟩ => ⟨S2048x32, .f32⟩
  | .hbm, ⟨62, _⟩ => ⟨S_, .f32⟩
  | .hbm, ⟨63, _⟩ => ⟨S2048x32, .f32⟩
  | .hbm, ⟨64, _⟩ => ⟨S_, .f32⟩
  | .hbm, ⟨65, _⟩ => ⟨S2048x64, .f32⟩
  | .hbm, ⟨66, _⟩ => ⟨S2048x128, .f32⟩
  | .hbm, ⟨67, _⟩ => ⟨S_, .f32⟩
  | .hbm, ⟨68, _⟩ => ⟨S2048x64, .f32⟩
  | .hbm, ⟨69, _⟩ => ⟨S1x32, .f32⟩
  | .hbm, ⟨70, _⟩ => ⟨S2048x32, .f32⟩
  | .hbm, ⟨71, _⟩ => ⟨S2048x32, .f32⟩
  | .hbm, ⟨72, _⟩ => ⟨S2048x128, .f32⟩
  | .hbm, ⟨73, _⟩ => ⟨S_, .f32⟩
  | .hbm, ⟨74, _⟩ => ⟨S2048x64, .f32⟩
  | .hbm, ⟨75, _⟩ => ⟨S2048x32, .f32⟩
  | .hbm, ⟨76, _⟩ => ⟨S1x32, .f32⟩
  | .hbm, ⟨77, _⟩ => ⟨S2048x32, .f32⟩
  | .hbm, ⟨78, _⟩ => ⟨S2048x32, .f32⟩
  | .hbm, ⟨79, _⟩ => ⟨S2048x128, .f32⟩
  | .hbm, ⟨80, _⟩ => ⟨S1x256, .f32⟩
  | .hbm, ⟨81, _⟩ => ⟨S8x2048x1024, .bf16⟩
  | .hbm, ⟨82, _⟩ => ⟨S8x2048x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x128, .f32⟩
  | .local _ .vmem, ⟨3, _⟩ => ⟨S1x512x128, .f32⟩
  | .local _ .vmem, ⟨4, _⟩ => ⟨S1x256, .f32⟩
  | .local _ .vmem, ⟨5, _⟩ => ⟨S256x1024, .bf16⟩
  | .local _ .vmem, ⟨6, _⟩ => ⟨S256x512, .bf16⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x512, .bf16⟩
  | .local _ .vmem, ⟨17, _⟩ => ⟨S1x512x512, .bf16⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62_0 : Ref sig .tc := ⟨.hbm, 81, rfl⟩
abbrev main_v62_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel5Ideal.lean ====
variable {F : FTy → Type} [FloatOps F] [Named F]
def κ : String → Option EReal := fun
  | "inv_qk" => some ((96⁻¹ : ℝ) : EReal)
  | _ => none
-- ==== Reference5Ideal.lean ====
abbrev S8x2048x256 : Shape := ⟨3, ![8, 2048, 256]⟩
abbrev S8x2048x128 : Shape := ⟨3, ![8, 2048, 128]⟩
abbrev S1x256 : Shape := ⟨2, ![1, 256]⟩
abbrev S1x256x1024 : Shape := ⟨3, ![1, 256, 1024]⟩
abbrev S1x96 : Shape := ⟨2, ![1, 96]⟩
abbrev S256 : Shape := ⟨1, ![256]⟩
abbrev S_ : Shape := ⟨0, ![]⟩
abbrev S8x2048 : Shape := ⟨2, ![8, 2048]⟩
abbrev S8x2048x1 : Shape := ⟨3, ![8, 2048, 1]⟩
abbrev S1x1x256 : Shape := ⟨3, ![1, 1, 256]⟩
abbrev S256x1024 : Shape := ⟨2, ![256, 1024]⟩
abbrev S8x2048x1024 : Shape := ⟨3, ![8, 2048, 1024]⟩
abbrev S8x2048x8x128 : Shape := ⟨4, ![8, 2048, 8, 128]⟩
abbrev S8x2048x8x64 : Shape := ⟨4, ![8, 2048, 8, 64]⟩
abbrev S8x2048x32 : Shape := ⟨3, ![8, 2048, 32]⟩
abbrev S8x2048x1x32 : Shape := ⟨4, ![8, 2048, 1, 32]⟩
abbrev S8x2048x8x32 : Shape := ⟨4, ![8, 2048, 8, 32]⟩
abbrev S8x2048x8x96 : Shape := ⟨4, ![8, 2048, 8, 96]⟩
abbrev S96 : Shape := ⟨1, ![96]⟩
abbrev S8x2048x8 : Shape := ⟨3, ![8, 2048, 8]⟩
abbrev S8x2048x8x1 : Shape := ⟨4, ![8, 2048, 8, 1]⟩
abbrev S1x1x1x96 : Shape := ⟨4, ![1, 1, 1, 96]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x512 : Shape := ⟨3, ![8, 2048, 512]⟩

abbrev nBuf : Space → Nat
  | .hbm => 131
  | .vmem => 0
  | .smem => 0
  | _ => 0

abbrev hbmTy0_0 (i : Nat) : BufTy := match i % 128 with
  | 0 => ⟨S8x2048x256, .bf16⟩
  | 1 => ⟨S8x2048x128, .f32⟩
  | 2 => ⟨S1x256, .f32⟩
  | 3 => ⟨S1x256x1024, .f32⟩
  | 4 => ⟨S1x96, .f32⟩
  | 5 => ⟨S8x2048x256, .f32⟩
  | 6 => ⟨S256, .f32⟩
  | 7 => ⟨S8x2048x256, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x256, .f32⟩
  | 19 => ⟨S8x2048x256, .f32⟩
  | 20 => ⟨S1x1x256, .f32⟩
  | 21 => ⟨S8x2048x256, .f32⟩
  | 22 => ⟨S8x2048x256, .f32⟩
  | 23 => ⟨S256x1024, .f32⟩
  | 24 => ⟨S8x2048x1024, .f32⟩
  | 25 => ⟨S8x2048x8x128, .f32⟩
  | 26 => ⟨S8x2048x8x64, .f32⟩
  | 27 => ⟨S8x2048x8x64, .f32⟩
  | 28 => ⟨S8x2048x32, .f32⟩
  | 29 => ⟨S8x2048x1x32, .f32⟩
  | 30 => ⟨S8x2048x8x32, .f32⟩
  | 31 => ⟨S8x2048x8x96, .f32⟩
  | 32 => ⟨S96, .f32⟩
  | 33 => ⟨S8x2048x8x96, .f32⟩
  | 34 => ⟨S_, .f32⟩
  | 35 => ⟨S8x2048x8, .f32⟩
  | 36 => ⟨S8x2048x8x1, .f32⟩
  | 37 => ⟨S_, .f32⟩
  | 38 => ⟨S8x2048x8x1, .f32⟩
  | 39 => ⟨S8x2048x8x1, .f32⟩
  | 40 => ⟨S_, .f32⟩
  | 41 => ⟨S8x2048x8x1, .f32⟩
  | 42 => ⟨S8x2048x8x1, .f32⟩
  | 43 => ⟨S8x2048x8x1, .f32⟩
  | 44 => ⟨S8x2048x8x96, .f32⟩
  | 45 => ⟨S8x2048x8x96, .f32⟩
  | 46 => ⟨S1x1x1x96, .f32⟩
  | 47 => ⟨S8x2048x8x96, .f32⟩
  | 48 => ⟨S8x2048x8x96, .f32⟩
  | 49 => ⟨S32, .f32⟩
  | 50 => ⟨S32x64, .f32⟩
  | 51 => ⟨S2048, .f32⟩
  | 52 => ⟨S64, .f32⟩
  | 53 => ⟨S1x64, .f32⟩
  | 54 => ⟨S32x64, .f32⟩
  | 55 => ⟨S2048, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S2048x1, .f32⟩
  | 71 => ⟨S1x8, .f32⟩
  | 72 => ⟨S2048x8, .f32⟩
  | 73 => ⟨S2048x8, .f32⟩
  | 74 => ⟨S2048x8, .f32⟩
  | 75 => ⟨S2048x1, .f32⟩
  | 76 => ⟨S1x8, .f32⟩
  | 77 => ⟨S2048x8, .f32⟩
  | 78 => ⟨S2048x8, .f32⟩
  | 79 => ⟨S2048x8, .f32⟩
  | 80 => ⟨S2048x1x8, .f32⟩
  | 81 => ⟨S2048x1x8, .f32⟩
  | 82 => ⟨S8x2048x8x8, .f32⟩
  | 83 => ⟨S8x2048x8x8, .f32⟩
  | 84 => ⟨S8x2048x8x8, .f32⟩
  | 85 => ⟨S8x2048x8x8, .f32⟩
  | 86 => ⟨S8x2048x8x64, .f32⟩
  | 87 => ⟨S2048x1x8, .f32⟩
  | 88 => ⟨S1x2048x1x8, .f32⟩
  | 89 => ⟨S8x2048x8x8, .f32⟩
  | 90 => ⟨S8x2048x8x8, .f32⟩
  | 91 => ⟨S2048x1x8, .f32⟩
  | 92 => ⟨S1x2048x1x8, .f32⟩
  | 93 => ⟨S8x2048x8x8, .f32⟩
  | 94 => ⟨S8x2048x8x8, .f32⟩
  | 95 => ⟨S8x2048x8x8, .f32⟩
  | 96 => ⟨S2048x1x8, .f32⟩
  | 97 => ⟨S1x2048x1x8, .f32⟩
  | 98 => ⟨S8x2048x8x8, .f32⟩
  | 99 => ⟨S8x2048x8x8, .f32⟩
  | 100 => ⟨S2048x1x8, .f32⟩
  | 101 => ⟨S1x2048x1x8, .f32⟩
  | 102 => ⟨S8x2048x8x8, .f32⟩
  | 103 => ⟨S8x2048x8x8, .f32⟩
  | 104 => ⟨S8x2048x8x8, .f32⟩
  | 105 => ⟨S2048x1x8, .f32⟩
  | 106 => ⟨S1x2048x1x8, .f32⟩
  | 107 => ⟨S8x2048x8x8, .f32⟩
  | 108 => ⟨S8x2048x8x8, .f32⟩
  | 109 => ⟨S2048x1x8, .f32⟩
  | 110 => ⟨S1x2048x1x8, .f32⟩
  | 111 => ⟨S8x2048x8x8, .f32⟩
  | 112 => ⟨S8x2048x8x8, .f32⟩
  | 113 => ⟨S8x2048x8x8, .f32⟩
  | 114 => ⟨S2048x1x8, .f32⟩
  | 115 => ⟨S1x2048x1x8, .f32⟩
  | 116 => ⟨S8x2048x8x8, .f32⟩
  | 117 => ⟨S8x2048x8x8, .f32⟩
  | 118 => ⟨S2048x1x8, .f32⟩
  | 119 => ⟨S1x2048x1x8, .f32⟩
  | 120 => ⟨S8x2048x8x8, .f32⟩
  | 121 => ⟨S8x2048x8x8, .f32⟩
  | 122 => ⟨S8x2048x8x8, .f32⟩
  | 123 => ⟨S8x2048x8x96, .f32⟩
  | 124 => ⟨S_, .i32⟩
  | 125 => ⟨S_, .f32⟩
  | 126 => ⟨S8x2048x8x128, .f32⟩
  | 127 => ⟨S8x2048x1024, .f32⟩
  | _ => ⟨S8x2048x256, .bf16⟩

abbrev hbmTy0_1 (i : Nat) : BufTy := match i % 128 with
  | 0 => ⟨S8x2048x1024, .bf16⟩
  | 1 => ⟨S8x2048x512, .f32⟩
  | 2 => ⟨S8x2048x512, .bf16⟩
  | _ => ⟨S8x2048x256, .bf16⟩

abbrev hbmTy (i : Nat) : BufTy := match i / 128 with
  | 0 => hbmTy0_0 i
  | 1 => hbmTy0_1 i
  | _ => ⟨S8x2048x256, .bf16⟩

abbrev bufTy : (tb : Table) → Fin (tcTables nBuf tb) → BufTy
  | .hbm, ⟨i, _⟩ => hbmTy i
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_c : Ref sig .tc := ⟨.hbm, 124, rfl⟩
abbrev main_call0_v0 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩

abbrev nD : Nat := 1
abbrev τ : Topo := Topo.v7x

variable {F : FTy → Type} [FloatOps F]
-- ==== Kernel6.lean ====
abbrev S8x256x256 : Shape := ⟨3, ![8, 256, 256]⟩
abbrev S8x256x128 : Shape := ⟨3, ![8, 256, 128]⟩
abbrev S1x256 : Shape := ⟨2, ![1, 256]⟩
abbrev S1x256x1024 : Shape := ⟨3, ![1, 256, 1024]⟩
abbrev S1x96 : Shape := ⟨2, ![1, 96]⟩
abbrev S256 : Shape := ⟨1, ![256]⟩
abbrev S256x1024 : Shape := ⟨2, ![256, 1024]⟩
abbrev S96 : Shape := ⟨1, ![96]⟩
abbrev S256x8x128 : Shape := ⟨3, ![256, 8, 128]⟩
abbrev S256x8x64 : Shape := ⟨3, ![256, 8, 64]⟩
abbrev S_ : Shape := ⟨0, ![]⟩
abbrev S256x512 : Shape := ⟨2, ![256, 512]⟩
abbrev S128 : Shape := ⟨1, ![128]⟩
abbrev S1x128 : Shape := ⟨2, ![1, 128]⟩
abbrev S8x256x1024 : Shape := ⟨3, ![8, 256, 1024]⟩
abbrev S8x256x512 : Shape := ⟨3, ![8, 256, 512]⟩
abbrev S1x256x256 : Shape := ⟨3, ![1, 256, 256]⟩
abbrev S1x256x128 : Shape := ⟨3, ![1, 256, 128]⟩
abbrev S1x256x512 : Shape := ⟨3, ![1, 256, 512]⟩
abbrev S256x256 : Shape := ⟨2, ![256, 256]⟩
abbrev S256x1 : Shape := ⟨2, ![256, 1]⟩
abbrev S256x128 : Shape := ⟨2, ![256, 128]⟩

abbrev nBuf : Space → Nat
  | .hbm => 26
  | .vmem => 12
  | .smem => 0
  | _ => 0

abbrev bufTy : (tb : Table) → Fin (tcTables nBuf tb) → BufTy
  | .hbm, ⟨0, _⟩ => ⟨S8x256x256, .bf16⟩
  | .hbm, ⟨1, _⟩ => ⟨S8x256x128, .f32⟩
  | .hbm, ⟨2, _⟩ => ⟨S1x256, .f32⟩
  | .hbm, ⟨3, _⟩ => ⟨S1x256x1024, .f32⟩
  | .hbm, ⟨4, _⟩ => ⟨S1x96, .f32⟩
  | .hbm, ⟨5, _⟩ => ⟨S256, .f32⟩
  | .hbm, ⟨6, _⟩ => ⟨S256x1024, .f32⟩
  | .hbm, ⟨7, _⟩ => ⟨S96, .f32⟩
  | .hbm, ⟨8, _⟩ => ⟨S256x8x128, .f32⟩
  | .hbm, ⟨9, _⟩ => ⟨S256x8x64, .f32⟩
  | .hbm, ⟨10, _⟩ => ⟨S_, .i32⟩
  | .hbm, ⟨11, _⟩ => ⟨S_, .f32⟩
  | .hbm, ⟨12, _⟩ => ⟨S256x8x128, .f32⟩
  | .hbm, ⟨13, _⟩ => ⟨S256x1024, .f32⟩
  | .hbm, ⟨14, _⟩ => ⟨S256x1024, .bf16⟩
  | .hbm, ⟨15, _⟩ => ⟨S256x8x128, .f32⟩
  | .hbm, ⟨16, _⟩ => ⟨S256x8x64, .f32⟩
  | .hbm, ⟨17, _⟩ => ⟨S256x512, .f32⟩
  | .hbm, ⟨18, _⟩ => ⟨S256x512, .bf16⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S1x256, .f32⟩
  | .hbm, ⟨24, _⟩ => ⟨S8x256x1024, .bf16⟩
  | .hbm, ⟨25, _⟩ => ⟨S8x256x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x128, .f32⟩
  | .local _ .vmem, ⟨3, _⟩ => ⟨S1x256x128, .f32⟩
  | .local _ .vmem, ⟨4, _⟩ => ⟨S1x256, .f32⟩
  | .local _ .vmem, ⟨5, _⟩ => ⟨S256x1024, .bf16⟩
  | .local _ .vmem, ⟨6, _⟩ => ⟨S256x512, .bf16⟩
  | .local _ .vmem, ⟨7, _⟩ => ⟨S1x128, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x512, .bf16⟩
  | .local _ .vmem, ⟨11, _⟩ => ⟨S1x256x512, .bf16⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel6Ideal.lean ====
variable {F : FTy → Type} [FloatOps F] [Named F]
def κ : String → Option EReal := fun
  | "inv_qk" => some ((96⁻¹ : ℝ) : EReal)
  | _ => none
-- ==== Reference6Ideal.lean ====
abbrev S8x256x256 : Shape := ⟨3, ![8, 256, 256]⟩
abbrev S8x256x128 : Shape := ⟨3, ![8, 256, 128]⟩
abbrev S1x256 : Shape := ⟨2, ![1, 256]⟩
abbrev S1x256x1024 : Shape := ⟨3, ![1, 256, 1024]⟩
abbrev S1x96 : Shape := ⟨2, ![1, 96]⟩
abbrev S256 : Shape := ⟨1, ![256]⟩
abbrev S_ : Shape := ⟨0, ![]⟩
abbrev S8x256 : Shape := ⟨2, ![8, 256]⟩
abbrev S8x256x1 : Shape := ⟨3, ![8, 256, 1]⟩
abbrev S1x1x256 : Shape := ⟨3, ![1, 1, 256]⟩
abbrev S256x1024 : Shape := ⟨2, ![256, 1024]⟩
abbrev S8x256x1024 : Shape := ⟨3, ![8, 256, 1024]⟩
abbrev S8x256x8x128 : Shape := ⟨4, ![8, 256, 8, 128]⟩
abbrev S8x256x8x64 : Shape := ⟨4, ![8, 256, 8, 64]⟩
abbrev S8x256x32 : Shape := ⟨3, ![8, 256, 32]⟩
abbrev S8x256x1x32 : Shape := ⟨4, ![8, 256, 1, 32]⟩
abbrev S8x256x8x32 : Shape := ⟨4, ![8, 256, 8, 32]⟩
abbrev S8x256x8x96 : Shape := ⟨4, ![8, 256, 8, 96]⟩
abbrev S96 : Shape := ⟨1, ![96]⟩
abbrev S8x256x8 : Shape := ⟨3, ![8, 256, 8]⟩
abbrev S8x256x8x1 : Shape := ⟨4, ![8, 256, 8, 1]⟩
abbrev S1x1x1x96 : Shape := ⟨4, ![1, 1, 1, 96]⟩
abbrev S8x256x512 : Shape := ⟨3, ![8, 256, 512]⟩

abbrev nBuf : Space → Nat
  | .hbm => 56
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x128, .f32⟩
  | .hbm, ⟨2, _⟩ => ⟨S1x256, .f32⟩
  | .hbm, ⟨3, _⟩ => ⟨S1x256x1024, .f32⟩
  | .hbm, ⟨4, _⟩ => ⟨S1x96, .f32⟩
  | .hbm, ⟨5, _⟩ => ⟨S8x256x256, .f32⟩
  | .hbm, ⟨6, _⟩ => ⟨S256, .f32⟩
  | .hbm, ⟨7, _⟩ => ⟨S8x256x256, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x256, .f32⟩
  | .hbm, ⟨19, _⟩ => ⟨S8x256x256, .f32⟩
  | .hbm, ⟨20, _⟩ => ⟨S1x1x256, .f32⟩
  | .hbm, ⟨21, _⟩ => ⟨S8x256x256, .f32⟩
  | .hbm, ⟨22, _⟩ => ⟨S8x256x256, .f32⟩
  | .hbm, ⟨23, _⟩ => ⟨S256x1024, .f32⟩
  | .hbm, ⟨24, _⟩ => ⟨S8x256x1024, .f32⟩
  | .hbm, ⟨25, _⟩ => ⟨S8x256x8x128, .f32⟩
  | .hbm, ⟨26, _⟩ => ⟨S8x256x8x64, .f32⟩
  | .hbm, ⟨27, _⟩ => ⟨S8x256x8x64, .f32⟩
  | .hbm, ⟨28, _⟩ => ⟨S8x256x32, .f32⟩
  | .hbm, ⟨29, _⟩ => ⟨S8x256x1x32, .f32⟩
  | .hbm, ⟨30, _⟩ => ⟨S8x256x8x32, .f32⟩
  | .hbm, ⟨31, _⟩ => ⟨S8x256x8x96, .f32⟩
  | .hbm, ⟨32, _⟩ => ⟨S96, .f32⟩
  | .hbm, ⟨33, _⟩ => ⟨S8x256x8x96, .f32⟩
  | .hbm, ⟨34, _⟩ => ⟨S_, .f32⟩
  | .hbm, ⟨35, _⟩ => ⟨S8x256x8, .f32⟩
  | .hbm, ⟨36, _⟩ => ⟨S8x256x8x1, .f32⟩
  | .hbm, ⟨37, _⟩ => ⟨S_, .f32⟩
  | .hbm, ⟨38, _⟩ => ⟨S8x256x8x1, .f32⟩
  | .hbm, ⟨39, _⟩ => ⟨S8x256x8x1, .f32⟩
  | .hbm, ⟨40, _⟩ => ⟨S_, .f32⟩
  | .hbm, ⟨41, _⟩ => ⟨S8x256x8x1, .f32⟩
  | .hbm, ⟨42, _⟩ => ⟨S8x256x8x1, .f32⟩
  | .hbm, ⟨43, _⟩ => ⟨S8x256x8x1, .f32⟩
  | .hbm, ⟨44, _⟩ => ⟨S8x256x8x96, .f32⟩
  | .hbm, ⟨45, _⟩ => ⟨S8x256x8x96, .f32⟩
  | .hbm, ⟨46, _⟩ => ⟨S1x1x1x96, .f32⟩
  | .hbm, ⟨47, _⟩ => ⟨S8x256x8x96, .f32⟩
  | .hbm, ⟨48, _⟩ => ⟨S8x256x8x96, .f32⟩
  | .hbm, ⟨49, _⟩ => ⟨S_, .i32⟩
  | .hbm, ⟨50, _⟩ => ⟨S_, .f32⟩
  | .hbm, ⟨51, _⟩ => ⟨S8x256x8x128, .f32⟩
  | .hbm, ⟨52, _⟩ => ⟨S8x256x1024, .f32⟩
  | .hbm, ⟨53, _⟩ => ⟨S8x256x1024, .bf16⟩
  | .hbm, ⟨54, _⟩ => ⟨S8x256x512, .f32⟩
  | .hbm, ⟨55, _⟩ => ⟨S8x256x512, .bf16⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_call0_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel7.lean ====
abbrev S8x1024 : Shape := ⟨2, ![8, 1024]⟩
abbrev S1024 : Shape := ⟨1, ![1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S16x3072 : Shape := ⟨2, ![16, 3072]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x3072, .f32⟩
  | .hbm, ⟨3, _⟩ => ⟨S1x3072, .f32⟩
  | .hbm, ⟨4, _⟩ => ⟨S1024x3072, .f32⟩
  | .hbm, ⟨5, _⟩ => ⟨S3072, .f32⟩
  | .hbm, ⟨6, _⟩ => ⟨S1x1024, .f32⟩
  | .hbm, ⟨7, _⟩ => ⟨S_, .f32⟩
  | .hbm, ⟨8, _⟩ => ⟨S7x1024, .f32⟩
  | .hbm, ⟨9, _⟩ => ⟨S16x1024, .f32⟩
  | .hbm, ⟨10, _⟩ => ⟨S1x3072, .f32⟩
  | .hbm, ⟨11, _⟩ => ⟨S16x3072, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x1024 : Shape := ⟨2, ![8, 1024]⟩
abbrev S1024 : Shape := ⟨1, ![1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S_ : Shape := ⟨0, ![]⟩
abbrev S8x3072 : Shape := ⟨2, ![8, 3072]⟩
abbrev S7x3072 : Shape := ⟨2, ![7, 3072]⟩
abbrev S16x3072 : Shape := ⟨2, ![16, 3072]⟩

abbrev nBuf : Space → Nat
  | .hbm => 33
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x3072, .f32⟩
  | .hbm, ⟨3, _⟩ => ⟨S1x3072, .f32⟩
  | .hbm, ⟨4, _⟩ => ⟨S1024x3072, .f32⟩
  | .hbm, ⟨5, _⟩ => ⟨S3072, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x3072, .f32⟩
  | .hbm, ⟨16, _⟩ => ⟨S1x3072, .f32⟩
  | .hbm, ⟨17, _⟩ => ⟨S8x3072, .f32⟩
  | .hbm, ⟨18, _⟩ => ⟨S8x3072, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S3072, .f32⟩
  | .hbm, ⟨29, _⟩ => ⟨S3072, .f32⟩
  | .hbm, ⟨30, _⟩ => ⟨S1x3072, .f32⟩
  | .hbm, ⟨31, _⟩ => ⟨S7x3072, .f32⟩
  | .hbm, ⟨32, _⟩ => ⟨S16x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel8.lean ====
abbrev S8x256x1536 : Shape := ⟨3, ![8, 256, 1536]⟩
abbrev S8x2048x1536 : Shape := ⟨3, ![8, 2048, 1536]⟩
abbrev S1x5x1536 : Shape := ⟨3, ![1, 5, 1536]⟩
abbrev S5x1536 : Shape := ⟨2, ![5, 1536]⟩
abbrev S_ : Shape := ⟨0, ![]⟩
abbrev S8x1536 : Shape := ⟨2, ![8, 1536]⟩
abbrev S8x2304x1536 : Shape := ⟨3, ![8, 2304, 1536]⟩
abbrev S1x256x128 : Shape := ⟨3, ![1, 256, 128]⟩
abbrev S1x2048x128 : Shape := ⟨3, ![1, 2048, 128]⟩
abbrev S8x128 : Shape := ⟨2, ![8, 128]⟩
abbrev S1x2304x128 : Shape := ⟨3, ![1, 2304, 128]⟩
abbrev S2064x128 : Shape := ⟨2, ![2064, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S2048x128 : Shape := ⟨2, ![2048, 128]⟩

abbrev nBuf : Space → Nat
  | .hbm => 8
  | .vmem => 9
  | .smem => 0
  | _ => 0

abbrev bufTy : (tb : Table) → Fin (tcTables nBuf tb) → BufTy
  | .hbm, ⟨0, _⟩ => ⟨S8x256x1536, .f32⟩
  | .hbm, ⟨1, _⟩ => ⟨S8x2048x1536, .f32⟩
  | .hbm, ⟨2, _⟩ => ⟨S1x5x1536, .f32⟩
  | .hbm, ⟨3, _⟩ => ⟨S5x1536, .f32⟩
  | .hbm, ⟨4, _⟩ => ⟨S_, .i32⟩
  | .hbm, ⟨5, _⟩ => ⟨S_, .f32⟩
  | .hbm, ⟨6, _⟩ => ⟨S8x1536, .f32⟩
  | .hbm, ⟨7, _⟩ => ⟨S8x2304x1536, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S8x128, .f32⟩
  | .local _ .vmem, ⟨5, _⟩ => ⟨S8x128, .f32⟩
  | .local _ .vmem, ⟨6, _⟩ => ⟨S1x2304x128, .f32⟩
  | .local _ .vmem, ⟨7, _⟩ => ⟨S1x2304x128, .f32⟩
  | .local _ .vmem, ⟨8, _⟩ => ⟨S2064x128, .f32⟩
  | _, _ => ⟨S8x256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x256x1536 : Shape := ⟨3, ![8, 256, 1536]⟩
abbrev S8x2048x1536 : Shape := ⟨3, ![8, 2048, 1536]⟩
abbrev S1x5x1536 : Shape := ⟨3, ![1, 5, 1536]⟩
abbrev S_ : Shape := ⟨0, ![]⟩
abbrev S8x260x1536 : Shape := ⟨3, ![8, 260, 1536]⟩
abbrev S1x1x1536 : Shape := ⟨3, ![1, 1, 1536]⟩
abbrev S1536 : Shape := ⟨1, ![1536]⟩
abbrev S8x256x512 : Shape := ⟨3, ![8, 256, 512]⟩
abbrev S8x256x8x64 : Shape := ⟨4, ![8, 256, 8, 64]⟩
abbrev S8x256x8 : Shape := ⟨3, ![8, 256, 8]⟩
abbrev S8x256x8x1 : Shape := ⟨4, ![8, 256, 8, 1]⟩
abbrev S8x2052x1536 : Shape := ⟨3, ![8, 2052, 1536]⟩
abbrev S8x2048x512 : Shape := ⟨3, ![8, 2048, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S8x2304x1536 : Shape := ⟨3, ![8, 2304, 1536]⟩

abbrev nBuf : Space → Nat
  | .hbm => 164
  | .vmem => 0
  | .smem => 0
  | _ => 0

abbrev hbmTy0_0 (i : Nat) : BufTy := match i % 128 with
  | 0 => ⟨S8x256x1536, .f32⟩
  | 1 => ⟨S8x2048x1536, .f32⟩
  | 2 => ⟨S1x5x1536, .f32⟩
  | 3 => ⟨S_, .i32⟩
  | 4 => ⟨S_, .f32⟩
  | 5 => ⟨S8x260x1536, .f32⟩
  | 6 => ⟨S8x256x1536, .f32⟩
  | 7 => ⟨S1x1x1536, .f32⟩
  | 8 => ⟨S1536, .f32⟩
  | 9 => ⟨S1x1x1536, .f32⟩
  | 10 => ⟨S8x256x1536, .f32⟩
  | 11 => ⟨S8x256x1536, .f32⟩
  | 12 => ⟨S_, .f32⟩
  | 13 => ⟨S8x256x1536, .f32⟩
  | 14 => ⟨S8x256x1536, .f32⟩
  | 15 => ⟨S8x256x1536, .f32⟩
  | 16 => ⟨S1x1x1536, .f32⟩
  | 17 => ⟨S1536, .f32⟩
  | 18 => ⟨S1x1x1536, .f32⟩
  | 19 => ⟨S8x256x1536, .f32⟩
  | 20 => ⟨S8x256x1536, .f32⟩
  | 21 => ⟨S8x256x1536, .f32⟩
  | 22 => ⟨S8x256x1536, .f32⟩
  | 23 => ⟨S1x1x1536, .f32⟩
  | 24 => ⟨S1536, .f32⟩
  | 25 => ⟨S1x1x1536, .f32⟩
  | 26 => ⟨S8x256x1536, .f32⟩
  | 27 => ⟨S8x256x1536, .f32⟩
  | 28 => ⟨S8x256x1536, .f32⟩
  | 29 => ⟨S8x256x1536, .f32⟩
  | 30 => ⟨S1x1x1536, .f32⟩
  | 31 => ⟨S1536, .f32⟩
  | 32 => ⟨S1x1x1536, .f32⟩
  | 33 => ⟨S8x256x1536, .f32⟩
  | 34 => ⟨S8x256x1536, .f32⟩
  | 35 => ⟨S8x256x1536, .f32⟩
  | 36 => ⟨S8x256x1536, .f32⟩
  | 37 => ⟨S1x1x1536, .f32⟩
  | 38 => ⟨S1536, .f32⟩
  | 39 => ⟨S1x1x1536, .f32⟩
  | 40 => ⟨S8x256x1536, .f32⟩
  | 41 => ⟨S8x256x1536, .f32⟩
  | 42 => ⟨S8x256x1536, .f32⟩
  | 43 => ⟨S8x256x1536, .f32⟩
  | 44 => ⟨S8x256x1536, .f32⟩
  | 45 => ⟨S_, .f32⟩
  | 46 => ⟨S8x256x1536, .f32⟩
  | 47 => ⟨S8x256x1536, .f32⟩
  | 48 => ⟨S_, .f32⟩
  | 49 => ⟨S8x256x1536, .f32⟩
  | 50 => ⟨S8x256x1536, .f32⟩
  | 51 => ⟨S8x256x1536, .f32⟩
  | 52 => ⟨S8x256x512, .f32⟩
  | 53 => ⟨S8x256x512, .f32⟩
  | 54 => ⟨S8x256x512, .f32⟩
  | 55 => ⟨S8x256x8x64, .f32⟩
  | 56 => ⟨S8x256x8x64, .f32⟩
  | 57 => ⟨S_, .f32⟩
  | 58 => ⟨S8x256x8, .f32⟩
  | 59 => ⟨S8x256x8x1, .f32⟩
  | 60 => ⟨S_, .f32⟩
  | 61 => ⟨S8x256x8x1, .f32⟩
  | 62 => ⟨S8x256x8x1, .f32⟩
  | 63 => ⟨S8x256x8x1, .f32⟩
  | 64 => ⟨S8x256x8x64, .f32⟩
  | 65 => ⟨S8x256x8x64, .f32⟩
  | 66 => ⟨S_, .f32⟩
  | 67 => ⟨S8x256x8x64, .f32⟩
  | 68 => ⟨S8x256x8x64, .f32⟩
  | 69 => ⟨S8x256x8x64, .f32⟩
  | 70 => ⟨S8x256x8x64, .f32⟩
  | 71 => ⟨S_, .f32⟩
  | 72 => ⟨S8x256x8, .f32⟩
  | 73 => ⟨S8x256x8x1, .f32⟩
  | 74 => ⟨S_, .f32⟩
  | 75 => ⟨S8x256x8x1, .f32⟩
  | 76 => ⟨S8x256x8x1, .f32⟩
  | 77 => ⟨S8x256x8x1, .f32⟩
  | 78 => ⟨S8x256x8x64, .f32⟩
  | 79 => ⟨S8x256x8x64, .f32⟩
  | 80 => ⟨S8x256x512, .f32⟩
  | 81 => ⟨S8x256x512, .f32⟩
  | 82 => ⟨S8x256x1536, .f32⟩
  | 83 => ⟨S_, .i32⟩
  | 84 => ⟨S_, .f32⟩
  | 85 => ⟨S8x2052x1536, .f32⟩
  | 86 => ⟨S8x2048x1536, .f32⟩
  | 87 => ⟨S1x1x1536, .f32⟩
  | 88 => ⟨S1536, .f32⟩
  | 89 => ⟨S1x1x1536, .f32⟩
  | 90 => ⟨S8x2048x1536, .f32⟩
  | 91 => ⟨S8x2048x1536, .f32⟩
  | 92 => ⟨S_, .f32⟩
  | 93 => ⟨S8x2048x1536, .f32⟩
  | 94 => ⟨S8x2048x1536, .f32⟩
  | 95 => ⟨S8x2048x1536, .f32⟩
  | 96 => ⟨S1x1x1536, .f32⟩
  | 97 => ⟨S1536, .f32⟩
  | 98 => ⟨S1x1x1536, .f32⟩
  | 99 => ⟨S8x2048x1536, .f32⟩
  | 100 => ⟨S8x2048x1536, .f32⟩
  | 101 => ⟨S8x2048x1536, .f32⟩
  | 102 => ⟨S8x2048x1536, .f32⟩
  | 103 => ⟨S1x1x1536, .f32⟩
  | 104 => ⟨S1536, .f32⟩
  | 105 => ⟨S1x1x1536, .f32⟩
  | 106 => ⟨S8x2048x1536, .f32⟩
  | 107 => ⟨S8x2048x1536, .f32⟩
  | 108 => ⟨S8x2048x1536, .f32⟩
  | 109 => ⟨S8x2048x1536, .f32⟩
  | 110 => ⟨S1x1x1536, .f32⟩
  | 111 => ⟨S1536, .f32⟩
  | 112 => ⟨S1x1x1536, .f32⟩
  | 113 => ⟨S8x2048x1536, .f32⟩
  | 114 => ⟨S8x2048x1536, .f32⟩
  | 115 => ⟨S8x2048x1536, .f32⟩
  | 116 => ⟨S8x2048x1536, .f32⟩
  | 117 => ⟨S1x1x1536, .f32⟩
  | 118 => ⟨S1536, .f32⟩
  | 119 => ⟨S1x1x1536, .f32⟩
  | 120 => ⟨S8x2048x1536, .f32⟩
  | 121 => ⟨S8x2048x1536, .f32⟩
  | 122 => ⟨S8x2048x1536, .f32⟩
  | 123 => ⟨S8x2048x1536, .f32⟩
  | 124 => ⟨S8x2048x1536, .f32⟩
  | 125 => ⟨S_, .f32⟩
  | 126 => ⟨S8x2048x1536, .f32⟩
  | 127 => ⟨S8x2048x1536, .f32⟩
  | _ => ⟨S8x256x1536, .f32⟩

abbrev hbmTy0_1 (i : Nat) : BufTy := match i % 128 with
  | 0 => ⟨S_, .f32⟩
  | 1 => ⟨S8x2048x1536, .f32⟩
  | 2 => ⟨S8x2048x1536, .f32⟩
  | 3 => ⟨S8x2048x1536, .f32⟩
  | 4 => ⟨S8x2048x512, .f32⟩
  | 5 => ⟨S8x2048x512, .f32⟩
  | 6 => ⟨S8x2048x512, .f32⟩
  | 7 => ⟨S8x2048x8x64, .f32⟩
  | 8 => ⟨S8x2048x8x64, .f32⟩
  | 9 => ⟨S_, .f32⟩
  | 10 => ⟨S8x2048x8, .f32⟩
  | 11 => ⟨S8x2048x8x1, .f32⟩
  | 12 => ⟨S_, .f32⟩
  | 13 => ⟨S8x2048x8x1, .f32⟩
  | 14 => ⟨S8x2048x8x1, .f32⟩
  | 15 => ⟨S8x2048x8x1, .f32⟩
  | 16 => ⟨S8x2048x8x64, .f32⟩
  | 17 => ⟨S8x2048x8x64, .f32⟩
  | 18 => ⟨S_, .f32⟩
  | 19 => ⟨S8x2048x8x64, .f32⟩
  | 20 => ⟨S8x2048x8x64, .f32⟩
  | 21 => ⟨S8x2048x8x64, .f32⟩
  | 22 => ⟨S8x2048x8x64, .f32⟩
  | 23 => ⟨S_, .f32⟩
  | 24 => ⟨S8x2048x8, .f32⟩
  | 25 => ⟨S8x2048x8x1, .f32⟩
  | 26 => ⟨S_, .f32⟩
  | 27 => ⟨S8x2048x8x1, .f32⟩
  | 28 => ⟨S8x2048x8x1, .f32⟩
  | 29 => ⟨S8x2048x8x1, .f32⟩
  | 30 => ⟨S8x2048x8x64, .f32⟩
  | 31 => ⟨S8x2048x8x64, .f32⟩
  | 32 => ⟨S8x2048x512, .f32⟩
  | 33 => ⟨S8x2048x512, .f32⟩
  | 34 => ⟨S8x2048x1536, .f32⟩
  | 35 => ⟨S8x2304x1536, .f32⟩
  | _ => ⟨S8x256x1536, .f32⟩

abbrev hbmTy (i : Nat) : BufTy := match i / 128 with
  | 0 => hbmTy0_0 i
  | 1 => hbmTy0_1 i
  | _ => ⟨S8x256x1536, .f32⟩

abbrev bufTy : (tb : Table) → Fin (tcTables nBuf tb) → BufTy
  | .hbm, ⟨i, _⟩ => hbmTy i
  | _, _ => ⟨S8x256x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_0 : Ref sig .tc := ⟨.hbm, 57, rfl⟩
abbrev main_v43 : Ref sig .tc := ⟨.hbm, 58, rfl⟩
abbrev main_v44 : Ref sig .tc := ⟨.hbm, 59, rfl⟩
abbrev main_cst_1 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_2 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_3 : Ref sig .tc := ⟨.hbm, 71, rfl⟩
abbrev main_v54 : Ref sig .tc := ⟨.hbm, 72, rfl⟩
abbrev main_v55 : Ref sig .tc := ⟨.hbm, 73, rfl⟩
abbrev main_cst_4 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_5 : Ref sig .tc := ⟨.hbm, 83, rfl⟩
abbrev main_call2_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_6 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_call3_v0 : Ref sig .tc := ⟨.hbm, 123, rfl⟩
abbrev main_call3_v1 : Ref sig .tc := ⟨.hbm, 124, rfl⟩
abbrev main_call3_cst : Ref sig .tc := ⟨.hbm, 125, rfl⟩
abbrev main_call3_v2 : Ref sig .tc := ⟨.hbm, 126, rfl⟩
abbrev main_call3_v3 : Ref sig .tc := ⟨.hbm, 127, rfl⟩
abbrev main_call3_cst_0 : Ref sig .tc := ⟨.hbm, 128, rfl⟩
abbrev main_call3_v4 : Ref sig .tc := ⟨.hbm, 129, rfl⟩
abbrev main_call3_v5 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_7 : Ref sig .tc := ⟨.hbm, 137, rfl⟩
abbrev main_v107 : Ref sig .tc := ⟨.hbm, 138, rfl⟩
abbrev main_v108 : Ref sig .tc := ⟨.hbm, 139, rfl⟩
abbrev main_cst_8 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_9 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_10 : Ref sig .tc := ⟨.hbm, 151, rfl⟩
abbrev main_v118 : Ref sig .tc := ⟨.hbm, 152, rfl⟩
abbrev main_v119 : Ref sig .tc := ⟨.hbm, 153, rfl⟩
abbrev main_cst_11 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩

abbrev nD : Nat := 1
abbrev τ : Topo := Topo.v7x

variable {F : FTy → Type} [FloatOps F]
-- ==== Kernel9.lean ====
abbrev S8x256x1024 : Shape := ⟨3, ![8, 256, 1024]⟩
abbrev S16x3072 : Shape := ⟨2, ![16, 3072]⟩
abbrev S1x1024 : Shape := ⟨2, ![1, 1024]⟩
abbrev S1x1024x5312 : Shape := ⟨3, ![1, 1024, 5312]⟩
abbrev S1024 : Shape := ⟨1, ![1024]⟩
abbrev S1024x5312 : Shape := ⟨2, ![1024, 5312]⟩
abbrev S16x3x1024 : Shape := ⟨3, ![16, 3, 1024]⟩
abbrev S_ : Shape := ⟨0, ![]⟩
abbrev S16x8x1024 : Shape := ⟨3, ![16, 8, 1024]⟩
abbrev S1x8x1024 : Shape := ⟨3, ![1, 8, 1024]⟩
abbrev S8x8x1024 : Shape := ⟨3, ![8, 8, 1024]⟩
abbrev S1024x64 : Shape := ⟨2, ![1024, 64]⟩
abbrev S1024x32 : Shape := ⟨2, ![1024, 32]⟩
abbrev S1024x128 : Shape := ⟨2, ![1024, 128]⟩
abbrev S1024x16 : Shape := ⟨2, ![1024, 16]⟩
abbrev S1024x96 : Shape := ⟨2, ![1024, 96]⟩
abbrev S1024x512 : Shape := ⟨2, ![1024, 512]⟩
abbrev S1024x1536 : Shape := ⟨2, ![1024, 1536]⟩
abbrev S1024x256 : Shape := ⟨2, ![1024, 256]⟩
abbrev S1024x2048 : Shape := ⟨2, ![1024, 2048]⟩
abbrev S8x256x256 : Shape := ⟨3, ![8, 256, 256]⟩
abbrev S8x256x128 : Shape := ⟨3, ![8, 256, 128]⟩
abbrev S8x256x1536 : Shape := ⟨3, ![8, 256, 1536]⟩
abbrev S1x256x1024 : Shape := ⟨3, ![1, 256, 1024]⟩
abbrev S1x256x256 : Shape := ⟨3, ![1, 256, 256]⟩
abbrev S1x256x128 : Shape := ⟨3, ![1, 256, 128]⟩
abbrev S1x256x1536 : Shape := ⟨3, ![1, 256, 1536]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x256 : Shape := ⟨2, ![256, 256]⟩
abbrev S256x128 : Shape := ⟨2, ![256, 128]⟩
abbrev S256x1536 : Shape := ⟨2, ![256, 1536]⟩

abbrev nBuf : Space → Nat
  | .hbm => 35
  | .vmem => 14
  | .smem => 0
  | _ => 0

abbrev bufTy : (tb : Table) → Fin (tcTables nBuf tb) → BufTy
  | .hbm, ⟨0, _⟩ => ⟨S8x256x1024, .f32⟩
  | .hbm, ⟨1, _⟩ => ⟨S16x3072, .f32⟩
  | .hbm, ⟨2, _⟩ => ⟨S1x1024, .f32⟩
  | .hbm, ⟨3, _⟩ => ⟨S1x1024x5312, .f32⟩
  | .hbm, ⟨4, _⟩ => ⟨S1024, .f32⟩
  | .hbm, ⟨5, _⟩ => ⟨S1024x5312, .f32⟩
  | .hbm, ⟨6, _⟩ => ⟨S16x3x1024, .f32⟩
  | .hbm, ⟨7, _⟩ => ⟨S_, .i32⟩
  | .hbm, ⟨8, _⟩ => ⟨S_, .f32⟩
  | .hbm, ⟨9, _⟩ => ⟨S16x8x1024, .f32⟩
  | .hbm, ⟨10, _⟩ => ⟨S1x8x1024, .f32⟩
  | .hbm, ⟨11, _⟩ => ⟨S8x8x1024, .f32⟩
  | .hbm, ⟨12, _⟩ => ⟨S_, .f32⟩
  | .hbm, ⟨13, _⟩ => ⟨S1024x64, .f32⟩
  | .hbm, ⟨14, _⟩ => ⟨S1024x32, .f32⟩
  | .hbm, ⟨15, _⟩ => ⟨S_, .f32⟩
  | .hbm, ⟨16, _⟩ => ⟨S1024x32, .f32⟩
  | .hbm, ⟨17, _⟩ => ⟨S1024x128, .f32⟩
  | .hbm, ⟨18, _⟩ => ⟨S1024x16, .f32⟩
  | .hbm, ⟨19, _⟩ => ⟨S1024x16, .f32⟩
  | .hbm, ⟨20, _⟩ => ⟨S_, .f32⟩
  | .hbm, ⟨21, _⟩ => ⟨S1024x96, .f32⟩
  | .hbm, ⟨22, _⟩ => ⟨S1024x128, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x1536, .f32⟩
  | .hbm, ⟨27, _⟩ => ⟨S1024x256, .f32⟩
  | .hbm, ⟨28, _⟩ => ⟨S1024x2048, .f32⟩
  | .hbm, ⟨29, _⟩ => ⟨S1024x2048, .bf16⟩
  | .hbm, ⟨30, _⟩ => ⟨S1x1024, .f32⟩
  | .hbm, ⟨31, _⟩ => ⟨S8x256x256, .bf16⟩
  | .hbm, ⟨32, _⟩ => ⟨S8x256x128, .f32⟩
  | .hbm, ⟨33, _⟩ => ⟨S8x256x1536, .f32⟩
  | .hbm, ⟨34, _⟩ => ⟨S8x256x128, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x2048, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x128, .f32⟩
  | .local _ .vmem, ⟨9, _⟩ => ⟨S1x256x128, .f32⟩
  | .local _ .vmem, ⟨10, _⟩ => ⟨S1x256x1536, .f32⟩
  | .local _ .vmem, ⟨11, _⟩ => ⟨S1x256x1536, .f32⟩
  | .local _ .vmem, ⟨12, _⟩ => ⟨S1x256x128, .f32⟩
  | .local _ .vmem, ⟨13, _⟩ => ⟨S1x256x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S8x256x1024 : Shape := ⟨3, ![8, 256, 1024]⟩
abbrev S16x3072 : Shape := ⟨2, ![16, 3072]⟩
abbrev S1x1024 : Shape := ⟨2, ![1, 1024]⟩
abbrev S1x1024x5312 : Shape := ⟨3, ![1, 1024, 5312]⟩
abbrev S1024 : Shape := ⟨1, ![1024]⟩
abbrev S1024x5312 : Shape := ⟨2, ![1024, 5312]⟩
abbrev S1x3072 : Shape := ⟨2, ![1, 3072]⟩
abbrev S3072 : Shape := ⟨1, ![3072]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x5312 : Shape := ⟨3, ![8, 256, 5312]⟩
abbrev S8x256x384 : Shape := ⟨3, ![8, 256, 384]⟩
abbrev S8x256x256 : Shape := ⟨3, ![8, 256, 256]⟩
abbrev S8x256x32 : Shape := ⟨3, ![8, 256, 32]⟩
abbrev S8x256x512 : Shape := ⟨3, ![8, 256, 512]⟩
abbrev S8x256x16 : Shape := ⟨3, ![8, 256, 16]⟩
abbrev S8x256x2048 : Shape := ⟨3, ![8, 256, 2048]⟩
abbrev S8x256x128 : Shape := ⟨3, ![8, 256, 128]⟩
abbrev S8x256x1536 : Shape := ⟨3, ![8, 256, 1536]⟩

abbrev nBuf : Space → Nat
  | .hbm => 57
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S16x3072, .f32⟩
  | .hbm, ⟨2, _⟩ => ⟨S1x1024, .f32⟩
  | .hbm, ⟨3, _⟩ => ⟨S1x1024x5312, .f32⟩
  | .hbm, ⟨4, _⟩ => ⟨S1024, .f32⟩
  | .hbm, ⟨5, _⟩ => ⟨S1024x5312, .f32⟩
  | .hbm, ⟨6, _⟩ => ⟨S1x3072, .f32⟩
  | .hbm, ⟨7, _⟩ => ⟨S3072, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8x256x1024, .f32⟩
  | .hbm, ⟨12, _⟩ => ⟨S_, .f32⟩
  | .hbm, ⟨13, _⟩ => ⟨S8x256, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S_, .f32⟩
  | .hbm, ⟨19, _⟩ => ⟨S8x256x1, .f32⟩
  | .hbm, ⟨20, _⟩ => ⟨S8x256x1, .f32⟩
  | .hbm, ⟨21, _⟩ => ⟨S8x256x1, .f32⟩
  | .hbm, ⟨22, _⟩ => ⟨S8x256x1024, .f32⟩
  | .hbm, ⟨23, _⟩ => ⟨S8x256x1024, .f32⟩
  | .hbm, ⟨24, _⟩ => ⟨S1x1x1024, .f32⟩
  | .hbm, ⟨25, _⟩ => ⟨S8x256x1024, .f32⟩
  | .hbm, ⟨26, _⟩ => ⟨S8x256x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1x1024, .f32⟩
  | .hbm, ⟨31, _⟩ => ⟨S8x256x1024, .f32⟩
  | .hbm, ⟨32, _⟩ => ⟨S8x256x1024, .f32⟩
  | .hbm, ⟨33, _⟩ => ⟨S1x1x1024, .f32⟩
  | .hbm, ⟨34, _⟩ => ⟨S8x256x1024, .f32⟩
  | .hbm, ⟨35, _⟩ => ⟨S8x256x1024, .f32⟩
  | .hbm, ⟨36, _⟩ => ⟨S8x256x5312, .f32⟩
  | .hbm, ⟨37, _⟩ => ⟨S8x256x384, .f32⟩
  | .hbm, ⟨38, _⟩ => ⟨S8x256x256, .f32⟩
  | .hbm, ⟨39, _⟩ => ⟨S8x256x32, .f32⟩
  | .hbm, ⟨40, _⟩ => ⟨S8x256x512, .f32⟩
  | .hbm, ⟨41, _⟩ => ⟨S8x256x512, .f32⟩
  | .hbm, ⟨42, _⟩ => ⟨S8x256x512, .f32⟩
  | .hbm, ⟨43, _⟩ => ⟨S8x256x512, .f32⟩
  | .hbm, ⟨44, _⟩ => ⟨S8x256x512, .f32⟩
  | .hbm, ⟨45, _⟩ => ⟨S8x256x16, .f32⟩
  | .hbm, ⟨46, _⟩ => ⟨S8x256x16, .f32⟩
  | .hbm, ⟨47, _⟩ => ⟨S8x256x2048, .f32⟩
  | .hbm, ⟨48, _⟩ => ⟨S_, .i32⟩
  | .hbm, ⟨49, _⟩ => ⟨S_, .f32⟩
  | .hbm, ⟨50, _⟩ => ⟨S8x256x128, .f32⟩
  | .hbm, ⟨51, _⟩ => ⟨S8x256x32, .f32⟩
  | .hbm, ⟨52, _⟩ => ⟨S_, .i32⟩
  | .hbm, ⟨53, _⟩ => ⟨S_, .f32⟩
  | .hbm, ⟨54, _⟩ => ⟨S8x256x128, .f32⟩
  | .hbm, ⟨55, _⟩ => ⟨S8x256x256, .bf16⟩
  | .hbm, ⟨56, _⟩ => ⟨S8x256x1536, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c : Ref sig .tc := ⟨.hbm, 48, rfl⟩
abbrev main_call0_v0 : Ref sig .tc := ⟨.hbm, 49, rfl⟩
abbrev main_v40 : Ref sig .tc := ⟨.hbm, 50, rfl⟩
abbrev main_v41 : Ref sig .tc := ⟨.hbm, 51, rfl⟩
abbrev main_c_3 : Ref sig .tc := ⟨.hbm, 52, rfl⟩
abbrev main_call1_v0 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel10.lean ====
abbrev S8x256x128 : Shape := ⟨3, ![8, 256, 128]⟩
abbrev S8x2048x128 : Shape := ⟨3, ![8, 2048, 128]⟩
abbrev S1x2x8 : Shape := ⟨3, ![1, 2, 8]⟩
abbrev S2x8 : Shape := ⟨2, ![2, 8]⟩
abbrev S1x16 : Shape := ⟨2, ![1, 16]⟩
abbrev S_ : Shape := ⟨0, ![]⟩
abbrev S1x128 : Shape := ⟨2, ![1, 128]⟩
abbrev S8x2304x128 : Shape := ⟨3, ![8, 2304, 128]⟩
abbrev S1x256x128 : Shape := ⟨3, ![1, 256, 128]⟩
abbrev S1x2048x128 : Shape := ⟨3, ![1, 2048, 128]⟩
abbrev S1x2304x128 : Shape := ⟨3, ![1, 2304, 128]⟩
abbrev S256x128 : Shape := ⟨2, ![256, 128]⟩
abbrev S2048x128 : Shape := ⟨2, ![2048, 128]⟩

abbrev nBuf : Space → Nat
  | .hbm => 18
  | .vmem => 14
  | .smem => 0
  | _ => 0

abbrev bufTy : (tb : Table) → Fin (tcTables nBuf tb) → BufTy
  | .hbm, ⟨0, _⟩ => ⟨S8x256x128, .f32⟩
  | .hbm, ⟨1, _⟩ => ⟨S8x2048x128, .f32⟩
  | .hbm, ⟨2, _⟩ => ⟨S1x2x8, .f32⟩
  | .hbm, ⟨3, _⟩ => ⟨S1x2x8, .f32⟩
  | .hbm, ⟨4, _⟩ => ⟨S2x8, .f32⟩
  | .hbm, ⟨5, _⟩ => ⟨S2x8, .f32⟩
  | .hbm, ⟨6, _⟩ => ⟨S1x16, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S1x16, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S8x2304x128, .f32⟩
  | .hbm, ⟨15, _⟩ => ⟨S8x2304x128, .f32⟩
  | .hbm, ⟨16, _⟩ => ⟨S8x2304x128, .f32⟩
  | .hbm, ⟨17, _⟩ => ⟨S8x2304x128, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x128, .f32⟩
  | .local _ .vmem, ⟨5, _⟩ => ⟨S1x128, .f32⟩
  | .local _ .vmem, ⟨6, _⟩ => ⟨S1x2304x128, .f32⟩
  | .local _ .vmem, ⟨7, _⟩ => ⟨S1x2304x128, .f32⟩
  | .local _ .vmem, ⟨8, _⟩ => ⟨S1x2304x128, .f32⟩
  | .local _ .vmem, ⟨9, _⟩ => ⟨S1x2304x128, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8x256x128 : Shape := ⟨3, ![8, 256, 128]⟩
abbrev S8x2048x128 : Shape := ⟨3, ![8, 2048, 128]⟩
abbrev S1x2x8 : Shape := ⟨3, ![1, 2, 8]⟩
abbrev S16 : Shape := ⟨1, ![16]⟩
abbrev S_ : Shape := ⟨0, ![]⟩
abbrev S128 : Shape := ⟨1, ![128]⟩
abbrev S1x1x128 : Shape := ⟨3, ![1, 1, 128]⟩
abbrev S8x4x64x128 : Shape := ⟨4, ![8, 4, 64, 128]⟩
abbrev S8x4x64x24 : Shape := ⟨4, ![8, 4, 64, 24]⟩
abbrev S8x4x64x104 : Shape := ⟨4, ![8, 4, 64, 104]⟩
abbrev S8x4x1x24 : Shape := ⟨4, ![8, 4, 1, 24]⟩
abbrev S8x4x1x104 : Shape := ⟨4, ![8, 4, 1, 104]⟩
abbrev S8x4x1x128 : Shape := ⟨4, ![8, 4, 1, 128]⟩
abbrev S8x32x64x128 : Shape := ⟨4, ![8, 32, 64, 128]⟩
abbrev S8x32x64x24 : Shape := ⟨4, ![8, 32, 64, 24]⟩
abbrev S8x32x64x104 : Shape := ⟨4, ![8, 32, 64, 104]⟩
abbrev S8x32x1x24 : Shape := ⟨4, ![8, 32, 1, 24]⟩
abbrev S8x32x1x104 : Shape := ⟨4, ![8, 32, 1, 104]⟩
abbrev S8x32x1x128 : Shape := ⟨4, ![8, 32, 1, 128]⟩
abbrev S8x2304x128 : Shape := ⟨3, ![8, 2304, 128]⟩

abbrev nBuf : Space → Nat
  | .hbm => 119
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x2048x128, .f32⟩
  | .hbm, ⟨2, _⟩ => ⟨S1x2x8, .f32⟩
  | .hbm, ⟨3, _⟩ => ⟨S1x2x8, .f32⟩
  | .hbm, ⟨4, _⟩ => ⟨S16, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S16, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S1x1x128, .f32⟩
  | .hbm, ⟨15, _⟩ => ⟨S8x256x128, .f32⟩
  | .hbm, ⟨16, _⟩ => ⟨S8x256x128, .f32⟩
  | .hbm, ⟨17, _⟩ => ⟨S_, .f32⟩
  | .hbm, ⟨18, _⟩ => ⟨S8x256x128, .f32⟩
  | .hbm, ⟨19, _⟩ => ⟨S8x256x128, .f32⟩
  | .hbm, ⟨20, _⟩ => ⟨S8x256x128, .f32⟩
  | .hbm, ⟨21, _⟩ => ⟨S8x256x128, .f32⟩
  | .hbm, ⟨22, _⟩ => ⟨S8x256x128, .i1⟩
  | .hbm, ⟨23, _⟩ => ⟨S8x256x128, .f32⟩
  | .hbm, ⟨24, _⟩ => ⟨S8x256x128, .f32⟩
  | .hbm, ⟨25, _⟩ => ⟨S8x256x128, .f32⟩
  | .hbm, ⟨26, _⟩ => ⟨S8x256x128, .f32⟩
  | .hbm, ⟨27, _⟩ => ⟨S8x256x128, .f32⟩
  | .hbm, ⟨28, _⟩ => ⟨S8x256x128, .f32⟩
  | .hbm, ⟨29, _⟩ => ⟨S8x256x128, .f32⟩
  | .hbm, ⟨30, _⟩ => ⟨S8x256x128, .f32⟩
  | .hbm, ⟨31, _⟩ => ⟨S1x1x128, .f32⟩
  | .hbm, ⟨32, _⟩ => ⟨S8x256x128, .f32⟩
  | .hbm, ⟨33, _⟩ => ⟨S8x256x128, .f32⟩
  | .hbm, ⟨34, _⟩ => ⟨S8x4x64x128, .f32⟩
  | .hbm, ⟨35, _⟩ => ⟨S_, .f32⟩
  | .hbm, ⟨36, _⟩ => ⟨S_, .f32⟩
  | .hbm, ⟨37, _⟩ => ⟨S8x4x64x128, .f32⟩
  | .hbm, ⟨38, _⟩ => ⟨S8x4x64x128, .f32⟩
  | .hbm, ⟨39, _⟩ => ⟨S_, .f32⟩
  | .hbm, ⟨40, _⟩ => ⟨S_, .f32⟩
  | .hbm, ⟨41, _⟩ => ⟨S8x4x64x128, .f32⟩
  | .hbm, ⟨42, _⟩ => ⟨S8x4x64x128, .f32⟩
  | .hbm, ⟨43, _⟩ => ⟨S8x4x64x24, .f32⟩
  | .hbm, ⟨44, _⟩ => ⟨S8x4x64x104, .f32⟩
  | .hbm, ⟨45, _⟩ => ⟨S8x4x64x128, .f32⟩
  | .hbm, ⟨46, _⟩ => ⟨S8x4x1x24, .f32⟩
  | .hbm, ⟨47, _⟩ => ⟨S8x4x1x104, .f32⟩
  | .hbm, ⟨48, _⟩ => ⟨S8x4x1x128, .f32⟩
  | .hbm, ⟨49, _⟩ => ⟨S8x256x128, .f32⟩
  | .hbm, ⟨50, _⟩ => ⟨S8x256x128, .f32⟩
  | .hbm, ⟨51, _⟩ => ⟨S_, .f32⟩
  | .hbm, ⟨52, _⟩ => ⟨S8x256x128, .f32⟩
  | .hbm, ⟨53, _⟩ => ⟨S8x256x128, .f32⟩
  | .hbm, ⟨54, _⟩ => ⟨S_, .f32⟩
  | .hbm, ⟨55, _⟩ => ⟨S8x256x128, .f32⟩
  | .hbm, ⟨56, _⟩ => ⟨S8x256x128, .f32⟩
  | .hbm, ⟨57, _⟩ => ⟨S8x256x128, .f32⟩
  | .hbm, ⟨58, _⟩ => ⟨S8x4x64x128, .f32⟩
  | .hbm, ⟨59, _⟩ => ⟨S8x256x128, .f32⟩
  | .hbm, ⟨60, _⟩ => ⟨S8x4x64x128, .f32⟩
  | .hbm, ⟨61, _⟩ => ⟨S8x4x64x128, .f32⟩
  | .hbm, ⟨62, _⟩ => ⟨S8x4x64x128, .f32⟩
  | .hbm, ⟨63, _⟩ => ⟨S8x256x128, .f32⟩
  | .hbm, ⟨64, _⟩ => ⟨S128, .f32⟩
  | .hbm, ⟨65, _⟩ => ⟨S1x1x128, .f32⟩
  | .hbm, ⟨66, _⟩ => ⟨S8x2048x128, .f32⟩
  | .hbm, ⟨67, _⟩ => ⟨S8x2048x128, .f32⟩
  | .hbm, ⟨68, _⟩ => ⟨S_, .f32⟩
  | .hbm, ⟨69, _⟩ => ⟨S8x2048x128, .f32⟩
  | .hbm, ⟨70, _⟩ => ⟨S8x2048x128, .f32⟩
  | .hbm, ⟨71, _⟩ => ⟨S8x2048x128, .f32⟩
  | .hbm, ⟨72, _⟩ => ⟨S8x2048x128, .f32⟩
  | .hbm, ⟨73, _⟩ => ⟨S8x2048x128, .i1⟩
  | .hbm, ⟨74, _⟩ => ⟨S8x2048x128, .f32⟩
  | .hbm, ⟨75, _⟩ => ⟨S8x2048x128, .f32⟩
  | .hbm, ⟨76, _⟩ => ⟨S8x2048x128, .f32⟩
  | .hbm, ⟨77, _⟩ => ⟨S8x2048x128, .f32⟩
  | .hbm, ⟨78, _⟩ => ⟨S8x2048x128, .f32⟩
  | .hbm, ⟨79, _⟩ => ⟨S8x2048x128, .f32⟩
  | .hbm, ⟨80, _⟩ => ⟨S8x2048x128, .f32⟩
  | .hbm, ⟨81, _⟩ => ⟨S8x2048x128, .f32⟩
  | .hbm, ⟨82, _⟩ => ⟨S1x1x128, .f32⟩
  | .hbm, ⟨83, _⟩ => ⟨S8x2048x128, .f32⟩
  | .hbm, ⟨84, _⟩ => ⟨S8x2048x128, .f32⟩
  | .hbm, ⟨85, _⟩ => ⟨S8x32x64x128, .f32⟩
  | .hbm, ⟨86, _⟩ => ⟨S_, .f32⟩
  | .hbm, ⟨87, _⟩ => ⟨S_, .f32⟩
  | .hbm, ⟨88, _⟩ => ⟨S8x32x64x128, .f32⟩
  | .hbm, ⟨89, _⟩ => ⟨S8x32x64x128, .f32⟩
  | .hbm, ⟨90, _⟩ => ⟨S_, .f32⟩
  | .hbm, ⟨91, _⟩ => ⟨S_, .f32⟩
  | .hbm, ⟨92, _⟩ => ⟨S8x32x64x128, .f32⟩
  | .hbm, ⟨93, _⟩ => ⟨S8x32x64x128, .f32⟩
  | .hbm, ⟨94, _⟩ => ⟨S8x32x64x24, .f32⟩
  | .hbm, ⟨95, _⟩ => ⟨S8x32x64x104, .f32⟩
  | .hbm, ⟨96, _⟩ => ⟨S8x32x64x128, .f32⟩
  | .hbm, ⟨97, _⟩ => ⟨S8x32x1x24, .f32⟩
  | .hbm, ⟨98, _⟩ => ⟨S8x32x1x104, .f32⟩
  | .hbm, ⟨99, _⟩ => ⟨S8x32x1x128, .f32⟩
  | .hbm, ⟨100, _⟩ => ⟨S8x2048x128, .f32⟩
  | .hbm, ⟨101, _⟩ => ⟨S8x2048x128, .f32⟩
  | .hbm, ⟨102, _⟩ => ⟨S_, .f32⟩
  | .hbm, ⟨103, _⟩ => ⟨S8x2048x128, .f32⟩
  | .hbm, ⟨104, _⟩ => ⟨S8x2048x128, .f32⟩
  | .hbm, ⟨105, _⟩ => ⟨S_, .f32⟩
  | .hbm, ⟨106, _⟩ => ⟨S8x2048x128, .f32⟩
  | .hbm, ⟨107, _⟩ => ⟨S8x2048x128, .f32⟩
  | .hbm, ⟨108, _⟩ => ⟨S8x2048x128, .f32⟩
  | .hbm, ⟨109, _⟩ => ⟨S8x32x64x128, .f32⟩
  | .hbm, ⟨110, _⟩ => ⟨S8x2048x128, .f32⟩
  | .hbm, ⟨111, _⟩ => ⟨S8x32x64x128, .f32⟩
  | .hbm, ⟨112, _⟩ => ⟨S8x32x64x128, .f32⟩
  | .hbm, ⟨113, _⟩ => ⟨S8x32x64x128, .f32⟩
  | .hbm, ⟨114, _⟩ => ⟨S8x2048x128, .f32⟩
  | .hbm, ⟨115, _⟩ => ⟨S8x2304x128, .f32⟩
  | .hbm, ⟨116, _⟩ => ⟨S8x2304x128, .f32⟩
  | .hbm, ⟨117, _⟩ => ⟨S8x2304x128, .f32⟩
  | .hbm, ⟨118, _⟩ => ⟨S8x2304x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call2_cst : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call3_call0_cst : Ref sig .tc := ⟨.hbm, 35, rfl⟩
abbrev main_call3_call0_v0 : Ref sig .tc := ⟨.hbm, 36, rfl⟩
abbrev main_v14 : Ref sig .tc := ⟨.hbm, 37, rfl⟩
abbrev main_v15 : Ref sig .tc := ⟨.hbm, 38, rfl⟩
abbrev main_call5_call0_cst : Ref sig .tc := ⟨.hbm, 39, rfl⟩
abbrev main_call5_call0_v0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst : Ref sig .tc := ⟨.hbm, 51, rfl⟩
abbrev main_v26 : Ref sig .tc := ⟨.hbm, 52, rfl⟩
abbrev main_v27 : Ref sig .tc := ⟨.hbm, 53, rfl⟩
abbrev main_cst_1 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call7_cst : Ref sig .tc := ⟨.hbm, 68, rfl⟩
abbrev main_call7_v0 : Ref sig .tc := ⟨.hbm, 69, rfl⟩
abbrev main_call7_v1 : Ref sig .tc := ⟨.hbm, 70, rfl⟩
abbrev main_call7_v2 : Ref sig .tc := ⟨.hbm, 71, rfl⟩
abbrev main_call7_v3 : Ref sig .tc := ⟨.hbm, 72, rfl⟩
abbrev main_call7_v4 : Ref sig .tc := ⟨.hbm, 73, rfl⟩
abbrev main_call7_v5 : Ref sig .tc := ⟨.hbm, 74, rfl⟩
abbrev main_call7_v6 : Ref sig .tc := ⟨.hbm, 75, rfl⟩
abbrev main_call7_v7 : Ref sig .tc := ⟨.hbm, 76, rfl⟩
abbrev main_call7_v8 : Ref sig .tc := ⟨.hbm, 77, rfl⟩
abbrev main_call7_v9 : Ref sig .tc := ⟨.hbm, 78, rfl⟩
abbrev main_call7_v10 : Ref sig .tc := ⟨.hbm, 79, rfl⟩
abbrev main_call7_v11 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_call8_call0_cst : Ref sig .tc := ⟨.hbm, 86, rfl⟩
abbrev main_call8_call0_v0 : Ref sig .tc := ⟨.hbm, 87, rfl⟩
abbrev main_v46 : Ref sig .tc := ⟨.hbm, 88, rfl⟩
abbrev main_v47 : Ref sig .tc := ⟨.hbm, 89, rfl⟩
abbrev main_call10_call0_cst : Ref sig .tc := ⟨.hbm, 90, rfl⟩
abbrev main_call10_call0_v0 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_2 : Ref sig .tc := ⟨.hbm, 102, rfl⟩
abbrev main_v58 : Ref sig .tc := ⟨.hbm, 103, rfl⟩
abbrev main_v59 : Ref sig .tc := ⟨.hbm, 104, rfl⟩
abbrev main_cst_3 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩

abbrev nD : Nat := 1
abbrev τ : Topo := Topo.v7x

variable {F : FTy → Type} [FloatOps F]
-- ==== Proof.Softmax.lean ====
/-
  One row of softmax attention over 2304 keys, on the extended reals: the row as the kernel sums it — five chunks of keys
  (the 256 context keys, then four chunks of 512), powers of two, one division at the end — equals the row as softmax
  states it — the exponential of the scores times log 2, each weight divided by the sum of them all.
-/
module

public import Idealize.ShloMosaic.PureOps.Ideal
public import Idealize.ShloMosaic.Lib.Pointwise

@[expose] public section

noncomputable section

namespace Cert.Softmax

open Idealize.ShloMosaic

/-! ## The five chunks of the 2304 keys -/

/-- Key `j` of the context chunk. -/
def i0 (j : Fin 256) : Fin 2304 := ⟨j.val, by omega⟩
/-- Key `j` of the first latent chunk. -/
def i1 (j : Fin 512) : Fin 2304 := ⟨256 + j.val, by omega⟩
/-- Key `j` of the second latent chunk. -/
def i2 (j : Fin 512) : Fin 2304 := ⟨768 + j.val, by omega⟩
/-- Key `j` of the third latent chunk. -/
def i3 (j : Fin 512) : Fin 2304 := ⟨1280 + j.val, by omega⟩
/-- Key `j` of the fourth latent chunk. -/
def i4 (j : Fin 512) : Fin 2304 := ⟨1792 + j.val, by omega⟩

/-- Every key is in one of the five chunks. -/
theorem chunk_cases (j : Fin 2304) :
    (∃ k, i0 k = j) ∨ (∃ k, i1 k = j) ∨ (∃ k, i2 k = j) ∨ (∃ k, i3 k = j) ∨ (∃ k, i4 k = j) := by
  by_cases h0 : j.val < 256
  · exact .inl ⟨⟨j.val, h0⟩, rfl⟩
  by_cases h1 : j.val < 768
  · exact .inr (.inl ⟨⟨j.val - 256, by omega⟩, Fin.ext (by simp only [i1]; omega)⟩)
  by_cases h2 : j.val < 1280
  · exact .inr (.inr (.inl ⟨⟨j.val - 768, by omega⟩, Fin.ext (by simp only [i2]; omega)⟩))
  by_cases h3 : j.val < 1792
  · exact .inr (.inr (.inr (.inl ⟨⟨j.val - 1280, by omega⟩, Fin.ext (by simp only [i3]; omega)⟩)))
  · exact .inr (.inr (.inr (.inr ⟨⟨j.val - 1792, by omega⟩, Fin.ext (by simp only [i4]; omega)⟩)))

/-- A sum over all keys is the sum of the five chunks' sums. -/
theorem sum_chunks (f : Fin 2304 → EReal) :
    ∑ j, f j = ∑ j, f (i0 j) + ∑ j, f (i1 j) + ∑ j, f (i2 j) + ∑ j, f (i3 j) + ∑ j, f (i4 j) := by
  have h4 := Fin.sum_univ_add (a := 1792) (b := 512) f
  have h3 := Fin.sum_univ_add (a := 1280) (b := 512) fun k => f (Fin.castAdd 512 k)
  have h2 := Fin.sum_univ_add (a := 768) (b := 512) fun k => f (Fin.castAdd 512 (Fin.castAdd 512 k))
  have h1 := Fin.sum_univ_add (a := 256) (b := 512) fun k => f (Fin.castAdd 512 (Fin.castAdd 512 (Fin.castAdd 512 k)))
  exact h4.trans (congrArg (· + _) (h3.trans (congrArg (· + _) (h2.trans (congrArg (· + _) h1)))))

/-- The fold of `max` from `⊥` is the supremum. -/
theorem fold_max_eq_sup {n : Nat} (f : Fin n → EReal) : Finset.fold max ⊥ f Finset.univ = Finset.univ.sup f := rfl

/-- The supremum over all keys is the largest of the five chunks' suprema. -/
theorem sup_chunks (f : Fin 2304 → EReal) :
    max (max (max (max (Finset.univ.sup fun j => f (i0 j)) (Finset.univ.sup fun j => f (i1 j)))
      (Finset.univ.sup fun j => f (i2 j))) (Finset.univ.sup fun j => f (i3 j))) (Finset.univ.sup fun j => f (i4 j))
      = Finset.univ.sup f := by
  apply le_antisymm
  · simp only [max_le_iff, Finset.sup_le_iff, Finset.mem_univ, forall_const]
    exact ⟨⟨⟨⟨fun j => Finset.le_sup (Finset.mem_univ _), fun j => Finset.le_sup (Finset.mem_univ _)⟩,
      fun j => Finset.le_sup (Finset.mem_univ _)⟩, fun j => Finset.le_sup (Finset.mem_univ _)⟩,
      fun j => Finset.le_sup (Finset.mem_univ _)⟩
  · refine Finset.sup_le fun j _ => ?_
    simp only [le_max_iff]
    rcases chunk_cases j with ⟨k, rfl⟩ | ⟨k, rfl⟩ | ⟨k, rfl⟩ | ⟨k, rfl⟩ | ⟨k, rfl⟩
    · exact .inl (.inl (.inl (.inl (Finset.le_sup (f := fun j => f (i0 j)) (Finset.mem_univ k)))))
    · exact .inl (.inl (.inl (.inr (Finset.le_sup (f := fun j => f (i1 j)) (Finset.mem_univ k)))))
    · exact .inl (.inl (.inr (Finset.le_sup (f := fun j => f (i2 j)) (Finset.mem_univ k))))
    · exact .inl (.inr (Finset.le_sup (f := fun j => f (i3 j)) (Finset.mem_univ k)))
    · exact .inr (Finset.le_sup (f := fun j => f (i4 j)) (Finset.mem_univ k))

/-! ## The two forms of a row -/

/-- The row as the kernel computes it: the largest score chunk by chunk, the powers of two of the scores less it, their
    sum and their product with the values chunk by chunk, and one division. -/
def kernelRow (s0 : Fin 256 → EReal) (s1 s2 s3 s4 : Fin 512 → EReal) (v0 : Fin 256 → EReal) (v1 v2 v3 v4 : Fin 512 → EReal) : EReal :=
  let M := max (max (max (max (Finset.fold max ⊥ s0 Finset.univ) (Finset.fold max ⊥ s1 Finset.univ))
    (Finset.fold max ⊥ s2 Finset.univ)) (Finset.fold max ⊥ s3 Finset.univ)) (Finset.fold max ⊥ s4 Finset.univ)
  Ideal.div
    (∑ j, Ideal.exp2 (s0 j - M) * v0 j + ∑ j, Ideal.exp2 (s1 j - M) * v1 j + ∑ j, Ideal.exp2 (s2 j - M) * v2 j
      + ∑ j, Ideal.exp2 (s3 j - M) * v3 j + ∑ j, Ideal.exp2 (s4 j - M) * v4 j)
    (∑ j, Ideal.exp2 (s0 j - M) + ∑ j, Ideal.exp2 (s1 j - M) + ∑ j, Ideal.exp2 (s2 j - M)
      + ∑ j, Ideal.exp2 (s3 j - M) + ∑ j, Ideal.exp2 (s4 j - M))

/-- The row as softmax states it, of scores `s` given in powers of two: the weights are the exponentials of `s · log 2`
    less the largest of them, each divided by the sum of all. -/
def softmaxRow (s v : Fin 2304 → EReal) : EReal :=
  let L : EReal := (Real.log 2 : ℝ)
  let M := max ⊥ (Finset.fold max ⊥ (fun j => s j * L) Finset.univ)
  ∑ j, Ideal.div (Ideal.exp (s j * L - M)) (0 + ∑ k, Ideal.exp (s k * L - M)) * v j

/-- Multiplying by a nonnegative real distributes over a sum of extended reals. -/
theorem sum_mul_coe {n : Nat} (f : Fin n → EReal) (a : EReal) (h0 : 0 ≤ a) (ht : a ≠ ⊤) (s : Finset (Fin n)) :
    (∑ j ∈ s, f j) * a = ∑ j ∈ s, f j * a := by
  induction s using Finset.induction_on with
  | empty => simp
  | insert j s hj ih =>
    rw [Finset.sum_insert hj, Finset.sum_insert hj, EReal.right_distrib_of_nonneg_of_ne_top h0 ht, ih]

/-- A sum of reals, read in the extended reals. -/
theorem sum_coe {n : Nat} (f : Fin n → ℝ) (s : Finset (Fin n)) : (∑ j ∈ s, ((f j : ℝ) : EReal)) = ((∑ j ∈ s, f j : ℝ) : EReal) := by
  induction s using Finset.induction_on with
  | empty => simp
  | insert j s hj ih => rw [Finset.sum_insert hj, Finset.sum_insert hj, ih, EReal.coe_add]

/-- The exponential of a real times log 2 is the power of two. -/
theorem exp_eq_exp2 (a b : ℝ) :
    Ideal.exp ((a : EReal) * ((Real.log 2 : ℝ) : EReal) - ((b : EReal) * ((Real.log 2 : ℝ) : EReal)))
      = Ideal.exp2 ((a : EReal) - (b : EReal)) := by
  rw [← EReal.coe_mul, ← EReal.coe_mul, ← EReal.coe_sub, ← EReal.coe_sub]
  show ((Real.exp _ : ℝ) : EReal) = ((Real.rpow 2 _ : ℝ) : EReal)
  congr 1
  show _ = (2 : ℝ) ^ (a - b)
  rw [Real.rpow_def_of_pos (by norm_num)]
  congr 1; ring

/-- THE ROW: for finite scores the kernel's row over the chunks is softmax's row. -/
theorem kernelRow_eq (s v : Fin 2304 → EReal) (hs : ∀ j, ∃ r : ℝ, s j = r) :
    kernelRow (fun j => s (i0 j)) (fun j => s (i1 j)) (fun j => s (i2 j)) (fun j => s (i3 j)) (fun j => s (i4 j))
      (fun j => v (i0 j)) (fun j => v (i1 j)) (fun j => v (i2 j)) (fun j => v (i3 j)) (fun j => v (i4 j)) = softmaxRow s v := by
  choose r hr using hs
  obtain rfl : s = fun j => ((r j : ℝ) : EReal) := funext hr
  obtain ⟨j0, -, hj0⟩ := Finset.exists_mem_eq_sup (Finset.univ : Finset (Fin 2304)) ⟨⟨0, by norm_num⟩, Finset.mem_univ _⟩
    (fun j => ((r j : ℝ) : EReal))
  have hle : ∀ j, r j ≤ r j0 := fun j => by
    have := Finset.le_sup (f := fun j => ((r j : ℝ) : EReal)) (Finset.mem_univ j)
    rw [hj0] at this
    exact EReal.coe_le_coe_iff.mp this
  have hM : (max ⊥ (Finset.univ.sup fun j => ((r j : ℝ) : EReal) * ((Real.log 2 : ℝ) : EReal)))
      = ((r j0 : ℝ) : EReal) * ((Real.log 2 : ℝ) : EReal) := by
    rw [max_eq_right bot_le]
    apply le_antisymm
    · refine Finset.sup_le fun j _ => ?_
      rw [← EReal.coe_mul, ← EReal.coe_mul, EReal.coe_le_coe_iff]
      exact mul_le_mul_of_nonneg_right (hle j) (Real.log_nonneg (by norm_num))
    · exact Finset.le_sup (f := fun j => ((r j : ℝ) : EReal) * ((Real.log 2 : ℝ) : EReal)) (Finset.mem_univ j0)
  unfold kernelRow softmaxRow
  dsimp only
  simp only [fold_max_eq_sup]
  have hS := sup_chunks (fun j => ((r j : ℝ) : EReal))
  rw [hS, hM, hj0]
  rw [← sum_chunks (fun j => Ideal.exp2 (((r j : ℝ) : EReal) - ((r j0 : ℝ) : EReal))),
    ← sum_chunks (fun j => Ideal.exp2 (((r j : ℝ) : EReal) - ((r j0 : ℝ) : EReal)) * v j)]
  simp only [exp_eq_exp2, zero_add]
  have hp : ∀ j, Ideal.exp2 (((r j : ℝ) : EReal) - ((r j0 : ℝ) : EReal)) = ((Real.rpow 2 (r j - r j0) : ℝ) : EReal) := fun j => by
    rw [← EReal.coe_sub]; rfl
  simp only [hp, sum_coe]
  have hpos : 0 < ∑ j, Real.rpow 2 (r j - r j0) :=
    Finset.sum_pos (fun j _ => Real.rpow_pos_of_pos (by norm_num) _) ⟨j0, Finset.mem_univ _⟩
  generalize ∑ j, Real.rpow 2 (r j - r j0) = l at hpos
  have hl : ((l : ℝ) : EReal) ≠ 0 := by
    rw [← EReal.coe_zero]; exact fun h => hpos.ne' (EReal.coe_injective h)
  simp only [Ideal.div, if_neg hl]
  rw [← EReal.coe_inv, sum_mul_coe _ _ (EReal.coe_nonneg.mpr (inv_nonneg.mpr hpos.le)) (EReal.coe_ne_top _)]
  exact Finset.sum_congr rfl fun j _ => by rw [mul_right_comm]

end Cert.Softmax
-- ==== Proof.AttnBlock.lean ====
/-
  One block of the attention kernel read at an index: the 512 queries of one tile, the two heads of one pair. The kernel
  writes the five chunks of scores of a head into slices of its score buffer, reads them back one by one, and weighs the
  values; at row `r` and lane `l` its block is the row `Cert.Softmax.kernelRow` of the scores of the lane's head.
-/
module

public import proofs.«01_k».proof.Proof.Gen.KernelIdeal.Value
public import Idealize.ShloMosaic.Lib.Pointwise
public import proofs.«01_k».proof.Proof.Softmax

@[expose] public section

set_option maxRecDepth 16384
noncomputable section

namespace Cert.KernelIdeal.AttnValue

open Cert.KernelIdeal Cert.KernelIdeal.Gen Idealize.ShloMosaic Idealize.ShloMosaic.TcCoe Idealize.SL.Sem
open Idealize.ShloMosaic.Pipeline (Dat)
open Cert.Softmax

variable {F : FTy → Type} [FloatOps F]

/-- A load from one slice of a buffer reads past a write to another slice that it does not meet on one axis. -/
theorem skip {Val : EltTy → Type} [∀ e, Nonempty (Val e)] {κ : Kind} {sp : Space} {s : Shape} {e : EltTy}
    (v : View sig κ sp s e) {o n o' n' : Fin s.rank → Nat}
    (ia : ∀ x, o x + n x ≤ s.size x) (ib : ∀ x, o' x + n' x ≤ s.size x)
    (w : (Rect.unit (s := s) o n ia).shape.Idx → Val e) (L : List (View.Piece Val s e))
    (h : ∃ x, o x + n x ≤ o' x ∨ o' x + n' x ≤ o x) :
    v.readCov (⟨Rect.unit (s := s) o n ia, w⟩ :: L) (Rect.unit (s := s) o' n' ib).toLoadRect
      = v.readCov L (Rect.unit (s := s) o' n' ib).toLoadRect :=
  let ⟨x, hx⟩ := h
  View.readCov_cons_of_disjoint _ _ _ _ (Rect.unit_disjoint (inb := ia) (inb' := ib) x hx)

/-- The word the running maxima start from is minus infinity. -/
theorem negInf : Ideal.ofBits .f32 4286578688#32 = ⊥ := by
  simp [Ideal.ofBits, Ideal.ieee]

/-- The lane test: one below lane 64, zero from there on. -/
theorem lane_lt (l : Fin 128) : IntOp.cmpi .slt (BitVec.ofNat 32 l.val) 64#32 = if l.val < 64 then 1#1 else 0#1 := by
  revert l; decide

set_option maxHeartbeats 1000000 in
/-- WHAT ONE BLOCK COMPUTES: row `r`, lane `l` of the block is the row of the pair's first head for the lanes below 64 and
    of its second head for the others. -/
theorem block_apply (m : (ℓ : Loc nD τ sig) → Buf (Elt Ideal) ℓ) (c : Dev nD) (t : Fin cfg0.N) (r : Fin 512) (l : Fin 128)
    (q : S1x512x256.Idx → EReal) (hq : q = iblk m c 0 t) (kc : S1x256x256.Idx → EReal) (hkc : kc = iblk m c 1 t)
    (kl : S1x2048x256.Idx → EReal) (hkl : kl = iblk m c 2 t) (vc : S1x256x128.Idx → EReal) (hvc : vc = iblk m c 3 t)
    (vl : S1x2048x128.Idx → EReal) (hvl : vl = iblk m c 4 t) :
    outsAt0 m c t (ix3 0 r l) = if l.val < 64 then
      kernelRow (fun j => ∑ d : Fin 128, q (ix3 0 r ⟨d.val, by omega⟩) * kc (ix3 0 j ⟨d.val, by omega⟩))
        (fun j => ∑ d : Fin 128, q (ix3 0 r ⟨d.val, by omega⟩) * kl (ix3 0 ⟨j.val, by omega⟩ ⟨d.val, by omega⟩))
        (fun j => ∑ d : Fin 128, q (ix3 0 r ⟨d.val, by omega⟩) * kl (ix3 0 ⟨512 + j.val, by omega⟩ ⟨d.val, by omega⟩))
        (fun j => ∑ d : Fin 128, q (ix3 0 r ⟨d.val, by omega⟩) * kl (ix3 0 ⟨1024 + j.val, by omega⟩ ⟨d.val, by omega⟩))
        (fun j => ∑ d : Fin 128, q (ix3 0 r ⟨d.val, by omega⟩) * kl (ix3 0 ⟨1536 + j.val, by omega⟩ ⟨d.val, by omega⟩))
        (fun j => vc (ix3 0 j l)) (fun j => vl (ix3 0 ⟨j.val, by omega⟩ l)) (fun j => vl (ix3 0 ⟨512 + j.val, by omega⟩ l))
        (fun j => vl (ix3 0 ⟨1024 + j.val, by omega⟩ l)) (fun j => vl (ix3 0 ⟨1536 + j.val, by omega⟩ l))
    else
      kernelRow (fun j => ∑ d : Fin 128, q (ix3 0 r ⟨128 + d.val, by omega⟩) * kc (ix3 0 j ⟨128 + d.val, by omega⟩))
        (fun j => ∑ d : Fin 128, q (ix3 0 r ⟨128 + d.val, by omega⟩) * kl (ix3 0 ⟨j.val, by omega⟩ ⟨128 + d.val, by omega⟩))
        (fun j => ∑ d : Fin 128, q (ix3 0 r ⟨128 + d.val, by omega⟩) * kl (ix3 0 ⟨512 + j.val, by omega⟩ ⟨128 + d.val, by omega⟩))
        (fun j => ∑ d : Fin 128, q (ix3 0 r ⟨128 + d.val, by omega⟩) * kl (ix3 0 ⟨1024 + j.val, by omega⟩ ⟨128 + d.val, by omega⟩))
        (fun j => ∑ d : Fin 128, q (ix3 0 r ⟨128 + d.val, by omega⟩) * kl (ix3 0 ⟨1536 + j.val, by omega⟩ ⟨128 + d.val, by omega⟩))
        (fun j => vc (ix3 0 j l)) (fun j => vl (ix3 0 ⟨j.val, by omega⟩ l)) (fun j => vl (ix3 0 ⟨512 + j.val, by omega⟩ l))
        (fun j => vl (ix3 0 ⟨1024 + j.val, by omega⟩ l)) (fun j => vl (ix3 0 ⟨1536 + j.val, by omega⟩ l)) := by
  unfold outsAt0 out0_A_5
  rw [View.read_writes_eq_canon _ _ _ (cover0_A_5 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero (funext fun a => by fin_cases a <;> rfl)]
  simp (discharger := decide) only [skip, View.readCov_cons_toLoadRect]
  rw [← hq, ← hkc, ← hkl, ← hvc, ← hvl]
  unfold_payloads
  pointwise
  unfold kernelRow
  simp only [negInf, lane_lt]
  by_cases hl : l.val < 64
  · rw [if_pos hl, if_pos hl]
    rfl
  · rw [if_neg hl, if_neg hl]
    rfl
end Cert.KernelIdeal.AttnValue
-- ==== Proof.Attention.lean ====
/-
  The attention of the layer as one function of its five arguments, on the extended reals: eight heads, head `h` on lanes
  128 h … 128 h + 127 of the queries and keys and on lanes 64 h … 64 h + 63 of the values, the keys being the 256 context keys
  followed by the 2048 latent keys. Both programs are shown to leave this function in their result.
-/
module

public import proofs.«01_k».proof.Proof.Softmax

@[expose] public section

noncomputable section

namespace Cert.Softmax

open Idealize.ShloMosaic

abbrev Q : Type := (⟨3, ![8, 2048, 1024]⟩ : Shape).Idx → EReal
abbrev KC : Type := (⟨3, ![8, 256, 1024]⟩ : Shape).Idx → EReal
abbrev VC : Type := (⟨3, ![8, 256, 512]⟩ : Shape).Idx → EReal
abbrev VL : Type := (⟨3, ![8, 2048, 512]⟩ : Shape).Idx → EReal

/-- Lane `d` of head `h` among the 1024 lanes of a query or key. -/
def lane (h : Fin 8) (d : Fin 128) : Fin 1024 := ⟨128 * h.val + d.val, by omega⟩

/-- Key `j` of example `b` at lane `x`: a context key for the first 256, a latent key after. -/
def keyAt (kc : KC) (kl : Q) (b : Fin 8) (j : Fin 2304) (x : Fin 1024) : EReal :=
  if hj : j.val < 256 then kc (ix3 b ⟨j.val, hj⟩ x) else kl (ix3 b ⟨j.val - 256, by omega⟩ x)

/-- Value `j` of example `b` at lane `x`. -/
def valAt (vc : VC) (vl : VL) (b : Fin 8) (j : Fin 2304) (x : Fin 512) : EReal :=
  if hj : j.val < 256 then vc (ix3 b ⟨j.val, hj⟩ x) else vl (ix3 b ⟨j.val - 256, by omega⟩ x)

/-! The keys and values chunk by chunk. -/

theorem keyAt_i0 (kc : KC) (kl : Q) (b : Fin 8) (j : Fin 256) (x : Fin 1024) : keyAt kc kl b (i0 j) x = kc (ix3 b j x) :=
  dif_pos j.isLt
theorem keyAt_i1 (kc : KC) (kl : Q) (b : Fin 8) (j : Fin 512) (x : Fin 1024) :
    keyAt kc kl b (i1 j) x = kl (ix3 b ⟨j.val, by omega⟩ x) := by
  unfold keyAt i1
  rw [dif_neg (by simp only []; omega)]
  exact congrArg (fun k => kl (ix3 b k x)) (Fin.ext (by simp only []; omega))
theorem keyAt_i2 (kc : KC) (kl : Q) (b : Fin 8) (j : Fin 512) (x : Fin 1024) :
    keyAt kc kl b (i2 j) x = kl (ix3 b ⟨512 + j.val, by omega⟩ x) := by
  unfold keyAt i2
  rw [dif_neg (by simp only []; omega)]
  exact congrArg (fun k => kl (ix3 b k x)) (Fin.ext (by simp only []; omega))
theorem keyAt_i3 (kc : KC) (kl : Q) (b : Fin 8) (j : Fin 512) (x : Fin 1024) :
    keyAt kc kl b (i3 j) x = kl (ix3 b ⟨1024 + j.val, by omega⟩ x) := by
  unfold keyAt i3
  rw [dif_neg (by simp only []; omega)]
  exact congrArg (fun k => kl (ix3 b k x)) (Fin.ext (by simp only []; omega))
theorem keyAt_i4 (kc : KC) (kl : Q) (b : Fin 8) (j : Fin 512) (x : Fin 1024) :
    keyAt kc kl b (i4 j) x = kl (ix3 b ⟨1536 + j.val, by omega⟩ x) := by
  unfold keyAt i4
  rw [dif_neg (by simp only []; omega)]
  exact congrArg (fun k => kl (ix3 b k x)) (Fin.ext (by simp only []; omega))

theorem valAt_i0 (vc : VC) (vl : VL) (b : Fin 8) (j : Fin 256) (x : Fin 512) : valAt vc vl b (i0 j) x = vc (ix3 b j x) :=
  dif_pos j.isLt
theorem valAt_i1 (vc : VC) (vl : VL) (b : Fin 8) (j : Fin 512) (x : Fin 512) :
    valAt vc vl b (i1 j) x = vl (ix3 b ⟨j.val, by omega⟩ x) := by
  unfold valAt i1
  rw [dif_neg (by simp only []; omega)]
  exact congrArg (fun k => vl (ix3 b k x)) (Fin.ext (by simp only []; omega))
theorem valAt_i2 (vc : VC) (vl : VL) (b : Fin 8) (j : Fin 512) (x : Fin 512) :
    valAt vc vl b (i2 j) x = vl (ix3 b ⟨512 + j.val, by omega⟩ x) := by
  unfold valAt i2
  rw [dif_neg (by simp only []; omega)]
  exact congrArg (fun k => vl (ix3 b k x)) (Fin.ext (by simp only []; omega))
theorem valAt_i3 (vc : VC) (vl : VL) (b : Fin 8) (j : Fin 512) (x : Fin 512) :
    valAt vc vl b (i3 j) x = vl (ix3 b ⟨1024 + j.val, by omega⟩ x) := by
  unfold valAt i3
  rw [dif_neg (by simp only []; omega)]
  exact congrArg (fun k => vl (ix3 b k x)) (Fin.ext (by simp only []; omega))
theorem valAt_i4 (vc : VC) (vl : VL) (b : Fin 8) (j : Fin 512) (x : Fin 512) :
    valAt vc vl b (i4 j) x = vl (ix3 b ⟨1536 + j.val, by omega⟩ x) := by
  unfold valAt i4
  rw [dif_neg (by simp only []; omega)]
  exact congrArg (fun k => vl (ix3 b k x)) (Fin.ext (by simp only []; omega))

/-- The score of key `j` for query `t` in head `h`: the inner product over the head's 128 lanes. -/
def score (q : Q) (kc : KC) (kl : Q) (b : Fin 8) (t : Fin 2048) (h : Fin 8) (j : Fin 2304) : EReal :=
  ∑ d : Fin 128, q (ix3 b t (lane h d)) * keyAt kc kl b j (lane h d)

/-- The head that lane `x` of the result belongs to. -/
def headOf (x : Fin 512) : Fin 8 := ⟨x.val / 64, by omega⟩

/-- THE ATTENTION: at example `b`, query `t` and lane `x`, the softmax row of the head's scores against lane `x` of the values. -/
def attention (q : Q) (kc : KC) (kl : Q) (vc : VC) (vl : VL) : (⟨3, ![8, 2048, 512]⟩ : Shape).Idx → EReal := fun i =>
  softmaxRow (fun j => score q kc kl (i 0) (i 1) (headOf (i 2)) j) (fun j => valAt vc vl (i 0) j (i 2))

/-- Neither infinity: a real number. -/
def Finite (x : EReal) : Prop := ∃ r : ℝ, x = r

/-- The scores of finite queries and keys are finite. -/
theorem score_finite (q : Q) (kc : KC) (kl : Q) (hq : ∀ i, Finite (q i)) (hkc : ∀ i, Finite (kc i)) (hkl : ∀ i, Finite (kl i))
    (b : Fin 8) (t : Fin 2048) (h : Fin 8) (j : Fin 2304) : ∃ r : ℝ, score q kc kl b t h j = r := by
  have hk : ∀ x, Finite (keyAt kc kl b j x) := fun x => by
    unfold keyAt
    split
    · exact hkc _
    · exact hkl _
  choose f hf using fun d => hq (ix3 b t (lane h d))
  choose g hg using fun d => hk (lane h d)
  refine ⟨∑ d, f d * g d, ?_⟩
  unfold score
  rw [← sum_coe]
  exact Finset.sum_congr rfl fun d _ => by rw [hf, hg, EReal.coe_mul]

end Cert.Softmax
-- ==== Proof.AttnArray.lean ====
/-
  The attention kernel's whole result: the 128 blocks tile the result array and each is the block of one function of the five
  arguments, `Cert.Softmax.attention`, when the scores are finite.
-/
module

public import proofs.«01_k».proof.Proof.AttnBlock
public import proofs.«01_k».proof.Proof.Attention
public import Idealize.ShloMosaic.Lib.Pipeline.ValueKit

@[expose] public section

set_option maxRecDepth 16384
noncomputable section

namespace Cert.KernelIdeal.AttnValue

open Cert.KernelIdeal Cert.KernelIdeal.Gen Idealize.ShloMosaic Idealize.ShloMosaic.TcCoe Idealize.SL.Sem
open Idealize.ShloMosaic.Pipeline (Dat)
open Cert.Softmax

/-- Grid point `t` is tile `t % 4` of pair `t / 4 % 4` of example `t / 16`. -/
theorem ind0 : ∀ t : Fin cfg0.N, win0_0.index t = ![t.val / 16, t.val % 4, t.val / 4 % 4] :=
  (by decide +kernel : ∀ t : Fin grid0.N, win0_0.index t = ![t.val / 16, t.val % 4, t.val / 4 % 4])
theorem ind1 : ∀ t : Fin cfg0.N, win0_1.index t = ![t.val / 16, 0, t.val / 4 % 4] :=
  (by decide +kernel : ∀ t : Fin grid0.N, win0_1.index t = ![t.val / 16, 0, t.val / 4 % 4])
theorem ind2 : ∀ t : Fin cfg0.N, win0_2.index t = ![t.val / 16, 0, t.val / 4 % 4] :=
  (by decide +kernel : ∀ t : Fin grid0.N, win0_2.index t = ![t.val / 16, 0, t.val / 4 % 4])
theorem ind3 : ∀ t : Fin cfg0.N, win0_3.index t = ![t.val / 16, 0, t.val / 4 % 4] :=
  (by decide +kernel : ∀ t : Fin grid0.N, win0_3.index t = ![t.val / 16, 0, t.val / 4 % 4])
theorem ind4 : ∀ t : Fin cfg0.N, win0_4.index t = ![t.val / 16, 0, t.val / 4 % 4] :=
  (by decide +kernel : ∀ t : Fin grid0.N, win0_4.index t = ![t.val / 16, 0, t.val / 4 % 4])
theorem ind5 : ∀ t : Fin cfg0.N, win0_5.index t = ![t.val / 16, t.val % 4, t.val / 4 % 4] :=
  (by decide +kernel : ∀ t : Fin grid0.N, win0_5.index t = ![t.val / 16, t.val % 4, t.val / 4 % 4])

variable (m : (ℓ : Loc nD τ sig) → Buf (Elt Ideal) ℓ) (c : Dev nD)

theorem lt0 (t : Fin cfg0.N) : t.val / 16 < 8 := by have : t.val < 128 := t.isLt; omega

/-- The query block at an index. -/
theorem q_apply (t : Fin cfg0.N) (r : Fin 512) (x : Fin 256) :
    (iblk m c 0 t : S1x512x256.Idx → EReal) (ix3 0 r x)
      = (m ((c : Thread nD τ).loc main_arg0) : S8x2048x1024.Idx → EReal)
          (ix3 ⟨t.val / 16, lt0 t⟩ ⟨t.val % 4 * 512 + r.val, by omega⟩ ⟨t.val / 4 % 4 * 256 + x.val, by omega⟩) := by
  blk_simp [iblk]
  refine (congrFun (V_main_arg0 m c) _).trans (congrArg _ ?_)
  blk_ext [ind0]

/-- The context-key block at an index. -/
theorem kc_apply (t : Fin cfg0.N) (j : Fin 256) (x : Fin 256) :
    (iblk m c 1 t : S1x256x256.Idx → EReal) (ix3 0 j x)
      = (m ((c : Thread nD τ).loc main_arg1) : S8x256x1024.Idx → EReal)
          (ix3 ⟨t.val / 16, lt0 t⟩ j ⟨t.val / 4 % 4 * 256 + x.val, by omega⟩) := by
  blk_simp [iblk]
  refine (congrFun (V_main_arg1 m c) _).trans (congrArg _ ?_)
  blk_ext [ind1]

/-- The latent-key block at an index. -/
theorem kl_apply (t : Fin cfg0.N) (j : Fin 2048) (x : Fin 256) :
    (iblk m c 2 t : S1x2048x256.Idx → EReal) (ix3 0 j x)
      = (m ((c : Thread nD τ).loc main_arg2) : S8x2048x1024.Idx → EReal)
          (ix3 ⟨t.val / 16, lt0 t⟩ j ⟨t.val / 4 % 4 * 256 + x.val, by omega⟩) := by
  blk_simp [iblk]
  refine (congrFun (V_main_arg2 m c) _).trans (congrArg _ ?_)
  blk_ext [ind2]

/-- The context-value block at an index. -/
theorem vc_apply (t : Fin cfg0.N) (j : Fin 256) (x : Fin 128) :
    (iblk m c 3 t : S1x256x128.Idx → EReal) (ix3 0 j x)
      = (m ((c : Thread nD τ).loc main_arg3) : S8x256x512.Idx → EReal)
          (ix3 ⟨t.val / 16, lt0 t⟩ j ⟨t.val / 4 % 4 * 128 + x.val, by omega⟩) := by
  blk_simp [iblk]
  refine (congrFun (V_main_arg3 m c) _).trans (congrArg _ ?_)
  blk_ext [ind3]

/-- The latent-value block at an index. -/
theorem vl_apply (t : Fin cfg0.N) (j : Fin 2048) (x : Fin 128) :
    (iblk m c 4 t : S1x2048x128.Idx → EReal) (ix3 0 j x)
      = (m ((c : Thread nD τ).loc main_arg4) : S8x2048x512.Idx → EReal)
          (ix3 ⟨t.val / 16, lt0 t⟩ j ⟨t.val / 4 % 4 * 128 + x.val, by omega⟩) := by
  blk_simp [iblk]
  refine (congrFun (V_main_arg4 m c) _).trans (congrArg _ ?_)
  blk_ext [ind4]

/-- THE RESULT ARRAY is the attention of the arguments, where every score is finite. -/
theorem final (q : Q) (hq : q = m ((c : Thread nD τ).loc main_arg0)) (kc : KC) (hkc : kc = m ((c : Thread nD τ).loc main_arg1))
    (kl : Q) (hkl : kl = m ((c : Thread nD τ).loc main_arg2)) (vc : VC) (hvc : vc = m ((c : Thread nD τ).loc main_arg3))
    (vl : VL) (hvl : vl = m ((c : Thread nD τ).loc main_arg4))
    (hs : ∀ b t h j, ∃ r : ℝ, score q kc kl b t h j = r) :
    (dats m 0 c).arrAt 5 cfg0.N = attention q kc kl vc vl := by
  refine (dats m 0 c).arrAt_eq_of_covers 5 _ (by decide +kernel) fun t hf y => ?_
  blk_simp
  rw [after0_5]
  obtain ⟨r, l, rfl⟩ : ∃ (r : Fin 512) (l : Fin 128), y = (ix3 0 r l : S1x512x128.Idx) :=
    ⟨y 1, y 2, (eq_ix3 y).trans (by congr 1; exact Subsingleton.elim _ _)⟩
  have hy : (win0_5.blk t).view.emb (ix3 0 r l : S1x512x128.Idx)
      = (ix3 ⟨t.val / 16, lt0 t⟩ ⟨t.val % 4 * 512 + r.val, by omega⟩ ⟨t.val / 4 % 4 * 128 + l.val, by omega⟩ : S8x2048x512.Idx) := by
    blk_ext [ind5]
  rw [block_apply m c t r l _ rfl _ rfl _ rfl _ rfl _ rfl]
  simp only [q_apply, kc_apply, kl_apply, vc_apply, vl_apply, ← hq, ← hkc, ← hkl, ← hvc, ← hvl]
  refine Eq.trans ?_ (congrArg (attention q kc kl vc vl) hy).symm
  have hk := kernelRow_eq (fun j => score q kc kl ⟨t.val / 16, lt0 t⟩ ⟨t.val % 4 * 512 + r.val, by omega⟩
    (headOf ⟨t.val / 4 % 4 * 128 + l.val, by omega⟩) j)
    (fun j => valAt vc vl ⟨t.val / 16, lt0 t⟩ j ⟨t.val / 4 % 4 * 128 + l.val, by omega⟩) (fun j => hs _ _ _ j)
  refine Eq.trans ?_ hk
  simp only [score, keyAt_i0, keyAt_i1, keyAt_i2, keyAt_i3, keyAt_i4, valAt_i0, valAt_i1, valAt_i2, valAt_i3, valAt_i4]
  by_cases hl : l.val < 64
  · have hlane : ∀ x : Fin 128, lane (headOf ⟨t.val / 4 % 4 * 128 + l.val, by omega⟩) x
        = ⟨t.val / 4 % 4 * 256 + x.val, by omega⟩ := fun x => Fin.ext (by simp only [lane, headOf]; omega)
    simp only [if_pos hl, hlane]
  · have hlane : ∀ x : Fin 128, lane (headOf ⟨t.val / 4 % 4 * 128 + l.val, by omega⟩) x
        = ⟨t.val / 4 % 4 * 256 + (128 + x.val), by omega⟩ := fun x => Fin.ext (by simp only [lane, headOf]; omega)
    simp only [if_neg hl, hlane]

end Cert.KernelIdeal.AttnValue
-- ==== Proof.AttnRef.lean ====
/-
  The attention reference's result, one operation at a time, is `Cert.Softmax.attention` of its arguments.
-/
module

public import proofs.«01_k».proof.Proof.Gen.ReferenceIdeal.Read
public import proofs.«01_k».proof.Proof.Attention

@[expose] public section

set_option maxRecDepth 16384
noncomputable section

namespace Cert.ReferenceIdeal.AttnRef

open Cert.ReferenceIdeal Cert.ReferenceIdeal.Gen Cert.ReferenceIdeal.Read Idealize.ShloMosaic Idealize.ShloMosaic.TcCoe
open Cert.Softmax

variable (q : Q) (kc : KC) (kl : Q) (vc : VC) (vl : VL)

/-- A query head's lane in the reshaped and transposed queries. -/
theorem q_at (b h : Fin 8) (t : Fin 2048) (d : Fin 128) :
    val_main_v2 (F := Ideal) q (ix4 b h t d) = q (ix3 b t (lane h d)) := by
  rw [val_main_v2_apply, val_main_v1_apply, val_main_v0_apply]
  refine congrArg q (funext fun a => Fin.ext ?_)
  fin_cases a <;> (simp [lane, ix3, ix4]; omega)

/-- The context keys, head by head. -/
theorem kc_at (b h : Fin 8) (j : Fin 256) (d : Fin 128) :
    val_main_v5 (F := Ideal) kc (ix4 b h j d) = kc (ix3 b j (lane h d)) := by
  rw [val_main_v5_apply, val_main_v4_apply, val_main_v3_apply]
  refine congrArg kc (funext fun a => Fin.ext ?_)
  fin_cases a <;> (simp [lane, ix3, ix4]; omega)

/-- The latent keys, head by head. -/
theorem kl_at (b h : Fin 8) (j : Fin 2048) (d : Fin 128) :
    val_main_v8 (F := Ideal) kl (ix4 b h j d) = kl (ix3 b j (lane h d)) := by
  rw [val_main_v8_apply, val_main_v7_apply, val_main_v6_apply]
  refine congrArg kl (funext fun a => Fin.ext ?_)
  fin_cases a <;> (simp [lane, ix3, ix4]; omega)

/-- The context values, head by head. -/
theorem vc_at (b h : Fin 8) (j : Fin 256) (d : Fin 64) :
    val_main_v12 (F := Ideal) vc (ix4 b h j d) = vc (ix3 b j ⟨64 * h.val + d.val, by omega⟩) := by
  rw [val_main_v12_apply, val_main_v11_apply, val_main_v10_apply]
  refine congrArg vc (funext fun a => Fin.ext ?_)
  fin_cases a <;> (simp [ix3, ix4]; omega)

/-- The latent values, head by head. -/
theorem vl_at (b h : Fin 8) (j : Fin 2048) (d : Fin 64) :
    val_main_v15 (F := Ideal) vl (ix4 b h j d) = vl (ix3 b j ⟨64 * h.val + d.val, by omega⟩) := by
  rw [val_main_v15_apply, val_main_v14_apply, val_main_v13_apply]
  refine congrArg vl (funext fun a => Fin.ext ?_)
  fin_cases a <;> (simp [ix3, ix4]; omega)

/-- The joined keys. -/
theorem k_at (b h : Fin 8) (j : Fin 2304) (d : Fin 128) :
    val_main_v9 (F := Ideal) kc kl (ix4 b h j d) = keyAt kc kl b j (lane h d) := by
  unfold val_main_v9 keyAt
  by_cases hj : j.val < 256
  · rw [dif_pos hj]
    refine Eq.trans ?_ (kc_at kc b h ⟨j.val, hj⟩ d)
    refine concatenate_pair_apply_left (t := S8x8x2304x128) (s₁ := S8x8x256x128) (s₂ := S8x8x2048x128) 2 _ _ _ _ rfl
      (ix4 b h ⟨j.val, hj⟩ d) ?_
    intro a; fin_cases a <;> rfl
  · rw [dif_neg hj]
    refine Eq.trans ?_ (kl_at kl b h ⟨j.val - 256, by omega⟩ d)
    refine concatenate_pair_apply_right (t := S8x8x2304x128) (s₁ := S8x8x256x128) (s₂ := S8x8x2048x128) 2 _ _ _ _ rfl rfl
      (ix4 b h ⟨j.val - 256, by omega⟩ d) ?_ ?_
    · intro a ha
      fin_cases a <;> first | rfl | exact absurd rfl ha
    · show j.val - 256 + 256 = j.val
      omega

/-- The joined values. -/
theorem v_at (b h : Fin 8) (j : Fin 2304) (d : Fin 64) :
    val_main_v16 (F := Ideal) vc vl (ix4 b h j d) = valAt vc vl b j ⟨64 * h.val + d.val, by omega⟩ := by
  unfold val_main_v16 valAt
  by_cases hj : j.val < 256
  · rw [dif_pos hj]
    refine Eq.trans ?_ (vc_at vc b h ⟨j.val, hj⟩ d)
    refine concatenate_pair_apply_left (t := S8x8x2304x64) (s₁ := S8x8x256x64) (s₂ := S8x8x2048x64) 2 _ _ _ _ rfl
      (ix4 b h ⟨j.val, hj⟩ d) ?_
    intro a; fin_cases a <;> rfl
  · rw [dif_neg hj]
    refine Eq.trans ?_ (vl_at vl b h ⟨j.val - 256, by omega⟩ d)
    refine concatenate_pair_apply_right (t := S8x8x2304x64) (s₁ := S8x8x256x64) (s₂ := S8x8x2048x64) 2 _ _ _ _ rfl rfl
      (ix4 b h ⟨j.val - 256, by omega⟩ d) ?_ ?_
    · intro a ha
      fin_cases a <;> first | rfl | exact absurd rfl ha
    · show j.val - 256 + 256 = j.val
      omega

/-- The printed two. -/
theorem ofBits_two : Ideal.ofBits .f32 0x40000000#32 = ((2 : ℝ) : EReal) := by
  simp [Ideal.ofBits, Ideal.ieee]
  rw [← EReal.coe_mul]
  norm_num
/-- The printed minus infinity. -/
theorem ofBits_negInf : Ideal.ofBits .f32 0xFF800000#32 = ⊥ := by simp [Ideal.ofBits, Ideal.ieee]

/-- The factor on the scores. -/
theorem log_at (i : S8x8x2048x2304.Idx) : val_main_v19 (F := Ideal) i = ((Real.log 2 : ℝ) : EReal) := by
  rw [val_main_v19_apply, val_main_v18_apply, val_main_cst_apply]
  show Ideal.log (Ideal.ofBits .f32 0x40000000#32) = _
  rw [ofBits_two]
  exact if_neg (by norm_num : ¬ (2 : ℝ) ≤ 0)

/-- The scores. -/
theorem s_at (b h : Fin 8) (t : Fin 2048) (j : Fin 2304) :
    val_main_v20 (F := Ideal) q kc kl (ix4 b h t j) = score q kc kl b t h j * ((Real.log 2 : ℝ) : EReal) := by
  rw [val_main_v20_apply, log_at, val_main_v17_apply]
  refine congrArg (· * ((Real.log 2 : ℝ) : EReal)) (Finset.sum_congr rfl fun d _ => ?_)
  refine congrArg₂ (· * ·) ?_ ?_
  · exact Eq.trans (congrArg _ (funext fun a => Fin.ext (by fin_cases a <;> rfl))) (q_at q b h t d)
  · exact Eq.trans (congrArg _ (funext fun a => Fin.ext (by fin_cases a <;> rfl))) (k_at kc kl b h j d)

/-- The row maximum of the scores. -/
theorem max_at (b h : Fin 8) (t : Fin 2048) :
    val_main_v23 (F := Ideal) q kc kl (ix3 b h t) = max ⊥
      (Finset.fold max ⊥ (fun j => score q kc kl b t h j * ((Real.log 2 : ℝ) : EReal)) Finset.univ) := by
  rw [val_main_v23_apply, val_main_v22_apply, val_main_cst_1_apply]
  refine congrArg₂ max ofBits_negInf ?_
  unfold val_main_v21
  refine (Host.reduce_eq_fold_single (α := EReal) max _ _ reducesTo_S8x8x2048x2304_S8x8x2048_d3 (by decide) h_S_
    (ix3 b h t)).trans ?_
  rw [val_main_cst_0_apply]
  refine (congrArg (fun z => Finset.fold max z _ _) ofBits_negInf).trans (Finset.fold_congr fun j _ => ?_)
  refine Eq.trans ?_ (s_at q kc kl b h t j)
  exact congrArg (val_main_v20 (F := Ideal) q kc kl) (funext fun a => Fin.ext (by fin_cases a <;> rfl))

/-- A weight before the division. -/
theorem e_at (b h : Fin 8) (t : Fin 2048) (j : Fin 2304) :
    val_main_v27 (F := Ideal) q kc kl (ix4 b h t j)
      = Ideal.exp (score q kc kl b t h j * ((Real.log 2 : ℝ) : EReal) - max ⊥
          (Finset.fold max ⊥ (fun j => score q kc kl b t h j * ((Real.log 2 : ℝ) : EReal)) Finset.univ)) := by
  rw [val_main_v27_apply, val_main_v26_apply, s_at, val_main_v25_apply, val_main_v24_apply]
  refine congrArg (fun z : EReal => Ideal.exp (score q kc kl b t h j * ((Real.log 2 : ℝ) : EReal) - z)) ?_
  exact Eq.trans (congrArg (val_main_v23 (F := Ideal) q kc kl) (funext fun a => Fin.ext (by fin_cases a <;> rfl))) (max_at q kc kl b h t)

/-- The sum of the weights. -/
theorem sum_at (b h : Fin 8) (t : Fin 2048) (j : Fin 2304) :
    val_main_v30 (F := Ideal) q kc kl (ix4 b h t j) = 0 + ∑ k, val_main_v27 (F := Ideal) q kc kl (ix4 b h t k) := by
  rw [val_main_v30_apply, val_main_v29_apply, val_main_v28_apply, val_main_cst_2_apply]
  refine congrArg₂ (· + ·) ?_ (Finset.sum_congr rfl fun k _ => ?_)
  · show Ideal.ofBits .f32 0x00000000#32 = 0
    simp [Ideal.ofBits, Ideal.ieee]
  · exact congrArg _ (funext fun a => Fin.ext (by fin_cases a <;> rfl))

/-- The reference's result at an index. -/
theorem ref_at (b : Fin 8) (t : Fin 2048) (x : Fin 512) :
    val_main_v35 (F := Ideal) q kc kl vc vl (ix3 b t x) = attention q kc kl vc vl (ix3 b t x) := by
  rw [val_main_v35_apply, val_main_v34_apply, val_main_v33_apply, val_main_v32_apply]
  show (_ : EReal) = softmaxRow (fun j => score q kc kl b t (headOf x) j) (fun j => valAt vc vl b j x)
  unfold softmaxRow
  dsimp only
  refine Finset.sum_congr (M := EReal) rfl fun j _ => congrArg₂ (fun x y : EReal => x * y) ?_ ?_
  · refine Eq.trans (congrArg (val_main_v31 (F := Ideal) q kc kl) (?_ : _ = ix4 b (headOf x) t j)) ?_
    · refine funext fun a => Fin.ext ?_
      fin_cases a <;> simp [headOf, ix3, ix4] <;> omega
    · rw [val_main_v31_apply, sum_at]
      simp only [e_at]
      rfl
  · refine Eq.trans (congrArg (val_main_v16 (F := Ideal) vc vl)
      (?_ : _ = ix4 b (headOf x) j ⟨x.val % 64, by omega⟩)) ?_
    · refine funext fun a => Fin.ext ?_
      fin_cases a <;> simp [headOf, ix3, ix4] <;> omega
    · refine (v_at vc vl _ _ j _).trans (congrArg (valAt vc vl _ j) (Fin.ext ?_))
      simp only [headOf]
      omega

/-- The reference's result is the attention of its arguments. -/
theorem ref_eq : val_main_v35 (F := Ideal) q kc kl vc vl = attention q kc kl vc vl := by
  funext i
  have hi : i = ix3 (n0 := 8) (n1 := 2048) (n2 := 512) (i 0) (i 1) (i 2) := funext fun a => by fin_cases a <;> rfl
  rw [hi]
  exact ref_at q kc kl vc vl _ _ _

end Cert.ReferenceIdeal.AttnRef
-- ==== Proof.AttnClaim.lean ====
/-
  The attention claim: where the queries and the keys are finite, the kernel and its reference leave the same array, the
  attention of the arguments.
-/
module

public import proofs.«01_k».proof.Defs
public import proofs.«01_k».proof.Proof.AttnArray
public import proofs.«01_k».proof.Proof.AttnRef
public import proofs.«01_k».proof.Proof.Gen.KernelIdeal.Value
public import Idealize.ShloMosaic.Lib.ReduceAll

@[expose] public section

set_option maxRecDepth 16384
noncomputable section

namespace Cert.AttnClaim

open Idealize.ShloMosaic Idealize.ShloMosaic.TcCoe Idealize.SL.Sem
open Cert.Softmax

/-- The shape facts the precondition's operations take. -/
theorem preFacts : Cert.Pre_finite_scores.Facts := ⟨by decide, by decide, by decide, by decide, by decide⟩

/-- The printed plus infinity of the 16-bit format. -/
theorem ofBits_inf : Ideal.ofBits .bf16 0x7F80#16 = ⊤ := by simp [Ideal.ofBits, Ideal.ieee]

/-- An extended real whose absolute value compares below infinity is a real. -/
theorem finite_of_cmp (x : EReal) (h : Ideal.cmp .olt (max x (-x)) (Ideal.ofBits .bf16 0x7F80#16) = 1#1) : Finite x := by
  rw [ofBits_inf] at h
  have h' : max x (-x) < ⊤ := by
    by_contra hn
    simp only [Ideal.cmp, decide_eq_false hn] at h
    exact absurd h (by decide)
  have h1 : x ≠ ⊤ := fun e => by simp [e] at h'
  have h2 : x ≠ ⊥ := fun e => by simp [e] at h'
  exact ⟨x.toReal, (EReal.coe_toReal h1 h2).symm⟩

section
attribute [local instance] preFacts

/-- The precondition read at the entries: every query and every key is a real. -/
theorem finite_of_pre (q : Q) (kc : KC) (kl : Q) (vc : VC) (vl : VL)
    (h : (Cert.Pre_finite_scores.fn (F := Ideal) q kc kl vc vl).1 = (fun _ => 1#1)
      ∧ (Cert.Pre_finite_scores.fn (F := Ideal) q kc kl vc vl).2.1 = (fun _ => 1#1)
      ∧ (Cert.Pre_finite_scores.fn (F := Ideal) q kc kl vc vl).2.2 = (fun _ => 1#1)) :
    (∀ i, Finite (q i)) ∧ (∀ i, Finite (kc i)) ∧ (∀ i, Finite (kl i)) := by
  obtain ⟨h1, h2, h3⟩ := h
  have hs : Subsingleton (Cert.Pre_finite_scores.S_).Idx := ⟨fun a b => funext fun i => i.elim0⟩
  have e1 := congrFun h1 fun a => a.elim0
  have e2 := congrFun h2 fun a => a.elim0
  have e3 := congrFun h3 fun a => a.elim0
  unfold Cert.Pre_finite_scores.fn at e1 e2 e3
  dsimp only at e1 e2 e3
  refine ⟨fun i => finite_of_cmp _ ?_, fun i => finite_of_cmp _ ?_, fun i => finite_of_cmp _ ?_⟩
  · exact Host.reduce_andi_all _ _ _ _ _ e1 i
  · exact Host.reduce_andi_all _ _ _ _ _ e2 i
  · exact Host.reduce_andi_all _ _ _ _ _ e3 i

/-- Where the queries and the keys are finite, the kernel leaves the attention of its arguments, and so does the reference,
    the arguments unchanged. -/
theorem algebraic : Cert.algebraic_KernelIdeal_ReferenceIdeal_pre_finite_scores
    (hKernelIdeal := Cert.KernelIdeal.Gen.facts) (hReferenceIdeal := Cert.ReferenceIdeal.Gen.facts)
    (hPre_finite_scores := preFacts) := by
  intro m g m' g' hpre harg
  refine ⟨fun c => (attention (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))), ?_, ?_⟩
  · refine (θ_run _ _ _).mono (fun r h c => ⟨(h c).1.trans ?_, (h c).2⟩) (Cert.KernelIdeal.Value.run_blocks m g)
    obtain ⟨hq, hkc, hkl⟩ := finite_of_pre _ _ _ _ _ (hpre c)
    exact Cert.KernelIdeal.AttnValue.final m c _ rfl _ rfl _ rfl _ rfl _ rfl (score_finite _ _ _ hq hkc hkl)
  · refine (θ_run _ _ _).mono (fun r h c => ⟨(h c).1.trans ?_, (h c).2⟩) (Cert.ReferenceIdeal.Value.run (F := Ideal) m' g')
    rw [Cert.ReferenceIdeal.Read.val_main_v35_eq, Cert.ReferenceIdeal.AttnRef.ref_eq, (harg c).1, (harg c).2.1,
      (harg c).2.2.1, (harg c).2.2.2.1, (harg c).2.2.2.2]

end

end Cert.AttnClaim
-- ==== Proof.InprojBlock.lean ====
/-
  One block of the projection kernel read at an index: each of its eight results is a product of the normed and modulated rows of
  the block with a group of columns of the re-laid weights.
-/
module

public import proofs.«01_k».proof.Proof.Gen.Kernel2Ideal.Value
public import Idealize.ShloMosaic.Lib.Pointwise
public import proofs.«01_k».proof.Proof.Softmax

@[expose] public section

set_option maxRecDepth 16384
noncomputable section

namespace Cert.Kernel2Ideal.InprojValue

open Cert.Kernel2Ideal Cert.Kernel2Ideal.Gen Idealize.ShloMosaic Idealize.ShloMosaic.TcCoe Idealize.SL.Sem
open Cert.Softmax

/-- Lane `k` of row `r` of a block after the norm and the modulation; `mod`'s row 1 is the scale, its row 0 the shift. -/
def blkRow (x : S1x512x1024.Idx → EReal) (mod : S1x8x1024.Idx → EReal) (nw : S1x1024.Idx → EReal) (r : Fin 512) (k : Fin 1024) :
    EReal :=
  x (ix3 0 r k) * Ideal.rsqrt (Ideal.div (∑ j : Fin 1024, x (ix3 0 r j) * x (ix3 0 r j)) (Ideal.ofBits FTy.f32 0x44800000#32)
      + Ideal.ofBits FTy.f32 0x358637BD#32) * nw (ix2 0 k) * (1 + mod (ix3 0 1 k)) + mod (ix3 0 0 k)

variable (x0 : Vec Ideal S1x512x1024 .f32) (x1 : Vec Ideal S1x8x1024 .f32) (x2 : Vec Ideal S1x1024 .f32)
  (x3 : Vec Ideal S1024x5504 .bf16)

theorem zero3 {s : Fin 3 → ℕ} (h : s = ![0, 0, 0]) : s = fun _ => 0 := by
  rw [h]; funext a; fin_cases a <;> rfl

theorem out4 (r : Fin 512) (l : Fin 384) : (out0_4 x0 x1 x2 x3 (ix3 0 r l) : EReal)
    = ∑ k : Fin 1024, blkRow x0 x1 x2 r k * x3 (ix2 k ⟨l.val, by omega⟩) := by
  unfold_out out0_4
  rw [View.canon_unit_zero (zero3 rfl)]
  unfold k0_pay5 k0_pay4
  pointwise
  rfl

theorem out5 (r : Fin 512) (l : Fin 256) : (out0_5 x0 x1 x2 x3 (ix3 0 r l) : EReal)
    = ∑ k : Fin 1024, blkRow x0 x1 x2 r k * x3 (ix2 k ⟨384 + l.val, by omega⟩) := by
  unfold_out out0_5
  rw [View.canon_unit_zero (zero3 rfl)]
  unfold k0_pay6 k0_pay4
  pointwise
  rfl

theorem out6 (r : Fin 512) (l : Fin 128) : (out0_6 x0 x1 x2 x3 (ix3 0 r l) : EReal)
    = ∑ k : Fin 1024, blkRow x0 x1 x2 r k * x3 (ix2 k ⟨640 + l.val, by omega⟩) := by
  unfold_out out0_6
  rw [View.canon_unit_zero (zero3 rfl)]
  unfold k0_pay7 k0_pay4
  pointwise
  rfl

theorem out7 (r : Fin 512) (l : Fin 512) : (out0_7 x0 x1 x2 x3 (ix3 0 r l) : EReal)
    = ∑ k : Fin 1024, blkRow x0 x1 x2 r k * x3 (ix2 k ⟨768 + l.val, by omega⟩) := by
  unfold_out out0_7
  rw [View.canon_unit_zero (zero3 rfl)]
  unfold k0_pay8 k0_pay4
  pointwise
  rfl

theorem out8 (r : Fin 512) (l : Fin 1536) : (out0_8 x0 x1 x2 x3 (ix3 0 r l) : EReal)
    = ∑ k : Fin 1024, blkRow x0 x1 x2 r k * x3 (ix2 k ⟨1280 + l.val, by omega⟩) := by
  unfold_out out0_8
  rw [View.canon_unit_zero (zero3 rfl)]
  unfold k0_pay9 k0_pay4
  pointwise
  rfl

theorem out9 (r : Fin 512) (l : Fin 512) : (out0_9 x0 x1 x2 x3 (ix3 0 r l) : EReal)
    = ∑ k : Fin 1024, blkRow x0 x1 x2 r k * x3 (ix2 k ⟨2816 + l.val, by omega⟩) := by
  unfold_out out0_9
  rw [View.canon_unit_zero (zero3 rfl)]
  unfold k0_pay1 k0_pay10 k0_pay4
  pointwise
  rfl

theorem out10 (r : Fin 512) (l : Fin 128) : (out0_10 x0 x1 x2 x3 (ix3 0 r l) : EReal)
    = ∑ k : Fin 1024, blkRow x0 x1 x2 r k * x3 (ix2 k ⟨3328 + l.val, by omega⟩) := by
  unfold_out out0_10
  rw [View.canon_unit_zero (zero3 rfl)]
  unfold k0_pay2 k0_pay4
  pointwise
  rfl

theorem out11 (r : Fin 512) (l : Fin 2048) : (out0_11 x0 x1 x2 x3 (ix3 0 r l) : EReal)
    = ∑ k : Fin 1024, blkRow x0 x1 x2 r k * x3 (ix2 k ⟨3456 + l.val, by omega⟩) := by
  unfold_out out0_11
  rw [View.canon_unit_zero (zero3 rfl)]
  unfold k0_pay3 k0_pay4
  pointwise
  rfl

end Cert.Kernel2Ideal.InprojValue
-- ==== Proof.Inproj.lean ====
/-
  The input projections of a stream of rows as functions of their four arguments, on the extended reals: each row is divided by
  its root mean square, weighed, modulated, and multiplied into the 5312 columns of the weights; the eight results are groups of
  those columns. Both programs are shown to leave these functions in their results.
-/
module

public import proofs.«01_k».proof.Proof.Attention

@[expose] public section

noncomputable section

namespace Cert.Inproj

open Idealize.ShloMosaic Cert.Softmax

variable {L : ℕ}

/-- The rows: 8 examples of `L` rows of 1024 lanes. -/
abbrev Rows (L : ℕ) : Type := (⟨3, ![8, L, 1024]⟩ : Shape).Idx → EReal
/-- The modulation vectors: 16 examples of three rows of 1024. -/
abbrev Mod : Type := (⟨2, ![16, 3072]⟩ : Shape).Idx → EReal
/-- The norm weights. -/
abbrev NW : Type := (⟨2, ![1, 1024]⟩ : Shape).Idx → EReal
/-- The projection weights. -/
abbrev WIn : Type := (⟨3, ![1, 1024, 5312]⟩ : Shape).Idx → EReal

/-- The modulation of the context rows: every example takes the vectors of example 8. -/
def ctxMod (mod : Mod) : Mod := fun i => mod (ix2 8 (i 1))

/-- Lane `k` of row `t` of example `b` after the norm and the modulation: the row times the inverse root of its mean square
    (1024 lanes, plus the small constant), times the norm weight, times one plus the scale, plus the shift. -/
def row (x : Rows L) (mod : Mod) (nw : NW) (b : Fin 8) (t : Fin L) (k : Fin 1024) : EReal :=
  x (ix3 b t k) * Ideal.rsqrt (Ideal.div (∑ j : Fin 1024, x (ix3 b t j) * x (ix3 b t j)) (Ideal.ofBits FTy.f32 0x44800000#32)
      + Ideal.ofBits FTy.f32 0x358637BD#32) * nw (ix2 0 k)
    * (1 + mod (ix2 ⟨b.val, by omega⟩ ⟨1024 + k.val, by omega⟩)) + mod (ix2 ⟨b.val, by omega⟩ ⟨k.val, by omega⟩)

/-- Column `n` of the projection of that row. -/
def proj (x : Rows L) (mod : Mod) (nw : NW) (w : WIn) (b : Fin 8) (t : Fin L) (n : Fin 5312) : EReal :=
  ∑ k : Fin 1024, row x mod nw b t k * w (ix3 0 k n)

/-- The `n` columns from column `off` on. -/
def slab (n off : ℕ) (h : off + n ≤ 5312) (x : Rows L) (mod : Mod) (nw : NW) (w : WIn) : (⟨3, ![8, L, n]⟩ : Shape).Idx → EReal :=
  fun i => proj x mod nw w (i 0) (i 1) ⟨off + (i 2).val, by have : (i 2).val < n := (i 2).isLt; omega⟩

/-- The 32 rotary key columns (from 640), set on lanes 64 … 95 of 128, zero elsewhere. -/
def keyRope (x : Rows L) (mod : Mod) (nw : NW) (w : WIn) : (⟨3, ![8, L, 128]⟩ : Shape).Idx → EReal :=
  fun i => if h : 64 ≤ (i 2).val ∧ (i 2).val < 96 then proj x mod nw w (i 0) (i 1) ⟨640 + ((i 2).val - 64), by omega⟩ else 0

theorem keyRope_in (x : Rows L) (mod : Mod) (nw : NW) (w : WIn) (b : Fin 8) (t : Fin L) (l : Fin 128) (h : 64 ≤ l.val ∧ l.val < 96) :
    keyRope x mod nw w (ix3 b t l) = proj x mod nw w b t ⟨640 + (l.val - 64), by omega⟩ := by
  unfold keyRope
  exact dif_pos (c := 64 ≤ l.val ∧ l.val < 96) h

theorem keyRope_out (x : Rows L) (mod : Mod) (nw : NW) (w : WIn) (b : Fin 8) (t : Fin L) (l : Fin 128) (h : ¬(64 ≤ l.val ∧ l.val < 96)) :
    keyRope x mod nw w (ix3 b t l) = 0 := by
  unfold keyRope
  exact dif_neg (c := 64 ≤ l.val ∧ l.val < 96) h

/-- The 32 gate columns (from 3232), set on lanes 0 … 31 of 128, zero elsewhere. -/
def gateLanes (x : Rows L) (mod : Mod) (nw : NW) (w : WIn) : (⟨3, ![8, L, 128]⟩ : Shape).Idx → EReal :=
  fun i => if h : (i 2).val < 32 then proj x mod nw w (i 0) (i 1) ⟨3232 + (i 2).val, by omega⟩ else 0

theorem gateLanes_in (x : Rows L) (mod : Mod) (nw : NW) (w : WIn) (b : Fin 8) (t : Fin L) (l : Fin 128) (h : l.val < 32) :
    gateLanes x mod nw w (ix3 b t l) = proj x mod nw w b t ⟨3232 + l.val, by omega⟩ := by
  unfold gateLanes
  exact dif_pos (c := l.val < 32) h

theorem gateLanes_out (x : Rows L) (mod : Mod) (nw : NW) (w : WIn) (b : Fin 8) (t : Fin L) (l : Fin 128) (h : ¬l.val < 32) :
    gateLanes x mod nw w (ix3 b t l) = 0 := by
  unfold gateLanes
  exact dif_neg (c := l.val < 32) h

end Cert.Inproj
-- ==== Proof.InprojCols.lean ====
/-
  The re-laid columns of the projection weights, read at an index: slices of the weight matrix, zero columns, and the groups of
  columns the kernel's wrappers put side by side.
-/
module

public import proofs.«01_k».proof.Proof.Inproj
public import Idealize.ShloMosaic.Lib.Pipeline.ValueKit
public import Idealize.ShloMosaic.Lib.KernelVsHost

@[expose] public section

set_option maxRecDepth 16384
noncomputable section

namespace Cert.InprojCols

open Idealize.ShloMosaic
open Cert.Softmax Cert.Inproj

/-- The shape of the projection weights as they come. -/
abbrev SW : Shape := ⟨3, ![1, 1024, 5312]⟩
/-- The shape of the projection weights as a matrix. -/
abbrev SM : Shape := ⟨2, ![1024, 5312]⟩
/-- `n` columns of 1024 rows. -/
abbrev SC (n : ℕ) : Shape := ⟨2, ![1024, n]⟩
/-- The shape of a single number. -/
abbrev S0 : Shape := ⟨0, ![]⟩

/-- The columns of piece `p` of columns set side by side, which begins at column `pre`. -/
theorem piece_at (k : Fin 1024) {n : ℕ} (p pre : ℕ) (x : (⟨2, ![1024, n]⟩ : Shape).Idx → EReal) (xs : List ((s : Shape) × (s.Idx → EReal)))
    {N : ℕ} (h : Shape.Concatenates (xs.map (·.1)) (⟨2, ![1024, N]⟩ : Shape) 1) (hp : p < xs.length) (hx : xs[p] = ⟨(⟨2, ![1024, n]⟩ : Shape), x⟩)
    (hpre : (((xs.take p).map (·.1)).map fun s => if h : s.rank = 2 then s.size ((1 : Fin 2).cast h.symm) else 0).sum = pre)
    (j : Fin n) (hN : pre + j.val < N) :
    concatenate (⟨2, ![1024, N]⟩ : Shape) 1 xs h (ix2 k ⟨pre + j.val, hN⟩) = x (ix2 k j) := by
  refine concatenate_apply_piece (t := ⟨2, ![1024, N]⟩) 1 xs h _ p hp ⟨2, ![1024, n]⟩ x hx rfl pre hpre (ix2 k j) ?_ rfl
  intro a ha
  fin_cases a
  · rfl
  · exact absurd rfl ha

variable (w : WIn) (hc : SW.ShapeCasts SM)

/-- A column of a slice of the weights is a column of the argument. -/
theorem slice_at {n off : ℕ} (h : SM.Slices ![0, off] (SC n)) (hle : off + n ≤ 5312) (k : Fin 1024) (j : Fin n) :
    extractStridedSlice (SC n) ![0, off] (shapeCast SM w hc) h (ix2 k j) = w (ix3 0 k ⟨off + j.val, by omega⟩) := by
  refine (extractStridedSlice_apply ![0, off] (shapeCast SM w hc) h (ix2 k j) (ix2 k ⟨off + j.val, by omega⟩) fun a => ?_).trans ?_
  · fin_cases a
    · exact (Nat.zero_add _).symm
    · rfl
  · refine shapeCast_apply _ hc _ _ ?_
    rw [Shape.rowMajor_val_three, Shape.rowMajor_val_two]
    show (0 * 1024 + k.val) * 5312 + (off + j.val) = k.val * 5312 + (off + j.val)
    omega

/-- A block of zero columns. -/
theorem zeros_at {n : ℕ} (h : S0.BroadcastsInDim (SC n) ![]) (y : (SC n).Idx) :
    (broadcastInDim (SC n) ![] h (constant (F := Ideal) S0 .f32 0x00000000#32) y : EReal) = 0 :=
  (broadcastInDim_apply _ h _ y (fun a => a.elim0) (fun a => a.elim0)).trans (by simp [constant, Ideal.ofBits, Ideal.ieee])

/-- `n` zero columns. -/
abbrev zeros {n : ℕ} (h : S0.BroadcastsInDim (SC n) ![]) : Vec Ideal (SC n) .f32 :=
  broadcastInDim (SC n) ![] h (constant (F := Ideal) S0 .f32 0x00000000#32)

/-- The `n` columns of the weights from `off` on. -/
abbrev cols (n off : ℕ) (h : SM.Slices ![0, off] (SC n)) : Vec Ideal (SC n) .f32 :=
  extractStridedSlice (SC n) ![0, off] (shapeCast SM w hc) h

/-- The rotary key columns between zero columns. -/
abbrev ropeCols (g0 : S0.BroadcastsInDim (SC 64) ![]) (g1 : SM.Slices ![0, 640] (SC 32)) (g2 : S0.BroadcastsInDim (SC 32) ![])
    (g : Shape.Concatenates [SC 64, SC 32, SC 32] (SC 128) 1) : Vec Ideal (SC 128) .f32 :=
  concatenate (SC 128) 1 [⟨SC 64, zeros g0⟩, ⟨SC 32, cols w hc 32 640 g1⟩, ⟨SC 32, zeros g2⟩] g

/-- The rotary key columns between zero columns, at a column. -/
theorem rope_at (g0 g1 g2 g) (k : Fin 1024) (j : Fin 128) :
    ropeCols w hc g0 g1 g2 g (ix2 k j)
      = if h : 64 ≤ j.val ∧ j.val < 96 then w (ix3 0 k ⟨640 + (j.val - 64), by omega⟩) else 0 := by
  by_cases h1 : j.val < 64
  · rw [dif_neg (by omega)]
    refine (congrArg (ropeCols w hc g0 g1 g2 g) ?_).trans ((piece_at k 0 0 _ _ _ (Nat.le_of_ble_eq_true rfl) rfl rfl ⟨j.val, h1⟩ (by simp only []; omega)).trans (zeros_at _ _))
    exact congrArg (ix2 k) (Fin.ext (Nat.zero_add _).symm)
  · by_cases h2 : j.val < 96
    · rw [dif_pos ⟨by omega, h2⟩]
      refine (congrArg (ropeCols w hc g0 g1 g2 g) ?_).trans ((piece_at k 1 64 _ _ _ (Nat.le_of_ble_eq_true rfl) rfl rfl ⟨j.val - 64, by omega⟩ (by simp only []; omega)).trans (slice_at w hc _ (by decide) k _))
      exact congrArg (ix2 k) (Fin.ext (by simp only []; omega))
    · rw [dif_neg (by omega)]
      refine (congrArg (ropeCols w hc g0 g1 g2 g) ?_).trans ((piece_at k 2 96 _ _ _ (Nat.le_of_ble_eq_true rfl) rfl rfl ⟨j.val - 96, by omega⟩ (by simp only []; omega)).trans (zeros_at _ _))
      exact congrArg (ix2 k) (Fin.ext (by simp only []; omega))

/-- The two groups of gate columns, then zero columns. -/
abbrev gateCols (g0 : SM.Slices ![0, 3232] (SC 16)) (g1 : SM.Slices ![0, 3248] (SC 16)) (g2 : S0.BroadcastsInDim (SC 96) ![])
    (g : Shape.Concatenates [SC 16, SC 16, SC 96] (SC 128) 1) : Vec Ideal (SC 128) .f32 :=
  concatenate (SC 128) 1 [⟨SC 16, cols w hc 16 3232 g0⟩, ⟨SC 16, cols w hc 16 3248 g1⟩, ⟨SC 96, zeros g2⟩] g

/-- The two groups of gate columns, then zero columns, at a column. -/
theorem gate_at (g0 g1 g2 g) (k : Fin 1024) (j : Fin 128) :
    gateCols w hc g0 g1 g2 g (ix2 k j)
      = if h : j.val < 32 then w (ix3 0 k ⟨3232 + j.val, by omega⟩) else 0 := by
  by_cases h1 : j.val < 16
  · rw [dif_pos (by omega)]
    refine (congrArg (gateCols w hc g0 g1 g2 g) ?_).trans ((piece_at k 0 0 _ _ _ (Nat.le_of_ble_eq_true rfl) rfl rfl ⟨j.val, h1⟩ (by simp only []; omega)).trans (slice_at w hc _ (by decide) k _))
    exact congrArg (ix2 k) (Fin.ext (Nat.zero_add _).symm)
  · by_cases h2 : j.val < 32
    · rw [dif_pos h2]
      refine (congrArg (gateCols w hc g0 g1 g2 g) ?_).trans ((piece_at k 1 16 _ _ _ (Nat.le_of_ble_eq_true rfl) rfl rfl ⟨j.val - 16, by omega⟩ (by simp only []; omega)).trans ((slice_at w hc _ (by decide) k _).trans ?_))
      · exact congrArg (ix2 k) (Fin.ext (by simp only []; omega))
      · exact congrArg (fun n => w (ix3 0 k n)) (Fin.ext (by simp only []; omega))
    · rw [dif_neg h2]
      refine (congrArg (gateCols w hc g0 g1 g2 g) ?_).trans ((piece_at k 2 32 _ _ _ (Nat.le_of_ble_eq_true rfl) rfl rfl ⟨j.val - 32, by omega⟩ (by simp only []; omega)).trans (zeros_at _ _))
      exact congrArg (ix2 k) (Fin.ext (by simp only []; omega))

/-- The three delta-rule groups of columns. -/
abbrev deltaCols (g0 : SM.Slices ![0, 1184] (SC 512)) (g1 : SM.Slices ![0, 1696] (SC 512)) (g2 : SM.Slices ![0, 2208] (SC 512))
    (g : Shape.Concatenates [SC 512, SC 512, SC 512] (SC 1536) 1) : Vec Ideal (SC 1536) .f32 :=
  concatenate (SC 1536) 1 [⟨SC 512, cols w hc 512 1184 g0⟩, ⟨SC 512, cols w hc 512 1696 g1⟩, ⟨SC 512, cols w hc 512 2208 g2⟩] g

/-- The three delta-rule groups of columns, at a column. -/
theorem delta_at (g0 g1 g2 g) (k : Fin 1024) (j : Fin 1536) :
    deltaCols w hc g0 g1 g2 g (ix2 k j)
      = w (ix3 0 k ⟨1184 + j.val, by omega⟩) := by
  by_cases h1 : j.val < 512
  · refine (congrArg (deltaCols w hc g0 g1 g2 g) ?_).trans ((piece_at k 0 0 _ _ _ (Nat.le_of_ble_eq_true rfl) rfl rfl ⟨j.val, h1⟩ (by simp only []; omega)).trans (slice_at w hc _ (by decide) k _))
    exact congrArg (ix2 k) (Fin.ext (Nat.zero_add _).symm)
  · by_cases h2 : j.val < 1024
    · refine (congrArg (deltaCols w hc g0 g1 g2 g) ?_).trans ((piece_at k 1 512 _ _ _ (Nat.le_of_ble_eq_true rfl) rfl rfl ⟨j.val - 512, by omega⟩ (by simp only []; omega)).trans ((slice_at w hc _ (by decide) k _).trans ?_))
      · exact congrArg (ix2 k) (Fin.ext (by simp only []; omega))
      · exact congrArg (fun n => w (ix3 0 k n)) (Fin.ext (by simp only []; omega))
    · refine (congrArg (deltaCols w hc g0 g1 g2 g) ?_).trans ((piece_at k 2 1024 _ _ _ (Nat.le_of_ble_eq_true rfl) rfl rfl ⟨j.val - 1024, by omega⟩ (by simp only []; omega)).trans ((slice_at w hc _ (by decide) k _).trans ?_))
      · exact congrArg (ix2 k) (Fin.ext (by simp only []; omega))
      · exact congrArg (fun n => w (ix3 0 k n)) (Fin.ext (by simp only []; omega))

end Cert.InprojCols
-- ==== Proof.InprojHost.lean ====
/-
  What the projection kernel's wrapper prepares before the kernel starts: the modulation rows padded to eight, the norm weights,
  and the weight matrix with its columns re-laid.
-/
module

public import proofs.«01_k».proof.Proof.Gen.Kernel2Ideal.Value
public import proofs.«01_k».proof.Proof.InprojCols
public import Idealize.ShloMosaic.Lib.Pipeline.ValueKit
public import Idealize.ShloMosaic.Lib.KernelVsHost
public import Idealize.ShloMosaic.Lib.Pointwise

@[expose] public section

set_option maxRecDepth 16384
noncomputable section

namespace Cert.Kernel2Ideal.Host

open Cert.Kernel2Ideal Cert.Kernel2Ideal.Gen Idealize.ShloMosaic Idealize.ShloMosaic.TcCoe Idealize.SL.Sem
open Cert.Softmax Cert.InprojCols

variable (m : (ℓ : Loc nD τ sig) → Buf (Elt Ideal) ℓ) (c : Dev nD)

/-- The weight argument as a matrix. -/
abbrev wMat : Vec Ideal S1024x5312 .f32 :=
  shapeCast S1024x5312 (m ((c : Thread nD τ).loc main_arg3)) shapeCasts_S1x1024x5312_S1024x5312

theorem V_v1 : V m c main_v1 = wMat m c := by
  simp only [V, hostOps0, hostOps0_1, hostOps0_2, List.flatten_cons, List.flatten_nil, List.append_nil, List.cons_append, List.nil_append]
  after_results_simp <;> rfl

/-- The rotary key columns between zero columns. -/
abbrev ropeCols : Vec Ideal S1024x128 .f32 := concatenate S1024x128 1
    [⟨S1024x64, broadcastInDim S1024x64 ![] bcast_S_S1024x64 (constant (F := Ideal) S_ .f32 0x00000000#32)⟩,
     ⟨S1024x32, extractStridedSlice S1024x32 ![0, 640] (wMat m c) slices_S1024x5312_S1024x32_0_640⟩,
     ⟨S1024x32, broadcastInDim S1024x32 ![] bcast_S_S1024x32 (constant (F := Ideal) S_ .f32 0x00000000#32)⟩]
    concatenates_S1024x64_S1024x32_S1024x32_S1024x128_d1

/-- The two groups of gate columns, then zero columns. -/
abbrev gateCols : Vec Ideal S1024x128 .f32 := concatenate S1024x128 1
    [⟨S1024x16, extractStridedSlice S1024x16 ![0, 3232] (wMat m c) slices_S1024x5312_S1024x16_0_3232⟩,
     ⟨S1024x16, extractStridedSlice S1024x16 ![0, 3248] (wMat m c) slices_S1024x5312_S1024x16_0_3248⟩,
     ⟨S1024x96, broadcastInDim S1024x96 ![] bcast_S_S1024x96 (constant (F := Ideal) S_ .f32 0x00000000#32)⟩]
    concatenates_S1024x16_S1024x16_S1024x96_S1024x128_d1

/-- The three delta-rule groups of columns. -/
abbrev deltaCols : Vec Ideal S1024x1536 .f32 := concatenate S1024x1536 1
    [⟨S1024x512, extractStridedSlice S1024x512 ![0, 1184] (wMat m c) slices_S1024x5312_S1024x512_0_1184⟩,
     ⟨S1024x512, extractStridedSlice S1024x512 ![0, 1696] (wMat m c) slices_S1024x5312_S1024x512_0_1696⟩,
     ⟨S1024x512, extractStridedSlice S1024x512 ![0, 2208] (wMat m c) slices_S1024x5312_S1024x512_0_2208⟩]
    concatenates_S1024x512_S1024x512_S1024x512_S1024x1536_d1

/-- The weights the kernel multiplies by are eight groups of columns side by side. -/
theorem V_v23 : (V m c main_v23 : S1024x5504.Idx → EReal) = concatenate S1024x5504 1
    [⟨S1024x384, extractStridedSlice S1024x384 ![0, 0] (wMat m c) slices_S1024x5312_S1024x384_0_0⟩,
     ⟨S1024x256, extractStridedSlice S1024x256 ![0, 384] (wMat m c) slices_S1024x5312_S1024x256_0_384⟩,
     ⟨S1024x128, ropeCols m c⟩,
     ⟨S1024x512, extractStridedSlice S1024x512 ![0, 672] (wMat m c) slices_S1024x5312_S1024x512_0_672⟩,
     ⟨S1024x1536, deltaCols m c⟩,
     ⟨S1024x512, extractStridedSlice S1024x512 ![0, 2720] (wMat m c) slices_S1024x5312_S1024x512_0_2720⟩,
     ⟨S1024x128, gateCols m c⟩,
     ⟨S1024x2048, extractStridedSlice S1024x2048 ![0, 3264] (wMat m c) slices_S1024x5312_S1024x2048_0_3264⟩]
    concatenates_S1024x384_S1024x256_S1024x128_S1024x512_S1024x1536_S1024x512_S1024x128_S1024x2048_S1024x5504_d1 := by
  simp only [V, hostOps0, hostOps0_1, hostOps0_2, List.flatten_cons, List.flatten_nil, List.append_nil, List.cons_append, List.nil_append]
  after_results_simp <;> (try dsimp only [Matrix.cons_val]) <;> (try after_results_simp) <;> rfl

/-- The argument at a column. -/
abbrev col (k : Fin 1024) (n : Fin 5312) : EReal :=
  (m ((c : Thread nD τ).loc main_arg3) : S1x1024x5312.Idx → EReal) (ix3 0 k n)

theorem w_cq (k : Fin 1024) (j : Fin 384) : (V m c main_v23 : S1024x5504.Idx → EReal) (ix2 k ⟨0 + j.val, by omega⟩) = col m c k ⟨0 + j.val, by omega⟩ := by
  rw [V_v23]
  exact (piece_at k 0 0 _ _ _ (Nat.le_of_ble_eq_true rfl) rfl rfl j _).trans (slice_at _ _ _ (by decide) k j)

theorem w_ckv (k : Fin 1024) (j : Fin 256) : (V m c main_v23 : S1024x5504.Idx → EReal) (ix2 k ⟨384 + j.val, by omega⟩) = col m c k ⟨384 + j.val, by omega⟩ := by
  rw [V_v23]
  exact (piece_at k 1 384 _ _ _ (Nat.le_of_ble_eq_true rfl) rfl rfl j _).trans (slice_at _ _ _ (by decide) k j)

theorem w_kr (k : Fin 1024) (j : Fin 128) : (V m c main_v23 : S1024x5504.Idx → EReal) (ix2 k ⟨640 + j.val, by omega⟩)
    = if h : 64 ≤ j.val ∧ j.val < 96 then col m c k ⟨640 + (j.val - 64), by omega⟩ else 0 := by
  rw [V_v23]
  exact (piece_at k 2 640 _ _ _ (Nat.le_of_ble_eq_true rfl) rfl rfl j _).trans (rope_at _ _ _ _ _ _ k j)

theorem w_zm (k : Fin 1024) (j : Fin 512) : (V m c main_v23 : S1024x5504.Idx → EReal) (ix2 k ⟨768 + j.val, by omega⟩) = col m c k ⟨672 + j.val, by omega⟩ := by
  rw [V_v23]
  exact (piece_at k 3 768 _ _ _ (Nat.le_of_ble_eq_true rfl) rfl rfl j _).trans (slice_at _ _ _ (by decide) k j)

theorem w_delta (k : Fin 1024) (j : Fin 1536) : (V m c main_v23 : S1024x5504.Idx → EReal) (ix2 k ⟨1280 + j.val, by omega⟩) = col m c k ⟨1184 + j.val, by omega⟩ := by
  rw [V_v23]
  exact (piece_at k 4 1280 _ _ _ (Nat.le_of_ble_eq_true rfl) rfl rfl j _).trans (delta_at _ _ _ _ _ _ k j)

theorem w_zd (k : Fin 1024) (j : Fin 512) : (V m c main_v23 : S1024x5504.Idx → EReal) (ix2 k ⟨2816 + j.val, by omega⟩) = col m c k ⟨2720 + j.val, by omega⟩ := by
  rw [V_v23]
  exact (piece_at k 5 2816 _ _ _ (Nat.le_of_ble_eq_true rfl) rfl rfl j _).trans (slice_at _ _ _ (by decide) k j)

theorem w_g (k : Fin 1024) (j : Fin 128) : (V m c main_v23 : S1024x5504.Idx → EReal) (ix2 k ⟨3328 + j.val, by omega⟩)
    = if h : j.val < 32 then col m c k ⟨3232 + j.val, by omega⟩ else 0 := by
  rw [V_v23]
  exact (piece_at k 6 3328 _ _ _ (Nat.le_of_ble_eq_true rfl) rfl rfl j _).trans (gate_at _ _ _ _ _ _ k j)

theorem w_gates (k : Fin 1024) (j : Fin 2048) : (V m c main_v23 : S1024x5504.Idx → EReal) (ix2 k ⟨3456 + j.val, by omega⟩) = col m c k ⟨3264 + j.val, by omega⟩ := by
  rw [V_v23]
  exact (piece_at k 7 3456 _ _ _ (Nat.le_of_ble_eq_true rfl) rfl rfl j _).trans (slice_at _ _ _ (by decide) k j)

theorem v4_at (b : Fin 8) (s : Fin 3) (k : Fin 1024) : (V m c main_v4 : S8x8x1024.Idx → EReal) (ix3 b ⟨s.val, by omega⟩ k)
    = (m ((c : Thread nD τ).loc main_arg1) : S16x3072.Idx → EReal) (ix2 ⟨b.val, by omega⟩ ⟨1024 * s.val + k.val, by omega⟩) := by
  have h : V m c main_v4 = extractStridedSlice S8x8x1024 ![0, 0, 0]
    (pad S16x8x1024 ![0, 0, 0] ![0, 5, 0] ![0, 0, 0]
      (shapeCast S16x3x1024 (m ((c : Thread nD τ).loc main_arg1)) shapeCasts_S16x3072_S16x3x1024)
      (V m c main_call0_v0) pads_S16x3x1024_S16x8x1024_000_050_000 h_S_) slices_S16x8x1024_S8x8x1024_0_0_0 := by
    simp only [V, hostOps0, hostOps0_1, hostOps0_2, List.flatten_cons, List.flatten_nil, List.append_nil, List.cons_append, List.nil_append]
    after_results_simp <;> rfl
  rw [h]
  pointwise
  rw [dif_pos (show b.val < 16 by omega)]
  exact congrArg (fun n => (m ((c : Thread nD τ).loc main_arg1) : S16x3072.Idx → EReal) (ix2 ⟨b.val, by omega⟩ n)) (Fin.ext (by simp only []; omega))

theorem v24_at (k : Fin 1024) : (V m c main_v24 : S1x1024.Idx → EReal) (ix2 0 k)
    = (m ((c : Thread nD τ).loc main_arg2) : S1x1024.Idx → EReal) (ix2 0 k) := by
  have h : V m c main_v24 = shapeCast S1x1024 (shapeCast S1024 (m ((c : Thread nD τ).loc main_arg2)) shapeCasts_S1x1024_S1024) shapeCasts_S1024_S1x1024 := by
    simp only [V, hostOps0, hostOps0_1, hostOps0_2, List.flatten_cons, List.flatten_nil, List.append_nil, List.cons_append, List.nil_append]
    after_results_simp <;> rfl
  rw [h]
  pointwise

end Cert.Kernel2Ideal.Host
-- ==== Proof.InprojArray.lean ====
/-
  The projection kernel's eight whole results: the 32 blocks of each tile its array, and each block is the block of one function
  of the four arguments.
-/
module

public import proofs.«01_k».proof.Proof.InprojBlock
public import proofs.«01_k».proof.Proof.InprojHost
public import proofs.«01_k».proof.Proof.Inproj
public import Idealize.ShloMosaic.Lib.Pipeline.ValueKit

@[expose] public section

set_option maxRecDepth 16384
noncomputable section

namespace Cert.Kernel2Ideal.InprojValue

open Cert.Kernel2Ideal Cert.Kernel2Ideal.Gen Idealize.ShloMosaic Idealize.ShloMosaic.TcCoe Idealize.SL.Sem
open Idealize.ShloMosaic.Pipeline (Dat)
open Cert.Softmax Cert.Inproj

/-- Grid point `t` is tile `t % 4` of example `t / 4`. -/
theorem ind0 : ∀ t : Fin cfg0.N, win0_0.index t = ![t.val / 4, t.val % 4, 0] :=
  (by decide +kernel : ∀ t : Fin grid0.N, win0_0.index t = ![t.val / 4, t.val % 4, 0])
theorem ind1 : ∀ t : Fin cfg0.N, win0_1.index t = ![t.val / 4, 0, 0] :=
  (by decide +kernel : ∀ t : Fin grid0.N, win0_1.index t = ![t.val / 4, 0, 0])
theorem ind2 : ∀ t : Fin cfg0.N, win0_2.index t = ![0, 0] :=
  (by decide +kernel : ∀ t : Fin grid0.N, win0_2.index t = ![0, 0])
theorem ind3 : ∀ t : Fin cfg0.N, win0_3.index t = ![0, 0] :=
  (by decide +kernel : ∀ t : Fin grid0.N, win0_3.index t = ![0, 0])
/-- Every result's block at point `t` is tile `t % 4` of example `t / 4`. -/
theorem indOut : ∀ t : Fin cfg0.N, win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] ∧ win0_9.index t = ![t.val / 4, t.val % 4, 0]
    ∧ win0_10.index t = ![t.val / 4, t.val % 4, 0] ∧ win0_11.index t = ![t.val / 4, t.val % 4, 0] :=
  (by decide +kernel : ∀ t : Fin grid0.N, win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] ∧ win0_9.index t = ![t.val / 4, t.val % 4, 0]
    ∧ win0_10.index t = ![t.val / 4, t.val % 4, 0] ∧ win0_11.index t = ![t.val / 4, t.val % 4, 0])

variable (m : (ℓ : Loc nD τ sig) → Buf (Elt Ideal) ℓ) (c : Dev nD)

theorem lt0 (t : Fin cfg0.N) : t.val / 4 < 8 := by have : t.val < 32 := t.isLt; omega

/-- The block of rows at an index. -/
theorem x_apply (t : Fin cfg0.N) (r : Fin 512) (k : Fin 1024) :
    (iblk m c 0 t : S1x512x1024.Idx → EReal) (ix3 0 r k)
      = (m ((c : Thread nD τ).loc main_arg0) : S8x2048x1024.Idx → EReal)
          (ix3 ⟨t.val / 4, lt0 t⟩ ⟨t.val % 4 * 512 + r.val, by omega⟩ k) := by
  blk_simp [iblk]
  refine (congrFun (V_main_arg0 m c) _).trans (congrArg _ ?_)
  blk_ext [ind0]

/-- The modulation block at one of its first three rows. -/
theorem mod_apply (t : Fin cfg0.N) (s : Fin 3) (k : Fin 1024) :
    (iblk m c 1 t : S1x8x1024.Idx → EReal) (ix3 0 ⟨s.val, by omega⟩ k)
      = (m ((c : Thread nD τ).loc main_arg1) : S16x3072.Idx → EReal)
          (ix2 ⟨t.val / 4, by have := lt0 t; omega⟩ ⟨1024 * s.val + k.val, by omega⟩) := by
  blk_simp [iblk]
  refine Eq.trans (congrArg (V m c main_v4) ?_) (Host.v4_at m c ⟨t.val / 4, lt0 t⟩ s k)
  blk_ext [ind1]

/-- The shift row of the modulation block. -/
theorem shift_apply (t : Fin cfg0.N) (k : Fin 1024) :
    (iblk m c 1 t : S1x8x1024.Idx → EReal) (ix3 0 0 k)
      = (m ((c : Thread nD τ).loc main_arg1) : S16x3072.Idx → EReal) (ix2 ⟨t.val / 4, by have := lt0 t; omega⟩ ⟨k.val, by omega⟩) :=
  (mod_apply m c t 0 k).trans (congrArg _ (congrArg (ix2 _) (Fin.ext (Nat.zero_add _))))

/-- The scale row of the modulation block. -/
theorem scale_apply (t : Fin cfg0.N) (k : Fin 1024) :
    (iblk m c 1 t : S1x8x1024.Idx → EReal) (ix3 0 1 k)
      = (m ((c : Thread nD τ).loc main_arg1) : S16x3072.Idx → EReal)
          (ix2 ⟨t.val / 4, by have := lt0 t; omega⟩ ⟨1024 + k.val, by omega⟩) :=
  mod_apply m c t 1 k

/-- The norm weights at an index. -/
theorem nw_apply (t : Fin cfg0.N) (k : Fin 1024) :
    (iblk m c 2 t : S1x1024.Idx → EReal) (ix2 0 k)
      = (m ((c : Thread nD τ).loc main_arg2) : S1x1024.Idx → EReal) (ix2 0 k) := by
  blk_simp [iblk]
  refine Eq.trans (congrArg (V m c main_v24) ?_) (Host.v24_at m c k)
  blk_ext [ind2]

/-- The weights' block is the whole re-laid matrix. -/
theorem w_apply (t : Fin cfg0.N) (k : Fin 1024) (n : Fin 5504) :
    (iblk m c 3 t : S1024x5504.Idx → EReal) (ix2 k n) = (V m c main_v23 : S1024x5504.Idx → EReal) (ix2 k n) := by
  blk_simp [iblk]
  refine congrArg (V m c main_v23) ?_
  blk_ext [ind3]

section

variable (x : Q) (hx : x = m ((c : Thread nD τ).loc main_arg0)) (mod : Mod) (hmod : mod = m ((c : Thread nD τ).loc main_arg1))
  (nw : NW) (hnw : nw = m ((c : Thread nD τ).loc main_arg2)) (w : WIn) (hw : w = m ((c : Thread nD τ).loc main_arg3))

include hx hmod hnw in
/-- Row `r` of block `t` is the row of its example at its place. -/
theorem blkRow_eq (t : Fin cfg0.N) (r : Fin 512) (k : Fin 1024) :
    blkRow (iblk m c 0 t) (iblk m c 1 t) (iblk m c 2 t) r k
      = row x mod nw ⟨t.val / 4, lt0 t⟩ ⟨t.val % 4 * 512 + r.val, by omega⟩ k := by
  unfold blkRow row
  simp only [x_apply, nw_apply, shift_apply, scale_apply, ← hx, ← hmod, ← hnw]

include hx hmod hnw hw in
/-- A column of the block's product whose weights are a column of the argument is that column of the projection. -/
theorem block_col (t : Fin cfg0.N) (r : Fin 512) (p : Fin 5504) (n : Fin 5312)
    (h : ∀ k, (V m c main_v23 : S1024x5504.Idx → EReal) (ix2 k p) = Host.col m c k n) :
    ∑ k : Fin 1024, blkRow (iblk m c 0 t) (iblk m c 1 t) (iblk m c 2 t) r k * (iblk m c 3 t : S1024x5504.Idx → EReal) (ix2 k p)
      = proj x mod nw w ⟨t.val / 4, lt0 t⟩ ⟨t.val % 4 * 512 + r.val, by omega⟩ n := by
  refine Finset.sum_congr (M := EReal) rfl fun k _ => congrArg₂ (fun a b : EReal => a * b) ?_ ?_
  · exact blkRow_eq m c x hx mod hmod nw hnw t r k
  · exact (w_apply m c t k p).trans ((h k).trans (congrFun hw.symm _))

/-- A column of the block's product whose weights are zero is zero. -/
theorem block_zero (t : Fin cfg0.N) (r : Fin 512) (p : Fin 5504)
    (h : ∀ k, (V m c main_v23 : S1024x5504.Idx → EReal) (ix2 k p) = (0 : EReal)) :
    ∑ k : Fin 1024, blkRow (iblk m c 0 t) (iblk m c 1 t) (iblk m c 2 t) r k * (iblk m c 3 t : S1024x5504.Idx → EReal) (ix2 k p)
      = 0 := by
  refine Finset.sum_eq_zero fun k _ => ?_
  rw [w_apply, h k]
  exact mul_zero (M₀ := EReal) _

include hx hmod hnw hw in
/-- The compressed queries. -/
theorem final4 : (dats m 0 c).arrAt 4 cfg0.N = slab 384 0 (by decide) x mod nw w := by
  refine (dats m 0 c).arrAt_eq_of_covers 4 _ (by decide +kernel) fun t hf y => ?_
  blk_simp
  rw [after0_4]
  obtain ⟨r, l, rfl⟩ : ∃ (r : Fin 512) (l : Fin 384), y = (ix3 0 r l : S1x512x384.Idx) :=
    ⟨y 1, y 2, (eq_ix3 y).trans (by congr 1; exact Subsingleton.elim _ _)⟩
  have hy : (win0_4.blk t).view.emb (ix3 0 r l : S1x512x384.Idx)
      = (ix3 ⟨t.val / 4, lt0 t⟩ ⟨t.val % 4 * 512 + r.val, by omega⟩ l : S8x2048x384.Idx) := by
    blk_ext [(indOut t).1]
  refine Eq.trans ?_ (congrArg (slab 384 0 (by decide) x mod nw w) hy).symm
  refine (out4 _ _ _ _ r l).trans (block_col m c x hx mod hmod nw hnw w hw t r _ _ fun k => Eq.trans ?_ (Host.w_cq m c k l))
  exact congrArg (V m c main_v23) (congrArg (ix2 k) (Fin.ext (Nat.zero_add _).symm))

include hx hmod hnw hw in
/-- The compressed keys and values. -/
theorem final5 : (dats m 0 c).arrAt 5 cfg0.N = slab 256 384 (by decide) x mod nw w := by
  refine (dats m 0 c).arrAt_eq_of_covers 5 _ (by decide +kernel) fun t hf y => ?_
  blk_simp
  rw [after0_5]
  obtain ⟨r, l, rfl⟩ : ∃ (r : Fin 512) (l : Fin 256), y = (ix3 0 r l : S1x512x256.Idx) :=
    ⟨y 1, y 2, (eq_ix3 y).trans (by congr 1; exact Subsingleton.elim _ _)⟩
  have hy : (win0_5.blk t).view.emb (ix3 0 r l : S1x512x256.Idx)
      = (ix3 ⟨t.val / 4, lt0 t⟩ ⟨t.val % 4 * 512 + r.val, by omega⟩ l : S8x2048x256.Idx) := by
    blk_ext [(indOut t).2.1]
  refine Eq.trans ?_ (congrArg (slab 256 384 (by decide) x mod nw w) hy).symm
  exact (out5 _ _ _ _ r l).trans (block_col m c x hx mod hmod nw hnw w hw t r _ _ fun k => Host.w_ckv m c k l)

include hx hmod hnw hw in
/-- The rotary keys on their lanes. -/
theorem final6 : (dats m 0 c).arrAt 6 cfg0.N = keyRope x mod nw w := by
  refine (dats m 0 c).arrAt_eq_of_covers 6 _ (by decide +kernel) fun t hf y => ?_
  blk_simp
  rw [after0_6]
  obtain ⟨r, l, rfl⟩ : ∃ (r : Fin 512) (l : Fin 128), y = (ix3 0 r l : S1x512x128.Idx) :=
    ⟨y 1, y 2, (eq_ix3 y).trans (by congr 1; exact Subsingleton.elim _ _)⟩
  have hy : (win0_6.blk t).view.emb (ix3 0 r l : S1x512x128.Idx)
      = (ix3 ⟨t.val / 4, lt0 t⟩ ⟨t.val % 4 * 512 + r.val, by omega⟩ l : S8x2048x128.Idx) := by
    blk_ext [(indOut t).2.2.1]
  refine Eq.trans ?_ (congrArg (keyRope x mod nw w) hy).symm
  refine (out6 _ _ _ _ r l).trans ?_
  by_cases hl : 64 ≤ l.val ∧ l.val < 96
  · refine (block_col m c x hx mod hmod nw hnw w hw t r _ _ fun k => (Host.w_kr m c k l).trans (dif_pos hl)).trans ?_
    exact (keyRope_in x mod nw w _ _ l hl).symm
  · refine (block_zero m c t r _ fun k => (Host.w_kr m c k l).trans (dif_neg hl)).trans ?_
    exact (keyRope_out x mod nw w _ _ l hl).symm

include hx hmod hnw hw in
/-- The attention's gates. -/
theorem final7 : (dats m 0 c).arrAt 7 cfg0.N = slab 512 672 (by decide) x mod nw w := by
  refine (dats m 0 c).arrAt_eq_of_covers 7 _ (by decide +kernel) fun t hf y => ?_
  blk_simp
  rw [after0_7]
  obtain ⟨r, l, rfl⟩ : ∃ (r : Fin 512) (l : Fin 512), y = (ix3 0 r l : S1x512x512.Idx) :=
    ⟨y 1, y 2, (eq_ix3 y).trans (by congr 1; exact Subsingleton.elim _ _)⟩
  have hy : (win0_7.blk t).view.emb (ix3 0 r l : S1x512x512.Idx)
      = (ix3 ⟨t.val / 4, lt0 t⟩ ⟨t.val % 4 * 512 + r.val, by omega⟩ l : S8x2048x512.Idx) := by
    blk_ext [(indOut t).2.2.2.1]
  refine Eq.trans ?_ (congrArg (slab 512 672 (by decide) x mod nw w) hy).symm
  exact (out7 _ _ _ _ r l).trans (block_col m c x hx mod hmod nw hnw w hw t r _ _ fun k => Host.w_zm m c k l)

include hx hmod hnw hw in
/-- The delta rule's queries, keys and values. -/
theorem final8 : (dats m 0 c).arrAt 8 cfg0.N = slab 1536 1184 (by decide) x mod nw w := by
  refine (dats m 0 c).arrAt_eq_of_covers 8 _ (by decide +kernel) fun t hf y => ?_
  blk_simp
  rw [after0_8]
  obtain ⟨r, l, rfl⟩ : ∃ (r : Fin 512) (l : Fin 1536), y = (ix3 0 r l : S1x512x1536.Idx) :=
    ⟨y 1, y 2, (eq_ix3 y).trans (by congr 1; exact Subsingleton.elim _ _)⟩
  have hy : (win0_8.blk t).view.emb (ix3 0 r l : S1x512x1536.Idx)
      = (ix3 ⟨t.val / 4, lt0 t⟩ ⟨t.val % 4 * 512 + r.val, by omega⟩ l : S8x2048x1536.Idx) := by
    blk_ext [(indOut t).2.2.2.2.1]
  refine Eq.trans ?_ (congrArg (slab 1536 1184 (by decide) x mod nw w) hy).symm
  exact (out8 _ _ _ _ r l).trans (block_col m c x hx mod hmod nw hnw w hw t r _ _ fun k => Host.w_delta m c k l)

include hx hmod hnw hw in
/-- The delta rule's output gates. -/
theorem final9 : (dats m 0 c).arrAt 9 cfg0.N = slab 512 2720 (by decide) x mod nw w := by
  refine (dats m 0 c).arrAt_eq_of_covers 9 _ (by decide +kernel) fun t hf y => ?_
  blk_simp
  rw [after0_9]
  obtain ⟨r, l, rfl⟩ : ∃ (r : Fin 512) (l : Fin 512), y = (ix3 0 r l : S1x512x512.Idx) :=
    ⟨y 1, y 2, (eq_ix3 y).trans (by congr 1; exact Subsingleton.elim _ _)⟩
  have hy : (win0_9.blk t).view.emb (ix3 0 r l : S1x512x512.Idx)
      = (ix3 ⟨t.val / 4, lt0 t⟩ ⟨t.val % 4 * 512 + r.val, by omega⟩ l : S8x2048x512.Idx) := by
    blk_ext [(indOut t).2.2.2.2.2.1]
  refine Eq.trans ?_ (congrArg (slab 512 2720 (by decide) x mod nw w) hy).symm
  exact (out9 _ _ _ _ r l).trans (block_col m c x hx mod hmod nw hnw w hw t r _ _ fun k => Host.w_zd m c k l)

include hx hmod hnw hw in
/-- The delta rule's decay and write gates on their lanes. -/
theorem final10 : (dats m 0 c).arrAt 10 cfg0.N = gateLanes x mod nw w := by
  refine (dats m 0 c).arrAt_eq_of_covers 10 _ (by decide +kernel) fun t hf y => ?_
  blk_simp
  rw [after0_10]
  obtain ⟨r, l, rfl⟩ : ∃ (r : Fin 512) (l : Fin 128), y = (ix3 0 r l : S1x512x128.Idx) :=
    ⟨y 1, y 2, (eq_ix3 y).trans (by congr 1; exact Subsingleton.elim _ _)⟩
  have hy : (win0_10.blk t).view.emb (ix3 0 r l : S1x512x128.Idx)
      = (ix3 ⟨t.val / 4, lt0 t⟩ ⟨t.val % 4 * 512 + r.val, by omega⟩ l : S8x2048x128.Idx) := by
    blk_ext [(indOut t).2.2.2.2.2.2.1]
  refine Eq.trans ?_ (congrArg (gateLanes x mod nw w) hy).symm
  refine (out10 _ _ _ _ r l).trans ?_
  by_cases hl : l.val < 32
  · refine (block_col m c x hx mod hmod nw hnw w hw t r _ _ fun k => (Host.w_g m c k l).trans (dif_pos hl)).trans ?_
    exact (gateLanes_in x mod nw w _ _ l hl).symm
  · refine (block_zero m c t r _ fun k => (Host.w_g m c k l).trans (dif_neg hl)).trans ?_
    exact (gateLanes_out x mod nw w _ _ l hl).symm

include hx hmod hnw hw in
/-- The merge gates. -/
theorem final11 : (dats m 0 c).arrAt 11 cfg0.N = slab 2048 3264 (by decide) x mod nw w := by
  refine (dats m 0 c).arrAt_eq_of_covers 11 _ (by decide +kernel) fun t hf y => ?_
  blk_simp
  rw [after0_11]
  obtain ⟨r, l, rfl⟩ : ∃ (r : Fin 512) (l : Fin 2048), y = (ix3 0 r l : S1x512x2048.Idx) :=
    ⟨y 1, y 2, (eq_ix3 y).trans (by congr 1; exact Subsingleton.elim _ _)⟩
  have hy : (win0_11.blk t).view.emb (ix3 0 r l : S1x512x2048.Idx)
      = (ix3 ⟨t.val / 4, lt0 t⟩ ⟨t.val % 4 * 512 + r.val, by omega⟩ l : S8x2048x2048.Idx) := by
    blk_ext [(indOut t).2.2.2.2.2.2.2]
  refine Eq.trans ?_ (congrArg (slab 2048 3264 (by decide) x mod nw w) hy).symm
  exact (out11 _ _ _ _ r l).trans (block_col m c x hx mod hmod nw hnw w hw t r _ _ fun k => Host.w_gates m c k l)

end

end Cert.Kernel2Ideal.InprojValue
-- ==== Proof.InprojRef.lean ====
/-
  The reference projection read operation by operation: its eight results are the functions of `Cert.Inproj`.
-/
module

public import proofs.«01_k».proof.Proof.Gen.Reference2Ideal.Read
public import proofs.«01_k».proof.Proof.Inproj
public import Idealize.ShloMosaic.Lib.KernelVsHost
public import Idealize.ShloMosaic.Lib.Pointwise

@[expose] public section

set_option maxRecDepth 16384
noncomputable section

namespace Cert.Reference2Ideal.InprojRef

open Cert.Reference2Ideal Cert.Reference2Ideal.Gen Cert.Reference2Ideal.Read Idealize.ShloMosaic Idealize.ShloMosaic.TcCoe Idealize.SL.Sem
open Cert.Softmax Cert.Inproj

variable (x : Q) (mod : Mod) (nw : NW) (w : WIn)

theorem row_at (b : Fin 8) (t : Fin 2048) (k : Fin 1024) :
    val_main_v26 (F := Ideal) x mod nw (ix3 b t k) = row x mod nw b t k := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v4 val_main_v3 val_main_v2 val_main_v0 val_main_cst val_main_cst_0 val_main_cst_1 val_main_cst_2
  pointwise
  rfl

theorem proj_at (b : Fin 8) (t : Fin 2048) (n : Fin 5312) :
    val_main_v27 (F := Ideal) x mod nw w (ix3 b t n) = proj x mod nw w b t n := by
  rw [val_main_v27_apply]
  refine Finset.sum_congr (M := EReal) rfl fun k _ => congrArg₂ (fun a b : EReal => a * b) ?_ ?_
  · exact (congrArg (val_main_v26 (F := Ideal) x mod nw) (funext fun a => by fin_cases a <;> rfl)).trans (row_at x mod nw b t k)
  · rw [val_main_v1_apply]
    refine congrArg w (funext fun a => Fin.ext ?_)
    fin_cases a <;> simp [ix3] <;> omega

/-- The projection at an index given by its coordinates. -/
theorem proj_of (j : S8x2048x5312.Idx) (b : Fin 8) (t : Fin 2048) (n : Fin 5312) (h0 : (j 0).val = b.val) (h1 : (j 1).val = t.val)
    (h2 : (j 2).val = n.val) : val_main_v27 (F := Ideal) x mod nw w j = proj x mod nw w b t n := by
  refine (congrArg (val_main_v27 (F := Ideal) x mod nw w) (funext fun a => Fin.ext ?_)).trans (proj_at x mod nw w b t n)
  fin_cases a
  · exact h0
  · exact h1
  · exact h2

/-- The integer zero a pad is filled with is the number zero. -/
theorem sitofp_zero : (FloatOps.sitofp (F := Ideal) FTy.f32 0#32 : EReal) = 0 := by
  show (((0#32 : BitVec 32).toInt : ℝ) : EReal) = 0
  simp

theorem cq_eq : val_main_v42 (F := Ideal) x mod nw w = slab 384 0 (by decide) x mod nw w := funext fun i =>
  (val_main_v28_apply (F := Ideal) x mod nw w i).trans (proj_of x mod nw w _ _ _ _ rfl rfl (Nat.zero_add _).symm)

theorem ckv_eq : val_main_v43 (F := Ideal) x mod nw w = slab 256 384 (by decide) x mod nw w := funext fun i =>
  (val_main_v29_apply (F := Ideal) x mod nw w i).trans (proj_of x mod nw w _ _ _ _ rfl rfl rfl)

theorem zm_eq : val_main_v44 (F := Ideal) x mod nw w = slab 512 672 (by decide) x mod nw w := funext fun i =>
  (val_main_v31_apply (F := Ideal) x mod nw w i).trans (proj_of x mod nw w _ _ _ _ rfl rfl rfl)

theorem zd_eq : val_main_v46 (F := Ideal) x mod nw w = slab 512 2720 (by decide) x mod nw w := funext fun i =>
  (val_main_v35_apply (F := Ideal) x mod nw w i).trans (proj_of x mod nw w _ _ _ _ rfl rfl rfl)

theorem gates_eq : val_main_v47 (F := Ideal) x mod nw w = slab 2048 3264 (by decide) x mod nw w := funext fun i =>
  (val_main_v38_apply (F := Ideal) x mod nw w i).trans (proj_of x mod nw w _ _ _ _ rfl rfl rfl)

theorem kr_eq : val_main_v39 (F := Ideal) x mod nw w = keyRope x mod nw w := by
  funext i
  obtain ⟨b, t, l, rfl⟩ : ∃ (b : Fin 8) (t : Fin 2048) (l : Fin 128), i = ix3 b t l := ⟨i 0, i 1, i 2, eq_ix3 i⟩
  unfold val_main_v39 val_main_call0_v0 val_main_c
  have h30 := val_main_v30_apply (F := Ideal) x mod nw w
  generalize val_main_v30 (F := Ideal) x mod nw w = y at h30 ⊢
  pointwise
  by_cases hl : 64 ≤ l.val ∧ l.val < 96
  · rw [dif_pos ⟨hl.1, by omega⟩, keyRope_in x mod nw w b t l hl, h30]
    exact proj_of x mod nw w _ _ _ _ rfl rfl rfl
  · rw [dif_neg (by omega), keyRope_out x mod nw w b t l hl]
    exact sitofp_zero

theorem g_eq : val_main_v41 (F := Ideal) x mod nw w = gateLanes x mod nw w := by
  funext i
  obtain ⟨b, t, l, rfl⟩ : ∃ (b : Fin 8) (t : Fin 2048) (l : Fin 128), i = ix3 b t l := ⟨i 0, i 1, i 2, eq_ix3 i⟩
  unfold val_main_v41 val_main_call1_v0 val_main_c_3 val_main_v40
  have h36 := val_main_v36_apply (F := Ideal) x mod nw w
  have h37 := val_main_v37_apply (F := Ideal) x mod nw w
  generalize val_main_v36 (F := Ideal) x mod nw w = y at h36 ⊢
  generalize val_main_v37 (F := Ideal) x mod nw w = z at h37 ⊢
  pointwise
  by_cases hl : l.val < 32
  · rw [dif_pos hl, gateLanes_in x mod nw w b t l hl]
    by_cases hl' : l.val < 16
    · rw [dif_pos hl', h36]
      exact proj_of x mod nw w _ _ _ _ rfl rfl rfl
    · rw [dif_neg hl', h37]
      exact proj_of x mod nw w _ _ _ _ rfl rfl (show 3248 + (l.val - 16) = 3232 + l.val by omega)
  · rw [dif_neg hl, gateLanes_out x mod nw w b t l hl]
    exact sitofp_zero

theorem delta_eq : val_main_v45 (F := Ideal) x mod nw w = slab 1536 1184 (by decide) x mod nw w := by
  funext i
  obtain ⟨b, t, l, rfl⟩ : ∃ (b : Fin 8) (t : Fin 2048) (l : Fin 1536), i = ix3 b t l := ⟨i 0, i 1, i 2, eq_ix3 i⟩
  unfold val_main_v45
  have h32 := val_main_v32_apply (F := Ideal) x mod nw w
  have h33 := val_main_v33_apply (F := Ideal) x mod nw w
  have h34 := val_main_v34_apply (F := Ideal) x mod nw w
  generalize val_main_v32 (F := Ideal) x mod nw w = y at h32 ⊢
  generalize val_main_v33 (F := Ideal) x mod nw w = z at h33 ⊢
  generalize val_main_v34 (F := Ideal) x mod nw w = u at h34 ⊢
  pointwise
  by_cases hl : l.val < 512
  · rw [dif_pos hl, h32]
    exact proj_of x mod nw w _ _ _ _ rfl rfl rfl
  · rw [dif_neg hl]
    by_cases hl' : l.val - 512 < 512
    · rw [dif_pos hl', h33]
      exact proj_of x mod nw w _ _ _ _ rfl rfl (show 1696 + (l.val - 512) = 1184 + l.val by omega)
    · rw [dif_neg hl', h34]
      exact proj_of x mod nw w _ _ _ _ rfl rfl (show 2208 + (l.val - 512 - 512) = 1184 + l.val by omega)

end Cert.Reference2Ideal.InprojRef
-- ==== Proof.InprojClaim.lean ====
/-
  The projection claim: the kernel and its reference leave the same eight arrays, groups of columns of the projection of the
  normed and modulated rows.
-/
module

public import proofs.«01_k».proof.Defs
public import proofs.«01_k».proof.Proof.InprojArray
public import proofs.«01_k».proof.Proof.InprojRef

@[expose] public section

set_option maxRecDepth 16384
noncomputable section

namespace Cert.InprojClaim

open Idealize.ShloMosaic Idealize.ShloMosaic.TcCoe Idealize.SL.Sem
open Cert.Softmax Cert.Inproj

section

variable (m : (ℓ : Loc Cert.Kernel2Ideal.nD Cert.Kernel2Ideal.τ Cert.Kernel2Ideal.sig) → Buf (Elt Ideal) ℓ) (c : Dev Cert.Kernel2Ideal.nD)

/-- The kernel's rows. -/
abbrev xArg : Q := m ((c.tc : Thread Cert.Kernel2Ideal.nD Cert.Kernel2Ideal.τ).loc Cert.Kernel2Ideal.main_arg0)
/-- The kernel's modulation vectors. -/
abbrev modArg : Mod := m ((c.tc : Thread Cert.Kernel2Ideal.nD Cert.Kernel2Ideal.τ).loc Cert.Kernel2Ideal.main_arg1)
/-- The kernel's norm weights. -/
abbrev nwArg : NW := m ((c.tc : Thread Cert.Kernel2Ideal.nD Cert.Kernel2Ideal.τ).loc Cert.Kernel2Ideal.main_arg2)
/-- The kernel's projection weights. -/
abbrev wArg : WIn := m ((c.tc : Thread Cert.Kernel2Ideal.nD Cert.Kernel2Ideal.τ).loc Cert.Kernel2Ideal.main_arg3)

end

/-- For every argument, the kernel leaves the eight groups of columns of the projection, and so does the reference, the
    arguments unchanged. -/
theorem algebraic : Cert.algebraic_Kernel2Ideal_Reference2Ideal
    (hKernel2Ideal := Cert.Kernel2Ideal.Gen.facts) (hReference2Ideal := Cert.Reference2Ideal.Gen.facts) := by
  intro m g m' g' _ harg
  refine ⟨fun c => slab 384 0 (by decide) (xArg m c) (modArg m c) (nwArg m c) (wArg m c),
    fun c => slab 256 384 (by decide) (xArg m c) (modArg m c) (nwArg m c) (wArg m c),
    fun c => keyRope (xArg m c) (modArg m c) (nwArg m c) (wArg m c),
    fun c => slab 512 672 (by decide) (xArg m c) (modArg m c) (nwArg m c) (wArg m c),
    fun c => slab 1536 1184 (by decide) (xArg m c) (modArg m c) (nwArg m c) (wArg m c),
    fun c => slab 512 2720 (by decide) (xArg m c) (modArg m c) (nwArg m c) (wArg m c),
    fun c => gateLanes (xArg m c) (modArg m c) (nwArg m c) (wArg m c),
    fun c => slab 2048 3264 (by decide) (xArg m c) (modArg m c) (nwArg m c) (wArg m c), ?_, ?_⟩
  · refine (θ_run _ _ _).mono (fun r h c => ?_) (Cert.Kernel2Ideal.Value.run_blocks m g)
    obtain ⟨h0, h1, h2, h3, h4, h5, h6, h7, hrest⟩ := h c
    exact ⟨h0.trans (Cert.Kernel2Ideal.InprojValue.final4 m c _ rfl _ rfl _ rfl _ rfl),
      h1.trans (Cert.Kernel2Ideal.InprojValue.final5 m c _ rfl _ rfl _ rfl _ rfl),
      h2.trans (Cert.Kernel2Ideal.InprojValue.final6 m c _ rfl _ rfl _ rfl _ rfl),
      h3.trans (Cert.Kernel2Ideal.InprojValue.final7 m c _ rfl _ rfl _ rfl _ rfl),
      h4.trans (Cert.Kernel2Ideal.InprojValue.final8 m c _ rfl _ rfl _ rfl _ rfl),
      h5.trans (Cert.Kernel2Ideal.InprojValue.final9 m c _ rfl _ rfl _ rfl _ rfl),
      h6.trans (Cert.Kernel2Ideal.InprojValue.final10 m c _ rfl _ rfl _ rfl _ rfl),
      h7.trans (Cert.Kernel2Ideal.InprojValue.final11 m c _ rfl _ rfl _ rfl _ rfl), hrest⟩
  · refine (θ_run _ _ _).mono (fun r h c => ?_) (Cert.Reference2Ideal.Value.run (F := Ideal) m' g')
    obtain ⟨h0, h1, h2, h3, h4, h5, h6, h7, hrest⟩ := h c
    obtain ⟨a0, a1, a2, a3⟩ := harg c
    refine ⟨h0.trans ?_, h1.trans ?_, h2.trans ?_, h3.trans ?_, h4.trans ?_, h5.trans ?_, h6.trans ?_, h7.trans ?_, hrest⟩
    · rw [Cert.Reference2Ideal.Read.val_main_v42_eq, Cert.Reference2Ideal.InprojRef.cq_eq, a0, a1, a2, a3]
    · rw [Cert.Reference2Ideal.Read.val_main_v43_eq, Cert.Reference2Ideal.InprojRef.ckv_eq, a0, a1, a2, a3]
    · rw [Cert.Reference2Ideal.Read.val_main_v39_eq, Cert.Reference2Ideal.InprojRef.kr_eq, a0, a1, a2, a3]
    · rw [Cert.Reference2Ideal.Read.val_main_v44_eq, Cert.Reference2Ideal.InprojRef.zm_eq, a0, a1, a2, a3]
    · rw [Cert.Reference2Ideal.Read.val_main_v45_eq, Cert.Reference2Ideal.InprojRef.delta_eq, a0, a1, a2, a3]
    · rw [Cert.Reference2Ideal.Read.val_main_v46_eq, Cert.Reference2Ideal.InprojRef.zd_eq, a0, a1, a2, a3]
    · rw [Cert.Reference2Ideal.Read.val_main_v41_eq, Cert.Reference2Ideal.InprojRef.g_eq, a0, a1, a2, a3]
    · rw [Cert.Reference2Ideal.Read.val_main_v47_eq, Cert.Reference2Ideal.InprojRef.gates_eq, a0, a1, a2, a3]

end Cert.InprojClaim
-- ==== Proof.Merge.lean ====
/-
  The merge of the two branches as a function of its eleven arguments, on the extended reals: the attention branch gated by its
  z, the delta branch normed head by head and gated by its own, each projected, gated by a logistic, added, projected once more
  and added to the stream with the modulation's gate. Both programs are shown to leave this function in their result.
-/
module

public import proofs.«01_k».proof.Proof.Inproj

@[expose] public section

set_option maxRecDepth 16384

noncomputable section

namespace Cert.Merge

open Idealize.ShloMosaic Cert.Softmax Cert.Inproj

/-- The branches and their z: eight heads of 64 lanes for each row. -/
abbrev Br : Type := (⟨3, ![8, 2048, 512]⟩ : Shape).Idx → EReal
/-- The two gates of each row. -/
abbrev Gates : Type := (⟨3, ![8, 2048, 2048]⟩ : Shape).Idx → EReal
/-- A branch's projection weights. -/
abbrev WBr : Type := (⟨3, ![1, 512, 1024]⟩ : Shape).Idx → EReal
/-- The head norm's weights. -/
abbrev NWHead : Type := (⟨2, ![1, 64]⟩ : Shape).Idx → EReal
/-- The last projection's weights. -/
abbrev WOut : Type := (⟨3, ![1, 1024, 1024]⟩ : Shape).Idx → EReal

/-- `z` times its logistic. -/
def silu (z : EReal) : EReal := z * Ideal.logistic z

/-- Lane `l` of a row of 512 lanes normed head by head: divided by the root mean square of the 64 lanes of its head. -/
def headNorm (o : Fin 512 → EReal) (l : Fin 512) : EReal :=
  o l * Ideal.rsqrt (Ideal.div (∑ d : Fin 64, o ⟨l.val / 64 * 64 + d.val, by omega⟩ * o ⟨l.val / 64 * 64 + d.val, by omega⟩)
    (Ideal.ofBits FTy.f32 0x42800000#32) + Ideal.ofBits FTy.f32 0x358637BD#32)

/-- A sixty-fourth of a number, by the quotient and by the product. -/
theorem div64 (s : EReal) : s * Ideal.ofBits FTy.f32 0x3C800000#32 = Ideal.div s (Ideal.ofBits FTy.f32 0x42800000#32) := by
  have h1 : Ideal.ofBits FTy.f32 0x3C800000#32 = ((1 / 64 : ℝ) : EReal) := by
    simp [Ideal.ofBits, Ideal.ieee]
    rw [← EReal.coe_mul]
    norm_num
  have h2 : Ideal.ofBits FTy.f32 0x42800000#32 = ((64 : ℝ) : EReal) := by
    simp [Ideal.ofBits, Ideal.ieee]
    rw [← EReal.coe_mul]
    norm_num
  rw [h1, h2, Ideal.div, if_neg (by norm_num), ← EReal.coe_inv]
  norm_num

/-- Column `k` of a row of the merged branches. -/
def mergedRow (om zm od zd nw : Fin 512 → EReal) (g : Fin 2048 → EReal) (w1 w2 : Fin 512 → Fin 1024 → EReal) (k : Fin 1024) : EReal :=
  Ideal.logistic (g ⟨k.val, by omega⟩) * ∑ l : Fin 512, om l * silu (zm l) * w1 l k
    + Ideal.logistic (g ⟨1024 + k.val, by omega⟩) * ∑ l : Fin 512, headNorm od l * nw l * silu (zd l) * w2 l k

/-- The merged stream. -/
def merge (x : Q) (mod : Mod) (om zm od zd : Br) (g : Gates) (w1 : WBr) (nw : NWHead) (w2 : WBr) (wo : WOut) : Q :=
  fun i => x i + mod (ix2 ⟨(i 0).val, Nat.lt_of_lt_of_le (i 0).isLt (by decide)⟩ ⟨2048 + (i 2).val, Nat.add_lt_add_left (i 2).isLt 2048⟩)
    * ∑ k : Fin 1024, mergedRow (fun l => om (ix3 (i 0) (i 1) l)) (fun l => zm (ix3 (i 0) (i 1) l)) (fun l => od (ix3 (i 0) (i 1) l))
        (fun l => zd (ix3 (i 0) (i 1) l)) (fun l => nw (ix2 0 ⟨l.val % 64, Nat.mod_lt _ (by decide)⟩)) (fun n => g (ix3 (i 0) (i 1) n))
        (fun l n => w1 (ix3 0 l n)) (fun l n => w2 (ix3 0 l n)) k * wo (ix3 0 k (i 2))

/-- The sum over 128 lanes with the upper 64 put to zero is the sum over the lower 64. -/
theorem sum_lower (f : Fin 128 → EReal) :
    (∑ x : Fin 128, if x.val < 64 then f x else 0) = ∑ d : Fin 64, f ⟨d.val, by omega⟩ := by
  refine (Fin.sum_univ_add (a := 64) (b := 64) fun x : Fin 128 => if x.val < 64 then f x else 0).trans ?_
  have h : (∑ d : Fin 64, if (Fin.natAdd 64 d : Fin 128).val < 64 then f (Fin.natAdd 64 d) else 0) = 0 :=
    Finset.sum_eq_zero fun d _ => if_neg (by simp [Fin.natAdd])
  refine (congrArg₂ (fun a b : EReal => a + b) ?_ h).trans (add_zero _)
  exact Finset.sum_congr rfl fun d _ => if_pos d.isLt

/-- The sum over 128 lanes with the lower 64 put to zero is the sum over the upper 64. -/
theorem sum_upper (f : Fin 128 → EReal) :
    (∑ x : Fin 128, if x.val < 64 then 0 else f x) = ∑ d : Fin 64, f ⟨64 + d.val, by omega⟩ := by
  refine (Fin.sum_univ_add (a := 64) (b := 64) fun x : Fin 128 => if x.val < 64 then 0 else f x).trans ?_
  have h : (∑ d : Fin 64, if (Fin.castAdd 64 d : Fin 128).val < 64 then 0 else f (Fin.castAdd 64 d)) = 0 :=
    Finset.sum_eq_zero fun d _ => if_pos d.isLt
  refine (congrArg₂ (fun a b : EReal => a + b) h ?_).trans (zero_add _)
  exact Finset.sum_congr rfl fun d _ => if_neg (by simp [Fin.natAdd])

/-- Two heads normed side by side in 128 lanes, each by a sum with the other put to zero: the lane's head norm. -/
theorem pair_norm (o : Fin 512 → EReal) (j : ℕ) (hj : 128 * j + 128 ≤ 512) (f : Fin 128 → EReal)
    (hf : ∀ x : Fin 128, f x = o ⟨128 * j + x.val, by omega⟩) (l : Fin 128) (n : Fin 512) (hn : n.val = 128 * j + l.val) :
    f l * Ideal.rsqrt ((if l.val < 64 then ∑ x : Fin 128, (if x.val < 64 then f x * f x else 0)
        else ∑ x : Fin 128, if x.val < 64 then 0 else f x * f x) * Ideal.ofBits FTy.f32 0x3C800000#32
      + Ideal.ofBits FTy.f32 0x358637BD#32) = headNorm o n := by
  have hn' : n = ⟨128 * j + l.val, by omega⟩ := Fin.ext hn
  rw [hn']
  rw [sum_lower fun x => f x * f x, sum_upper fun x => f x * f x, div64]
  simp only [hf]
  unfold headNorm
  by_cases hl : l.val < 64
  · rw [if_pos hl]
    have h : ∀ d : Fin 64, (⟨128 * j + d.val, by omega⟩ : Fin 512) = ⟨(128 * j + l.val) / 64 * 64 + d.val, by omega⟩ :=
      fun d => Fin.ext (show 128 * j + d.val = (128 * j + l.val) / 64 * 64 + d.val by omega)
    simp only [h]
  · rw [if_neg hl]
    have h : ∀ d : Fin 64, (⟨128 * j + (64 + d.val), by omega⟩ : Fin 512) = ⟨(128 * j + l.val) / 64 * 64 + d.val, by omega⟩ :=
      fun d => Fin.ext (show 128 * j + (64 + d.val) = (128 * j + l.val) / 64 * 64 + d.val by omega)
    simp only [h]

end Cert.Merge
-- ==== Proof.MergeBlock.lean ====
/-
  One block of the merge kernel read at an index: the merged rows of the block, projected and added to the stream's rows.
-/
module

public import proofs.«01_k».proof.Proof.Gen.Kernel3Ideal.Value
public import Idealize.ShloMosaic.Lib.Pointwise
public import proofs.«01_k».proof.Proof.Merge

@[expose] public section

set_option maxRecDepth 16384
noncomputable section

namespace Cert.Kernel3Ideal.MergeValue

open Cert.Kernel3Ideal Cert.Kernel3Ideal.Gen Idealize.ShloMosaic Idealize.ShloMosaic.TcCoe Idealize.SL.Sem
open Cert.Softmax Cert.Merge

/-- A choice by a lane's comparison with 64 is a choice by the lane. -/
theorem lane_select (l : Fin 128) (a b : EReal) :
    Scalar.select (IntOp.cmpi .slt (BitVec.ofNat 32 l.val) 64#32) a b = if l.val < 64 then a else b := by
  have h : IntOp.cmpi .slt (BitVec.ofNat 32 l.val) 64#32 = if l.val < 64 then 1#1 else 0#1 := by
    revert l; decide +kernel
  rw [h]
  split <;> rfl

/-- The first pair of heads. -/
theorem pay5_apply (X : S1x512x512.Idx → EReal) (r : Fin 512) (l : Fin 128) :
    (k0_pay5 (F := Ideal) X (ix2 r l) : EReal) = headNorm (fun n => X (ix3 0 r n)) ⟨l.val, by omega⟩ := by
  unfold k0_pay5 k0_pay4 k0_pay3
  pointwise
  simp only [lane_select]
  refine Eq.trans ?_ (pair_norm (fun n => X (ix3 0 r n)) 0 (by decide) (fun x => X (ix3 0 r ⟨x.val, by omega⟩))
    (fun x => congrArg (fun n => X (ix3 0 r n)) (Fin.ext (Nat.zero_add _).symm)) l _ (Nat.zero_add _).symm)
  rfl

/-- The second pair of heads. -/
theorem pay6_apply (X : S1x512x512.Idx → EReal) (r : Fin 512) (l : Fin 128) :
    (k0_pay6 (F := Ideal) (k0_pay3 X) k0_pay4 (ix2 r l) : EReal) = headNorm (fun n => X (ix3 0 r n)) ⟨128 + l.val, by omega⟩ := by
  unfold k0_pay6 k0_pay4 k0_pay3
  pointwise
  simp only [lane_select]
  refine Eq.trans ?_ (pair_norm (fun n => X (ix3 0 r n)) 1 (by decide) (fun x => X (ix3 0 r ⟨128 + x.val, by omega⟩))
    (fun x => rfl) l _ rfl)
  rfl

/-- The third pair of heads. -/
theorem pay7_apply (X : S1x512x512.Idx → EReal) (r : Fin 512) (l : Fin 128) :
    (k0_pay7 (F := Ideal) (k0_pay3 X) k0_pay4 (ix2 r l) : EReal) = headNorm (fun n => X (ix3 0 r n)) ⟨256 + l.val, by omega⟩ := by
  unfold k0_pay7 k0_pay4 k0_pay3
  pointwise
  simp only [lane_select]
  refine Eq.trans ?_ (pair_norm (fun n => X (ix3 0 r n)) 2 (by decide) (fun x => X (ix3 0 r ⟨256 + x.val, by omega⟩))
    (fun x => rfl) l _ rfl)
  rfl

/-- The attention branch projected. -/
theorem pay2_apply (X Y : S1x512x512.Idx → EReal) (W : S512x1024.Idx → EReal) (r : Fin 512) (l : Fin 1024) :
    (k0_pay2 (F := Ideal) X Y W (ix2 r l) : EReal)
      = ∑ x : Fin 512, X (ix3 0 r x) * silu (Y (ix3 0 r x)) * W (ix2 x l) := by
  unfold k0_pay2
  pointwise
  rfl

/-- The merged rows. -/
theorem pay11_apply (A Zm X Zd : S1x512x512.Idx → EReal) (W1 W2 : S512x1024.Idx → EReal) (N : S1x512.Idx → EReal)
    (G : S1x512x2048.Idx → EReal) (r : Fin 512) (l : Fin 1024) :
    (k0_pay11 (F := Ideal) (k0_pay2 A Zm W1) k0_pay4 (k0_pay5 X) (k0_pay6 (k0_pay3 X) k0_pay4) (k0_pay7 (k0_pay3 X) k0_pay4)
      (k0_pay8 (k0_pay3 X)) (k0_pay9 (k0_pay3 X)) (k0_pay10 (k0_pay3 X) k0_pay4) N Zd W2 G (ix2 r l) : EReal)
      = mergedRow (fun n => A (ix3 0 r n)) (fun n => Zm (ix3 0 r n)) (fun n => X (ix3 0 r n)) (fun n => Zd (ix3 0 r n))
          (fun n => N (ix2 0 n)) (fun n => G (ix3 0 r n)) (fun n k => W1 (ix2 n k)) (fun n k => W2 (ix2 n k)) l := by
  have h2 := pay2_apply A Zm W1 r
  have h5 := pay5_apply X r
  have h6 := pay6_apply X r
  have h7 := pay7_apply X r
  have h8 : ∀ x : Fin 128, (k0_pay8 (F := Ideal) (k0_pay3 X) (ix2 r x) : EReal) = X (ix3 0 r ⟨384 + x.val, by omega⟩) := fun x => by
    unfold k0_pay8 k0_pay3
    pointwise
  have h9 : ∀ x : Fin 128, (k0_pay9 (F := Ideal) (k0_pay3 X) (ix2 r x) : EReal)
      = X (ix3 0 r ⟨384 + x.val, by omega⟩) * X (ix3 0 r ⟨384 + x.val, by omega⟩) := fun x => by
    unfold k0_pay9 k0_pay8 k0_pay3
    pointwise
  have h10 : ∀ x : Fin 128, (k0_pay10 (F := Ideal) (k0_pay3 X) k0_pay4 (ix2 r x) : EReal)
      = if x.val < 64 then X (ix3 0 r ⟨384 + x.val, by omega⟩) * X (ix3 0 r ⟨384 + x.val, by omega⟩) else 0 := fun x => by
    unfold k0_pay10 k0_pay9 k0_pay8 k0_pay4 k0_pay3
    pointwise
    exact lane_select x _ _
  generalize k0_pay2 (F := Ideal) A Zm W1 = u2 at h2 ⊢
  generalize k0_pay5 (F := Ideal) X = u5 at h5 ⊢
  generalize k0_pay6 (F := Ideal) (k0_pay3 X) k0_pay4 = u6 at h6 ⊢
  generalize k0_pay7 (F := Ideal) (k0_pay3 X) k0_pay4 = u7 at h7 ⊢
  generalize k0_pay8 (F := Ideal) (k0_pay3 X) = u8 at h8 ⊢
  generalize k0_pay9 (F := Ideal) (k0_pay3 X) = u9 at h9 ⊢
  generalize k0_pay10 (F := Ideal) (k0_pay3 X) k0_pay4 = u10 at h10 ⊢
  unfold k0_pay11 k0_pay4
  pointwise
  simp only [lane_select, h2, h9, h10]
  unfold mergedRow
  refine congrArg (HAdd.hAdd (α := EReal) _) (congrArg (HMul.hMul (α := EReal) _) (Finset.sum_congr (M := EReal) rfl fun x _ => ?_))
  refine congrArg (fun z : EReal => z * N (ix2 0 x) * (Zd (ix3 0 r x) * Ideal.logistic (Zd (ix3 0 r x))) * W2 (ix2 x l)) ?_
  by_cases a1 : x.val < 128
  · rw [dif_pos a1]
    exact h5 _
  · rw [dif_neg a1]
    by_cases a2 : x.val - 128 < 128
    · rw [dif_pos a2]
      exact (h6 _).trans (congrArg (headNorm _) (Fin.ext (show 128 + (x.val - 128) = x.val by omega)))
    · rw [dif_neg a2]
      by_cases a3 : x.val - 128 - 128 < 128
      · rw [dif_pos a3]
        exact (h7 _).trans (congrArg (headNorm _) (Fin.ext (show 256 + (x.val - 128 - 128) = x.val by omega)))
      · rw [dif_neg a3, h8, show ∀ a b : EReal, Scalar.select (IntOp.cmpi .slt (BitVec.ofNat 32 (x.val - 128 - 128 - 128)) 64#32) a b
          = if x.val - 128 - 128 - 128 < 64 then a else b from lane_select ⟨x.val - 128 - 128 - 128, by omega⟩]
        exact pair_norm (fun n => X (ix3 0 r n)) 3 (by decide) (fun x => X (ix3 0 r ⟨384 + x.val, by omega⟩)) (fun x => rfl)
          ⟨x.val - 128 - 128 - 128, by omega⟩ x (show x.val = 128 * 3 + (x.val - 128 - 128 - 128) by omega)

variable (x0 : Vec Ideal S1x512x1024 .f32) (x1 : Vec Ideal S1x8x1024 .f32) (x2 x3 : Vec Ideal S1x512x512 .bf16)
  (x4 : Vec Ideal S1x512x512 .f32) (x5 : Vec Ideal S1x512x512 .bf16) (x6 : Vec Ideal S1x512x2048 .bf16)
  (x7 : Vec Ideal S512x1024 .bf16) (x8 : Vec Ideal S1x512 .f32) (x9 : Vec Ideal S512x1024 .bf16) (x10 : Vec Ideal S1024x1024 .bf16)

/-- The block's result: the stream's row plus the gate (row 2 of the modulation) times the projection of the merged row. -/
theorem out11 (r : Fin 512) (l : Fin 1024) : (out0_11 x0 x1 x2 x3 x4 x5 x6 x7 x8 x9 x10 (ix3 0 r l) : EReal)
    = x0 (ix3 0 r l) + x1 (ix3 0 2 l) * ∑ k : Fin 1024,
        mergedRow (fun n => x2 (ix3 0 r n)) (fun n => x3 (ix3 0 r n)) (fun n => x4 (ix3 0 r n)) (fun n => x5 (ix3 0 r n))
          (fun n => x8 (ix2 0 n)) (fun n => x6 (ix3 0 r n)) (fun n k => x7 (ix2 n k)) (fun n k => x9 (ix2 n k)) k * x10 (ix2 k l) := by
  have h0 : (![0, 0, 0] : Fin 3 → ℕ) = fun _ => 0 := by funext a; fin_cases a <;> rfl
  have h0' : (![0, 0] : Fin 2 → ℕ) = fun _ => 0 := by funext a; fin_cases a <;> rfl
  unfold_out out0_11
  rw [View.canon_unit_zero h0]
  rw [show View.ld x2 r0_0 = x2 from View.ld_unit_zero h0 _ _, show View.ld x3 r0_0 = x3 from View.ld_unit_zero h0 _ _,
    show View.ld x4 r0_0 = x4 from View.ld_unit_zero h0 _ _, show View.ld x5 r0_0 = x5 from View.ld_unit_zero h0 _ _,
    show View.ld x6 r0_3 = x6 from View.ld_unit_zero h0 _ _, show View.ld x7 r0_1 = x7 from View.ld_unit_zero h0' _ _,
    show View.ld x8 r0_2 = x8 from View.ld_unit_zero h0' _ _, show View.ld x9 r0_1 = x9 from View.ld_unit_zero h0' _ _]
  unfold k0_pay1
  pointwise
  simp only [pay11_apply]

end Cert.Kernel3Ideal.MergeValue
-- ==== Proof.MergeArray.lean ====
/-
  The merge kernel's whole result: what the wrapper prepares, the blocks the kernel reads, and the 32 blocks that tile its array.
-/
module

public import proofs.«01_k».proof.Proof.MergeBlock
public import Idealize.ShloMosaic.Lib.Pipeline.ValueKit
public import Idealize.ShloMosaic.Lib.KernelVsHost
public import Idealize.ShloMosaic.Lib.Pointwise

@[expose] public section

set_option maxRecDepth 16384
noncomputable section

namespace Cert.Kernel3Ideal.MergeValue

open Cert.Kernel3Ideal Cert.Kernel3Ideal.Gen Idealize.ShloMosaic Idealize.ShloMosaic.TcCoe Idealize.SL.Sem
open Idealize.ShloMosaic.Pipeline (Dat)
open Cert.Softmax Cert.Inproj Cert.Merge

variable (m : (ℓ : Loc nD τ sig) → Buf (Elt Ideal) ℓ) (c : Dev nD)

/-- The modulation rows the wrapper prepares. -/
theorem v6_at (b : Fin 8) (s : Fin 3) (k : Fin 1024) : (V m c main_v6 : S8x8x1024.Idx → EReal) (ix3 b ⟨s.val, by omega⟩ k)
    = (m ((c : Thread nD τ).loc main_arg1) : S16x3072.Idx → EReal) (ix2 ⟨b.val, by omega⟩ ⟨1024 * s.val + k.val, by omega⟩) := by
  have h : V m c main_v6 = extractStridedSlice S8x8x1024 ![0, 0, 0]
    (pad S16x8x1024 ![0, 0, 0] ![0, 5, 0] ![0, 0, 0]
      (shapeCast S16x3x1024 (m ((c : Thread nD τ).loc main_arg1)) shapeCasts_S16x3072_S16x3x1024)
      (V m c main_call0_v0) pads_S16x3x1024_S16x8x1024_000_050_000 h_S_) slices_S16x8x1024_S8x8x1024_0_0_0 := by
    simp only [V, hostOps0, hostOps0_1, hostOps0_2, List.flatten_cons, List.flatten_nil, List.append_nil, List.cons_append, List.nil_append]
    after_results_simp <;> rfl
  rw [h]
  pointwise
  rw [dif_pos (show b.val < 16 by omega)]
  exact congrArg (fun n => (m ((c : Thread nD τ).loc main_arg1) : S16x3072.Idx → EReal) (ix2 ⟨b.val, by omega⟩ n)) (Fin.ext (by simp only []; omega))

/-- The head norm's weights the wrapper prepares: the 64 weights once for each head. -/
theorem v10_at (k : Fin 512) : (V m c main_v10 : S1x512.Idx → EReal) (ix2 0 k)
    = (m ((c : Thread nD τ).loc main_arg8) : S1x64.Idx → EReal) (ix2 0 ⟨k.val % 64, Nat.mod_lt _ (by decide)⟩) := by
  have h : V m c main_v10 = shapeCast S1x512 (shapeCast S512 (broadcastInDim S8x64 ![0, 1] bcast_S1x64_S8x64_0_1
      (shapeCast S1x64 (shapeCast S64 (m ((c : Thread nD τ).loc main_arg8)) shapeCasts_S1x64_S64) shapeCasts_S64_S1x64))
      shapeCasts_S8x64_S512) shapeCasts_S512_S1x512 := by
    simp only [V, hostOps0, hostOps0_1, hostOps0_2, List.flatten_cons, List.flatten_nil, List.append_nil, List.cons_append, List.nil_append]
    after_results_simp <;> rfl
  rw [h]
  pointwise

/-- A branch's projection weights as a matrix, at an index. -/
theorem wBr_at (w : FVec Ideal S1x512x1024 .f32) (l : Fin 512) (k : Fin 1024) :
    (truncf .bf16 (shapeCast S512x1024 w shapeCasts_S1x512x1024_S512x1024) bitsLt_bf16_f32 : FVec Ideal S512x1024 .bf16) (ix2 l k)
      = w (ix3 0 l k) := by
  pointwise

/-- The last projection's weights as a matrix, at an index. -/
theorem wOut_at (w : FVec Ideal S1x1024x1024 .f32) (l k : Fin 1024) :
    (truncf .bf16 (shapeCast S1024x1024 w shapeCasts_S1x1024x1024_S1024x1024) bitsLt_bf16_f32 : FVec Ideal S1024x1024 .bf16) (ix2 l k)
      = w (ix3 0 l k) := by
  pointwise

/-- The attention branch's projection weights the wrapper prepares. -/
theorem v11_at (l : Fin 512) (k : Fin 1024) : (V m c main_v11 : S512x1024.Idx → EReal) (ix2 l k)
    = (m ((c : Thread nD τ).loc main_arg7) : S1x512x1024.Idx → EReal) (ix3 0 l k) := by
  have h : V m c main_v11 = truncf .bf16 (shapeCast S512x1024 (m ((c : Thread nD τ).loc main_arg7)) shapeCasts_S1x512x1024_S512x1024 : FVec Ideal S512x1024 .f32) bitsLt_bf16_f32 := by
    simp only [V, hostOps0, hostOps0_1, hostOps0_2, List.flatten_cons, List.flatten_nil, List.append_nil, List.cons_append, List.nil_append]
    after_results_simp <;> rfl
  exact (congrFun h _).trans (wBr_at _ l k)

/-- The delta branch's projection weights the wrapper prepares. -/
theorem v12_at (l : Fin 512) (k : Fin 1024) : (V m c main_v12 : S512x1024.Idx → EReal) (ix2 l k)
    = (m ((c : Thread nD τ).loc main_arg9) : S1x512x1024.Idx → EReal) (ix3 0 l k) := by
  have h : V m c main_v12 = truncf .bf16 (shapeCast S512x1024 (m ((c : Thread nD τ).loc main_arg9)) shapeCasts_S1x512x1024_S512x1024 : FVec Ideal S512x1024 .f32) bitsLt_bf16_f32 := by
    simp only [V, hostOps0, hostOps0_1, hostOps0_2, List.flatten_cons, List.flatten_nil, List.append_nil, List.cons_append, List.nil_append]
    after_results_simp <;> rfl
  exact (congrFun h _).trans (wBr_at _ l k)

/-- The last projection's weights the wrapper prepares. -/
theorem v13_at (l k : Fin 1024) : (V m c main_v13 : S1024x1024.Idx → EReal) (ix2 l k)
    = (m ((c : Thread nD τ).loc main_arg10) : S1x1024x1024.Idx → EReal) (ix3 0 l k) := by
  have h : V m c main_v13 = truncf .bf16 (shapeCast S1024x1024 (m ((c : Thread nD τ).loc main_arg10)) shapeCasts_S1x1024x1024_S1024x1024 : FVec Ideal S1024x1024 .f32) bitsLt_bf16_f32 := by
    simp only [V, hostOps0, hostOps0_1, hostOps0_2, List.flatten_cons, List.flatten_nil, List.append_nil, List.cons_append, List.nil_append]
    after_results_simp <;> rfl
  exact (congrFun h _).trans (wOut_at _ l k)

/-- Of the windows that move with the grid, the block at point `t` is tile `t % 4` of example `t / 4`. -/
theorem indTile : ∀ t : Fin cfg0.N, win0_0.index t = ![t.val / 4, t.val % 4, 0] ∧ win0_2.index t = ![t.val / 4, t.val % 4, 0]
    ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0]
    ∧ win0_11.index t = ![t.val / 4, t.val % 4, 0] :=
  (by decide +kernel : ∀ t : Fin grid0.N, win0_0.index t = ![t.val / 4, t.val % 4, 0] ∧ win0_2.index t = ![t.val / 4, t.val % 4, 0]
    ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0]
    ∧ win0_11.index t = ![t.val / 4, t.val % 4, 0])
/-- The modulation's block at point `t` is the rows of example `t / 4`. -/
theorem indMod : ∀ t : Fin cfg0.N, win0_1.index t = ![t.val / 4, 0, 0] :=
  (by decide +kernel : ∀ t : Fin grid0.N, win0_1.index t = ![t.val / 4, 0, 0])
/-- The weights' blocks are the whole arrays. -/
theorem indW : ∀ t : Fin cfg0.N, win0_7.index t = ![0, 0] ∧ win0_8.index t = ![0, 0] ∧ win0_9.index t = ![0, 0] ∧ win0_10.index t = ![0, 0] :=
  (by decide +kernel : ∀ t : Fin grid0.N, win0_7.index t = ![0, 0] ∧ win0_8.index t = ![0, 0] ∧ win0_9.index t = ![0, 0] ∧ win0_10.index t = ![0, 0])

/-- A grid point's example is one of eight. -/
theorem lt0 (t : Fin cfg0.N) : t.val / 4 < 8 := by have : t.val < 32 := t.isLt; omega

/-- The example of point `t`. -/
abbrev ex (t : Fin cfg0.N) : Fin 8 := ⟨t.val / 4, lt0 t⟩
/-- Row `r` of the tile of point `t`. -/
abbrev tok (t : Fin cfg0.N) (r : Fin 512) : Fin 2048 := ⟨t.val % 4 * 512 + r.val, by omega⟩

/-- The stream's block. -/
theorem b0 (t : Fin cfg0.N) (r : Fin 512) (k : Fin 1024) : (iblk m c 0 t : S1x512x1024.Idx → EReal) (ix3 0 r k)
    = (m ((c : Thread nD τ).loc main_arg0) : S8x2048x1024.Idx → EReal) (ix3 (ex t) (tok t r) k) := by
  blk_simp [iblk]
  refine (congrFun (V_main_arg0 m c) _).trans (congrArg _ ?_)
  blk_ext [(indTile t).1]

/-- The gate's row of the modulation's block. -/
theorem b1 (t : Fin cfg0.N) (k : Fin 1024) : (iblk m c 1 t : S1x8x1024.Idx → EReal) (ix3 0 2 k)
    = (m ((c : Thread nD τ).loc main_arg1) : S16x3072.Idx → EReal) (ix2 ⟨t.val / 4, by have := lt0 t; omega⟩ ⟨2048 + k.val, by omega⟩) := by
  blk_simp [iblk]
  refine Eq.trans (congrArg (V m c main_v6) ?_) (v6_at m c (ex t) 2 k)
  blk_ext [indMod]

/-- The attention branch's block. -/
theorem b2 (t : Fin cfg0.N) (r : Fin 512) (k : Fin 512) : (iblk m c 2 t : S1x512x512.Idx → EReal) (ix3 0 r k)
    = (m ((c : Thread nD τ).loc main_arg2) : S8x2048x512.Idx → EReal) (ix3 (ex t) (tok t r) k) := by
  blk_simp [iblk]
  refine (congrFun (V_main_arg2 m c) _).trans (congrArg _ ?_)
  blk_ext [(indTile t).2.1]

/-- The block of the attention branch's z. -/
theorem b3 (t : Fin cfg0.N) (r : Fin 512) (k : Fin 512) : (iblk m c 3 t : S1x512x512.Idx → EReal) (ix3 0 r k)
    = (m ((c : Thread nD τ).loc main_arg3) : S8x2048x512.Idx → EReal) (ix3 (ex t) (tok t r) k) := by
  blk_simp [iblk]
  refine (congrFun (V_main_arg3 m c) _).trans (congrArg _ ?_)
  blk_ext [(indTile t).2.2.1]

/-- The delta branch's block. -/
theorem b4 (t : Fin cfg0.N) (r : Fin 512) (k : Fin 512) : (iblk m c 4 t : S1x512x512.Idx → EReal) (ix3 0 r k)
    = (m ((c : Thread nD τ).loc main_arg4) : S8x2048x512.Idx → EReal) (ix3 (ex t) (tok t r) k) := by
  blk_simp [iblk]
  refine (congrFun (V_main_arg4 m c) _).trans (congrArg _ ?_)
  blk_ext [(indTile t).2.2.2.1]

/-- The block of the delta branch's z. -/
theorem b5 (t : Fin cfg0.N) (r : Fin 512) (k : Fin 512) : (iblk m c 5 t : S1x512x512.Idx → EReal) (ix3 0 r k)
    = (m ((c : Thread nD τ).loc main_arg5) : S8x2048x512.Idx → EReal) (ix3 (ex t) (tok t r) k) := by
  blk_simp [iblk]
  refine (congrFun (V_main_arg5 m c) _).trans (congrArg _ ?_)
  blk_ext [(indTile t).2.2.2.2.1]

/-- The gates' block. -/
theorem b6 (t : Fin cfg0.N) (r : Fin 512) (k : Fin 2048) : (iblk m c 6 t : S1x512x2048.Idx → EReal) (ix3 0 r k)
    = (m ((c : Thread nD τ).loc main_arg6) : S8x2048x2048.Idx → EReal) (ix3 (ex t) (tok t r) k) := by
  blk_simp [iblk]
  refine (congrFun (V_main_arg6 m c) _).trans (congrArg _ ?_)
  blk_ext [(indTile t).2.2.2.2.2.1]

/-- The block of the attention branch's projection weights. -/
theorem b7 (t : Fin cfg0.N) (l : Fin 512) (k : Fin 1024) : (iblk m c 7 t : S512x1024.Idx → EReal) (ix2 l k)
    = (m ((c : Thread nD τ).loc main_arg7) : S1x512x1024.Idx → EReal) (ix3 0 l k) := by
  blk_simp [iblk]
  refine Eq.trans (congrArg (V m c main_v11) ?_) (v11_at m c l k)
  blk_ext [(indW t).1]

/-- The block of the head norm's weights. -/
theorem b8 (t : Fin cfg0.N) (k : Fin 512) : (iblk m c 8 t : S1x512.Idx → EReal) (ix2 0 k)
    = (m ((c : Thread nD τ).loc main_arg8) : S1x64.Idx → EReal) (ix2 0 ⟨k.val % 64, Nat.mod_lt _ (by decide)⟩) := by
  blk_simp [iblk]
  refine Eq.trans (congrArg (V m c main_v10) ?_) (v10_at m c k)
  blk_ext [(indW t).2.1]

/-- The block of the delta branch's projection weights. -/
theorem b9 (t : Fin cfg0.N) (l : Fin 512) (k : Fin 1024) : (iblk m c 9 t : S512x1024.Idx → EReal) (ix2 l k)
    = (m ((c : Thread nD τ).loc main_arg9) : S1x512x1024.Idx → EReal) (ix3 0 l k) := by
  blk_simp [iblk]
  refine Eq.trans (congrArg (V m c main_v12) ?_) (v12_at m c l k)
  blk_ext [(indW t).2.2.1]

/-- The block of the last projection's weights. -/
theorem b10 (t : Fin cfg0.N) (l k : Fin 1024) : (iblk m c 10 t : S1024x1024.Idx → EReal) (ix2 l k)
    = (m ((c : Thread nD τ).loc main_arg10) : S1x1024x1024.Idx → EReal) (ix3 0 l k) := by
  blk_simp [iblk]
  refine Eq.trans (congrArg (V m c main_v13) ?_) (v13_at m c l k)
  blk_ext [(indW t).2.2.2]

/-- The merged stream. -/
theorem final11 (x : Q) (hx : x = m ((c : Thread nD τ).loc main_arg0)) (mod : Mod) (hmod : mod = m ((c : Thread nD τ).loc main_arg1))
    (om : Br) (hom : om = m ((c : Thread nD τ).loc main_arg2)) (zm : Br) (hzm : zm = m ((c : Thread nD τ).loc main_arg3))
    (od : Br) (hod : od = m ((c : Thread nD τ).loc main_arg4)) (zd : Br) (hzd : zd = m ((c : Thread nD τ).loc main_arg5))
    (g : Gates) (hg : g = m ((c : Thread nD τ).loc main_arg6)) (w1 : WBr) (hw1 : w1 = m ((c : Thread nD τ).loc main_arg7))
    (nw : NWHead) (hnw : nw = m ((c : Thread nD τ).loc main_arg8)) (w2 : WBr) (hw2 : w2 = m ((c : Thread nD τ).loc main_arg9))
    (wo : WOut) (hwo : wo = m ((c : Thread nD τ).loc main_arg10)) :
    (dats m 0 c).arrAt 11 cfg0.N = merge x mod om zm od zd g w1 nw w2 wo := by
  refine (dats m 0 c).arrAt_eq_of_covers 11 _ (by decide +kernel) fun t hf y => ?_
  blk_simp
  rw [after0_11]
  obtain ⟨r, l, rfl⟩ : ∃ (r : Fin 512) (l : Fin 1024), y = (ix3 0 r l : S1x512x1024.Idx) :=
    ⟨y 1, y 2, (eq_ix3 y).trans (by congr 1; exact Subsingleton.elim _ _)⟩
  have hy : (win0_11.blk t).view.emb (ix3 0 r l : S1x512x1024.Idx) = (ix3 (ex t) (tok t r) l : S8x2048x1024.Idx) := by
    blk_ext [(indTile t).2.2.2.2.2.2]
  refine Eq.trans ?_ (congrArg (merge x mod om zm od zd g w1 nw w2 wo) hy).symm
  refine (out11 _ _ _ _ _ _ _ _ _ _ _ r l).trans ?_
  simp only [b0, b1, b2, b3, b4, b5, b6, b7, b8, b9, b10, ← hx, ← hmod, ← hom, ← hzm, ← hod, ← hzd, ← hg, ← hw1, ← hnw, ← hw2, ← hwo]
  rfl

end Cert.Kernel3Ideal.MergeValue
-- ==== Proof.MergeRef.lean ====
/-
  The reference merge read operation by operation: its result is the function `Cert.Merge.merge`.
-/
module

public import proofs.«01_k».proof.Proof.Gen.Reference3Ideal.Read
public import proofs.«01_k».proof.Proof.Merge
public import Idealize.ShloMosaic.Lib.KernelVsHost
public import Idealize.ShloMosaic.Lib.Pointwise

@[expose] public section

set_option maxRecDepth 16384
noncomputable section

namespace Cert.Reference3Ideal.MergeRef

open Cert.Reference3Ideal Cert.Reference3Ideal.Gen Cert.Reference3Ideal.Read Idealize.ShloMosaic Idealize.ShloMosaic.TcCoe Idealize.SL.Sem
open Cert.Softmax Cert.Inproj Cert.Merge

variable (x : Q) (mod : Mod) (om zm od zd : Br) (g : Gates) (w1 : WBr) (nw : NWHead) (w2 : WBr) (wo : WOut)

/-- The attention branch, gated and projected. -/
theorem mla_at (b : Fin 8) (t : Fin 2048) (k : Fin 1024) :
    (val_main_v12 (F := Ideal) om zm w1 (ix3 b t k) : EReal)
      = ∑ l : Fin 512, om (ix3 b t l) * silu (zm (ix3 b t l)) * w1 (ix3 0 l k) := by
  unfold val_main_v12 val_main_v11 val_main_v10 val_main_v9 val_main_v8 val_main_v0 val_main_call0_v5 val_main_call0_v4 val_main_call0_v3 val_main_call0_v2 val_main_call0_v1 val_main_call0_v0 val_main_call0_cst val_main_call0_cst_0
  pointwise
  rfl

/-- The delta branch, normed head by head. -/
theorem norm_at (b : Fin 8) (t : Fin 2048) (l : Fin 512) :
    (val_main_v27 (F := Ideal) od nw (ix3 b t l) : EReal)
      = headNorm (fun n => od (ix3 b t n)) l * nw (ix2 0 ⟨l.val % 64, Nat.mod_lt _ (by decide)⟩) := by
  unfold val_main_v27 val_main_v26 val_main_v25 val_main_v24 val_main_v23 val_main_v22 val_main_v21 val_main_v20 val_main_v19 val_main_v18 val_main_v17 val_main_v16 val_main_v15 val_main_v14 val_main_v13 val_main_v1 val_main_cst val_main_cst_0 val_main_cst_1
  pointwise
  rfl

/-- The delta branch, gated and projected. -/
theorem dn_at (b : Fin 8) (t : Fin 2048) (k : Fin 1024) :
    (val_main_v31 (F := Ideal) od zd nw w2 (ix3 b t k) : EReal)
      = ∑ l : Fin 512, headNorm (fun n => od (ix3 b t n)) l * nw (ix2 0 ⟨l.val % 64, Nat.mod_lt _ (by decide)⟩) * silu (zd (ix3 b t l)) * w2 (ix3 0 l k) := by
  have h := norm_at od nw b t
  unfold val_main_v31 val_main_v30 val_main_v29 val_main_v28 val_main_v2 val_main_call1_v5 val_main_call1_v4 val_main_call1_v3 val_main_call1_v2 val_main_call1_v1 val_main_call1_v0 val_main_call1_cst val_main_call1_cst_0
  generalize val_main_v27 (F := Ideal) od nw = y at h ⊢
  pointwise
  simp only [h]
  rfl

/-- The merged rows. -/
theorem merged_at (b : Fin 8) (t : Fin 2048) (k : Fin 1024) :
    (val_main_v49 (F := Ideal) om zm od zd g w1 nw w2 (ix3 b t k) : EReal)
      = mergedRow (fun l => om (ix3 b t l)) (fun l => zm (ix3 b t l)) (fun l => od (ix3 b t l))
        (fun l => zd (ix3 b t l)) (fun l => nw (ix2 0 ⟨l.val % 64, Nat.mod_lt _ (by decide)⟩)) (fun n => g (ix3 b t n))
        (fun l n => w1 (ix3 0 l n)) (fun l n => w2 (ix3 0 l n)) k := by
  have h1 := mla_at om zm w1 b t
  have h2 := dn_at od zd nw w2 b t
  unfold val_main_v49 val_main_v48 val_main_v41 val_main_v47 val_main_v46 val_main_v45 val_main_v44 val_main_v43 val_main_v42 val_main_v40 val_main_v39 val_main_v38 val_main_v37 val_main_v36 val_main_v35 val_main_v34 val_main_v33 val_main_v32 val_main_cst_2 val_main_cst_3 val_main_cst_4 val_main_cst_5
  generalize val_main_v12 (F := Ideal) om zm w1 = y at h1 ⊢
  generalize val_main_v31 (F := Ideal) od zd nw w2 = z at h2 ⊢
  pointwise
  simp only [h1, h2]
  rfl

/-- The reference's result is the merged stream. -/
theorem merge_eq : val_main_v54 (F := Ideal) x mod om zm od zd g w1 nw w2 wo = merge x mod om zm od zd g w1 nw w2 wo := by
  funext i
  obtain ⟨b, t, k, rfl⟩ : ∃ (b : Fin 8) (t : Fin 2048) (k : Fin 1024), i = ix3 b t k := ⟨i 0, i 1, i 2, eq_ix3 i⟩
  have h := merged_at om zm od zd g w1 nw w2 b t
  unfold val_main_v54 val_main_v53 val_main_v52 val_main_v51 val_main_v50 val_main_v7 val_main_v4 val_main_v3
  generalize val_main_v49 (F := Ideal) om zm od zd g w1 nw w2 = y at h ⊢
  pointwise
  simp only [h]
  rfl

end Cert.Reference3Ideal.MergeRef
-- ==== Proof.MergeClaim.lean ====
/-
  The merge claim: the kernel and its reference leave the same array, the merged stream.
-/
module

public import proofs.«01_k».proof.Defs
public import proofs.«01_k».proof.Proof.MergeArray
public import proofs.«01_k».proof.Proof.MergeRef

@[expose] public section

set_option maxRecDepth 16384
noncomputable section

namespace Cert.MergeClaim

open Idealize.ShloMosaic Idealize.ShloMosaic.TcCoe Idealize.SL.Sem
open Cert.Softmax Cert.Inproj Cert.Merge

/-- For every argument, the kernel leaves the merged stream, and so does the reference, the arguments unchanged. -/
theorem algebraic : Cert.algebraic_Kernel3Ideal_Reference3Ideal
    (hKernel3Ideal := Cert.Kernel3Ideal.Gen.facts) (hReference3Ideal := Cert.Reference3Ideal.Gen.facts) := by
  intro m g m' g' _ harg
  refine ⟨fun c => merge (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4))
    (m ((c.tc : Thread Cert.Kernel3Ideal.nD Cert.Kernel3Ideal.τ).loc Cert.Kernel3Ideal.main_arg5))
    (m ((c.tc : Thread Cert.Kernel3Ideal.nD Cert.Kernel3Ideal.τ).loc Cert.Kernel3Ideal.main_arg6))
    (m ((c.tc : Thread Cert.Kernel3Ideal.nD Cert.Kernel3Ideal.τ).loc Cert.Kernel3Ideal.main_arg7))
    (m ((c.tc : Thread Cert.Kernel3Ideal.nD Cert.Kernel3Ideal.τ).loc Cert.Kernel3Ideal.main_arg8))
    (m ((c.tc : Thread Cert.Kernel3Ideal.nD Cert.Kernel3Ideal.τ).loc Cert.Kernel3Ideal.main_arg9))
    (m ((c.tc : Thread Cert.Kernel3Ideal.nD Cert.Kernel3Ideal.τ).loc Cert.Kernel3Ideal.main_arg10)), ?_, ?_⟩
  · refine (θ_run _ _ _).mono (fun r h c => ?_) (Cert.Kernel3Ideal.Value.run_blocks m g)
    obtain ⟨h0, hrest⟩ := h c
    exact ⟨h0.trans (Cert.Kernel3Ideal.MergeValue.final11 m c _ rfl _ rfl _ rfl _ rfl _ rfl _ rfl _ rfl _ rfl _ rfl _ rfl _ rfl), hrest⟩
  · refine (θ_run _ _ _).mono (fun r h c => ?_) (Cert.Reference3Ideal.Value.run (F := Ideal) m' g')
    obtain ⟨h0, hrest⟩ := h c
    obtain ⟨a0, a1, a2, a3, a4, a5, a6, a7, a8, a9, a10⟩ := harg c
    refine ⟨h0.trans ?_, hrest⟩
    rw [Cert.Reference3Ideal.Read.val_main_v54_eq, Cert.Reference3Ideal.MergeRef.merge_eq, a0, a1, a2, a3, a4, a5, a6, a7, a8, a9, a10]

end Cert.MergeClaim
-- ==== Proof.Rope.lean ====
/-
  The norm of a head's 96 lanes and the rotation of its last 32 by the angles of a token's row and column, on the extended reals,
  and the same computed as a kernel computes it, on 128 lanes with the lane shifted by eight either way and three tables.
-/
module

public import proofs.«01_k».proof.Proof.Inproj

@[expose] public section

set_option maxRecDepth 16384

noncomputable section

namespace Cert.Rope

open Idealize.ShloMosaic Cert.Softmax

/-- The eight frequencies: 10000 to the power `-2 j / 16`. -/
def freq (j : Fin 8) : EReal :=
  Ideal.pow (Ideal.ofBits FTy.f32 0x461C4000#32)
    (Ideal.div (-(Ideal.ofBits FTy.f32 0x40000000#32 * FloatOps.sitofp (F := Ideal) FTy.f32 (BitVec.ofNat 32 j.val)))
      (Ideal.ofBits FTy.f32 0x41800000#32))

/-- The angle of token `t`'s row (64 tokens to a row) at frequency `j`. -/
def rowAng (t : Fin 2048) (j : Fin 8) : EReal := FloatOps.sitofp (F := Ideal) FTy.f32 (BitVec.ofNat 32 (t.val / 64)) * freq j

/-- The angle of token `t`'s column at frequency `j`. -/
def colAng (t : Fin 2048) (j : Fin 8) : EReal := FloatOps.sitofp (F := Ideal) FTy.f32 (BitVec.ofNat 32 (t.val % 64)) * freq j

/-- Lane `l` of a head with its last 32 lanes rotated: 16 by the row's angles, 16 by the column's. -/
def rot (x : Fin 96 → EReal) (t : Fin 2048) (l : Fin 96) : EReal :=
  if _ : l.val < 64 then x l
  else if _ : l.val - 64 < 8 then
    x ⟨64 + (l.val - 64), by omega⟩ * Ideal.cos (rowAng t ⟨l.val - 64, by omega⟩)
      - x ⟨72 + (l.val - 64), by omega⟩ * Ideal.sin (rowAng t ⟨l.val - 64, by omega⟩)
  else if _ : l.val - 64 - 8 < 8 then
    x ⟨64 + (l.val - 64 - 8), by omega⟩ * Ideal.sin (rowAng t ⟨l.val - 64 - 8, by omega⟩)
      + x ⟨72 + (l.val - 64 - 8), by omega⟩ * Ideal.cos (rowAng t ⟨l.val - 64 - 8, by omega⟩)
  else if _ : l.val - 64 - 8 - 8 < 8 then
    x ⟨80 + (l.val - 64 - 8 - 8), by omega⟩ * Ideal.cos (colAng t ⟨l.val - 64 - 8 - 8, by omega⟩)
      - x ⟨88 + (l.val - 64 - 8 - 8), by omega⟩ * Ideal.sin (colAng t ⟨l.val - 64 - 8 - 8, by omega⟩)
  else
    x ⟨80 + (l.val - 64 - 8 - 8 - 8), by omega⟩ * Ideal.sin (colAng t ⟨l.val - 64 - 8 - 8 - 8, by omega⟩)
      + x ⟨88 + (l.val - 64 - 8 - 8 - 8), by omega⟩ * Ideal.cos (colAng t ⟨l.val - 64 - 8 - 8 - 8, by omega⟩)

/-- Lane `l` of a head divided by the root mean square of its 96 lanes and weighed. -/
def normed (y hw : Fin 96 → EReal) (l : Fin 96) : EReal :=
  y l * Ideal.rsqrt (Ideal.div (∑ j : Fin 96, y j * y j) (Ideal.ofBits FTy.f32 0x42C00000#32) + Ideal.ofBits FTy.f32 0x358637BD#32) * hw l

/-- Lane `l` of a head's group of 128: the head normed, rotated and scaled on the first 96, zero on the others. -/
def headOut (y hw : Fin 96 → EReal) (t : Fin 2048) (s : EReal) (l : Fin 128) : EReal :=
  if h : l.val < 96 then rot (normed y hw) t ⟨l.val, h⟩ * s else 0

/-- The 32 lanes of a table: eight of the row's angles twice, eight of the column's twice. -/
def four (f : EReal → EReal) (t : Fin 2048) (j : ℕ) (h : j < 32) : EReal :=
  if _ : j < 8 then f (rowAng t ⟨j, by omega⟩)
  else if _ : j - 8 < 8 then f (rowAng t ⟨j - 8, by omega⟩)
  else if _ : j - 8 - 8 < 8 then f (colAng t ⟨j - 8 - 8, by omega⟩)
  else f (colAng t ⟨j - 8 - 8 - 8, by omega⟩)

/-- The table of the lane itself. -/
def tabC (t : Fin 2048) (l : Fin 128) : EReal :=
  if l.val < 64 then 1 else if h : l.val - 64 < 32 then four Ideal.cos t (l.val - 64) h else 0

/-- The table of the lane eight before. -/
def tabP (t : Fin 2048) (l : Fin 128) : EReal :=
  if l.val < 64 then 0 else if h : l.val - 64 < 32 then four Ideal.sin t (l.val - 64) h * (if (l.val - 64) % 16 < 8 then 0 else 1) else 0

/-- The table of the lane eight after. -/
def tabM (t : Fin 2048) (l : Fin 128) : EReal :=
  if l.val < 64 then 0 else if h : l.val - 64 < 32 then -(four Ideal.sin t (l.val - 64) h) * (if (l.val - 64) % 16 < 8 then 1 else 0) else 0

/-- The kernel's head: 128 lanes normed by a ninety-sixth of the sum of all their squares, and added to their shifted selves by
    the three tables, scaled. -/
def laneOut (a hw c p m : Fin 128 → EReal) (l : Fin 128) : EReal :=
  let rs := Ideal.rsqrt ((∑ x : Fin 128, a x * a x) * ((96⁻¹ : ℝ) : EReal) + Ideal.ofBits FTy.f32 0x358637BD#32)
  a l * rs * hw l * c l + a ⟨(l.val + 128 - 8) % 128, Nat.mod_lt _ (by decide)⟩ * rs * hw ⟨(l.val + 128 - 8) % 128, Nat.mod_lt _ (by decide)⟩ * p l
    + a ⟨(l.val + 128 - 120) % 128, Nat.mod_lt _ (by decide)⟩ * rs * hw ⟨(l.val + 128 - 120) % 128, Nat.mod_lt _ (by decide)⟩ * m l

/-- A ninety-sixth of a number, by the product and by the quotient. -/
theorem div96 (s : EReal) : s * ((96⁻¹ : ℝ) : EReal) = Ideal.div s (Ideal.ofBits FTy.f32 0x42C00000#32) := by
  have h2 : Ideal.ofBits FTy.f32 0x42C00000#32 = ((96 : ℝ) : EReal) := by
    simp [Ideal.ofBits, Ideal.ieee]
    rw [← EReal.coe_mul]
    norm_num
  rw [h2, Ideal.div, if_neg (by norm_num), ← EReal.coe_inv]

/-- The sum over 128 lanes of which the last 32 are zero is the sum over the first 96. -/
theorem sum96 (f : Fin 128 → EReal) (hf : ∀ l : Fin 128, 96 ≤ l.val → f l = 0) :
    (∑ x : Fin 128, f x) = ∑ d : Fin 96, f ⟨d.val, by omega⟩ := by
  refine (Fin.sum_univ_add (a := 96) (b := 32) f).trans ?_
  have h : (∑ d : Fin 32, f (Fin.natAdd 96 d)) = 0 := Finset.sum_eq_zero fun d _ => hf _ (by simp [Fin.natAdd])
  exact (congrArg₂ (fun a b : EReal => a + b) rfl h).trans (add_zero _)

/-- A lane times the scaled table, plus a neighbour times the other scaled table, is the scaled sum. -/
theorem scale_add (u v f g s : EReal) (hs : 0 ≤ s) (hs' : s ≠ ⊤) : u * (f * s) + v * (g * s) = (u * f + v * g) * s := by
  rw [EReal.right_distrib_of_nonneg_of_ne_top hs hs', mul_assoc, mul_assoc]

/-- What the kernel computes on a head's 128 lanes is the head normed, rotated and scaled. -/
theorem laneOut_eq (a hw : Fin 128 → EReal) (y hw' : Fin 96 → EReal) (t : Fin 2048) (s : EReal) (hs : 0 ≤ s) (hs' : s ≠ ⊤)
    (ha : ∀ l : Fin 96, a ⟨l.val, by omega⟩ = y l) (ha0 : ∀ l : Fin 128, 96 ≤ l.val → a l = 0)
    (hh : ∀ l : Fin 96, hw ⟨l.val, by omega⟩ = hw' l) (l : Fin 128) :
    laneOut a hw (fun l => tabC t l * s) (fun l => tabP t l * s) (fun l => tabM t l * s) l = headOut y hw' t s l := by
  unfold laneOut
  rw [div96, sum96 (fun x => a x * a x) (fun l h => by simp [ha0 l h])]
  simp only [ha]
  have hx : ∀ (n : ℕ) (h : n < 96), a ⟨n, by omega⟩ * Ideal.rsqrt (Ideal.div (∑ j : Fin 96, y j * y j) (Ideal.ofBits FTy.f32 0x42C00000#32)
      + Ideal.ofBits FTy.f32 0x358637BD#32) * hw ⟨n, by omega⟩ = normed y hw' ⟨n, h⟩ := fun n h => by
    unfold normed
    rw [← ha ⟨n, h⟩, ← hh ⟨n, h⟩]
  generalize Ideal.rsqrt (Ideal.div (∑ j : Fin 96, y j * y j) (Ideal.ofBits FTy.f32 0x42C00000#32) + Ideal.ofBits FTy.f32 0x358637BD#32) = rs at hx ⊢
  obtain ⟨n, hn⟩ := l
  unfold headOut
  generalize normed y hw' = x at hx ⊢
  by_cases h0 : n < 64
  · simp only [tabC, tabP, tabM, rot, hx, h0, show n < 96 by omega, dite_true, if_true, mul_zero, zero_mul, add_zero, one_mul]
  by_cases h1 : n < 72
  · have e : (n + 128 - 120) % 128 = 72 + (n - 64) := by omega
    have e' : 64 + (n - 64) = n := by omega
    simp only [e, tabC, tabP, tabM, four, rot, h0, show n < 96 by omega, show n - 64 < 32 by omega, show n - 64 < 8 by omega,
      show (n - 64) % 16 < 8 by omega, dite_true, dite_false, if_true, if_false, mul_zero, zero_mul, add_zero, mul_one]
    rw [hx n (by omega), hx _ (by omega), scale_add _ _ _ _ _ hs hs', mul_neg]
    simp only [e']
    rfl
  by_cases h2 : n < 80
  · have e : (n + 128 - 8) % 128 = 64 + (n - 64 - 8) := by omega
    have e' : 72 + (n - 64 - 8) = n := by omega
    simp only [e, tabC, tabP, tabM, four, rot, h0, show n < 96 by omega, show n - 64 < 32 by omega, show ¬ n - 64 < 8 by omega, show n - 64 - 8 < 8 by omega,
      show ¬ (n - 64) % 16 < 8 by omega, dite_true, dite_false, if_true, if_false, mul_zero, zero_mul, add_zero, mul_one]
    rw [hx n (by omega), hx _ (by omega), scale_add _ _ _ _ _ hs hs']
    simp only [e']
    rw [add_comm]
  by_cases h3 : n < 88
  · have e : (n + 128 - 120) % 128 = 88 + (n - 64 - 8 - 8) := by omega
    have e' : 80 + (n - 64 - 8 - 8) = n := by omega
    simp only [e, tabC, tabP, tabM, four, rot, h0, show n < 96 by omega, show n - 64 < 32 by omega, show ¬ n - 64 < 8 by omega, show ¬ n - 64 - 8 < 8 by omega,
      show n - 64 - 8 - 8 < 8 by omega,
      show (n - 64) % 16 < 8 by omega, dite_true, dite_false, if_true, if_false, mul_zero, zero_mul, add_zero, mul_one]
    rw [hx n (by omega), hx _ (by omega), scale_add _ _ _ _ _ hs hs', mul_neg]
    simp only [e']
    rfl
  by_cases h4 : n < 96
  · have e : (n + 128 - 8) % 128 = 80 + (n - 64 - 8 - 8 - 8) := by omega
    have e' : 88 + (n - 64 - 8 - 8 - 8) = n := by omega
    simp only [e, tabC, tabP, tabM, four, rot, h0, h4, show n - 64 < 32 by omega, show ¬ n - 64 < 8 by omega, show ¬ n - 64 - 8 < 8 by omega,
      show ¬ n - 64 - 8 - 8 < 8 by omega,
      show ¬ (n - 64) % 16 < 8 by omega, dite_true, dite_false, if_true, if_false, mul_zero, zero_mul, add_zero, mul_one]
    rw [hx n (by omega), hx _ (by omega), scale_add _ _ _ _ _ hs hs']
    simp only [e']
    rw [add_comm]
  · simp only [tabC, tabP, tabM, h0, h4, show ¬ n - 64 < 32 by omega, dite_false, if_false, mul_zero, zero_mul, add_zero]

/-- The integer zero is the number zero. -/
theorem sitofp_zero : (FloatOps.sitofp (F := Ideal) FTy.f32 (0#32) : EReal) = 0 := by
  show (((0#32 : BitVec 32).toInt : ℝ) : EReal) = 0
  simp

end Cert.Rope
-- ==== Proof.Query.lean ====
/-
  The queries as a function of the four arguments, on the extended reals: each row of 384 lanes normed, projected to eight heads of
  96 lanes, each head normed, its last 32 lanes rotated, scaled by one over the root of 96 and the logarithm of 2, and laid out in
  128 lanes. Both programs are shown to leave this function in their result.
-/
module

public import proofs.«01_k».proof.Proof.Rope

@[expose] public section

set_option maxRecDepth 16384

noncomputable section

namespace Cert.Query

open Idealize.ShloMosaic Cert.Softmax Cert.Rope

/-- The rows of 384 lanes. -/
abbrev Rows : Type := (⟨3, ![8, 2048, 384]⟩ : Shape).Idx → EReal
/-- The row norm's weights. -/
abbrev NWRow : Type := (⟨2, ![1, 384]⟩ : Shape).Idx → EReal
/-- The projection's weights, eight heads of 96 lanes. -/
abbrev WUp : Type := (⟨3, ![1, 384, 768]⟩ : Shape).Idx → EReal
/-- The head norm's weights. -/
abbrev NWLane : Type := (⟨2, ![1, 96]⟩ : Shape).Idx → EReal
/-- The queries, eight heads of 128 lanes. -/
abbrev Out : Type := (⟨3, ![8, 2048, 1024]⟩ : Shape).Idx → EReal

/-- One over the root of 96 and the logarithm of 2. -/
def scale : EReal := (((Real.sqrt 96)⁻¹ * (Real.log 2)⁻¹ : ℝ) : EReal)

/-- A row normed, weighed and projected on one column. -/
def up (x n w : Fin 384 → EReal) : EReal :=
  ∑ k : Fin 384, x k * Ideal.rsqrt (Ideal.div (∑ j : Fin 384, x j * x j) (Ideal.ofBits FTy.f32 0x43C00000#32)
    + Ideal.ofBits FTy.f32 0x358637BD#32) * n k * w k

/-- The queries. -/
def query (x : Rows) (n : NWRow) (w : WUp) (hw : NWLane) : Out :=
  fun i => headOut (fun l => up (fun k => x (ix3 (i 0) (i 1) k)) (fun k => n (ix2 0 k))
      (fun k => w (ix3 0 k ⟨(i 2).val / 128 * 96 + l.val, by have : (i 2).val < 1024 := (i 2).isLt; omega⟩)))
    (fun l => hw (ix2 0 l)) (i 1) scale ⟨(i 2).val % 128, Nat.mod_lt _ (by decide)⟩

/-- A column of zeros gives zero. -/
theorem up_zero (x n w : Fin 384 → EReal) (h : ∀ k, w k = 0) : up x n w = 0 := by
  unfold up
  exact Finset.sum_eq_zero fun k _ => by rw [h k, mul_zero]

/-- The scale is not negative. -/
theorem scale_nonneg : 0 ≤ scale := by
  unfold scale
  exact_mod_cast mul_nonneg (inv_nonneg.mpr (Real.sqrt_nonneg _)) (inv_nonneg.mpr (Real.log_nonneg (by norm_num)))

/-- The scale is a real. -/
theorem scale_ne_top : scale ≠ ⊤ := EReal.coe_ne_top _

/-- Dividing by the root of 96 and by the logarithm of 2 is multiplying by the scale. -/
theorem div_scale (x : EReal) : Ideal.div (Ideal.div x (Ideal.sqrt (Ideal.ofBits FTy.f32 0x42C00000#32))) (Ideal.log (Ideal.ofBits FTy.f32 0x40000000#32))
    = x * scale := by
  have h96 : Ideal.ofBits FTy.f32 0x42C00000#32 = ((96 : ℝ) : EReal) := by
    simp [Ideal.ofBits, Ideal.ieee]
    rw [← EReal.coe_mul]
    norm_num
  have h2 : Ideal.ofBits FTy.f32 0x40000000#32 = ((2 : ℝ) : EReal) := by
    simp [Ideal.ofBits, Ideal.ieee]
    rw [← EReal.coe_mul]
    norm_num
  have hl : Real.log 2 ≠ 0 := (Real.log_pos (by norm_num)).ne'
  have hs : Real.sqrt 96 ≠ 0 := (Real.sqrt_pos.mpr (by norm_num)).ne'
  rw [h96, h2, Ideal.sqrt_coe, Ideal.log_coe, if_neg (by norm_num), if_neg (by norm_num), Ideal.div_coe hs, Ideal.div_coe hl, mul_assoc,
    ← EReal.coe_mul, one_div, one_div]
  rfl

end Cert.Query
-- ==== Proof.QueryBlock.lean ====
/-
  One block of the query kernel read at an index: each head's 128 lanes of the projected rows, normed and rotated by the block's
  tables.
-/
module

public import proofs.«01_k».proof.Proof.Gen.Kernel4Ideal.Value
public import Idealize.ShloMosaic.Lib.Pointwise
public import Idealize.ShloMosaic.Lib.Pipeline.ValueKit
public import proofs.«01_k».proof.Proof.Query

@[expose] public section

set_option maxRecDepth 16384
noncomputable section

namespace Cert.Kernel4Ideal.QueryValue

open Cert.Kernel4Ideal Cert.Kernel4Ideal.Gen Idealize.ShloMosaic Idealize.ShloMosaic.TcCoe Idealize.SL.Sem
open Cert.Softmax Cert.Query Cert.Rope

/-- The named ninety-sixth. -/
theorem inv_qk : Named.named (F := Ideal) κ "inv_qk" (φ := .f32) 0x3C2AAAAB#32 = ((96⁻¹ : ℝ) : EReal) :=
  IdealRules.named_const.ideal_named_scalar _ _ _ _ rfl

/-- The named scale. -/
theorem q_scale : Named.named (F := Ideal) κ "q_scale" (φ := .f32) 0x3E16C740#32 = scale :=
  IdealRules.named_const.ideal_named_scalar _ _ _ _ rfl

/-- The projected rows. -/
theorem pay3_apply (X : S1x512x384.Idx → EReal) (N : S1x384.Idx → EReal) (W : S384x1024.Idx → EReal) (r : Fin 512) (n : Fin 1024) :
    (k0_pay3 (F := Ideal) X N W (ix2 r n) : EReal)
      = up (fun k => X (ix3 0 r k)) (fun k => N (ix2 0 k)) (fun k => W (ix2 k n)) := by
  unfold k0_pay3
  pointwise
  rfl

/-- One head: its 128 lanes normed and rotated. -/
theorem pay9_apply (C P M A : S512x128.Idx → EReal) (H : S1x128.Idx → EReal) (r : Fin 512) (l : Fin 128) :
    (k0_pay9 (F := Ideal) C P M A (k0_pay8 H) (ix3 0 r l) : EReal)
      = laneOut (fun x => A (ix2 r x)) (fun x => H (ix2 0 x)) (fun x => C (ix2 r x)) (fun x => P (ix2 r x)) (fun x => M (ix2 r x)) l := by
  unfold k0_pay9 k0_pay8
  pointwise
  simp only [inv_qk]
  rfl

/-- The block's lane `n` of row `r`, from the projected rows and the scaled tables. -/
def blockOut (U : S512x1024.Idx → EReal) (H : S1x128.Idx → EReal) (C P M : S512x128.Idx → EReal) (r : Fin 512) (n : Fin 1024) : EReal :=
  laneOut (fun x => U (ix2 r ⟨n.val / 128 * 128 + x.val, by omega⟩)) (fun x => H (ix2 0 x)) (fun x => C (ix2 r x))
    (fun x => P (ix2 r x)) (fun x => M (ix2 r x)) ⟨n.val % 128, Nat.mod_lt _ (by decide)⟩

/-- The whole block. -/
def blockFn (U : S512x1024.Idx → EReal) (H : S1x128.Idx → EReal) (C P M : S512x128.Idx → EReal) : S1x512x1024.Idx → Elt Ideal .bf16 :=
  fun y => blockOut U H C P M (y 1) (y 2)

/-- A head cut out of the projected rows at lane `o`, a multiple of 128, is that part of the block. -/
theorem head_apply (U : S512x1024.Idx → EReal) (H : S1x128.Idx → EReal) (C P M : S512x128.Idx → EReal) (o : ℕ)
    (ho : o % 128 = 0) (ho' : o + 128 ≤ 1024) (hs : S512x1024.Slices ![0, o] S512x128) (r : Fin 512) (l : Fin 128) :
    (k0_pay9 (F := Ideal) C P M (extractStridedSlice S512x128 ![0, o] U hs) (k0_pay8 H) (ix3 0 r l) : EReal)
      = blockOut U H C P M r ⟨o + l.val, by omega⟩ := by
  rw [pay9_apply]
  have e : ∀ x : Fin 128, (extractStridedSlice S512x128 ![0, o] U hs (ix2 r x) : EReal) = U (ix2 r ⟨o + x.val, by omega⟩) := fun x => by
    pointwise
  simp only [e]
  unfold blockOut
  have e1 : (o + l.val) / 128 * 128 = o := by omega
  have e2 : (o + l.val) % 128 = l.val := by omega
  simp only [e1, e2]

variable (x0 : Vec Ideal S1x512x384 .bf16) (x1 : Vec Ideal S1x384 .f32) (x2 : Vec Ideal S384x1024 .bf16) (x3 : Vec Ideal S1x128 .f32)
  (x4 x5 x6 : Vec Ideal S512x128 .f32)

/-- The block's result. -/
theorem out7 (r : Fin 512) (n : Fin 1024) : (out0_7 x0 x1 x2 x3 x4 x5 x6 (ix3 0 r n) : EReal)
    = laneOut (fun x => up (fun k => x0 (ix3 0 r k)) (fun k => x1 (ix2 0 k)) (fun k => x2 (ix2 k ⟨n.val / 128 * 128 + x.val, by omega⟩)))
      (fun x => x3 (ix2 0 x)) (fun x => x4 (ix2 r x) * scale) (fun x => x5 (ix2 r x) * scale) (fun x => x6 (ix2 r x) * scale)
      ⟨n.val % 128, Nat.mod_lt _ (by decide)⟩ := by
  have h0 : (![0, 0, 0] : Fin 3 → ℕ) = fun _ => 0 := by funext a; fin_cases a <;> rfl
  have h0' : (![0, 0] : Fin 2 → ℕ) = fun _ => 0 := by funext a; fin_cases a <;> rfl
  have hc : ∀ x : Fin 128, (k0_pay4 (F := Ideal) x4 (ix2 r x) : EReal) = x4 (ix2 r x) * scale := fun x => by
    unfold k0_pay4
    pointwise
    rw [q_scale]
  have hp : ∀ x : Fin 128, (k0_pay5 (F := Ideal) x5 (ix2 r x) : EReal) = x5 (ix2 r x) * scale := fun x => by
    unfold k0_pay5
    pointwise
    rw [q_scale]
  have hm : ∀ x : Fin 128, (k0_pay6 (F := Ideal) x6 (ix2 r x) : EReal) = x6 (ix2 r x) * scale := fun x => by
    unfold k0_pay6
    pointwise
    rw [q_scale]
  refine Eq.trans (?_ : _ = blockOut (k0_pay3 x0 x1 x2) x3 (k0_pay4 x4) (k0_pay5 x5) (k0_pay6 x6) r n) ?_
  · unfold_out out0_7
    rw [show View.ld x0 r0_0 = x0 from View.ld_unit_zero h0 _ _, show View.ld x1 r0_1 = x1 from View.ld_unit_zero h0' _ _,
      show View.ld x2 r0_2 = x2 from View.ld_unit_zero h0' _ _, show View.ld x3 r0_4 = x3 from View.ld_unit_zero h0' _ _,
      show View.ld x4 r0_3 = x4 from View.ld_unit_zero h0' _ _, show View.ld x5 r0_3 = x5 from View.ld_unit_zero h0' _ _,
      show View.ld x6 r0_3 = x6 from View.ld_unit_zero h0' _ _]
    generalize k0_pay4 (F := Ideal) x4 = C
    generalize k0_pay5 (F := Ideal) x5 = P
    generalize k0_pay6 (F := Ideal) x6 = M
    refine View.canon_apply_of_pieces (blockFn (k0_pay3 x0 x1 x2) x3 C P M) _ ?_
      (ix3 0 r n) (cover0_7 _ _ _ _ _ _ _ _ _)
    have key : ∀ (o : ℕ) (ho : o % 128 = 0) (ho' : o + 128 ≤ 1024) (hs : S512x1024.Slices ![0, o] S512x128) (hb) (x : S1x512x128.Idx),
        (k0_pay9 (F := Ideal) C P M (extractStridedSlice S512x128 ![0, o] (k0_pay3 x0 x1 x2) hs) (k0_pay8 x3) x : EReal)
          = (blockFn (k0_pay3 x0 x1 x2) x3 C P M)
              ((Rect.unit (s := S1x512x1024) ![0, 0, o] S1x512x128.size hb).emb x) := fun o ho ho' hs hb x => by
      obtain ⟨r, l, rfl⟩ : ∃ (r : Fin 512) (l : Fin 128), x = (ix3 0 r l : S1x512x128.Idx) :=
        ⟨x 1, x 2, (eq_ix3 x).trans (by congr 1; exact Subsingleton.elim _ _)⟩
      rw [head_apply _ _ _ _ _ o ho ho']
      have e : (Rect.unit (s := S1x512x1024) ![0, 0, o] S1x512x128.size hb).emb (ix3 0 r l : S1x512x128.Idx)
          = (ix3 0 r ⟨o + l.val, by omega⟩ : S1x512x1024.Idx) := by
        funext a
        fin_cases a <;> exact Fin.ext (by simp [Rect.emb, Rect.unit]; done)
      rw [e]
      rfl
    intro p hp x
    simp only [List.mem_cons, List.not_mem_nil, or_false] at hp
    rcases hp with rfl | rfl | rfl | rfl | rfl | rfl | rfl | rfl
    · exact key 896 rfl (by decide) slices_S512x1024_o0_896_S512x128 inb_S1x512x1024_S1x512x128_0_0_896 x
    · exact key 768 rfl (by decide) slices_S512x1024_o0_768_S512x128 inb_S1x512x1024_S1x512x128_0_0_768 x
    · exact key 640 rfl (by decide) slices_S512x1024_o0_640_S512x128 inb_S1x512x1024_S1x512x128_0_0_640 x
    · exact key 512 rfl (by decide) slices_S512x1024_o0_512_S512x128 inb_S1x512x1024_S1x512x128_0_0_512 x
    · exact key 384 rfl (by decide) slices_S512x1024_o0_384_S512x128 inb_S1x512x1024_S1x512x128_0_0_384 x
    · exact key 256 rfl (by decide) slices_S512x1024_o0_256_S512x128 inb_S1x512x1024_S1x512x128_0_0_256 x
    · exact key 128 rfl (by decide) slices_S512x1024_o0_128_S512x128 inb_S1x512x1024_S1x512x128_0_0_128 x
    · exact key 0 rfl (by decide) slices_S512x1024_o0_0_S512x128 inb_S1x512x1024_S1x512x128_0_0_0 x
  · unfold blockOut
    simp only [hc, hp, hm, pay3_apply]

end Cert.Kernel4Ideal.QueryValue
-- ==== Proof.QueryHost.lean ====
/-
  What the query kernel's wrapper prepares: the rotation's tables, and the weights set out by heads of 128 lanes.
-/
module

public import proofs.«01_k».proof.Proof.Gen.Kernel4Ideal.Value
public import Idealize.ShloMosaic.Lib.Pointwise
public import Idealize.ShloMosaic.Lib.Pipeline.ValueKit
public import Idealize.ShloMosaic.Lib.KernelVsHost
public import proofs.«01_k».proof.Proof.Rope

@[expose] public section

set_option maxRecDepth 16384
noncomputable section

namespace Cert.Kernel4Ideal.QueryValue

open Cert.Kernel4Ideal Cert.Kernel4Ideal.Gen Idealize.ShloMosaic Idealize.ShloMosaic.TcCoe Idealize.SL.Sem

/-- The eight frequencies, as the wrapper computes them. -/
def hFreq : FVec Ideal S8 .f32 :=
  Host.powf (broadcastInDim S8 ![] bcast_S_S8 (constant S_ .f32 0x461C4000#32))
    (Host.divf (Host.negf (addf (broadcastInDim S8 ![] bcast_S_S8 (constant S_ .f32 0x00000000#32))
      (mulf (broadcastInDim S8 ![] bcast_S_S8 (constant S_ .f32 0x40000000#32)) (sitofp .f32 (iotaInDim S8 32 0)))))
      (broadcastInDim S8 ![] bcast_S_S8 (constant S_ .f32 0x41800000#32)))

/-- The row angles of the tokens. -/
def hRow : FVec Ideal S2048x8 .f32 :=
  mulf (broadcastInDim S2048x8 ![0, 1] bcast_S2048x1_S2048x8_0_1 (broadcastInDim S2048x1 ![0] bcast_S2048_S2048x1_0
      (shapeCast S2048 (broadcastInDim S32x64 ![0] bcast_S32_S32x64_0 (sitofp .f32 (iotaInDim S32 32 0))) shapeCasts_S32x64_S2048)))
    (broadcastInDim S2048x8 ![0, 1] bcast_S1x8_S2048x8_0_1 (broadcastInDim S1x8 ![1] bcast_S8_S1x8_1 hFreq))

/-- The column angles of the tokens. -/
def hCol : FVec Ideal S2048x8 .f32 :=
  mulf (broadcastInDim S2048x8 ![0, 1] bcast_S2048x1_S2048x8_0_1 (broadcastInDim S2048x1 ![0] bcast_S2048_S2048x1_0
      (shapeCast S2048 (broadcastInDim S32x64 ![0, 1] bcast_S1x64_S32x64_0_1
        (shapeCast S1x64 (sitofp .f32 (iotaInDim S64 32 0)) shapeCasts_S64_S1x64)) shapeCasts_S32x64_S2048)))
    (broadcastInDim S2048x8 ![0, 1] bcast_S1x8_S2048x8_0_1 (broadcastInDim S1x8 ![1] bcast_S8_S1x8_1 hFreq))

/-- Four groups of eight lanes side by side. -/
def four (u v : FVec Ideal S2048x8 .f32) : FVec Ideal S2048x32 .f32 :=
  concatenate S2048x32 1 [⟨S2048x8, u⟩, ⟨S2048x8, u⟩, ⟨S2048x8, v⟩, ⟨S2048x8, v⟩]
    concatenates_S2048x8_S2048x8_S2048x8_S2048x8_S2048x32_d1

/-- 64 lanes of one number, then 32 lanes, then 32 lanes of zero. -/
def lanes (w : BitVec 32) (x : FVec Ideal S2048x32 .f32) : FVec Ideal S2048x128 .f32 :=
  concatenate S2048x128 1 [⟨S2048x64, broadcastInDim S2048x64 ![] bcast_S_S2048x64 (constant S_ .f32 w)⟩, ⟨S2048x32, x⟩,
    ⟨S2048x32, broadcastInDim S2048x32 ![] bcast_S_S2048x32 (constant S_ .f32 0x00000000#32)⟩]
    concatenates_S2048x64_S2048x32_S2048x32_S2048x128_d1

/-- The table of the lane itself. -/
def hC : FVec Ideal S2048x128 .f32 := lanes 0x3F800000#32 (four (Host.cos hRow) (Host.cos hCol))

/-- The table of the lane eight before. -/
def hP : FVec Ideal S2048x128 .f32 := lanes 0x00000000#32 (mulf (four (Host.sin hRow) (Host.sin hCol))
  (broadcastInDim S2048x32 ![0, 1] bcast_S1x32_S2048x32_0_1 (broadcastInDim S1x32 ![1] bcast_S32_S1x32_1
    (fun i => FloatOps.ofBits (F := Ideal) .f32 (lit0 (S32.rowMajor i))))))

/-- The table of the lane eight after. -/
def hM : FVec Ideal S2048x128 .f32 := lanes 0x00000000#32 (mulf (Host.negf (four (Host.sin hRow) (Host.sin hCol)))
  (broadcastInDim S2048x32 ![0, 1] bcast_S1x32_S2048x32_0_1 (broadcastInDim S1x32 ![1] bcast_S32_S1x32_1
    (fun i => FloatOps.ofBits (F := Ideal) .f32 (lit1 (S32.rowMajor i))))))

/-- The row angles at an index. -/
theorem hRow_at (t : Fin 2048) (j : Fin 8) : (hRow (ix2 t j) : EReal) = Cert.Rope.rowAng t j := by
  unfold hRow hFreq
  pointwise
  rfl

/-- The column angles at an index. -/
theorem hCol_at (t : Fin 2048) (j : Fin 8) : (hCol (ix2 t j) : EReal) = Cert.Rope.colAng t j := by
  unfold hCol hFreq
  pointwise
  rfl

/-- The mask of the upper eight of every sixteen lanes. -/
theorem mask0 (j : Fin 32) : Ideal.ofBits FTy.f32 (lit0 (S32.rowMajor (ix1 j))) = if j.val % 16 < 8 then 0 else 1 := by
  have h : lit0 (S32.rowMajor (ix1 j)) = if j.val % 16 < 8 then 0x00000000#32 else 0x3F800000#32 := by
    revert j; decide +kernel
  rw [h]
  split
  · simp [Ideal.ofBits, Ideal.ieee]
  · simp [Ideal.ofBits, Ideal.ieee]
    rw [← EReal.coe_mul]
    norm_num

/-- The mask of the lower eight of every sixteen lanes. -/
theorem mask1 (j : Fin 32) : Ideal.ofBits FTy.f32 (lit1 (S32.rowMajor (ix1 j))) = if j.val % 16 < 8 then 1 else 0 := by
  have h : lit1 (S32.rowMajor (ix1 j)) = if j.val % 16 < 8 then 0x3F800000#32 else 0x00000000#32 := by
    revert j; decide +kernel
  rw [h]
  split
  · simp [Ideal.ofBits, Ideal.ieee]
    rw [← EReal.coe_mul]
    norm_num
  · simp [Ideal.ofBits, Ideal.ieee]

/-- The lane's own table at an index. -/
theorem hC_at (t : Fin 2048) (l : Fin 128) : (hC (ix2 t l) : EReal) = Cert.Rope.tabC t l := by
  have hu := hRow_at t
  have hv := hCol_at t
  unfold hC lanes four
  generalize hRow = u at hu ⊢
  generalize hCol = v at hv ⊢
  pointwise
  simp only [hu, hv]
  rfl

/-- The table of the lane eight before, at an index. -/
theorem hP_at (t : Fin 2048) (l : Fin 128) : (hP (ix2 t l) : EReal) = Cert.Rope.tabP t l := by
  have hu := hRow_at t
  have hv := hCol_at t
  unfold hP lanes four
  generalize hRow = u at hu ⊢
  generalize hCol = v at hv ⊢
  pointwise
  simp only [hu, hv, mask0]
  rfl

/-- The table of the lane eight after, at an index. -/
theorem hM_at (t : Fin 2048) (l : Fin 128) : (hM (ix2 t l) : EReal) = Cert.Rope.tabM t l := by
  have hu := hRow_at t
  have hv := hCol_at t
  unfold hM lanes four
  generalize hRow = u at hu ⊢
  generalize hCol = v at hv ⊢
  pointwise
  simp only [hu, hv, mask1]
  rfl

variable (m : (ℓ : Loc nD τ sig) → Buf (Elt Ideal) ℓ) (c : Dev nD)

/-- The lane's own table, as the wrapper leaves it. -/
theorem V_v44 : V m c main_v44 = hC := by
  simp only [V, hostOps0, hostOps0_1, hostOps0_2, List.flatten_cons, List.flatten_nil, List.append_nil, List.cons_append, List.nil_append]
  after_results_simp <;> rfl

/-- The table of the lane eight before, as the wrapper leaves it. -/
theorem V_v49 : V m c main_v49 = hP := by
  simp only [V, hostOps0, hostOps0_1, hostOps0_2, List.flatten_cons, List.flatten_nil, List.append_nil, List.cons_append, List.nil_append]
  after_results_simp <;> rfl

/-- The table of the lane eight after, as the wrapper leaves it. -/
theorem V_v55 : V m c main_v55 = hM := by
  simp only [V, hostOps0, hostOps0_1, hostOps0_2, List.flatten_cons, List.flatten_nil, List.append_nil, List.cons_append, List.nil_append]
  after_results_simp <;> rfl

/-- Eight heads of 96 lanes set out by 128, zero on the last 32. -/
def upLaid (w : FVec Ideal S1x384x768 .f32) : FVec Ideal S384x1024 .bf16 :=
  truncf .bf16 (shapeCast S384x1024 (pad S384x8x128 ![0, 0, 0] ![0, 0, 32] ![0, 0, 0]
    (shapeCast S384x8x96 (shapeCast S384x768 w shapeCasts_S1x384x768_S384x768) shapeCasts_S384x768_S384x8x96)
    (sitofp .f32 (constantI S_ 32 0#32) : FVec Ideal S_ .f32) pads_S384x8x96_S384x8x128_000_000_0320 h_S_) shapeCasts_S384x8x128_S384x1024) bitsLt_bf16_f32

/-- A head norm's 96 weights padded to 128 lanes. -/
def headLaid (w : FVec Ideal S1x96 .f32) : FVec Ideal S1x128 .f32 :=
  shapeCast S1x128 (pad S128 ![0] ![32] ![0] (shapeCast S96 w shapeCasts_S1x96_S96)
    (sitofp .f32 (constantI S_ 32 0#32) : FVec Ideal S_ .f32) pads_S96_S128_0320 h_S_) shapeCasts_S128_S1x128

/-- The weights set out, at an index. -/
theorem upLaid_at (w : FVec Ideal S1x384x768 .f32) (k : Fin 384) (n : Fin 1024) : (upLaid w (ix2 k n) : EReal)
    = if h : n.val % 128 < 96 then w (ix3 0 k ⟨n.val / 128 * 96 + n.val % 128, by omega⟩) else 0 := by
  unfold upLaid
  pointwise
  by_cases h : n.val % 128 < 96
  · rw [dif_pos ⟨by omega, h⟩, dif_pos h]
  · rw [dif_neg fun h' => h h'.2, dif_neg h, Cert.Rope.sitofp_zero]

/-- The head norm's weights padded, at an index. -/
theorem headLaid_at (w : FVec Ideal S1x96 .f32) (l : Fin 128) : (headLaid w (ix2 0 l) : EReal)
    = if h : l.val < 96 then w (ix2 0 ⟨l.val, h⟩) else 0 := by
  unfold headLaid
  pointwise
  rw [Cert.Rope.sitofp_zero]

/-- The projection weights the wrapper prepares. -/
theorem V_v6 : V m c main_v6 = upLaid (m ((c : Thread nD τ).loc main_arg2)) := by
  simp only [V, hostOps0, hostOps0_1, hostOps0_2, List.flatten_cons, List.flatten_nil, List.append_nil, List.cons_append, List.nil_append]
  after_results_simp <;> rfl

/-- The head norm's weights the wrapper prepares. -/
theorem V_v8 : V m c main_v8 = headLaid (m ((c : Thread nD τ).loc main_arg3)) := by
  simp only [V, hostOps0, hostOps0_1, hostOps0_2, List.flatten_cons, List.flatten_nil, List.append_nil, List.cons_append, List.nil_append]
  after_results_simp <;> rfl

/-- The row norm's weights the wrapper prepares. -/
theorem v56_at (k : Fin 384) : (V m c main_v56 : S1x384.Idx → EReal) (ix2 0 k)
    = (m ((c : Thread nD τ).loc main_arg1) : S1x384.Idx → EReal) (ix2 0 k) := by
  have h : V m c main_v56 = shapeCast S1x384 (shapeCast S384 (m ((c : Thread nD τ).loc main_arg1)) shapeCasts_S1x384_S384) shapeCasts_S384_S1x384 := by
    simp only [V, hostOps0, hostOps0_1, hostOps0_2, List.flatten_cons, List.flatten_nil, List.append_nil, List.cons_append, List.nil_append]
    after_results_simp <;> rfl
  rw [h]
  pointwise

end Cert.Kernel4Ideal.QueryValue
-- ==== Proof.QueryArray.lean ====
/-
  The query kernel's whole result: the blocks the kernel reads, and the 32 blocks that tile its array.
-/
module

public import proofs.«01_k».proof.Proof.QueryBlock
public import proofs.«01_k».proof.Proof.QueryHost
public import Idealize.ShloMosaic.Lib.Pipeline.ValueKit
public import Idealize.ShloMosaic.Lib.KernelVsHost
public import Idealize.ShloMosaic.Lib.Pointwise

@[expose] public section

set_option maxRecDepth 16384
noncomputable section

namespace Cert.Kernel4Ideal.QueryValue

open Cert.Kernel4Ideal Cert.Kernel4Ideal.Gen Idealize.ShloMosaic Idealize.ShloMosaic.TcCoe Idealize.SL.Sem
open Idealize.ShloMosaic.Pipeline (Dat)
open Cert.Softmax Cert.Query

variable (m : (ℓ : Loc nD τ sig) → Buf (Elt Ideal) ℓ) (c : Dev nD)

/-- Of the rows and of the result, the block at point `t` is tile `t % 4` of example `t / 4`. -/
theorem indTile : ∀ t : Fin cfg0.N, win0_0.index t = ![t.val / 4, t.val % 4, 0] ∧ win0_7.index t = ![t.val / 4, t.val % 4, 0] :=
  (by decide +kernel : ∀ t : Fin grid0.N, win0_0.index t = ![t.val / 4, t.val % 4, 0] ∧ win0_7.index t = ![t.val / 4, t.val % 4, 0])
/-- Of the tables, the block at point `t` is tile `t % 4`. -/
theorem indTab : ∀ t : Fin cfg0.N, win0_4.index t = ![t.val % 4, 0] ∧ win0_5.index t = ![t.val % 4, 0] ∧ win0_6.index t = ![t.val % 4, 0] :=
  (by decide +kernel : ∀ t : Fin grid0.N, win0_4.index t = ![t.val % 4, 0] ∧ win0_5.index t = ![t.val % 4, 0] ∧ win0_6.index t = ![t.val % 4, 0])
/-- The weights' blocks are the whole arrays. -/
theorem indW : ∀ t : Fin cfg0.N, win0_1.index t = ![0, 0] ∧ win0_2.index t = ![0, 0] ∧ win0_3.index t = ![0, 0] :=
  (by decide +kernel : ∀ t : Fin grid0.N, win0_1.index t = ![0, 0] ∧ win0_2.index t = ![0, 0] ∧ win0_3.index t = ![0, 0])

/-- A grid point's example is one of eight. -/
theorem lt0 (t : Fin cfg0.N) : t.val / 4 < 8 := by have : t.val < 32 := t.isLt; omega

/-- The example of point `t`. -/
abbrev ex (t : Fin cfg0.N) : Fin 8 := ⟨t.val / 4, lt0 t⟩
/-- Row `r` of the tile of point `t`. -/
abbrev tok (t : Fin cfg0.N) (r : Fin 512) : Fin 2048 := ⟨t.val % 4 * 512 + r.val, by omega⟩

/-- The rows' block. -/
theorem b0 (t : Fin cfg0.N) (r : Fin 512) (k : Fin 384) : (iblk m c 0 t : S1x512x384.Idx → EReal) (ix3 0 r k)
    = (m ((c : Thread nD τ).loc main_arg0) : S8x2048x384.Idx → EReal) (ix3 (ex t) (tok t r) k) := by
  blk_simp [iblk]
  refine (congrFun (V_main_arg0 m c) _).trans (congrArg _ ?_)
  blk_ext [(indTile t).1]

/-- The block of the row norm's weights. -/
theorem b1 (t : Fin cfg0.N) (k : Fin 384) : (iblk m c 1 t : S1x384.Idx → EReal) (ix2 0 k)
    = (m ((c : Thread nD τ).loc main_arg1) : S1x384.Idx → EReal) (ix2 0 k) := by
  blk_simp [iblk]
  refine Eq.trans (congrArg (V m c main_v56) ?_) (v56_at m c k)
  blk_ext [(indW t).1]

/-- The block of the projection's weights. -/
theorem b2 (t : Fin cfg0.N) (k : Fin 384) (n : Fin 1024) : (iblk m c 2 t : S384x1024.Idx → EReal) (ix2 k n)
    = upLaid (m ((c : Thread nD τ).loc main_arg2)) (ix2 k n) := by
  blk_simp [iblk]
  refine Eq.trans (congrArg (V m c main_v6) ?_) (congrFun (V_v6 m c) _)
  blk_ext [(indW t).2.1]

/-- The block of the head norm's weights. -/
theorem b3 (t : Fin cfg0.N) (l : Fin 128) : (iblk m c 3 t : S1x128.Idx → EReal) (ix2 0 l)
    = headLaid (m ((c : Thread nD τ).loc main_arg3)) (ix2 0 l) := by
  blk_simp [iblk]
  refine Eq.trans (congrArg (V m c main_v8) ?_) (congrFun (V_v8 m c) _)
  blk_ext [(indW t).2.2]

/-- The block of the lane's own table. -/
theorem b4 (t : Fin cfg0.N) (r : Fin 512) (l : Fin 128) : (iblk m c 4 t : S512x128.Idx → EReal) (ix2 r l) = Cert.Rope.tabC (tok t r) l := by
  blk_simp [iblk]
  refine Eq.trans (congrArg (V m c main_v44) ?_) ((congrFun (V_v44 m c) _).trans (hC_at (tok t r) l))
  blk_ext [(indTab t).1]

/-- The block of the table of the lane eight before. -/
theorem b5 (t : Fin cfg0.N) (r : Fin 512) (l : Fin 128) : (iblk m c 5 t : S512x128.Idx → EReal) (ix2 r l) = Cert.Rope.tabP (tok t r) l := by
  blk_simp [iblk]
  refine Eq.trans (congrArg (V m c main_v49) ?_) ((congrFun (V_v49 m c) _).trans (hP_at (tok t r) l))
  blk_ext [(indTab t).2.1]

/-- The block of the table of the lane eight after. -/
theorem b6 (t : Fin cfg0.N) (r : Fin 512) (l : Fin 128) : (iblk m c 6 t : S512x128.Idx → EReal) (ix2 r l) = Cert.Rope.tabM (tok t r) l := by
  blk_simp [iblk]
  refine Eq.trans (congrArg (V m c main_v55) ?_) ((congrFun (V_v55 m c) _).trans (hM_at (tok t r) l))
  blk_ext [(indTab t).2.2]

/-- The queries. -/
theorem final7 (x : Rows) (hx : x = m ((c : Thread nD τ).loc main_arg0)) (n : NWRow) (hn : n = m ((c : Thread nD τ).loc main_arg1))
    (w : WUp) (hw : w = m ((c : Thread nD τ).loc main_arg2)) (g : NWLane) (hg : g = m ((c : Thread nD τ).loc main_arg3)) :
    (dats m 0 c).arrAt 7 cfg0.N = query x n w g := by
  refine (dats m 0 c).arrAt_eq_of_covers 7 _ (by decide +kernel) fun t hf y => ?_
  blk_simp
  rw [after0_7]
  obtain ⟨r, l, rfl⟩ : ∃ (r : Fin 512) (l : Fin 1024), y = (ix3 0 r l : S1x512x1024.Idx) :=
    ⟨y 1, y 2, (eq_ix3 y).trans (by congr 1; exact Subsingleton.elim _ _)⟩
  have hy : (win0_7.blk t).view.emb (ix3 0 r l : S1x512x1024.Idx) = (ix3 (ex t) (tok t r) l : S8x2048x1024.Idx) := by
    blk_ext [(indTile t).2]
  refine Eq.trans ?_ (congrArg (query x n w g) hy).symm
  refine (out7 _ _ _ _ _ _ _ r l).trans ?_
  simp only [b0, b1, b2, b3, b4, b5, b6, ← hx, ← hn, ← hw, ← hg]
  refine Cert.Rope.laneOut_eq _ _ _ _ _ _ scale_nonneg scale_ne_top (fun d => ?_) (fun d hd => ?_) (fun d => ?_) _
  · refine congrArg (up _ _) (funext fun k => (upLaid_at w k _).trans ?_)
    have e1 : (l.val / 128 * 128 + d.val) % 128 = d.val := by omega
    have e2 : (l.val / 128 * 128 + d.val) / 128 = l.val / 128 := by omega
    simp only [e1, e2, d.isLt, dite_true]
    rfl
  · refine up_zero _ _ _ fun k => (upLaid_at w k _).trans (dif_neg ?_)
    show ¬ (l.val / 128 * 128 + d.val) % 128 < 96
    omega
  · exact (headLaid_at g _).trans (dif_pos d.isLt)

end Cert.Kernel4Ideal.QueryValue
-- ==== Proof.QueryRef.lean ====
/-
  The reference's queries read operation by operation: its result is the function `Cert.Query.query`.
-/
module

public import proofs.«01_k».proof.Proof.Gen.Reference4Ideal.Read
public import proofs.«01_k».proof.Proof.Query
public import Idealize.ShloMosaic.Lib.KernelVsHost
public import Idealize.ShloMosaic.Lib.Pointwise

@[expose] public section

set_option maxRecDepth 16384
noncomputable section

namespace Cert.Reference4Ideal.QueryRef

open Cert.Reference4Ideal Cert.Reference4Ideal.Gen Cert.Reference4Ideal.Read Idealize.ShloMosaic Idealize.ShloMosaic.TcCoe Idealize.SL.Sem
open Cert.Softmax Cert.Query Cert.Rope

variable (x : Rows) (n : NWRow) (w : WUp) (g : NWLane)

/-- A head's lanes before its norm. -/
theorem up_at (b : Fin 8) (t : Fin 2048) (h : Fin 8) (l : Fin 96) :
    (val_main_v17 (F := Ideal) x n w (ix4 b t h l) : EReal)
      = up (fun k => x (ix3 b t k)) (fun k => n (ix2 0 k)) (fun k => w (ix3 0 k ⟨h.val * 96 + l.val, by omega⟩)) := by
  unfold val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- A head's lanes after its norm. -/
theorem normed_at (b : Fin 8) (t : Fin 2048) (h : Fin 8) (l : Fin 96) :
    (val_main_v31 (F := Ideal) x n w g (ix4 b t h l) : EReal)
      = normed (fun l => up (fun k => x (ix3 b t k)) (fun k => n (ix2 0 k)) (fun k => w (ix3 0 k ⟨h.val * 96 + l.val, by omega⟩)))
          (fun l => g (ix2 0 l)) l := by
  have e := up_at x n w b t h
  unfold val_main_v31 val_main_v30 val_main_v29 val_main_v28 val_main_v27 val_main_v26 val_main_v25 val_main_v24 val_main_v23 val_main_v22 val_main_v21 val_main_v20 val_main_v19 val_main_v18 val_main_cst_2 val_main_cst_3 val_main_cst_4
  generalize val_main_v17 (F := Ideal) x n w = y at e ⊢
  pointwise
  simp only [e]
  rfl

/-- The row angles. -/
theorem row_at (t : Fin 2048) (j : Fin 8) : (val_main_v53 (F := Ideal) (ix2 t j) : EReal) = rowAng t j := by
  unfold val_main_v53 val_main_v52 val_main_v51 val_main_v50 val_main_v49 val_main_v48 val_main_v47 val_main_v46 val_main_v45 val_main_v44 val_main_v43 val_main_v42 val_main_v41 val_main_v40 val_main_v39 val_main_v34 val_main_v33 val_main_v32 val_main_cst_5 val_main_cst_6 val_main_cst_7 val_main_cst_8
  pointwise
  rfl

/-- The column angles. -/
theorem col_at (t : Fin 2048) (j : Fin 8) : (val_main_v58 (F := Ideal) (ix2 t j) : EReal) = colAng t j := by
  unfold val_main_v58 val_main_v57 val_main_v56 val_main_v55 val_main_v54 val_main_v38 val_main_v37 val_main_v36 val_main_v35 val_main_v48 val_main_v47 val_main_v46 val_main_v45 val_main_v44 val_main_v43 val_main_v42 val_main_v41 val_main_v40 val_main_v39 val_main_cst_5 val_main_cst_6 val_main_cst_7 val_main_cst_8
  pointwise
  rfl

/-- A head's lanes rotated. -/
theorem rot_at (b : Fin 8) (t : Fin 2048) (h : Fin 8) (l : Fin 96) :
    (val_main_v102 (F := Ideal) x n w g (ix4 b t h l) : EReal)
      = rot (normed (fun l => up (fun k => x (ix3 b t k)) (fun k => n (ix2 0 k)) (fun k => w (ix3 0 k ⟨h.val * 96 + l.val, by omega⟩)))
          (fun l => g (ix2 0 l))) t l := by
  have e := normed_at x n w g b t h
  have er := row_at t
  have ec := col_at t
  unfold val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59
  generalize val_main_v31 (F := Ideal) x n w g = y at e ⊢
  generalize val_main_v53 (F := Ideal) = u at er ⊢
  generalize val_main_v58 (F := Ideal) = v at ec ⊢
  pointwise
  simp only [e, er, ec]
  rfl

/-- The reference's result is the queries. -/
theorem query_eq : val_main_v111 (F := Ideal) x n w g = query x n w g := by
  funext i
  obtain ⟨b, t, k, rfl⟩ : ∃ (b : Fin 8) (t : Fin 2048) (k : Fin 1024), i = ix3 b t k := ⟨i 0, i 1, i 2, eq_ix3 i⟩
  have h := rot_at x n w g b t
  unfold val_main_v111 val_main_v110 val_main_v109 val_main_v108 val_main_v107 val_main_v106 val_main_v105 val_main_v104 val_main_v103 val_main_cst_9 val_main_cst_10 val_main_call0_v0 val_main_c
  generalize val_main_v102 (F := Ideal) x n w g = y at h ⊢
  pointwise
  simp only [h]
  unfold query headOut
  simp only [div_scale]
  by_cases hk : k.val % 128 < 96
  · rw [dif_pos ⟨by omega, hk⟩]
    symm
    exact dif_pos hk
  · rw [dif_neg fun h' => hk h'.2]
    refine Cert.Rope.sitofp_zero.trans ?_
    symm
    exact dif_neg hk

end Cert.Reference4Ideal.QueryRef
-- ==== Proof.QueryClaim.lean ====
/-
  The query claim: the kernel and its reference leave the same array, the queries; and the kernel's named constants are what its
  printed ones stand for.
-/
module

public import proofs.«01_k».proof.Defs
public import proofs.«01_k».proof.Proof.QueryArray
public import proofs.«01_k».proof.Proof.QueryRef

@[expose] public section

set_option maxRecDepth 16384
noncomputable section

namespace Cert.QueryClaim

open Idealize.ShloMosaic Idealize.ShloMosaic.TcCoe Idealize.SL.Sem
open Cert.Softmax Cert.Query

/-- Each printed constant, read on the extended reals, is the number it is named for. -/
theorem preserves : Cert.preserves_Kernel4_Kernel4Ideal :=
  have s := IdealRules.named_const.statement Cert.Kernel4Ideal.κ "q_scale" .f32 0x3E16C740#32
    (((Real.sqrt 96)⁻¹ * (Real.log 2)⁻¹ : ℝ) : EReal) rfl
  have i := IdealRules.named_const.statement Cert.Kernel4Ideal.κ "inv_qk" .f32 0x3C2AAAAB#32 ((96⁻¹ : ℝ) : EReal) rfl
  ⟨s, i⟩

/-- For every argument, the kernel leaves the queries, and so does the reference, the arguments unchanged. -/
theorem algebraic : Cert.algebraic_Kernel4Ideal_Reference4Ideal
    (hKernel4Ideal := Cert.Kernel4Ideal.Gen.facts) (hReference4Ideal := Cert.Reference4Ideal.Gen.facts) := by
  intro m g m' g' _ harg
  refine ⟨fun c => query (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3)), ?_, ?_⟩
  · refine (θ_run _ _ _).mono (fun r h c => ?_) (Cert.Kernel4Ideal.Value.run_blocks m g)
    obtain ⟨h0, hrest⟩ := h c
    exact ⟨h0.trans (Cert.Kernel4Ideal.QueryValue.final7 m c _ rfl _ rfl _ rfl _ rfl), hrest⟩
  · refine (θ_run _ _ _).mono (fun r h c => ?_) (Cert.Reference4Ideal.Value.run (F := Ideal) m' g')
    obtain ⟨h0, hrest⟩ := h c
    obtain ⟨a0, a1, a2, a3⟩ := harg c
    refine ⟨h0.trans ?_, hrest⟩
    rw [Cert.Reference4Ideal.Read.val_main_v111_eq, Cert.Reference4Ideal.QueryRef.query_eq, a0, a1, a2, a3]

end Cert.QueryClaim
-- ==== Proof.Kv.lean ====
/-
  The keys and the values as functions of the arguments, on the extended reals: each row of 256 lanes normed and projected to eight
  heads of 64 key lanes and 64 value lanes; a head's key lanes and the 32 lanes of the shared rotary key side by side, normed, the
  last 32 rotated, and laid out in 128 lanes. Both programs are shown to leave these functions in their results.
-/
module

public import proofs.«01_k».proof.Proof.Rope

@[expose] public section

set_option maxRecDepth 16384

noncomputable section

namespace Cert.Kv

open Idealize.ShloMosaic Cert.Softmax Cert.Rope

/-- The rows of 256 lanes. -/
abbrev Rows : Type := (⟨3, ![8, 2048, 256]⟩ : Shape).Idx → EReal
/-- The rotary key of each token, in the lanes 64 to 95 of 128. -/
abbrev KRow : Type := (⟨3, ![8, 2048, 128]⟩ : Shape).Idx → EReal
/-- The row norm's weights. -/
abbrev NWRow : Type := (⟨2, ![1, 256]⟩ : Shape).Idx → EReal
/-- The projection's weights: eight heads of 64 key lanes and 64 value lanes. -/
abbrev WUp : Type := (⟨3, ![1, 256, 1024]⟩ : Shape).Idx → EReal
/-- The head norm's weights. -/
abbrev NWLane : Type := (⟨2, ![1, 96]⟩ : Shape).Idx → EReal
/-- The keys, eight heads of 128 lanes. -/
abbrev Keys : Type := (⟨3, ![8, 2048, 1024]⟩ : Shape).Idx → EReal
/-- The values, eight heads of 64 lanes. -/
abbrev Vals : Type := (⟨3, ![8, 2048, 512]⟩ : Shape).Idx → EReal

/-- A row normed, weighed and projected on one column. -/
def up (x n w : Fin 256 → EReal) : EReal :=
  ∑ k : Fin 256, x k * Ideal.rsqrt (Ideal.div (∑ j : Fin 256, x j * x j) (Ideal.ofBits FTy.f32 0x43800000#32)
    + Ideal.ofBits FTy.f32 0x358637BD#32) * n k * w k

/-- A head's 64 key lanes and the 32 rotary lanes side by side. -/
def joined (u : Fin 64 → EReal) (r : Fin 32 → EReal) (l : Fin 96) : EReal :=
  if h : l.val < 64 then u ⟨l.val, h⟩ else r ⟨l.val - 64, by omega⟩

/-- The keys. -/
def keys (x : Rows) (r : KRow) (n : NWRow) (w : WUp) (hw : NWLane) : Keys :=
  fun i => headOut (joined
      (fun l => up (fun k => x (ix3 (i 0) (i 1) k)) (fun k => n (ix2 0 k))
        (fun k => w (ix3 0 k ⟨(i 2).val / 128 * 128 + l.val, by have : (i 2).val < 1024 := (i 2).isLt; omega⟩)))
      (fun l => r (ix3 (i 0) (i 1) ⟨64 + l.val, by omega⟩)))
    (fun l => hw (ix2 0 l)) (i 1) 1 ⟨(i 2).val % 128, Nat.mod_lt _ (by decide)⟩

/-- The values. -/
def values (x : Rows) (n : NWRow) (w : WUp) : Vals :=
  fun i => up (fun k => x (ix3 (i 0) (i 1) k)) (fun k => n (ix2 0 k))
    (fun k => w (ix3 0 k ⟨(i 2).val / 64 * 128 + (64 + (i 2).val % 64), by have : (i 2).val < 512 := (i 2).isLt; omega⟩))

/-- A column of zeros gives zero. -/
theorem up_zero (x n w : Fin 256 → EReal) (h : ∀ k, w k = 0) : up x n w = 0 := by
  unfold up
  exact Finset.sum_eq_zero fun k _ => by rw [h k, mul_zero]

/-- What a kernel computes, with tables that aren't scaled, is the head normed and rotated. -/
theorem laneOut_one (a hw : Fin 128 → EReal) (y hw' : Fin 96 → EReal) (t : Fin 2048)
    (ha : ∀ l : Fin 96, a ⟨l.val, by omega⟩ = y l) (ha0 : ∀ l : Fin 128, 96 ≤ l.val → a l = 0)
    (hh : ∀ l : Fin 96, hw ⟨l.val, by omega⟩ = hw' l) (l : Fin 128) :
    laneOut a hw (tabC t) (tabP t) (tabM t) l = headOut y hw' t 1 l := by
  rw [← laneOut_eq a hw y hw' t 1 zero_le_one (EReal.coe_ne_top 1) ha ha0 hh l]
  simp only [mul_one]

end Cert.Kv
-- ==== Proof.KvBlock.lean ====
/-
  One block of the key and value kernel read at an index: each head's 128 lanes of the projected rows and the rotary key, normed and
  rotated by the block's tables, and the projected values.
-/
module

public import proofs.«01_k».proof.Proof.Gen.Kernel5Ideal.Value
public import Idealize.ShloMosaic.Lib.Pointwise
public import Idealize.ShloMosaic.Lib.Pipeline.ValueKit
public import proofs.«01_k».proof.Proof.Kv

@[expose] public section

set_option maxRecDepth 16384
noncomputable section

namespace Cert.Kernel5Ideal.KvValue

open Cert.Kernel5Ideal Cert.Kernel5Ideal.Gen Idealize.ShloMosaic Idealize.ShloMosaic.TcCoe Idealize.SL.Sem
open Cert.Softmax Cert.Kv Cert.Rope

/-- The named ninety-sixth. -/
theorem inv_qk : Named.named (F := Ideal) κ "inv_qk" (φ := .f32) 0x3C2AAAAB#32 = ((96⁻¹ : ℝ) : EReal) :=
  IdealRules.named_const.ideal_named_scalar _ _ _ _ rfl

/-- The rows projected on the key columns. -/
theorem pay7_apply (X : S1x512x256.Idx → EReal) (N : S1x256.Idx → EReal) (W : S256x1024.Idx → EReal) (r : Fin 512) (n : Fin 1024) :
    (k0_pay7 (F := Ideal) X N W (ix2 r n) : EReal)
      = up (fun k => X (ix3 0 r k)) (fun k => N (ix2 0 k)) (fun k => W (ix2 k n)) := by
  unfold k0_pay7 k0_pay5
  pointwise
  rfl

/-- The rows projected on the value columns. -/
theorem pay6_apply (X : S1x512x256.Idx → EReal) (N : S1x256.Idx → EReal) (W : S256x512.Idx → EReal) (r : Fin 512) (n : Fin 512) :
    (k0_pay6 (F := Ideal) X N W (ix3 0 r n) : EReal)
      = up (fun k => X (ix3 0 r k)) (fun k => N (ix2 0 k)) (fun k => W (ix2 k n)) := by
  unfold k0_pay6 k0_pay5
  pointwise
  rfl

/-- One head: its 128 lanes and the rotary key's, added, normed and rotated. -/
theorem pay16_apply (C P M K A : S512x128.Idx → EReal) (H : S1x128.Idx → EReal) (r : Fin 512) (l : Fin 128) :
    (k0_pay16 (F := Ideal) C P M K A H (ix3 0 r l) : EReal)
      = laneOut (fun x => A (ix2 r x) + K (ix2 r x)) (fun x => H (ix2 0 x)) (fun x => C (ix2 r x)) (fun x => P (ix2 r x))
        (fun x => M (ix2 r x)) l := by
  unfold k0_pay16
  pointwise
  simp only [inv_qk]
  rfl

/-- The block's lane `n` of row `r`, from the projected rows, the rotary key and the tables. -/
def blockOut (U : S512x1024.Idx → EReal) (H : S1x128.Idx → EReal) (K C P M : S512x128.Idx → EReal) (r : Fin 512) (n : Fin 1024) : EReal :=
  laneOut (fun x => U (ix2 r ⟨n.val / 128 * 128 + x.val, by omega⟩) + K (ix2 r x)) (fun x => H (ix2 0 x)) (fun x => C (ix2 r x))
    (fun x => P (ix2 r x)) (fun x => M (ix2 r x)) ⟨n.val % 128, Nat.mod_lt _ (by decide)⟩

/-- The whole block. -/
def blockFn (U : S512x1024.Idx → EReal) (H : S1x128.Idx → EReal) (K C P M : S512x128.Idx → EReal) : S1x512x1024.Idx → Elt Ideal .bf16 :=
  fun y => blockOut U H K C P M (y 1) (y 2)

/-- A head cut out of the projected rows at lane `o`, a multiple of 128, is that part of the block. -/
theorem head_apply (U : S512x1024.Idx → EReal) (H : S1x128.Idx → EReal) (K C P M : S512x128.Idx → EReal) (o : ℕ)
    (ho : o % 128 = 0) (ho' : o + 128 ≤ 1024) (hs : S512x1024.Slices ![0, o] S512x128) (r : Fin 512) (l : Fin 128) :
    (k0_pay16 (F := Ideal) C P M K (extractStridedSlice S512x128 ![0, o] U hs) H (ix3 0 r l) : EReal)
      = blockOut U H K C P M r ⟨o + l.val, by omega⟩ := by
  rw [pay16_apply]
  have e : ∀ x : Fin 128, (extractStridedSlice S512x128 ![0, o] U hs (ix2 r x) : EReal) = U (ix2 r ⟨o + x.val, by omega⟩) := fun x => by
    pointwise
  simp only [e]
  unfold blockOut
  have e1 : (o + l.val) / 128 * 128 = o := by omega
  have e2 : (o + l.val) % 128 = l.val := by omega
  simp only [e1, e2]

variable (x0 : Vec Ideal S1x512x256 .bf16) (x1 : Vec Ideal S1x512x128 .f32) (x2 : Vec Ideal S1x256 .f32) (x3 : Vec Ideal S256x1024 .bf16)
  (x4 : Vec Ideal S256x512 .bf16) (x5 : Vec Ideal S1x128 .f32) (x6 x7 x8 : Vec Ideal S512x128 .f32)

/-- The block's keys. -/
theorem out9 (r : Fin 512) (n : Fin 1024) : (out0_9 x0 x1 x2 x3 x4 x5 x6 x7 x8 (ix3 0 r n) : EReal)
    = laneOut (fun x => up (fun k => x0 (ix3 0 r k)) (fun k => x2 (ix2 0 k)) (fun k => x3 (ix2 k ⟨n.val / 128 * 128 + x.val, by omega⟩))
        + x1 (ix3 0 r x))
      (fun x => x5 (ix2 0 x)) (fun x => x6 (ix2 r x)) (fun x => x7 (ix2 r x)) (fun x => x8 (ix2 r x))
      ⟨n.val % 128, Nat.mod_lt _ (by decide)⟩ := by
  have h0 : (![0, 0, 0] : Fin 3 → ℕ) = fun _ => 0 := by funext a; fin_cases a <;> rfl
  have h0' : (![0, 0] : Fin 2 → ℕ) = fun _ => 0 := by funext a; fin_cases a <;> rfl
  have hc : ∀ x : Fin 128, (k0_pay2 (F := Ideal) x6 (ix2 r x) : EReal) = x6 (ix2 r x) := fun x => by
    unfold k0_pay2
    pointwise
  have hp : ∀ x : Fin 128, (k0_pay3 (F := Ideal) x7 (ix2 r x) : EReal) = x7 (ix2 r x) := fun x => by
    unfold k0_pay3
    pointwise
  have hm : ∀ x : Fin 128, (k0_pay4 (F := Ideal) x8 (ix2 r x) : EReal) = x8 (ix2 r x) := fun x => by
    unfold k0_pay4
    pointwise
  have hk : ∀ x : Fin 128, (k0_pay8 (F := Ideal) x1 (ix2 r x) : EReal) = x1 (ix3 0 r x) := fun x => by
    unfold k0_pay8
    pointwise
  refine Eq.trans (?_ : _ = blockOut (k0_pay7 x0 x2 x3) x5 (k0_pay8 x1) (k0_pay2 x6) (k0_pay3 x7) (k0_pay4 x8) r n) ?_
  · unfold_out out0_9
    rw [show View.ld x0 r0_1 = x0 from View.ld_unit_zero h0 _ _, show View.ld x1 r0_6 = x1 from View.ld_unit_zero h0 _ _,
      show View.ld x2 r0_2 = x2 from View.ld_unit_zero h0' _ _, show View.ld x3 r0_5 = x3 from View.ld_unit_zero h0' _ _,
      show View.ld x5 r0_7 = x5 from View.ld_unit_zero h0' _ _,
      show View.ld x6 r0_0 = x6 from View.ld_unit_zero h0' _ _, show View.ld x7 r0_0 = x7 from View.ld_unit_zero h0' _ _,
      show View.ld x8 r0_0 = x8 from View.ld_unit_zero h0' _ _]
    generalize k0_pay2 (F := Ideal) x6 = C
    generalize k0_pay3 (F := Ideal) x7 = P
    generalize k0_pay4 (F := Ideal) x8 = M
    generalize k0_pay7 (F := Ideal) x0 x2 x3 = U
    refine View.canon_apply_of_pieces (blockFn U x5 (k0_pay8 x1) C P M) _ ?_ (ix3 0 r n) (cover0_9 _ _ _ _ _ _ _ _ _)
    have key : ∀ (o : ℕ) (ho : o % 128 = 0) (ho' : o + 128 ≤ 1024) (hs : S512x1024.Slices ![0, o] S512x128) (hb) (x : S1x512x128.Idx),
        (k0_pay16 (F := Ideal) C P M (k0_pay8 x1) (extractStridedSlice S512x128 ![0, o] U hs) x5 x : EReal)
          = (blockFn U x5 (k0_pay8 x1) C P M) ((Rect.unit (s := S1x512x1024) ![0, 0, o] S1x512x128.size hb).emb x) :=
      fun o ho ho' hs hb x => by
      obtain ⟨r, l, rfl⟩ : ∃ (r : Fin 512) (l : Fin 128), x = (ix3 0 r l : S1x512x128.Idx) :=
        ⟨x 1, x 2, (eq_ix3 x).trans (by congr 1; exact Subsingleton.elim _ _)⟩
      rw [head_apply _ _ _ _ _ _ o ho ho']
      have e : (Rect.unit (s := S1x512x1024) ![0, 0, o] S1x512x128.size hb).emb (ix3 0 r l : S1x512x128.Idx)
          = (ix3 0 r ⟨o + l.val, by omega⟩ : S1x512x1024.Idx) := by
        funext a
        fin_cases a <;> exact Fin.ext (by simp [Rect.emb, Rect.unit]; done)
      rw [e]
      rfl
    intro p hp x
    simp only [List.mem_cons, List.not_mem_nil, or_false] at hp
    rcases hp with rfl | rfl | rfl | rfl | rfl | rfl | rfl | rfl
    · exact key 896 rfl (by decide) slices_S512x1024_o0_896_S512x128 inb_S1x512x1024_S1x512x128_0_0_896 x
    · exact key 768 rfl (by decide) slices_S512x1024_o0_768_S512x128 inb_S1x512x1024_S1x512x128_0_0_768 x
    · exact key 640 rfl (by decide) slices_S512x1024_o0_640_S512x128 inb_S1x512x1024_S1x512x128_0_0_640 x
    · exact key 512 rfl (by decide) slices_S512x1024_o0_512_S512x128 inb_S1x512x1024_S1x512x128_0_0_512 x
    · exact key 384 rfl (by decide) slices_S512x1024_o0_384_S512x128 inb_S1x512x1024_S1x512x128_0_0_384 x
    · exact key 256 rfl (by decide) slices_S512x1024_o0_256_S512x128 inb_S1x512x1024_S1x512x128_0_0_256 x
    · exact key 128 rfl (by decide) slices_S512x1024_o0_128_S512x128 inb_S1x512x1024_S1x512x128_0_0_128 x
    · exact key 0 rfl (by decide) slices_S512x1024_o0_0_S512x128 inb_S1x512x1024_S1x512x128_0_0_0 x
  · unfold blockOut
    simp only [hc, hp, hm, hk, pay7_apply]

/-- The block's values. -/
theorem out10 (r : Fin 512) (n : Fin 512) : (out0_10 x0 x1 x2 x3 x4 x5 x6 x7 x8 (ix3 0 r n) : EReal)
    = up (fun k => x0 (ix3 0 r k)) (fun k => x2 (ix2 0 k)) (fun k => x4 (ix2 k n)) := by
  have h0 : (![0, 0, 0] : Fin 3 → ℕ) = fun _ => 0 := by funext a; fin_cases a <;> rfl
  have h0' : (![0, 0] : Fin 2 → ℕ) = fun _ => 0 := by funext a; fin_cases a <;> rfl
  unfold_out out0_10
  rw [show View.ld x0 r0_1 = x0 from View.ld_unit_zero h0 _ _, show View.ld x2 r0_2 = x2 from View.ld_unit_zero h0' _ _,
    show View.ld x4 r0_3 = x4 from View.ld_unit_zero h0' _ _]
  rw [View.canon_unit_zero h0]
  exact pay6_apply x0 x2 x4 r n

end Cert.Kernel5Ideal.KvValue
-- ==== Proof.KvHost.lean ====
/-
  What the key and value kernel's wrapper prepares: the rotation's tables, which are the query kernel's, and the weights of the keys
  set out by heads of 128 lanes and those of the values by heads of 64.
-/
module

public import proofs.«01_k».proof.Proof.Gen.Kernel5Ideal.Value
public import proofs.«01_k».proof.Proof.QueryHost

@[expose] public section

set_option maxRecDepth 16384
noncomputable section

namespace Cert.Kernel5Ideal.KvValue

open Cert.Kernel5Ideal Cert.Kernel5Ideal.Gen Idealize.ShloMosaic Idealize.ShloMosaic.TcCoe Idealize.SL.Sem
open Cert.Kernel4Ideal.QueryValue (hC hP hM headLaid)

variable (m : (ℓ : Loc nD τ sig) → Buf (Elt Ideal) ℓ) (c : Dev nD)

/-- The lane's own table, as the wrapper leaves it. -/
theorem V_v49 : V m c main_v49 = hC := by
  simp only [V, hostOps0, hostOps0_1, hostOps0_2, List.flatten_cons, List.flatten_nil, List.append_nil, List.cons_append, List.nil_append]
  after_results_simp <;> rfl

/-- The table of the lane eight before, as the wrapper leaves it. -/
theorem V_v54 : V m c main_v54 = hP := by
  simp only [V, hostOps0, hostOps0_1, hostOps0_2, List.flatten_cons, List.flatten_nil, List.append_nil, List.cons_append, List.nil_append]
  after_results_simp <;> rfl

/-- The table of the lane eight after, as the wrapper leaves it. -/
theorem V_v60 : V m c main_v60 = hM := by
  simp only [V, hostOps0, hostOps0_1, hostOps0_2, List.flatten_cons, List.flatten_nil, List.append_nil, List.cons_append, List.nil_append]
  after_results_simp <;> rfl

/-- The key columns of the eight heads set out by 128, zero on the last 64. -/
def keyLaid (w : FVec Ideal S1x256x1024 .f32) : FVec Ideal S256x1024 .bf16 :=
  truncf .bf16 (shapeCast S256x1024 (pad S256x8x128 ![0, 0, 0] ![0, 0, 64] ![0, 0, 0]
    (extractStridedSlice S256x8x64 ![0, 0, 0] (shapeCast S256x8x128 (shapeCast S256x1024 w shapeCasts_S1x256x1024_S256x1024)
      shapeCasts_S256x1024_S256x8x128) slices_S256x8x128_S256x8x64_0_0_0)
    (sitofp .f32 (constantI S_ 32 0#32) : FVec Ideal S_ .f32) pads_S256x8x64_S256x8x128_000_000_0640 h_S_) shapeCasts_S256x8x128_S256x1024) bitsLt_bf16_f32

/-- The value columns of the eight heads, 64 to a head. -/
def valLaid (w : FVec Ideal S1x256x1024 .f32) : FVec Ideal S256x512 .bf16 :=
  truncf .bf16 (shapeCast S256x512 (extractStridedSlice S256x8x64 ![0, 0, 64] (shapeCast S256x8x128
    (shapeCast S256x1024 w shapeCasts_S1x256x1024_S256x1024) shapeCasts_S256x1024_S256x8x128) slices_S256x8x128_S256x8x64_0_0_64)
    shapeCasts_S256x8x64_S256x512) bitsLt_bf16_f32

/-- The key weights set out, at an index. -/
theorem keyLaid_at (w : FVec Ideal S1x256x1024 .f32) (k : Fin 256) (n : Fin 1024) : (keyLaid w (ix2 k n) : EReal)
    = if n.val % 128 < 64 then w (ix3 0 k ⟨n.val / 128 * 128 + n.val % 128, by omega⟩) else 0 := by
  unfold keyLaid
  pointwise
  by_cases h : n.val % 128 < 64
  · rw [dif_pos ⟨by omega, h⟩, if_pos h]
    exact congrArg w (congrArg (ix3 0 k) (Fin.ext (by show n.val = n.val / 128 * 128 + n.val % 128; omega)))
  · rw [dif_neg fun h' => h h'.2, if_neg h, Cert.Rope.sitofp_zero]

/-- The value weights set out, at an index. -/
theorem valLaid_at (w : FVec Ideal S1x256x1024 .f32) (k : Fin 256) (n : Fin 512) : (valLaid w (ix2 k n) : EReal)
    = w (ix3 0 k ⟨n.val / 64 * 128 + (64 + n.val % 64), by omega⟩) := by
  unfold valLaid
  pointwise

/-- The key weights the wrapper prepares. -/
theorem V_v7 : V m c main_v7 = keyLaid (m ((c : Thread nD τ).loc main_arg3)) := by
  simp only [V, hostOps0, hostOps0_1, hostOps0_2, List.flatten_cons, List.flatten_nil, List.append_nil, List.cons_append, List.nil_append]
  after_results_simp <;> rfl

/-- The value weights the wrapper prepares. -/
theorem V_v11 : V m c main_v11 = valLaid (m ((c : Thread nD τ).loc main_arg3)) := by
  simp only [V, hostOps0, hostOps0_1, hostOps0_2, List.flatten_cons, List.flatten_nil, List.append_nil, List.cons_append, List.nil_append]
  after_results_simp <;> rfl

/-- The head norm's weights the wrapper prepares. -/
theorem V_v13 : V m c main_v13 = headLaid (m ((c : Thread nD τ).loc main_arg4)) := by
  simp only [V, hostOps0, hostOps0_1, hostOps0_2, List.flatten_cons, List.flatten_nil, List.append_nil, List.cons_append, List.nil_append]
  after_results_simp <;> rfl

/-- The row norm's weights the wrapper prepares. -/
theorem v61_at (k : Fin 256) : (V m c main_v61 : S1x256.Idx → EReal) (ix2 0 k)
    = (m ((c : Thread nD τ).loc main_arg2) : S1x256.Idx → EReal) (ix2 0 k) := by
  have h : V m c main_v61 = shapeCast S1x256 (shapeCast S256 (m ((c : Thread nD τ).loc main_arg2)) shapeCasts_S1x256_S256) shapeCasts_S256_S1x256 := by
    simp only [V, hostOps0, hostOps0_1, hostOps0_2, List.flatten_cons, List.flatten_nil, List.append_nil, List.cons_append, List.nil_append]
    after_results_simp <;> rfl
  rw [h]
  pointwise

end Cert.Kernel5Ideal.KvValue
-- ==== Proof.KvArray.lean ====
/-
  The key and value kernel's whole results: the blocks the kernel reads, and the 32 blocks that tile each of its two arrays.
-/
module

public import proofs.«01_k».proof.Proof.KvBlock
public import proofs.«01_k».proof.Proof.KvHost
public import Idealize.ShloMosaic.Lib.Pipeline.ValueKit
public import Idealize.ShloMosaic.Lib.KernelVsHost
public import Idealize.ShloMosaic.Lib.Pointwise

@[expose] public section

set_option maxRecDepth 16384
noncomputable section

namespace Cert.Kernel5Ideal.KvValue

open Cert.Kernel5Ideal Cert.Kernel5Ideal.Gen Idealize.ShloMosaic Idealize.ShloMosaic.TcCoe Idealize.SL.Sem
open Idealize.ShloMosaic.Pipeline (Dat)
open Cert.Softmax Cert.Kv
open Cert.Kernel4Ideal.QueryValue (headLaid headLaid_at hC_at hP_at hM_at)

variable (m : (ℓ : Loc nD τ sig) → Buf (Elt Ideal) ℓ) (c : Dev nD)

/-- Of the rows and the rotary key, the block at point `t` is tile `t % 4` of example `t / 4`. -/
theorem indIn : ∀ t : Fin cfg0.N, win0_0.index t = ![t.val / 4, t.val % 4, 0] ∧ win0_1.index t = ![t.val / 4, t.val % 4, 0] :=
  (by decide +kernel : ∀ t : Fin grid0.N, win0_0.index t = ![t.val / 4, t.val % 4, 0] ∧ win0_1.index t = ![t.val / 4, t.val % 4, 0])
/-- So it is of the keys and the values. -/
theorem indOut : ∀ t : Fin cfg0.N, win0_9.index t = ![t.val / 4, t.val % 4, 0] ∧ win0_10.index t = ![t.val / 4, t.val % 4, 0] :=
  (by decide +kernel : ∀ t : Fin grid0.N, win0_9.index t = ![t.val / 4, t.val % 4, 0] ∧ win0_10.index t = ![t.val / 4, t.val % 4, 0])
/-- Of the tables, the block at point `t` is tile `t % 4`. -/
theorem indTab : ∀ t : Fin cfg0.N, win0_6.index t = ![t.val % 4, 0] ∧ win0_7.index t = ![t.val % 4, 0] ∧ win0_8.index t = ![t.val % 4, 0] :=
  (by decide +kernel : ∀ t : Fin grid0.N, win0_6.index t = ![t.val % 4, 0] ∧ win0_7.index t = ![t.val % 4, 0] ∧ win0_8.index t = ![t.val % 4, 0])
/-- The blocks of the norms' weights are the whole arrays. -/
theorem indN : ∀ t : Fin cfg0.N, win0_2.index t = ![0, 0] ∧ win0_5.index t = ![0, 0] :=
  (by decide +kernel : ∀ t : Fin grid0.N, win0_2.index t = ![0, 0] ∧ win0_5.index t = ![0, 0])
/-- The blocks of the projections' weights are the whole arrays. -/
theorem indW : ∀ t : Fin cfg0.N, win0_3.index t = ![0, 0] ∧ win0_4.index t = ![0, 0] :=
  (by decide +kernel : ∀ t : Fin grid0.N, win0_3.index t = ![0, 0] ∧ win0_4.index t = ![0, 0])

/-- A grid point's example is one of eight. -/
theorem lt0 (t : Fin cfg0.N) : t.val / 4 < 8 := by have : t.val < 32 := t.isLt; omega

/-- The example of point `t`. -/
abbrev ex (t : Fin cfg0.N) : Fin 8 := ⟨t.val / 4, lt0 t⟩
/-- Row `r` of the tile of point `t`. -/
abbrev tok (t : Fin cfg0.N) (r : Fin 512) : Fin 2048 := ⟨t.val % 4 * 512 + r.val, by omega⟩

/-- The rows' block. -/
theorem b0 (t : Fin cfg0.N) (r : Fin 512) (k : Fin 256) : (iblk m c 0 t : S1x512x256.Idx → EReal) (ix3 0 r k)
    = (m ((c : Thread nD τ).loc main_arg0) : S8x2048x256.Idx → EReal) (ix3 (ex t) (tok t r) k) := by
  blk_simp [iblk]
  refine (congrFun (V_main_arg0 m c) _).trans (congrArg _ ?_)
  blk_ext [(indIn t).1]

/-- The rotary key's block. -/
theorem b1 (t : Fin cfg0.N) (r : Fin 512) (k : Fin 128) : (iblk m c 1 t : S1x512x128.Idx → EReal) (ix3 0 r k)
    = (m ((c : Thread nD τ).loc main_arg1) : S8x2048x128.Idx → EReal) (ix3 (ex t) (tok t r) k) := by
  blk_simp [iblk]
  refine (congrFun (V_main_arg1 m c) _).trans (congrArg _ ?_)
  blk_ext [(indIn t).2]

/-- The block of the row norm's weights. -/
theorem b2 (t : Fin cfg0.N) (k : Fin 256) : (iblk m c 2 t : S1x256.Idx → EReal) (ix2 0 k)
    = (m ((c : Thread nD τ).loc main_arg2) : S1x256.Idx → EReal) (ix2 0 k) := by
  blk_simp [iblk]
  refine Eq.trans (congrArg (V m c main_v61) ?_) (v61_at m c k)
  blk_ext [(indN t).1]

/-- The block of the key weights. -/
theorem b3 (t : Fin cfg0.N) (k : Fin 256) (n : Fin 1024) : (iblk m c 3 t : S256x1024.Idx → EReal) (ix2 k n)
    = keyLaid (m ((c : Thread nD τ).loc main_arg3)) (ix2 k n) := by
  blk_simp [iblk]
  refine Eq.trans (congrArg (V m c main_v7) ?_) (congrFun (V_v7 m c) _)
  blk_ext [(indW t).1]

/-- The block of the value weights. -/
theorem b4 (t : Fin cfg0.N) (k : Fin 256) (n : Fin 512) : (iblk m c 4 t : S256x512.Idx → EReal) (ix2 k n)
    = valLaid (m ((c : Thread nD τ).loc main_arg3)) (ix2 k n) := by
  blk_simp [iblk]
  refine Eq.trans (congrArg (V m c main_v11) ?_) (congrFun (V_v11 m c) _)
  blk_ext [(indW t).2]

/-- The block of the head norm's weights. -/
theorem b5 (t : Fin cfg0.N) (l : Fin 128) : (iblk m c 5 t : S1x128.Idx → EReal) (ix2 0 l)
    = headLaid (m ((c : Thread nD τ).loc main_arg4)) (ix2 0 l) := by
  blk_simp [iblk]
  refine Eq.trans (congrArg (V m c main_v13) ?_) (congrFun (V_v13 m c) _)
  blk_ext [(indN t).2]

/-- The block of the lane's own table. -/
theorem b6 (t : Fin cfg0.N) (r : Fin 512) (l : Fin 128) : (iblk m c 6 t : S512x128.Idx → EReal) (ix2 r l) = Cert.Rope.tabC (tok t r) l := by
  blk_simp [iblk]
  refine Eq.trans (congrArg (V m c main_v49) ?_) ((congrFun (V_v49 m c) _).trans (hC_at (tok t r) l))
  blk_ext [(indTab t).1]

/-- The block of the table of the lane eight before. -/
theorem b7 (t : Fin cfg0.N) (r : Fin 512) (l : Fin 128) : (iblk m c 7 t : S512x128.Idx → EReal) (ix2 r l) = Cert.Rope.tabP (tok t r) l := by
  blk_simp [iblk]
  refine Eq.trans (congrArg (V m c main_v54) ?_) ((congrFun (V_v54 m c) _).trans (hP_at (tok t r) l))
  blk_ext [(indTab t).2.1]

/-- The block of the table of the lane eight after. -/
theorem b8 (t : Fin cfg0.N) (r : Fin 512) (l : Fin 128) : (iblk m c 8 t : S512x128.Idx → EReal) (ix2 r l) = Cert.Rope.tabM (tok t r) l := by
  blk_simp [iblk]
  refine Eq.trans (congrArg (V m c main_v60) ?_) ((congrFun (V_v60 m c) _).trans (hM_at (tok t r) l))
  blk_ext [(indTab t).2.2]

/-- The keys, where the rotary key's row is zero but for the lanes 64 to 95. -/
theorem final9 (x : Rows) (hx : x = m ((c : Thread nD τ).loc main_arg0)) (kr : KRow) (hr : kr = m ((c : Thread nD τ).loc main_arg1))
    (n : NWRow) (hn : n = m ((c : Thread nD τ).loc main_arg2)) (w : WUp) (hw : w = m ((c : Thread nD τ).loc main_arg3))
    (g : NWLane) (hg : g = m ((c : Thread nD τ).loc main_arg4))
    (hlo : ∀ b t (l : Fin 128), l.val < 64 → kr (ix3 b t l) = 0) (hhi : ∀ b t (l : Fin 128), 96 ≤ l.val → kr (ix3 b t l) = 0) :
    (dats m 0 c).arrAt 9 cfg0.N = keys x kr n w g := by
  refine (dats m 0 c).arrAt_eq_of_covers 9 _ (by decide +kernel) fun t hf y => ?_
  blk_simp
  rw [after0_9]
  obtain ⟨r, l, rfl⟩ : ∃ (r : Fin 512) (l : Fin 1024), y = (ix3 0 r l : S1x512x1024.Idx) :=
    ⟨y 1, y 2, (eq_ix3 y).trans (by congr 1; exact Subsingleton.elim _ _)⟩
  have hy : (win0_9.blk t).view.emb (ix3 0 r l : S1x512x1024.Idx) = (ix3 (ex t) (tok t r) l : S8x2048x1024.Idx) := by
    blk_ext [(indOut t).1]
  refine Eq.trans ?_ (congrArg (keys x kr n w g) hy).symm
  refine (out9 _ _ _ _ _ _ _ _ _ r l).trans ?_
  simp only [b0, b1, b2, b3, b5, b6, b7, b8, ← hx, ← hr, ← hn, ← hw, ← hg]
  have hz : ∀ d : Fin 128, 64 ≤ d.val → up (fun k => x (ix3 (ex t) (tok t r) k)) (fun k => n (ix2 0 k))
      (fun k => keyLaid w (ix2 k ⟨l.val / 128 * 128 + d.val, by omega⟩)) = 0 := fun d hd => by
    refine up_zero _ _ _ fun k => (keyLaid_at w k _).trans (if_neg ?_)
    show ¬ (l.val / 128 * 128 + d.val) % 128 < 64
    omega
  refine laneOut_one _ _ _ _ _ (fun d => ?_) (fun d hd => ?_) (fun d => ?_) _
  · by_cases hd : d.val < 64
    · refine Eq.trans ?_ (dif_pos hd).symm
      rw [hlo _ _ _ hd, add_zero]
      refine congrArg (up _ _) (funext fun k => (keyLaid_at w k _).trans ?_)
      have e1 : (l.val / 128 * 128 + d.val) % 128 = d.val := by omega
      have e2 : (l.val / 128 * 128 + d.val) / 128 = l.val / 128 := by omega
      simp only [e1, e2, hd, if_true]
      rfl
    · refine Eq.trans ?_ (dif_neg hd).symm
      rw [hz ⟨d.val, by omega⟩ (by show 64 ≤ d.val; omega), zero_add]
      exact congrArg kr (congrArg (ix3 _ _) (Fin.ext (by show d.val = 64 + (d.val - 64); omega)))
  · rw [hz d (by omega), hhi _ _ d hd, add_zero]
  · exact (headLaid_at g _).trans (dif_pos d.isLt)

/-- The values. -/
theorem final10 (x : Rows) (hx : x = m ((c : Thread nD τ).loc main_arg0)) (n : NWRow) (hn : n = m ((c : Thread nD τ).loc main_arg2))
    (w : WUp) (hw : w = m ((c : Thread nD τ).loc main_arg3)) :
    (dats m 0 c).arrAt 10 cfg0.N = values x n w := by
  refine (dats m 0 c).arrAt_eq_of_covers 10 _ (by decide +kernel) fun t hf y => ?_
  blk_simp
  rw [after0_10]
  obtain ⟨r, l, rfl⟩ : ∃ (r : Fin 512) (l : Fin 512), y = (ix3 0 r l : S1x512x512.Idx) :=
    ⟨y 1, y 2, (eq_ix3 y).trans (by congr 1; exact Subsingleton.elim _ _)⟩
  have hy : (win0_10.blk t).view.emb (ix3 0 r l : S1x512x512.Idx) = (ix3 (ex t) (tok t r) l : S8x2048x512.Idx) := by
    blk_ext [(indOut t).2]
  refine Eq.trans ?_ (congrArg (values x n w) hy).symm
  refine (out10 _ _ _ _ _ _ _ _ _ r l).trans ?_
  simp only [b0, b2, b4, ← hx, ← hn, ← hw]
  exact congrArg (up _ _) (funext fun k => valLaid_at w k l)

end Cert.Kernel5Ideal.KvValue
-- ==== Proof.KvRef.lean ====
/-
  The reference's keys and values read operation by operation: its results are the functions `Cert.Kv.keys` and `Cert.Kv.values`.
-/
module

public import proofs.«01_k».proof.Proof.Gen.Reference5Ideal.Read
public import proofs.«01_k».proof.Proof.Kv
public import Idealize.ShloMosaic.Lib.KernelVsHost
public import Idealize.ShloMosaic.Lib.Pointwise

@[expose] public section

set_option maxRecDepth 16384
noncomputable section

namespace Cert.Reference5Ideal.KvRef

open Cert.Reference5Ideal Cert.Reference5Ideal.Gen Cert.Reference5Ideal.Read Idealize.ShloMosaic Idealize.ShloMosaic.TcCoe Idealize.SL.Sem
open Cert.Softmax Cert.Kv Cert.Rope

variable (x : Rows) (r : KRow) (n : NWRow) (w : WUp) (g : NWLane)

/-- A head's 128 projected lanes: 64 of the keys, then 64 of the values. -/
theorem up_at (b : Fin 8) (t : Fin 2048) (h : Fin 8) (l : Fin 128) :
    (val_main_v17 (F := Ideal) x n w (ix4 b t h l) : EReal)
      = up (fun k => x (ix3 b t k)) (fun k => n (ix2 0 k)) (fun k => w (ix3 0 k ⟨h.val * 128 + l.val, by omega⟩)) := by
  unfold val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- A head's key lanes and the rotary key's side by side. -/
theorem joined_at (b : Fin 8) (t : Fin 2048) (h : Fin 8) (l : Fin 96) :
    (val_main_v23 (F := Ideal) x r n w (ix4 b t h l) : EReal)
      = joined (fun l => up (fun k => x (ix3 b t k)) (fun k => n (ix2 0 k)) (fun k => w (ix3 0 k ⟨h.val * 128 + l.val, by omega⟩)))
          (fun l => r (ix3 b t ⟨64 + l.val, by omega⟩)) l := by
  have e := up_at x n w b t h
  unfold val_main_v23 val_main_v22 val_main_v21 val_main_v20 val_main_v18
  generalize val_main_v17 (F := Ideal) x n w = y at e ⊢
  pointwise
  simp only [e]
  rfl

/-- A head's lanes after its norm. -/
theorem normed_at (b : Fin 8) (t : Fin 2048) (h : Fin 8) (l : Fin 96) :
    (val_main_v37 (F := Ideal) x r n w g (ix4 b t h l) : EReal)
      = normed (joined (fun l => up (fun k => x (ix3 b t k)) (fun k => n (ix2 0 k)) (fun k => w (ix3 0 k ⟨h.val * 128 + l.val, by omega⟩)))
          (fun l => r (ix3 b t ⟨64 + l.val, by omega⟩))) (fun l => g (ix2 0 l)) l := by
  have e := joined_at x r n w b t h
  unfold val_main_v37 val_main_v36 val_main_v35 val_main_v34 val_main_v33 val_main_v32 val_main_v31 val_main_v30 val_main_v29 val_main_v28 val_main_v27 val_main_v26 val_main_v25 val_main_v24 val_main_cst_2 val_main_cst_3 val_main_cst_4
  generalize val_main_v23 (F := Ideal) x r n w = y at e ⊢
  pointwise
  simp only [e]
  rfl

/-- The row angles. -/
theorem row_at (t : Fin 2048) (j : Fin 8) : (val_main_v59 (F := Ideal) (ix2 t j) : EReal) = rowAng t j := by
  unfold val_main_v59 val_main_v58 val_main_v57 val_main_v56 val_main_v55 val_main_v54 val_main_v53 val_main_v52 val_main_v51 val_main_v50 val_main_v49 val_main_v48 val_main_v47 val_main_v46 val_main_v45 val_main_v40 val_main_v39 val_main_v38 val_main_cst_5 val_main_cst_6 val_main_cst_7 val_main_cst_8
  pointwise
  rfl

/-- The column angles. -/
theorem col_at (t : Fin 2048) (j : Fin 8) : (val_main_v64 (F := Ideal) (ix2 t j) : EReal) = colAng t j := by
  unfold val_main_v64 val_main_v63 val_main_v62 val_main_v61 val_main_v60 val_main_v54 val_main_v53 val_main_v52 val_main_v51 val_main_v50 val_main_v49 val_main_v48 val_main_v47 val_main_v46 val_main_v45 val_main_v44 val_main_v43 val_main_v42 val_main_v41 val_main_cst_5 val_main_cst_6 val_main_cst_7 val_main_cst_8
  pointwise
  rfl

/-- A head's lanes rotated. -/
theorem rot_at (b : Fin 8) (t : Fin 2048) (h : Fin 8) (l : Fin 96) :
    (val_main_v108 (F := Ideal) x r n w g (ix4 b t h l) : EReal)
      = rot (normed (joined (fun l => up (fun k => x (ix3 b t k)) (fun k => n (ix2 0 k)) (fun k => w (ix3 0 k ⟨h.val * 128 + l.val, by omega⟩)))
          (fun l => r (ix3 b t ⟨64 + l.val, by omega⟩))) (fun l => g (ix2 0 l))) t l := by
  have e := normed_at x r n w g b t h
  have er := row_at t
  have ec := col_at t
  unfold val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65
  generalize val_main_v37 (F := Ideal) x r n w g = y at e ⊢
  generalize val_main_v59 (F := Ideal) = u at er ⊢
  generalize val_main_v64 (F := Ideal) = v at ec ⊢
  pointwise
  simp only [e, er, ec]
  rfl

/-- The reference's first result is the keys. -/
theorem keys_eq : val_main_v111 (F := Ideal) x r n w g = keys x r n w g := by
  funext i
  obtain ⟨b, t, k, rfl⟩ : ∃ (b : Fin 8) (t : Fin 2048) (k : Fin 1024), i = ix3 b t k := ⟨i 0, i 1, i 2, eq_ix3 i⟩
  have h := rot_at x r n w g b t
  unfold val_main_v111 val_main_v110 val_main_v109 val_main_call0_v0 val_main_c
  generalize val_main_v108 (F := Ideal) x r n w g = y at h ⊢
  pointwise
  simp only [h]
  unfold keys headOut
  simp only [mul_one]
  by_cases hk : k.val % 128 < 96
  · rw [dif_pos ⟨by omega, hk⟩]
    symm
    exact dif_pos hk
  · rw [dif_neg fun h' => hk h'.2]
    refine Cert.Rope.sitofp_zero.trans ?_
    symm
    exact dif_neg hk

/-- The reference's second result is the values. -/
theorem values_eq : val_main_v113 (F := Ideal) x n w = values x n w := by
  funext i
  obtain ⟨b, t, k, rfl⟩ : ∃ (b : Fin 8) (t : Fin 2048) (k : Fin 512), i = ix3 b t k := ⟨i 0, i 1, i 2, eq_ix3 i⟩
  have h := up_at x n w b t
  unfold val_main_v113 val_main_v112 val_main_v19
  generalize val_main_v17 (F := Ideal) x n w = y at h ⊢
  pointwise
  simp only [h]
  rfl

end Cert.Reference5Ideal.KvRef
-- ==== Proof.KvClaim.lean ====
/-
  The key and value claim: where the rotary key's row is zero but for its own lanes, the kernel and its reference leave the same
  arrays, the keys and the values; and the kernel's named constant is what its printed one stands for.
-/
module

public import proofs.«01_k».proof.Defs
public import proofs.«01_k».proof.Proof.KvArray
public import proofs.«01_k».proof.Proof.KvRef
public import Idealize.ShloMosaic.Lib.ReduceAll

@[expose] public section

set_option maxRecDepth 16384
noncomputable section

namespace Cert.KvClaim

open Idealize.ShloMosaic Idealize.ShloMosaic.TcCoe Idealize.SL.Sem
open Cert.Softmax Cert.Kv

/-- The shape facts the precondition's operations take. -/
theorem preFacts : Cert.Pre_rope_lanes.Facts := ⟨by decide, by decide, by decide, by decide, by decide, by decide, by decide⟩

/-- The printed constant, read on the extended reals, is the number it is named for. -/
theorem preserves : Cert.preserves_Kernel5_Kernel5Ideal :=
  IdealRules.named_const.statement Cert.Kernel5Ideal.κ "inv_qk" .f32 0x3C2AAAAB#32 ((96⁻¹ : ℝ) : EReal) rfl

/-- A number that compares equal to zero is zero. -/
theorem zero_of_cmp (x : EReal) (h : Ideal.cmp .oeq x (Ideal.ofBits FTy.f32 0x00000000#32) = 1#1) : x = 0 := by
  have h0 : Ideal.ofBits FTy.f32 0x00000000#32 = 0 := by simp [Ideal.ofBits, Ideal.ieee]
  rw [h0] at h
  by_contra hn
  simp only [Ideal.cmp, decide_eq_false hn] at h
  exact absurd h (by decide)

section
attribute [local instance] preFacts

/-- The precondition read at the entries: the rotary key's row is zero before lane 64 and from lane 96 on. -/
theorem zero_of_pre (x : Rows) (r : KRow) (n : NWRow) (w : WUp) (g : NWLane)
    (h : (Cert.Pre_rope_lanes.fn (F := Ideal) x r n w g).1 = (fun _ => 1#1)
      ∧ (Cert.Pre_rope_lanes.fn (F := Ideal) x r n w g).2 = (fun _ => 1#1)) :
    (∀ b t (l : Fin 128), l.val < 64 → r (ix3 b t l) = 0) ∧ (∀ b t (l : Fin 128), 96 ≤ l.val → r (ix3 b t l) = 0) := by
  obtain ⟨h1, h2⟩ := h
  have hs : Subsingleton (Cert.Pre_rope_lanes.S_).Idx := ⟨fun a b => funext fun i => i.elim0⟩
  have e1 := congrFun h1 fun a => a.elim0
  have e2 := congrFun h2 fun a => a.elim0
  unfold Cert.Pre_rope_lanes.fn at e1 e2
  dsimp only at e1 e2
  have lo : ∀ b t (l : Fin 64), r (ix3 b t ⟨l.val, by omega⟩) = 0 := fun b t l => by
    have e := zero_of_cmp _ (Host.reduce_andi_all _ _ _ _ _ e1 (ix3 b t l))
    refine Eq.trans (congrArg r ?_) e
    funext a
    fin_cases a <;> exact Fin.ext (by simp; done)
  have hi : ∀ b t (l : Fin 32), r (ix3 b t ⟨96 + l.val, by omega⟩) = 0 := fun b t l => by
    have e := zero_of_cmp _ (Host.reduce_andi_all _ _ _ _ _ e2 (ix3 b t l))
    refine Eq.trans (congrArg r ?_) e
    funext a
    fin_cases a <;> exact Fin.ext (by simp; done)
  refine ⟨fun b t l hl => lo b t ⟨l.val, hl⟩, fun b t l hl => ?_⟩
  refine Eq.trans (congrArg r (congrArg (ix3 b t) (Fin.ext ?_))) (hi b t ⟨l.val - 96, by omega⟩)
  show l.val = 96 + (l.val - 96)
  omega

/-- Where the rotary key's row is zero but for its own lanes, the kernel leaves the keys and the values, and so does the
    reference, the arguments unchanged. -/
theorem algebraic : Cert.algebraic_Kernel5Ideal_Reference5Ideal_pre_rope_lanes
    (hKernel5Ideal := Cert.Kernel5Ideal.Gen.facts) (hReference5Ideal := Cert.Reference5Ideal.Gen.facts)
    (hPre_rope_lanes := preFacts) := by
  intro m g m' g' hpre harg
  refine ⟨fun c => keys (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4)),
    fun c => values (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3)), ?_, ?_⟩
  · refine (θ_run _ _ _).mono (fun r h c => ?_) (Cert.Kernel5Ideal.Value.run_blocks m g)
    obtain ⟨h0, h1, hrest⟩ := h c
    obtain ⟨hlo, hhi⟩ := zero_of_pre _ _ _ _ _ (hpre c)
    exact ⟨h0.trans (Cert.Kernel5Ideal.KvValue.final9 m c _ rfl _ rfl _ rfl _ rfl _ rfl hlo hhi),
      h1.trans (Cert.Kernel5Ideal.KvValue.final10 m c _ rfl _ rfl _ rfl), hrest⟩
  · refine (θ_run _ _ _).mono (fun r h c => ?_) (Cert.Reference5Ideal.Value.run (F := Ideal) m' g')
    obtain ⟨h0, h1, hrest⟩ := h c
    obtain ⟨a0, a1, a2, a3, a4⟩ := harg c
    refine ⟨h0.trans ?_, h1.trans ?_, hrest⟩
    · rw [Cert.Reference5Ideal.Read.val_main_v111_eq, Cert.Reference5Ideal.KvRef.keys_eq, a0, a1, a2, a3, a4]
    · rw [Cert.Reference5Ideal.Read.val_main_v113_eq, Cert.Reference5Ideal.KvRef.values_eq, a0, a2, a3]

end

end Cert.KvClaim
-- ==== Proof.KvCtx.lean ====
/-
  The keys and the values of the context tokens as functions of the arguments, on the extended reals: as those of the latent
  tokens (`Cert.Kv`), but with no rotation. Both programs are shown to leave these functions in their results.
-/
module

public import proofs.«01_k».proof.Proof.Kv

@[expose] public section

set_option maxRecDepth 16384

noncomputable section

namespace Cert.KvCtx

open Idealize.ShloMosaic Cert.Softmax Cert.Rope
open Cert.Kv (NWRow WUp NWLane up joined up_zero)

/-- The rows of 256 lanes. -/
abbrev Rows : Type := (⟨3, ![8, 256, 256]⟩ : Shape).Idx → EReal
/-- The rotary key of each token, in the lanes 64 to 95 of 128. -/
abbrev KRow : Type := (⟨3, ![8, 256, 128]⟩ : Shape).Idx → EReal
/-- The keys, eight heads of 128 lanes. -/
abbrev Keys : Type := (⟨3, ![8, 256, 1024]⟩ : Shape).Idx → EReal
/-- The values, eight heads of 64 lanes. -/
abbrev Vals : Type := (⟨3, ![8, 256, 512]⟩ : Shape).Idx → EReal

/-- Lane `l` of a head's group of 128: the head normed on the first 96, zero on the others. -/
def plainOut (y hw : Fin 96 → EReal) (l : Fin 128) : EReal :=
  if h : l.val < 96 then normed y hw ⟨l.val, h⟩ else 0

/-- The keys. -/
def keys (x : Rows) (r : KRow) (n : NWRow) (w : WUp) (hw : NWLane) : Keys :=
  fun i => plainOut (joined
      (fun l => up (fun k => x (ix3 (i 0) (i 1) k)) (fun k => n (ix2 0 k))
        (fun k => w (ix3 0 k ⟨(i 2).val / 128 * 128 + l.val, by have : (i 2).val < 1024 := (i 2).isLt; omega⟩)))
      (fun l => r (ix3 (i 0) (i 1) ⟨64 + l.val, by omega⟩)))
    (fun l => hw (ix2 0 l)) ⟨(i 2).val % 128, Nat.mod_lt _ (by decide)⟩

/-- The values. -/
def values (x : Rows) (n : NWRow) (w : WUp) : Vals :=
  fun i => up (fun k => x (ix3 (i 0) (i 1) k)) (fun k => n (ix2 0 k))
    (fun k => w (ix3 0 k ⟨(i 2).val / 64 * 128 + (64 + (i 2).val % 64), by have : (i 2).val < 512 := (i 2).isLt; omega⟩))

/-- The kernel's head: 128 lanes normed by a ninety-sixth of the sum of all their squares. -/
def laneNorm (a hw : Fin 128 → EReal) (l : Fin 128) : EReal :=
  a l * Ideal.rsqrt ((∑ x : Fin 128, a x * a x) * ((96⁻¹ : ℝ) : EReal) + Ideal.ofBits FTy.f32 0x358637BD#32) * hw l

/-- What the kernel computes on a head's 128 lanes, the last 32 zero, is the head normed. -/
theorem laneNorm_eq (a hw : Fin 128 → EReal) (y hw' : Fin 96 → EReal)
    (ha : ∀ l : Fin 96, a ⟨l.val, by omega⟩ = y l) (ha0 : ∀ l : Fin 128, 96 ≤ l.val → a l = 0)
    (hh : ∀ l : Fin 96, hw ⟨l.val, by omega⟩ = hw' l) (l : Fin 128) : laneNorm a hw l = plainOut y hw' l := by
  unfold laneNorm plainOut
  rw [div96, sum96 (fun x => a x * a x) (fun l h => by simp [ha0 l h])]
  by_cases h : l.val < 96
  · rw [dif_pos h]
    have e1 := ha ⟨l.val, h⟩
    have e2 := hh ⟨l.val, h⟩
    simp only [Fin.eta] at e1 e2
    simp only [ha, e1, e2]
    rfl
  · rw [dif_neg h, ha0 l (by omega), zero_mul, zero_mul]

end Cert.KvCtx
-- ==== Proof.KvCtxBlock.lean ====
/-
  One block of the context's key and value kernel read at an index: each head's 128 lanes of the projected rows and the rotary key,
  normed, and the projected values.
-/
module

public import proofs.«01_k».proof.Proof.Gen.Kernel6Ideal.Value
public import Idealize.ShloMosaic.Lib.Pointwise
public import Idealize.ShloMosaic.Lib.Pipeline.ValueKit
public import proofs.«01_k».proof.Proof.KvCtx

@[expose] public section

set_option maxRecDepth 16384
noncomputable section

namespace Cert.Kernel6Ideal.KvValue

open Cert.Kernel6Ideal Cert.Kernel6Ideal.Gen Idealize.ShloMosaic Idealize.ShloMosaic.TcCoe Idealize.SL.Sem
open Cert.Softmax Cert.KvCtx
open Cert.Kv (up)

/-- The named ninety-sixth. -/
theorem inv_qk : Named.named (F := Ideal) κ "inv_qk" (φ := .f32) 0x3C2AAAAB#32 = ((96⁻¹ : ℝ) : EReal) :=
  IdealRules.named_const.ideal_named_scalar _ _ _ _ rfl

/-- The rows projected on the key columns. -/
theorem pay5_apply (X : S1x256x256.Idx → EReal) (N : S1x256.Idx → EReal) (W : S256x1024.Idx → EReal) (r : Fin 256) (n : Fin 1024) :
    (k0_pay5 (F := Ideal) X N W (ix2 r n) : EReal)
      = up (fun k => X (ix3 0 r k)) (fun k => N (ix2 0 k)) (fun k => W (ix2 k n)) := by
  unfold k0_pay5 k0_pay3
  pointwise
  rfl

/-- The rows projected on the value columns. -/
theorem pay4_apply (X : S1x256x256.Idx → EReal) (N : S1x256.Idx → EReal) (W : S256x512.Idx → EReal) (r : Fin 256) (n : Fin 512) :
    (k0_pay4 (F := Ideal) X N W (ix3 0 r n) : EReal)
      = up (fun k => X (ix3 0 r k)) (fun k => N (ix2 0 k)) (fun k => W (ix2 k n)) := by
  unfold k0_pay4 k0_pay3
  pointwise
  rfl

/-- One head: 128 lanes normed. -/
theorem pay10_apply (A : S256x128.Idx → EReal) (H : S1x128.Idx → EReal) (r : Fin 256) (l : Fin 128) :
    (k0_pay10 (F := Ideal) A H (mulf (φ := .f32) A A) (ix3 0 r l) : EReal)
      = laneNorm (fun x => A (ix2 r x)) (fun x => H (ix2 0 x)) l := by
  unfold k0_pay10
  pointwise
  simp only [inv_qk]
  rfl

/-- The block's lane `n` of row `r`, from the projected rows and the rotary key. -/
def blockOut (U : S256x1024.Idx → EReal) (H : S1x128.Idx → EReal) (K : S256x128.Idx → EReal) (r : Fin 256) (n : Fin 1024) : EReal :=
  laneNorm (fun x => U (ix2 r ⟨n.val / 128 * 128 + x.val, by omega⟩) + K (ix2 r x)) (fun x => H (ix2 0 x))
    ⟨n.val % 128, Nat.mod_lt _ (by decide)⟩

/-- The whole block. -/
def blockFn (U : S256x1024.Idx → EReal) (H : S1x128.Idx → EReal) (K : S256x128.Idx → EReal) : S1x256x1024.Idx → Elt Ideal .bf16 :=
  fun y => blockOut U H K (y 1) (y 2)

/-- A head cut out of the projected rows at lane `o`, with the rotary key added. -/
abbrev headIn (U : S256x1024.Idx → EReal) (K : S256x128.Idx → EReal) (o : ℕ) (hs : S256x1024.Slices ![0, o] S256x128) :
    FVec Ideal S256x128 .f32 :=
  addf (φ := .f32) (extractStridedSlice S256x128 ![0, o] U hs) K

/-- A head cut out of the projected rows at lane `o`, a multiple of 128, is that part of the block. -/
theorem head_apply (U : S256x1024.Idx → EReal) (H : S1x128.Idx → EReal) (K : S256x128.Idx → EReal) (o : ℕ)
    (ho : o % 128 = 0) (ho' : o + 128 ≤ 1024) (hs : S256x1024.Slices ![0, o] S256x128) (r : Fin 256) (l : Fin 128) :
    (k0_pay10 (F := Ideal) (headIn U K o hs) H (mulf (φ := .f32) (headIn U K o hs) (headIn U K o hs)) (ix3 0 r l) : EReal)
      = blockOut U H K r ⟨o + l.val, by omega⟩ := by
  rw [pay10_apply]
  have e : ∀ x : Fin 128, (headIn U K o hs (ix2 r x) : EReal) = U (ix2 r ⟨o + x.val, by omega⟩) + K (ix2 r x) := fun x => by
    unfold headIn
    pointwise
  simp only [e]
  unfold blockOut
  have e1 : (o + l.val) / 128 * 128 = o := by omega
  have e2 : (o + l.val) % 128 = l.val := by omega
  simp only [e1, e2]

variable (x0 : Vec Ideal S1x256x256 .bf16) (x1 : Vec Ideal S1x256x128 .f32) (x2 : Vec Ideal S1x256 .f32) (x3 : Vec Ideal S256x1024 .bf16)
  (x4 : Vec Ideal S256x512 .bf16) (x5 : Vec Ideal S1x128 .f32)

/-- The block's keys. -/
theorem out6 (r : Fin 256) (n : Fin 1024) : (out0_6 x0 x1 x2 x3 x4 x5 (ix3 0 r n) : EReal)
    = laneNorm (fun x => up (fun k => x0 (ix3 0 r k)) (fun k => x2 (ix2 0 k)) (fun k => x3 (ix2 k ⟨n.val / 128 * 128 + x.val, by omega⟩))
        + x1 (ix3 0 r x))
      (fun x => x5 (ix2 0 x)) ⟨n.val % 128, Nat.mod_lt _ (by decide)⟩ := by
  have h0 : (![0, 0, 0] : Fin 3 → ℕ) = fun _ => 0 := by funext a; fin_cases a <;> rfl
  have h0' : (![0, 0] : Fin 2 → ℕ) = fun _ => 0 := by funext a; fin_cases a <;> rfl
  have hk : ∀ x : Fin 128, (k0_pay6 (F := Ideal) x1 (ix2 r x) : EReal) = x1 (ix3 0 r x) := fun x => by
    unfold k0_pay6
    pointwise
  have hh : ∀ x : Fin 128, (k0_pay8 (F := Ideal) x5 (ix2 0 x) : EReal) = x5 (ix2 0 x) := fun x => by
    unfold k0_pay8
    pointwise
  refine Eq.trans (?_ : _ = blockOut (k0_pay5 x0 x2 x3) (k0_pay8 x5) (k0_pay6 x1) r n) ?_
  · unfold_out out0_6
    rw [show View.ld x0 r0_0 = x0 from View.ld_unit_zero h0 _ _, show View.ld x1 r0_5 = x1 from View.ld_unit_zero h0 _ _,
      show View.ld x2 r0_1 = x2 from View.ld_unit_zero h0' _ _, show View.ld x3 r0_4 = x3 from View.ld_unit_zero h0' _ _,
      show View.ld x5 r0_6 = x5 from View.ld_unit_zero h0' _ _]
    unfold k0_pay7 k0_pay9 k0_pay7
    generalize k0_pay5 (F := Ideal) x0 x2 x3 = U
    generalize k0_pay6 (F := Ideal) x1 = K
    have ex5 : ∃ H, H = k0_pay8 (F := Ideal) x5 := ⟨_, rfl⟩
    obtain ⟨H, hH⟩ := ex5
    rw [← hH]
    refine View.canon_apply_of_pieces (blockFn U H K) _ ?_ (ix3 0 r n) (cover0_6 _ _ _ _ _ _ _ _ _)
    have key : ∀ (o : ℕ) (ho : o % 128 = 0) (ho' : o + 128 ≤ 1024) (hs : S256x1024.Slices ![0, o] S256x128) (hb) (x : S1x256x128.Idx),
        (k0_pay10 (F := Ideal) (headIn U K o hs) H (mulf (φ := .f32) (headIn U K o hs) (headIn U K o hs)) x : EReal)
          = (blockFn U H K) ((Rect.unit (s := S1x256x1024) ![0, 0, o] S1x256x128.size hb).emb x) :=
      fun o ho ho' hs hb x => by
      obtain ⟨r, l, rfl⟩ : ∃ (r : Fin 256) (l : Fin 128), x = (ix3 0 r l : S1x256x128.Idx) :=
        ⟨x 1, x 2, (eq_ix3 x).trans (by congr 1; exact Subsingleton.elim _ _)⟩
      rw [head_apply _ _ _ o ho ho']
      have e : (Rect.unit (s := S1x256x1024) ![0, 0, o] S1x256x128.size hb).emb (ix3 0 r l : S1x256x128.Idx)
          = (ix3 0 r ⟨o + l.val, by omega⟩ : S1x256x1024.Idx) := by
        funext a
        fin_cases a <;> exact Fin.ext (by simp [Rect.emb, Rect.unit]; done)
      rw [e]
      rfl
    intro p hp x
    simp only [List.mem_cons, List.not_mem_nil, or_false] at hp
    subst hH
    rcases hp with rfl | rfl | rfl | rfl | rfl | rfl | rfl | rfl
    · exact key 896 rfl (by decide) slices_S256x1024_o0_896_S256x128 inb_S1x256x1024_S1x256x128_0_0_896 x
    · exact key 768 rfl (by decide) slices_S256x1024_o0_768_S256x128 inb_S1x256x1024_S1x256x128_0_0_768 x
    · exact key 640 rfl (by decide) slices_S256x1024_o0_640_S256x128 inb_S1x256x1024_S1x256x128_0_0_640 x
    · exact key 512 rfl (by decide) slices_S256x1024_o0_512_S256x128 inb_S1x256x1024_S1x256x128_0_0_512 x
    · exact key 384 rfl (by decide) slices_S256x1024_o0_384_S256x128 inb_S1x256x1024_S1x256x128_0_0_384 x
    · exact key 256 rfl (by decide) slices_S256x1024_o0_256_S256x128 inb_S1x256x1024_S1x256x128_0_0_256 x
    · exact key 128 rfl (by decide) slices_S256x1024_o0_128_S256x128 inb_S1x256x1024_S1x256x128_0_0_128 x
    · exact key 0 rfl (by decide) slices_S256x1024_o0_0_S256x128 inb_S1x256x1024_S1x256x128_0_0_0 x
  · unfold blockOut
    simp only [hk, hh, pay5_apply]

/-- The block's values. -/
theorem out7 (r : Fin 256) (n : Fin 512) : (out0_7 x0 x1 x2 x3 x4 x5 (ix3 0 r n) : EReal)
    = up (fun k => x0 (ix3 0 r k)) (fun k => x2 (ix2 0 k)) (fun k => x4 (ix2 k n)) := by
  have h0 : (![0, 0, 0] : Fin 3 → ℕ) = fun _ => 0 := by funext a; fin_cases a <;> rfl
  have h0' : (![0, 0] : Fin 2 → ℕ) = fun _ => 0 := by funext a; fin_cases a <;> rfl
  unfold_out out0_7
  rw [show View.ld x0 r0_0 = x0 from View.ld_unit_zero h0 _ _, show View.ld x2 r0_1 = x2 from View.ld_unit_zero h0' _ _,
    show View.ld x4 r0_2 = x4 from View.ld_unit_zero h0' _ _]
  rw [View.canon_unit_zero h0]
  exact pay4_apply x0 x2 x4 r n

end Cert.Kernel6Ideal.KvValue
-- ==== Proof.KvCtxArray.lean ====
/-
  The context's key and value kernel's whole results: what its wrapper prepares, which is what the latent tokens' wrapper prepares,
  the blocks the kernel reads, and the eight blocks that tile each of its two arrays.
-/
module

public import proofs.«01_k».proof.Proof.KvCtxBlock
public import proofs.«01_k».proof.Proof.KvHost
public import Idealize.ShloMosaic.Lib.KernelVsHost

@[expose] public section

set_option maxRecDepth 16384
noncomputable section

namespace Cert.Kernel6Ideal.KvValue

open Cert.Kernel6Ideal Cert.Kernel6Ideal.Gen Idealize.ShloMosaic Idealize.ShloMosaic.TcCoe Idealize.SL.Sem
open Idealize.ShloMosaic.Pipeline (Dat)
open Cert.Softmax Cert.KvCtx
open Cert.Kv (NWRow WUp NWLane up joined up_zero)
open Cert.Kernel4Ideal.QueryValue (headLaid headLaid_at)
open Cert.Kernel5Ideal.KvValue (keyLaid valLaid keyLaid_at valLaid_at)

variable (m : (ℓ : Loc nD τ sig) → Buf (Elt Ideal) ℓ) (c : Dev nD)

/-- The key weights the wrapper prepares. -/
theorem V_v7 : V m c main_v7 = keyLaid (m ((c : Thread nD τ).loc main_arg3)) := by
  simp only [V, hostOps0, List.flatten_cons, List.flatten_nil, List.append_nil, List.cons_append, List.nil_append]
  after_results_simp <;> rfl

/-- The value weights the wrapper prepares. -/
theorem V_v11 : V m c main_v11 = valLaid (m ((c : Thread nD τ).loc main_arg3)) := by
  simp only [V, hostOps0, List.flatten_cons, List.flatten_nil, List.append_nil, List.cons_append, List.nil_append]
  after_results_simp <;> rfl

/-- The head norm's weights the wrapper prepares. -/
theorem V_v13 : V m c main_v13 = headLaid (m ((c : Thread nD τ).loc main_arg4)) := by
  simp only [V, hostOps0, List.flatten_cons, List.flatten_nil, List.append_nil, List.cons_append, List.nil_append]
  after_results_simp <;> rfl

/-- The row norm's weights the wrapper prepares. -/
theorem v14_at (k : Fin 256) : (V m c main_v14 : S1x256.Idx → EReal) (ix2 0 k)
    = (m ((c : Thread nD τ).loc main_arg2) : S1x256.Idx → EReal) (ix2 0 k) := by
  have h : V m c main_v14 = shapeCast S1x256 (shapeCast S256 (m ((c : Thread nD τ).loc main_arg2)) shapeCasts_S1x256_S256) shapeCasts_S256_S1x256 := by
    simp only [V, hostOps0, List.flatten_cons, List.flatten_nil, List.append_nil, List.cons_append, List.nil_append]
    after_results_simp <;> rfl
  rw [h]
  pointwise

/-- Of the rows and the rotary key, the block at point `t` is example `t`. -/
theorem indIn : ∀ t : Fin cfg0.N, win0_0.index t = ![t.val, 0, 0] ∧ win0_1.index t = ![t.val, 0, 0] :=
  (by decide +kernel : ∀ t : Fin grid0.N, win0_0.index t = ![t.val, 0, 0] ∧ win0_1.index t = ![t.val, 0, 0])
/-- So it is of the keys and the values. -/
theorem indOut : ∀ t : Fin cfg0.N, win0_6.index t = ![t.val, 0, 0] ∧ win0_7.index t = ![t.val, 0, 0] :=
  (by decide +kernel : ∀ t : Fin grid0.N, win0_6.index t = ![t.val, 0, 0] ∧ win0_7.index t = ![t.val, 0, 0])
/-- The blocks of the norms' weights are the whole arrays. -/
theorem indN : ∀ t : Fin cfg0.N, win0_2.index t = ![0, 0] ∧ win0_5.index t = ![0, 0] :=
  (by decide +kernel : ∀ t : Fin grid0.N, win0_2.index t = ![0, 0] ∧ win0_5.index t = ![0, 0])
/-- The blocks of the projections' weights are the whole arrays. -/
theorem indW : ∀ t : Fin cfg0.N, win0_3.index t = ![0, 0] ∧ win0_4.index t = ![0, 0] :=
  (by decide +kernel : ∀ t : Fin grid0.N, win0_3.index t = ![0, 0] ∧ win0_4.index t = ![0, 0])

/-- The example of point `t`. -/
abbrev ex (t : Fin cfg0.N) : Fin 8 := ⟨t.val, t.isLt⟩

/-- The rows' block. -/
theorem b0 (t : Fin cfg0.N) (r : Fin 256) (k : Fin 256) : (iblk m c 0 t : S1x256x256.Idx → EReal) (ix3 0 r k)
    = (m ((c : Thread nD τ).loc main_arg0) : S8x256x256.Idx → EReal) (ix3 (ex t) r k) := by
  blk_simp [iblk]
  refine (congrFun (V_main_arg0 m c) _).trans (congrArg _ ?_)
  blk_ext [(indIn t).1]

/-- The rotary key's block. -/
theorem b1 (t : Fin cfg0.N) (r : Fin 256) (k : Fin 128) : (iblk m c 1 t : S1x256x128.Idx → EReal) (ix3 0 r k)
    = (m ((c : Thread nD τ).loc main_arg1) : S8x256x128.Idx → EReal) (ix3 (ex t) r k) := by
  blk_simp [iblk]
  refine (congrFun (V_main_arg1 m c) _).trans (congrArg _ ?_)
  blk_ext [(indIn t).2]

/-- The block of the row norm's weights. -/
theorem b2 (t : Fin cfg0.N) (k : Fin 256) : (iblk m c 2 t : S1x256.Idx → EReal) (ix2 0 k)
    = (m ((c : Thread nD τ).loc main_arg2) : S1x256.Idx → EReal) (ix2 0 k) := by
  blk_simp [iblk]
  refine Eq.trans (congrArg (V m c main_v14) ?_) (v14_at m c k)
  blk_ext [(indN t).1]

/-- The block of the key weights. -/
theorem b3 (t : Fin cfg0.N) (k : Fin 256) (n : Fin 1024) : (iblk m c 3 t : S256x1024.Idx → EReal) (ix2 k n)
    = keyLaid (m ((c : Thread nD τ).loc main_arg3)) (ix2 k n) := by
  blk_simp [iblk]
  refine Eq.trans (congrArg (V m c main_v7) ?_) (congrFun (V_v7 m c) _)
  blk_ext [(indW t).1]

/-- The block of the value weights. -/
theorem b4 (t : Fin cfg0.N) (k : Fin 256) (n : Fin 512) : (iblk m c 4 t : S256x512.Idx → EReal) (ix2 k n)
    = valLaid (m ((c : Thread nD τ).loc main_arg3)) (ix2 k n) := by
  blk_simp [iblk]
  refine Eq.trans (congrArg (V m c main_v11) ?_) (congrFun (V_v11 m c) _)
  blk_ext [(indW t).2]

/-- The block of the head norm's weights. -/
theorem b5 (t : Fin cfg0.N) (l : Fin 128) : (iblk m c 5 t : S1x128.Idx → EReal) (ix2 0 l)
    = headLaid (m ((c : Thread nD τ).loc main_arg4)) (ix2 0 l) := by
  blk_simp [iblk]
  refine Eq.trans (congrArg (V m c main_v13) ?_) (congrFun (V_v13 m c) _)
  blk_ext [(indN t).2]

/-- The keys, where the rotary key's row is zero but for the lanes 64 to 95. -/
theorem final6 (x : Rows) (hx : x = m ((c : Thread nD τ).loc main_arg0)) (kr : KRow) (hr : kr = m ((c : Thread nD τ).loc main_arg1))
    (n : NWRow) (hn : n = m ((c : Thread nD τ).loc main_arg2)) (w : WUp) (hw : w = m ((c : Thread nD τ).loc main_arg3))
    (g : NWLane) (hg : g = m ((c : Thread nD τ).loc main_arg4))
    (hlo : ∀ b t (l : Fin 128), l.val < 64 → kr (ix3 b t l) = 0) (hhi : ∀ b t (l : Fin 128), 96 ≤ l.val → kr (ix3 b t l) = 0) :
    (dats m 0 c).arrAt 6 cfg0.N = keys x kr n w g := by
  refine (dats m 0 c).arrAt_eq_of_covers 6 _ (by decide +kernel) fun t hf y => ?_
  blk_simp
  rw [after0_6]
  obtain ⟨r, l, rfl⟩ : ∃ (r : Fin 256) (l : Fin 1024), y = (ix3 0 r l : S1x256x1024.Idx) :=
    ⟨y 1, y 2, (eq_ix3 y).trans (by congr 1; exact Subsingleton.elim _ _)⟩
  have hy : (win0_6.blk t).view.emb (ix3 0 r l : S1x256x1024.Idx) = (ix3 (ex t) r l : S8x256x1024.Idx) := by
    blk_ext [(indOut t).1]
  refine Eq.trans ?_ (congrArg (keys x kr n w g) hy).symm
  refine (out6 _ _ _ _ _ _ r l).trans ?_
  simp only [b0, b1, b2, b3, b5, ← hx, ← hr, ← hn, ← hw, ← hg]
  have hz : ∀ d : Fin 128, 64 ≤ d.val → up (fun k => x (ix3 (ex t) r k)) (fun k => n (ix2 0 k))
      (fun k => keyLaid w (ix2 k ⟨l.val / 128 * 128 + d.val, by omega⟩)) = 0 := fun d hd => by
    refine up_zero _ _ _ fun k => (keyLaid_at w k _).trans (if_neg ?_)
    show ¬ (l.val / 128 * 128 + d.val) % 128 < 64
    omega
  refine laneNorm_eq _ _ _ _ (fun d => ?_) (fun d hd => ?_) (fun d => ?_) _
  · by_cases hd : d.val < 64
    · refine Eq.trans ?_ (dif_pos hd).symm
      rw [hlo _ _ _ hd, add_zero]
      refine congrArg (up _ _) (funext fun k => (keyLaid_at w k _).trans ?_)
      have e1 : (l.val / 128 * 128 + d.val) % 128 = d.val := by omega
      have e2 : (l.val / 128 * 128 + d.val) / 128 = l.val / 128 := by omega
      simp only [e1, e2, hd, if_true]
      rfl
    · refine Eq.trans ?_ (dif_neg hd).symm
      rw [hz ⟨d.val, by omega⟩ (by show 64 ≤ d.val; omega), zero_add]
      exact congrArg kr (congrArg (ix3 _ _) (Fin.ext (by show d.val = 64 + (d.val - 64); omega)))
  · rw [hz d (by omega), hhi _ _ d hd, add_zero]
  · exact (headLaid_at g _).trans (dif_pos d.isLt)

/-- The values. -/
theorem final7 (x : Rows) (hx : x = m ((c : Thread nD τ).loc main_arg0)) (n : NWRow) (hn : n = m ((c : Thread nD τ).loc main_arg2))
    (w : WUp) (hw : w = m ((c : Thread nD τ).loc main_arg3)) :
    (dats m 0 c).arrAt 7 cfg0.N = values x n w := by
  refine (dats m 0 c).arrAt_eq_of_covers 7 _ (by decide +kernel) fun t hf y => ?_
  blk_simp
  rw [after0_7]
  obtain ⟨r, l, rfl⟩ : ∃ (r : Fin 256) (l : Fin 512), y = (ix3 0 r l : S1x256x512.Idx) :=
    ⟨y 1, y 2, (eq_ix3 y).trans (by congr 1; exact Subsingleton.elim _ _)⟩
  have hy : (win0_7.blk t).view.emb (ix3 0 r l : S1x256x512.Idx) = (ix3 (ex t) r l : S8x256x512.Idx) := by
    blk_ext [(indOut t).2]
  refine Eq.trans ?_ (congrArg (values x n w) hy).symm
  refine (out7 _ _ _ _ _ _ r l).trans ?_
  simp only [b0, b2, b4, ← hx, ← hn, ← hw]
  exact congrArg (up _ _) (funext fun k => valLaid_at w k l)

end Cert.Kernel6Ideal.KvValue
-- ==== Proof.KvCtxRef.lean ====
/-
  The context reference's keys and values read operation by operation: its results are the functions `Cert.KvCtx.keys` and `Cert.KvCtx.values`.
-/
module

public import proofs.«01_k».proof.Proof.Gen.Reference6Ideal.Read
public import proofs.«01_k».proof.Proof.KvCtx
public import Idealize.ShloMosaic.Lib.KernelVsHost
public import Idealize.ShloMosaic.Lib.Pointwise

@[expose] public section

set_option maxRecDepth 16384
noncomputable section

namespace Cert.Reference6Ideal.KvRef

open Cert.Reference6Ideal Cert.Reference6Ideal.Gen Cert.Reference6Ideal.Read Idealize.ShloMosaic Idealize.ShloMosaic.TcCoe Idealize.SL.Sem
open Cert.Softmax Cert.KvCtx Cert.Rope
open Cert.Kv (NWRow WUp NWLane up joined)

variable (x : Rows) (r : KRow) (n : NWRow) (w : WUp) (g : NWLane)

/-- A head's 128 projected lanes: 64 of the keys, then 64 of the values. -/
theorem up_at (b : Fin 8) (t : Fin 256) (h : Fin 8) (l : Fin 128) :
    (val_main_v17 (F := Ideal) x n w (ix4 b t h l) : EReal)
      = up (fun k => x (ix3 b t k)) (fun k => n (ix2 0 k)) (fun k => w (ix3 0 k ⟨h.val * 128 + l.val, by omega⟩)) := by
  unfold val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- A head's key lanes and the rotary key's side by side. -/
theorem joined_at (b : Fin 8) (t : Fin 256) (h : Fin 8) (l : Fin 96) :
    (val_main_v23 (F := Ideal) x r n w (ix4 b t h l) : EReal)
      = joined (fun l => up (fun k => x (ix3 b t k)) (fun k => n (ix2 0 k)) (fun k => w (ix3 0 k ⟨h.val * 128 + l.val, by omega⟩)))
          (fun l => r (ix3 b t ⟨64 + l.val, by omega⟩)) l := by
  have e := up_at x n w b t h
  unfold val_main_v23 val_main_v22 val_main_v21 val_main_v20 val_main_v18
  generalize val_main_v17 (F := Ideal) x n w = y at e ⊢
  pointwise
  simp only [e]
  rfl

/-- A head's lanes after its norm. -/
theorem normed_at (b : Fin 8) (t : Fin 256) (h : Fin 8) (l : Fin 96) :
    (val_main_v37 (F := Ideal) x r n w g (ix4 b t h l) : EReal)
      = normed (joined (fun l => up (fun k => x (ix3 b t k)) (fun k => n (ix2 0 k)) (fun k => w (ix3 0 k ⟨h.val * 128 + l.val, by omega⟩)))
          (fun l => r (ix3 b t ⟨64 + l.val, by omega⟩))) (fun l => g (ix2 0 l)) l := by
  have e := joined_at x r n w b t h
  unfold val_main_v37 val_main_v36 val_main_v35 val_main_v34 val_main_v33 val_main_v32 val_main_v31 val_main_v30 val_main_v29 val_main_v28 val_main_v27 val_main_v26 val_main_v25 val_main_v24 val_main_cst_2 val_main_cst_3 val_main_cst_4
  generalize val_main_v23 (F := Ideal) x r n w = y at e ⊢
  pointwise
  simp only [e]
  rfl

/-- The reference's first result is the keys. -/
theorem keys_eq : val_main_v40 (F := Ideal) x r n w g = keys x r n w g := by
  funext i
  obtain ⟨b, t, k, rfl⟩ : ∃ (b : Fin 8) (t : Fin 256) (k : Fin 1024), i = ix3 b t k := ⟨i 0, i 1, i 2, eq_ix3 i⟩
  have h := normed_at x r n w g b t
  unfold val_main_v40 val_main_v39 val_main_v38 val_main_call0_v0 val_main_c
  generalize val_main_v37 (F := Ideal) x r n w g = y at h ⊢
  pointwise
  simp only [h]
  unfold keys plainOut
  by_cases hk : k.val % 128 < 96
  · rw [dif_pos ⟨by omega, hk⟩]
    symm
    exact dif_pos hk
  · rw [dif_neg fun h' => hk h'.2]
    refine Cert.Rope.sitofp_zero.trans ?_
    symm
    exact dif_neg hk

/-- The reference's second result is the values. -/
theorem values_eq : val_main_v42 (F := Ideal) x n w = values x n w := by
  funext i
  obtain ⟨b, t, k, rfl⟩ : ∃ (b : Fin 8) (t : Fin 256) (k : Fin 512), i = ix3 b t k := ⟨i 0, i 1, i 2, eq_ix3 i⟩
  have h := up_at x n w b t
  unfold val_main_v42 val_main_v41 val_main_v19
  generalize val_main_v17 (F := Ideal) x n w = y at h ⊢
  pointwise
  simp only [h]
  rfl

end Cert.Reference6Ideal.KvRef
-- ==== Proof.KvCtxClaim.lean ====
/-
  The context key and value claim: where the rotary key's row is zero but for its own lanes, the kernel and its reference leave the same
  arrays, the keys and the values; and the kernel's named constant is what its printed one stands for.
-/
module

public import proofs.«01_k».proof.Defs
public import proofs.«01_k».proof.Proof.KvClaim
public import proofs.«01_k».proof.Proof.KvCtxArray
public import proofs.«01_k».proof.Proof.KvCtxRef
public import Idealize.ShloMosaic.Lib.ReduceAll

@[expose] public section

set_option maxRecDepth 16384
noncomputable section

namespace Cert.KvCtxClaim

open Idealize.ShloMosaic Idealize.ShloMosaic.TcCoe Idealize.SL.Sem
open Cert.Softmax Cert.KvCtx
open Cert.Kv (NWRow WUp NWLane)

/-- The shape facts the precondition's operations take. -/
theorem preFacts : Cert.Pre_rope_lanes6.Facts := ⟨by decide, by decide, by decide, by decide, by decide, by decide, by decide⟩

/-- The printed constant, read on the extended reals, is the number it is named for. -/
theorem preserves : Cert.preserves_Kernel6_Kernel6Ideal :=
  IdealRules.named_const.statement Cert.Kernel6Ideal.κ "inv_qk" .f32 0x3C2AAAAB#32 ((96⁻¹ : ℝ) : EReal) rfl

section
attribute [local instance] preFacts

/-- The precondition read at the entries: the rotary key's row is zero before lane 64 and from lane 96 on. -/
theorem zero_of_pre (x : Rows) (r : KRow) (n : NWRow) (w : WUp) (g : NWLane)
    (h : (Cert.Pre_rope_lanes6.fn (F := Ideal) x r n w g).1 = (fun _ => 1#1)
      ∧ (Cert.Pre_rope_lanes6.fn (F := Ideal) x r n w g).2 = (fun _ => 1#1)) :
    (∀ b t (l : Fin 128), l.val < 64 → r (ix3 b t l) = 0) ∧ (∀ b t (l : Fin 128), 96 ≤ l.val → r (ix3 b t l) = 0) := by
  obtain ⟨h1, h2⟩ := h
  have hs : Subsingleton (Cert.Pre_rope_lanes6.S_).Idx := ⟨fun a b => funext fun i => i.elim0⟩
  have e1 := congrFun h1 fun a => a.elim0
  have e2 := congrFun h2 fun a => a.elim0
  unfold Cert.Pre_rope_lanes6.fn at e1 e2
  dsimp only at e1 e2
  have lo : ∀ b t (l : Fin 64), r (ix3 b t ⟨l.val, by omega⟩) = 0 := fun b t l => by
    have e := Cert.KvClaim.zero_of_cmp _ (Host.reduce_andi_all _ _ _ _ _ e1 (ix3 b t l))
    refine Eq.trans (congrArg r ?_) e
    funext a
    fin_cases a <;> exact Fin.ext (by simp; done)
  have hi : ∀ b t (l : Fin 32), r (ix3 b t ⟨96 + l.val, by omega⟩) = 0 := fun b t l => by
    have e := Cert.KvClaim.zero_of_cmp _ (Host.reduce_andi_all _ _ _ _ _ e2 (ix3 b t l))
    refine Eq.trans (congrArg r ?_) e
    funext a
    fin_cases a <;> exact Fin.ext (by simp; done)
  refine ⟨fun b t l hl => lo b t ⟨l.val, hl⟩, fun b t l hl => ?_⟩
  refine Eq.trans (congrArg r (congrArg (ix3 b t) (Fin.ext ?_))) (hi b t ⟨l.val - 96, by omega⟩)
  show l.val = 96 + (l.val - 96)
  omega

/-- Where the rotary key's row is zero but for its own lanes, the kernel leaves the keys and the values, and so does the
    reference, the arguments unchanged. -/
theorem algebraic : Cert.algebraic_Kernel6Ideal_Reference6Ideal_pre_rope_lanes6
    (hKernel6Ideal := Cert.Kernel6Ideal.Gen.facts) (hReference6Ideal := Cert.Reference6Ideal.Gen.facts)
    (hPre_rope_lanes6 := preFacts) := by
  intro m g m' g' hpre harg
  refine ⟨fun c => keys (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2))
    (m ((c.tc : Thread Cert.Kernel6Ideal.nD Cert.Kernel6Ideal.τ).loc Cert.Kernel6Ideal.main_arg3))
    (m ((c.tc : Thread Cert.Kernel6Ideal.nD Cert.Kernel6Ideal.τ).loc Cert.Kernel6Ideal.main_arg4)),
    fun c => values (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg2))
    (m ((c.tc : Thread Cert.Kernel6Ideal.nD Cert.Kernel6Ideal.τ).loc Cert.Kernel6Ideal.main_arg3)), ?_, ?_⟩
  · refine (θ_run _ _ _).mono (fun r h c => ?_) (Cert.Kernel6Ideal.Value.run_blocks m g)
    obtain ⟨h0, h1, hrest⟩ := h c
    obtain ⟨hlo, hhi⟩ := zero_of_pre _ _ _ _ _ (hpre c)
    exact ⟨h0.trans (Cert.Kernel6Ideal.KvValue.final6 m c _ rfl _ rfl _ rfl _ rfl _ rfl hlo hhi),
      h1.trans (Cert.Kernel6Ideal.KvValue.final7 m c _ rfl _ rfl _ rfl), hrest⟩
  · refine (θ_run _ _ _).mono (fun r h c => ?_) (Cert.Reference6Ideal.Value.run (F := Ideal) m' g')
    obtain ⟨h0, h1, hrest⟩ := h c
    obtain ⟨a0, a1, a2, a3, a4⟩ := harg c
    refine ⟨h0.trans ?_, h1.trans ?_, hrest⟩
    · rw [Cert.Reference6Ideal.Read.val_main_v40_eq, Cert.Reference6Ideal.KvRef.keys_eq, a0, a1, a2, a3, a4]
    · rw [Cert.Reference6Ideal.Read.val_main_v42_eq, Cert.Reference6Ideal.KvRef.values_eq, a0, a2, a3]

end

end Cert.KvCtxClaim
-- ==== Proof.Mod.lean ====
/-
  The modulation as a function of its four arguments, on the extended reals: sixteen rows, the eight examples' conditions, the
  context's condition and seven rows of zeros, each put through z times its logistic, projected and moved by the bias.
-/
module

public import proofs.«01_k».proof.Proof.Merge

@[expose] public section

set_option maxRecDepth 16384
noncomputable section

namespace Cert.Modul

open Idealize.ShloMosaic Cert.Softmax Cert.Inproj
open Cert.Merge (silu)

/-- The examples' conditions. -/
abbrev Cond : Type := (⟨2, ![8, 1024]⟩ : Shape).Idx → EReal
/-- The context's condition. -/
abbrev CtxCond : Type := (⟨1, ![1024]⟩ : Shape).Idx → EReal
/-- The projection's weights. -/
abbrev WMod : Type := (⟨3, ![1, 1024, 3072]⟩ : Shape).Idx → EReal
/-- The projection's bias. -/
abbrev BMod : Type := (⟨2, ![1, 3072]⟩ : Shape).Idx → EReal

/-- The sixteen rows: the examples' conditions, the context's, then zeros. -/
def rows (c : Cond) (e : CtxCond) (r : Fin 16) (k : Fin 1024) : EReal :=
  if h : r.val < 8 then c (ix2 ⟨r.val, h⟩ k) else if r.val - 8 < 1 then e (ix1 k) else 0

/-- The modulation. -/
def modulation (c : Cond) (e : CtxCond) (w : WMod) (b : BMod) : Mod :=
  fun i => (∑ k : Fin 1024, silu (rows c e (i 0) k) * w (ix3 0 k (i 1))) + b (ix2 0 (i 1))

/-- A row of zeros gives the bias alone. -/
theorem zero_row (f : Fin 1024 → EReal) (b : EReal) : (∑ k : Fin 1024, silu 0 * f k) + b = b := by
  have h : silu 0 = 0 := zero_mul (M₀ := EReal) _
  simp only [h, zero_mul, Finset.sum_const_zero, zero_add]

end Cert.Modul
-- ==== Proof.ModArray.lean ====
/-
  The modulation kernel's whole result: what its wrapper prepares, one block read at an index, and the three blocks of columns that
  tile its array.
-/
module

public import proofs.«01_k».proof.Proof.Gen.Kernel7Ideal.Value
public import proofs.«01_k».proof.Proof.Mod
public import Idealize.ShloMosaic.Lib.Pipeline.ValueKit
public import Idealize.ShloMosaic.Lib.KernelVsHost
public import Idealize.ShloMosaic.Lib.Pointwise

@[expose] public section

set_option maxRecDepth 16384
noncomputable section

namespace Cert.Kernel7Ideal.ModValue

open Cert.Kernel7Ideal Cert.Kernel7Ideal.Gen Idealize.ShloMosaic Idealize.ShloMosaic.TcCoe Idealize.SL.Sem
open Idealize.ShloMosaic.Pipeline (Dat)
open Cert.Softmax Cert.Modul
open Cert.Merge (silu)

/-- The block's result: the rows through z times its logistic, on the block's columns of the weights, and the bias. -/
theorem out3 (x0 : Vec Ideal S16x1024 .f32) (x1 : Vec Ideal S1024x1024 .f32) (x2 : Vec Ideal S1x1024 .f32) (r : Fin 16) (l : Fin 1024) :
    (out0_3 x0 x1 x2 (ix2 r l) : EReal) = (∑ k : Fin 1024, silu (x0 (ix2 r k)) * x1 (ix2 k l)) + x2 (ix2 0 l) := by
  have h0 : (![0, 0] : Fin 2 → ℕ) = fun _ => 0 := by funext a; fin_cases a <;> rfl
  unfold out0_3
  rw [View.canon_unit_zero h0]
  rw [show View.ld x0 r0_0 = x0 from View.ld_unit_zero h0 _ _, show View.ld x1 r0_1 = x1 from View.ld_unit_zero h0 _ _,
    show View.ld x2 r0_2 = x2 from View.ld_unit_zero h0 _ _]
  unfold k0_pay1
  pointwise
  rfl

/-- The sixteen rows stacked. -/
def stacked (x : FVec Ideal S8x1024 .f32) (e : FVec Ideal S1024 .f32) : FVec Ideal S16x1024 .f32 :=
  concatenate S16x1024 0 [⟨S8x1024, x⟩, ⟨S1x1024, broadcastInDim S1x1024 ![1] bcast_S1024_S1x1024_1 e⟩,
    ⟨S7x1024, broadcastInDim S7x1024 ![] bcast_S_S7x1024 (constant (F := Ideal) S_ .f32 0x00000000#32)⟩]
    concatenates_S8x1024_S1x1024_S7x1024_S16x1024_d0

/-- The stacked rows at an index. -/
theorem stacked_at (x : FVec Ideal S8x1024 .f32) (e : FVec Ideal S1024 .f32) (r : Fin 16) (k : Fin 1024) :
    (stacked x e (ix2 r k) : EReal) = rows x e r k := by
  unfold stacked
  pointwise
  rfl

variable (m : (ℓ : Loc nD τ sig) → Buf (Elt Ideal) ℓ) (c : Dev nD)

/-- The sixteen rows the wrapper stacks. -/
theorem v4_at (r : Fin 16) (k : Fin 1024) : (V m c main_v4 : S16x1024.Idx → EReal) (ix2 r k)
    = rows (m ((c : Thread nD τ).loc main_arg0)) (m ((c : Thread nD τ).loc main_arg1)) r k := by
  have h : V m c main_v4 = stacked (m ((c : Thread nD τ).loc main_arg0)) (m ((c : Thread nD τ).loc main_arg1)) := by
    simp only [V, hostOps0, List.flatten_cons, List.flatten_nil, List.append_nil, List.cons_append, List.nil_append]
    after_results_simp <;> (try dsimp only [Matrix.cons_val]) <;> (try after_results_simp) <;> rfl
  rw [h]
  exact stacked_at _ _ r k

/-- The weights as a matrix. -/
theorem v0_at (k : Fin 1024) (n : Fin 3072) : (V m c main_v0 : S1024x3072.Idx → EReal) (ix2 k n)
    = (m ((c : Thread nD τ).loc main_arg2) : S1x1024x3072.Idx → EReal) (ix3 0 k n) := by
  have h : V m c main_v0 = shapeCast S1024x3072 (m ((c : Thread nD τ).loc main_arg2)) shapeCasts_S1x1024x3072_S1024x3072 := by
    simp only [V, hostOps0, List.flatten_cons, List.flatten_nil, List.append_nil, List.cons_append, List.nil_append]
    after_results_simp <;> rfl
  rw [h]
  refine shapeCast_apply _ shapeCasts_S1x1024x3072_S1024x3072 _ _ ?_
  rw [Shape.rowMajor_val_three, Shape.rowMajor_val_two]
  show (0 * 1024 + k.val) * 3072 + n.val = k.val * 3072 + n.val
  omega

/-- The bias as a row. -/
theorem v5_at (n : Fin 3072) : (V m c main_v5 : S1x3072.Idx → EReal) (ix2 0 n)
    = (m ((c : Thread nD τ).loc main_arg3) : S1x3072.Idx → EReal) (ix2 0 n) := by
  have h : V m c main_v5 = shapeCast S1x3072 (shapeCast S3072 (m ((c : Thread nD τ).loc main_arg3)) shapeCasts_S1x3072_S3072)
      shapeCasts_S3072_S1x3072 := by
    simp only [V, hostOps0, List.flatten_cons, List.flatten_nil, List.append_nil, List.cons_append, List.nil_append]
    after_results_simp <;> rfl
  rw [h]
  pointwise

/-- Of the weights, the bias and the result, the block at point `t` is the `t`-th group of columns; the rows are whole. -/
theorem ind : ∀ t : Fin cfg0.N, win0_0.index t = ![0, 0] ∧ win0_1.index t = ![0, t.val] ∧ win0_2.index t = ![0, t.val]
    ∧ win0_3.index t = ![0, t.val] :=
  (by decide +kernel : ∀ t : Fin grid0.N, win0_0.index t = ![0, 0] ∧ win0_1.index t = ![0, t.val] ∧ win0_2.index t = ![0, t.val]
    ∧ win0_3.index t = ![0, t.val])

/-- A grid point is one of three. -/
theorem lt3 (t : Fin cfg0.N) : t.val < 3 := t.isLt

/-- Column `l` of the block at point `t`. -/
abbrev colOf (t : Fin cfg0.N) (l : Fin 1024) : Fin 3072 := ⟨t.val * 1024 + l.val, by have := lt3 t; omega⟩

/-- The rows' block. -/
theorem b0 (t : Fin cfg0.N) (r : Fin 16) (k : Fin 1024) : (iblk m c 0 t : S16x1024.Idx → EReal) (ix2 r k)
    = rows (m ((c : Thread nD τ).loc main_arg0)) (m ((c : Thread nD τ).loc main_arg1)) r k := by
  blk_simp [iblk]
  refine Eq.trans (congrArg (V m c main_v4) ?_) (v4_at m c r k)
  blk_ext [(ind t).1]

/-- The weights' block. -/
theorem b1 (t : Fin cfg0.N) (k : Fin 1024) (l : Fin 1024) : (iblk m c 1 t : S1024x1024.Idx → EReal) (ix2 k l)
    = (m ((c : Thread nD τ).loc main_arg2) : S1x1024x3072.Idx → EReal) (ix3 0 k (colOf t l)) := by
  blk_simp [iblk]
  refine Eq.trans (congrArg (V m c main_v0) ?_) (v0_at m c k (colOf t l))
  blk_ext [(ind t).2.1]

/-- The bias's block. -/
theorem b2 (t : Fin cfg0.N) (l : Fin 1024) : (iblk m c 2 t : S1x1024.Idx → EReal) (ix2 0 l)
    = (m ((c : Thread nD τ).loc main_arg3) : S1x3072.Idx → EReal) (ix2 0 (colOf t l)) := by
  blk_simp [iblk]
  refine Eq.trans (congrArg (V m c main_v5) ?_) (v5_at m c (colOf t l))
  blk_ext [(ind t).2.2.1]

/-- The modulation. -/
theorem final3 (x : Cond) (hx : x = m ((c : Thread nD τ).loc main_arg0)) (e : CtxCond) (he : e = m ((c : Thread nD τ).loc main_arg1))
    (w : WMod) (hw : w = m ((c : Thread nD τ).loc main_arg2)) (b : BMod) (hb : b = m ((c : Thread nD τ).loc main_arg3)) :
    (dats m 0 c).arrAt 3 cfg0.N = modulation x e w b := by
  refine (dats m 0 c).arrAt_eq_of_covers 3 _ (by decide +kernel) fun t hf y => ?_
  blk_simp
  rw [after0_3]
  obtain ⟨r, l, rfl⟩ : ∃ (r : Fin 16) (l : Fin 1024), y = (ix2 r l : S16x1024.Idx) := ⟨y 0, y 1, eq_ix2 y⟩
  have hy : (win0_3.blk t).view.emb (ix2 r l : S16x1024.Idx) = (ix2 r (colOf t l) : S16x3072.Idx) := by
    blk_ext [(ind t).2.2.2]
  refine Eq.trans ?_ (congrArg (modulation x e w b) hy).symm
  refine (out3 _ _ _ r l).trans ?_
  simp only [b0, b1, b2, ← hx, ← he, ← hw, ← hb]
  rfl

end Cert.Kernel7Ideal.ModValue
-- ==== Proof.ModRef.lean ====
/-
  The reference modulation read operation by operation: its result is the function `Cert.Modul.modulation`.
-/
module

public import proofs.«01_k».proof.Proof.Gen.Reference7Ideal.Read
public import proofs.«01_k».proof.Proof.Mod
public import Idealize.ShloMosaic.Lib.KernelVsHost
public import Idealize.ShloMosaic.Lib.Pointwise

@[expose] public section

set_option maxRecDepth 16384
noncomputable section

namespace Cert.Reference7Ideal.ModRef

open Cert.Reference7Ideal Cert.Reference7Ideal.Gen Cert.Reference7Ideal.Read Idealize.ShloMosaic Idealize.ShloMosaic.TcCoe Idealize.SL.Sem
open Cert.Softmax Cert.Inproj Cert.Modul
open Cert.Merge (silu)

variable (x : Cond) (e : CtxCond) (w : WMod) (b : BMod)

/-- The examples' rows. -/
theorem ex_at (r : Fin 8) (n : Fin 3072) : (val_main_v6 (F := Ideal) x w b (ix2 r n) : EReal)
    = (∑ k : Fin 1024, silu (x (ix2 r k)) * w (ix3 0 k n)) + b (ix2 0 n) := by
  unfold val_main_v6 val_main_v5 val_main_v4 val_main_v3 val_main_v2 val_main_v1 val_main_v0 val_main_call0_v5 val_main_call0_v4 val_main_call0_v3 val_main_call0_v2 val_main_call0_v1 val_main_call0_v0 val_main_call0_cst val_main_call0_cst_0
  pointwise
  rfl

/-- The context's row. -/
theorem ctx_at (n : Fin 3072) : (val_main_v10 (F := Ideal) e w b (ix2 0 n) : EReal)
    = (∑ k : Fin 1024, silu (e (ix1 k)) * w (ix3 0 k n)) + b (ix2 0 n) := by
  have hl : ∀ k : Fin 1024, lidx_main_v8 (ix1 n) k = ix1 k := fun k => by
    funext a
    fin_cases a
    rfl
  have hr : ∀ k : Fin 1024, ridx_main_v8 (ix1 n) k = ix2 k n := fun k => by
    funext a
    fin_cases a <;> rfl
  have hi : idx_main_v10 (ix2 0 n) = ix1 n := by
    funext a
    fin_cases a
    rfl
  rw [val_main_v10_apply, val_main_v9_apply, val_main_v8_apply, hi]
  simp only [hl, hr]
  unfold val_main_v7 val_main_v1 val_main_v0 val_main_call1_v5 val_main_call1_v4 val_main_call1_v3 val_main_call1_v2 val_main_call1_v1 val_main_call1_v0 val_main_call1_cst val_main_call1_cst_0
  pointwise
  rfl

/-- The reference's result is the modulation. -/
theorem mod_eq : val_main_v12 (F := Ideal) x e w b = modulation x e w b := by
  funext i
  obtain ⟨r, n, rfl⟩ : ∃ (r : Fin 16) (n : Fin 3072), i = ix2 r n := ⟨i 0, i 1, eq_ix2 i⟩
  have h1 := ex_at x w b
  have h2 := ctx_at e w b
  have h3 : ∀ s : Fin 7, (val_main_v11 (F := Ideal) b (ix2 s n) : EReal) = b (ix2 0 n) := fun s => by
    unfold val_main_v11 val_main_v1
    pointwise
  unfold val_main_v12
  generalize val_main_v6 (F := Ideal) x w b = y1 at h1 ⊢
  generalize val_main_v10 (F := Ideal) e w b = y2 at h2 ⊢
  generalize val_main_v11 (F := Ideal) b = y3 at h3 ⊢
  pointwise
  show _ = (∑ k : Fin 1024, silu (rows x e r k) * w (ix3 0 k n)) + b (ix2 0 n)
  unfold rows
  by_cases a1 : r.val < 8
  · simp only [dif_pos a1]
    exact h1 _ n
  · by_cases a2 : r.val - 8 < 1
    · simp only [dif_neg a1, dif_pos a2, if_pos a2]
      exact (congrArg y2 (congrArg (fun s => ix2 s n) (Subsingleton.elim _ _))).trans (h2 n)
    · simp only [dif_neg a1, dif_neg a2, if_neg a2]
      exact (h3 _).trans (zero_row _ _).symm

end Cert.Reference7Ideal.ModRef
-- ==== Proof.ModClaim.lean ====
/-
  The modulation claim: the kernel and its reference leave the same array.
-/
module

public import proofs.«01_k».proof.Defs
public import proofs.«01_k».proof.Proof.ModArray
public import proofs.«01_k».proof.Proof.ModRef

@[expose] public section

set_option maxRecDepth 16384
noncomputable section

namespace Cert.ModClaim

open Idealize.ShloMosaic Idealize.ShloMosaic.TcCoe Idealize.SL.Sem
open Cert.Softmax Cert.Modul

/-- For every argument, the kernel leaves the modulation, and so does the reference, the arguments unchanged. -/
theorem algebraic : Cert.algebraic_Kernel7Ideal_Reference7Ideal
    (hKernel7Ideal := Cert.Kernel7Ideal.Gen.facts) (hReference7Ideal := Cert.Reference7Ideal.Gen.facts) := by
  intro m g m' g' _ harg
  refine ⟨fun c => modulation (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3)), ?_, ?_⟩
  · refine (θ_run _ _ _).mono (fun r h c => ?_) (Cert.Kernel7Ideal.Value.run_blocks m g)
    obtain ⟨h0, hrest⟩ := h c
    exact ⟨h0.trans (Cert.Kernel7Ideal.ModValue.final3 m c _ rfl _ rfl _ rfl _ rfl), hrest⟩
  · refine (θ_run _ _ _).mono (fun r h c => ?_) (Cert.Reference7Ideal.Value.run (F := Ideal) m' g')
    obtain ⟨h0, hrest⟩ := h c
    obtain ⟨a0, a1, a2, a3⟩ := harg c
    refine ⟨h0.trans ?_, hrest⟩
    rw [Cert.Reference7Ideal.Read.val_main_v12_eq, Cert.Reference7Ideal.ModRef.mod_eq, a0, a1, a2, a3]

end Cert.ModClaim
-- ==== Proof.Conv.lean ====
/-
  The delta branch's inputs as a function of the three arguments, on the extended reals: each of 1536 lanes convolved along the
  tokens with five weights, the tokens before the first and after the last being zero, put through z times its logistic; the first
  eight heads of 64 lanes, the queries, and the next eight, the keys, each divided by the root of the sum of its squares; the
  queries scaled by an eighth. The context's tokens come first, then the latent ones. Both programs are shown to leave this function
  in their result.
-/
module

public import proofs.«01_k».proof.Proof.Merge
public import Idealize.ShloMosaic.Lib.KernelVsHost
public import Idealize.ShloMosaic.Lib.Pointwise

@[expose] public section

set_option maxRecDepth 16384

noncomputable section

namespace Cert.Conv

open Idealize.ShloMosaic Cert.Softmax
open Cert.Merge (silu)

/-- The context's tokens. -/
abbrev Ctx : Type := (⟨3, ![8, 256, 1536]⟩ : Shape).Idx → EReal
/-- The latent tokens. -/
abbrev Lat : Type := (⟨3, ![8, 2048, 1536]⟩ : Shape).Idx → EReal
/-- The convolution's weights. -/
abbrev WConv : Type := (⟨3, ![1, 5, 1536]⟩ : Shape).Idx → EReal
/-- The inputs of all tokens. -/
abbrev Out : Type := (⟨3, ![8, 2304, 1536]⟩ : Shape).Idx → EReal

/-- A lane's tokens with two zeros put before the first, and zeros after the last. -/
def padded {L : ℕ} (x : Fin L → EReal) (t : ℕ) : EReal := if h : 2 ≤ t ∧ t - 2 < L then x ⟨t - 2, h.2⟩ else 0

/-- A lane convolved with its five weights, at token `t`, and put through z times its logistic. -/
def act {L : ℕ} (x : Fin L → EReal) (w : Fin 5 → EReal) (t : ℕ) : EReal :=
  silu (padded x t * w 0 + padded x (t + 1) * w 1 + padded x (t + 2) * w 2 + padded x (t + 3) * w 3 + padded x (t + 4) * w 4)

/-- One over the root of the sum of a head's squares. -/
def inv (y : Fin 64 → EReal) : EReal := Ideal.rsqrt ((∑ d : Fin 64, y d * y d) + Ideal.ofBits FTy.f32 0x358637BD#32)

/-- The head of lane `c`. -/
abbrev headOf (y : Fin 1536 → EReal) (c : Fin 1536) (d : Fin 64) : EReal := y ⟨c.val / 64 * 64 + d.val, by omega⟩

/-- Lane `c` of a token: the queries' and the keys' heads normed, the queries' scaled. -/
def headed (y : Fin 1536 → EReal) (c : Fin 1536) : EReal :=
  if c.val < 512 then y c * inv (headOf y c) * Ideal.ofBits FTy.f32 0x3E000000#32
  else if c.val < 1024 then y c * inv (headOf y c)
  else y c

/-- Lane `c` of token `t` of one sequence. -/
def inputs {L : ℕ} (x : Fin L → Fin 1536 → EReal) (w : Fin 5 → Fin 1536 → EReal) (t : ℕ) (c : Fin 1536) : EReal :=
  headed (fun c => act (fun s => x s c) (fun k => w k c) t) c

/-- The delta branch's inputs. -/
def conv (xc : Ctx) (xl : Lat) (w : WConv) : Out := fun i =>
  if (i 1).val < 256 then inputs (fun s c => xc (ix3 (i 0) s c)) (fun k c => w (ix3 0 k c)) (i 1).val (i 2)
  else inputs (fun s c => xl (ix3 (i 0) s c)) (fun k c => w (ix3 0 k c)) ((i 1).val - 256) (i 2)

/-- The same as a kernel computes it on 128 lanes, two heads: the head's sum of squares taken under a mask, one over its root times
    a scale, and one in its place where the lane is no query's or key's. -/
def laneOut (qk : Prop) [Decidable qk] (sc : EReal) (y : Fin 128 → EReal) (l : Fin 128) : EReal :=
  y l * (if qk then Ideal.rsqrt ((if l.val < 64 then ∑ x : Fin 128, (if x.val < 64 then y x * y x else 0)
    else ∑ x : Fin 128, (if x.val < 64 then 0 else y x * y x)) + Ideal.ofBits FTy.f32 0x358637BD#32) * sc else 1)

/-- Lane `c` of a token where the queries, the keys and the values are cut apart and put together again. -/
theorem heads_eq (y : Fin 1536 → EReal) (c : Fin 1536) :
    (if h : c.val < 512 then
      y ⟨c.val / 64 * 64 + c.val % 64, by omega⟩ * Ideal.rsqrt ((∑ d : Fin 64, y ⟨c.val / 64 * 64 + d.val, by omega⟩ * y ⟨c.val / 64 * 64 + d.val, by omega⟩)
        + Ideal.ofBits FTy.f32 0x358637BD#32) * Ideal.ofBits FTy.f32 0x3E000000#32
    else if h : c.val - 512 < 512 then
      y ⟨512 + ((c.val - 512) / 64 * 64 + (c.val - 512) % 64), by omega⟩
        * Ideal.rsqrt ((∑ d : Fin 64, y ⟨512 + ((c.val - 512) / 64 * 64 + d.val), by omega⟩ * y ⟨512 + ((c.val - 512) / 64 * 64 + d.val), by omega⟩)
          + Ideal.ofBits FTy.f32 0x358637BD#32)
    else y ⟨1024 + (c.val - 512 - 512), by omega⟩) = headed y c := by
  unfold headed
  by_cases h1 : c.val < 512
  · have e : c.val / 64 * 64 + c.val % 64 = c.val := by omega
    rw [dif_pos h1, if_pos h1]
    simp only [e]
    rfl
  · by_cases h2 : c.val < 1024
    · have e : 512 + ((c.val - 512) / 64 * 64 + (c.val - 512) % 64) = c.val := by omega
      have e' : ∀ d, 512 + ((c.val - 512) / 64 * 64 + d) = c.val / 64 * 64 + d := fun d => by omega
      rw [dif_neg h1, dif_pos (show c.val - 512 < 512 by omega), if_neg h1, if_pos h2]
      simp only [e, e']
      rfl
    · have e : 1024 + (c.val - 512 - 512) = c.val := by omega
      rw [dif_neg h1, dif_neg (show ¬ c.val - 512 < 512 by omega), if_neg h1, if_neg h2]
      simp only [e]

/-- Lane `d` of head `h`, where 512 lanes are cut into eight heads. -/
theorem split_at {L : ℕ} (x : (⟨3, ![8, L, 512]⟩ : Shape).Idx → EReal) (hs : (⟨3, ![8, L, 512]⟩ : Shape).ShapeCasts ⟨4, ![8, L, 8, 64]⟩)
    (b : Fin 8) (t : Fin L) (h : Fin 8) (d : Fin 64) :
    shapeCast ⟨4, ![8, L, 8, 64]⟩ x hs (ix4 b t h d) = x (ix3 b t ⟨h.val * 64 + d.val, by omega⟩) := by
  refine shapeCast_apply x hs _ _ ?_
  rw [Shape.rowMajor_val_three, Shape.rowMajor_val_four]
  show (b.val * L + t.val) * 512 + (h.val * 64 + d.val) = ((b.val * L + t.val) * 8 + h.val) * 64 + d.val
  omega

/-- Lane `c` of eight heads put side by side. -/
theorem join_at {L : ℕ} (x : (⟨4, ![8, L, 8, 64]⟩ : Shape).Idx → EReal) (hs : (⟨4, ![8, L, 8, 64]⟩ : Shape).ShapeCasts ⟨3, ![8, L, 512]⟩)
    (b : Fin 8) (t : Fin L) (c : Fin 512) :
    shapeCast ⟨3, ![8, L, 512]⟩ x hs (ix3 b t c) = x (ix4 b t ⟨c.val / 64, by omega⟩ ⟨c.val % 64, by omega⟩) := by
  refine shapeCast_apply x hs _ _ ?_
  rw [Shape.rowMajor_val_three, Shape.rowMajor_val_four]
  show ((b.val * L + t.val) * 8 + c.val / 64) * 64 + c.val % 64 = (b.val * L + t.val) * 512 + c.val
  omega

/-- A sum over 128 lanes under the mask of the first 64. -/
theorem sum_lo (f : Fin 128 → EReal) : (∑ x : Fin 128, (if x.val < 64 then f x else 0)) = ∑ d : Fin 64, f ⟨d.val, by omega⟩ := by
  refine (Fin.sum_univ_add (a := 64) (b := 64) (fun x : Fin 128 => if x.val < 64 then f x else 0)).trans ?_
  have h : (∑ d : Fin 64, (if (Fin.natAdd 64 d : Fin 128).val < 64 then f (Fin.natAdd 64 d) else 0)) = 0 :=
    Finset.sum_eq_zero fun d _ => if_neg (by simp [Fin.natAdd])
  refine (congrArg₂ (fun a b : EReal => a + b) (Finset.sum_congr rfl fun d _ => if_pos ?_) h).trans (add_zero _)
  exact d.isLt

/-- A sum over 128 lanes under the mask of the last 64. -/
theorem sum_hi (f : Fin 128 → EReal) : (∑ x : Fin 128, (if x.val < 64 then 0 else f x)) = ∑ d : Fin 64, f ⟨64 + d.val, by omega⟩ := by
  refine (Fin.sum_univ_add (a := 64) (b := 64) (fun x : Fin 128 => if x.val < 64 then 0 else f x)).trans ?_
  have h : (∑ d : Fin 64, (if (Fin.castAdd 64 d : Fin 128).val < 64 then 0 else f (Fin.castAdd 64 d))) = 0 :=
    Finset.sum_eq_zero fun d _ => if_pos d.isLt
  refine (congrArg₂ (fun a b : EReal => a + b) h (Finset.sum_congr rfl fun d _ => if_neg ?_)).trans (zero_add _)
  simp [Fin.natAdd]

/-- What a kernel computes on 128 lanes is those lanes of the heads normed and scaled. -/
theorem laneOut_eq (y : Fin 1536 → EReal) (j : Fin 12) (l : Fin 128) :
    laneOut (j.val < 8) (if j.val < 4 then Ideal.ofBits FTy.f32 0x3E000000#32 else 1) (fun x => y ⟨j.val * 128 + x.val, by omega⟩) l
      = headed y ⟨j.val * 128 + l.val, by omega⟩ := by
  have hs : (if l.val < 64 then ∑ x : Fin 128, (if x.val < 64 then y ⟨j.val * 128 + x.val, by omega⟩ * y ⟨j.val * 128 + x.val, by omega⟩ else 0)
      else ∑ x : Fin 128, (if x.val < 64 then 0 else y ⟨j.val * 128 + x.val, by omega⟩ * y ⟨j.val * 128 + x.val, by omega⟩))
      = ∑ d : Fin 64, headOf y ⟨j.val * 128 + l.val, by omega⟩ d * headOf y ⟨j.val * 128 + l.val, by omega⟩ d := by
    by_cases h : l.val < 64
    · rw [if_pos h, sum_lo fun x => y ⟨j.val * 128 + x.val, by omega⟩ * y ⟨j.val * 128 + x.val, by omega⟩]
      have e : (j.val * 128 + l.val) / 64 * 64 = j.val * 128 := by omega
      simp only [headOf, e]
    · rw [if_neg h, sum_hi fun x => y ⟨j.val * 128 + x.val, by omega⟩ * y ⟨j.val * 128 + x.val, by omega⟩]
      have e : (j.val * 128 + l.val) / 64 * 64 = j.val * 128 + 64 := by omega
      simp only [headOf, e, Nat.add_assoc]
  unfold laneOut headed
  simp only []
  rw [hs]
  by_cases h8 : j.val < 8
  · by_cases h4 : j.val < 4
    · rw [if_pos h8, if_pos h4, if_pos (show j.val * 128 + l.val < 512 by omega), ← mul_assoc]
      rfl
    · rw [if_pos h8, if_neg h4, if_neg (show ¬ j.val * 128 + l.val < 512 by omega), if_pos (show j.val * 128 + l.val < 1024 by omega), mul_one]
      rfl
  · rw [if_neg h8, if_neg (show ¬ j.val * 128 + l.val < 512 by omega), if_neg (show ¬ j.val * 128 + l.val < 1024 by omega), mul_one]

end Cert.Conv
-- ==== Proof.ConvBlock.lean ====
/-
  One block of the convolution kernel read at an index: what the kernel's scratch holds when the context's tokens and when the latent
  ones are in it, one tile of 256 tokens, and the nine tiles that make up a block.
-/
module

public import proofs.«01_k».proof.Proof.Gen.Kernel8Ideal.Value
public import Idealize.ShloMosaic.Lib.Pointwise
public import Idealize.ShloMosaic.Lib.Pipeline.ValueKit
public import Idealize.ShloMosaic.Lib.WritesUnit
public import proofs.«01_k».proof.Proof.Conv

@[expose] public section

set_option maxRecDepth 16384
noncomputable section

namespace Cert.Kernel8Ideal.ConvValue

open Cert.Kernel8Ideal Cert.Kernel8Ideal.Gen Idealize.ShloMosaic Idealize.ShloMosaic.TcCoe Idealize.SL.Sem
open Cert.Softmax Cert.Conv
open Cert.Merge (silu)

/-- One tile of 256 tokens, from the weights and the five shifted tiles. -/
def tile (i : grid0.Coords) (w : Vec Ideal S8x128 .f32) (r0 r1 r2 r3 r4 : Vec Ideal S256x128 .f32) : FVec Ideal S1x256x128 .f32 :=
  k0_pay15 k0_pay1 (k0_pay2 i) (Scalar.cmpi .slt (BitVec.ofNat 32 (i 1).val) 8#32) (k0_pay13 (k0_pay3 w) r0 r1 r2 r3 r4)
    (k0_pay14 (k0_pay3 w) r0 r1 r2 r3 r4) (FloatOps.ofBits .f32 0#32)

/-- Whether the block's lanes are the queries', and whether they are the queries' or the keys'. -/
theorem flags (j : Fin 12) : Scalar.cmpi .slt (BitVec.ofNat 32 j.val) 4#32 = (if j.val < 4 then 1#1 else 0#1)
    ∧ Scalar.cmpi .slt (BitVec.ofNat 32 j.val) 8#32 = if j.val < 8 then 1#1 else 0#1 := by
  revert j
  decide

/-- The activations at an index. -/
theorem pay13_at (w : Vec Ideal S8x128 .f32) (r0 r1 r2 r3 r4 : Vec Ideal S256x128 .f32) (r : Fin 256) (l : Fin 128) :
    (k0_pay13 (F := Ideal) w r0 r1 r2 r3 r4 (ix2 r l) : EReal)
      = silu (r0 (ix2 r l) * w (ix2 0 l) + r1 (ix2 r l) * w (ix2 1 l) + r2 (ix2 r l) * w (ix2 2 l) + r3 (ix2 r l) * w (ix2 3 l)
          + r4 (ix2 r l) * w (ix2 4 l)) := by
  unfold k0_pay13
  pointwise
  rfl

/-- The mask of the first 64 lanes. -/
theorem pay1_at (r : Fin 256) (l : Fin 128) : k0_pay1 (ix2 r l) = if l.val < 64 then 1#1 else 0#1 := by
  unfold k0_pay1
  pointwise
  revert l
  decide

/-- A choice by a decided bit. -/
theorem sel_if (p : Prop) [Decidable p] (a b : EReal) : (Scalar.select (if p then 1#1 else 0#1) a b : EReal) = if p then a else b := by
  by_cases h : p
  · rw [if_pos h, if_pos h]; rfl
  · rw [if_neg h, if_neg h]; rfl

/-- A tile at an index. -/
theorem tile_at (i : grid0.Coords) (j : Fin 12) (hj : (i 1).val = j.val) (w : Vec Ideal S8x128 .f32) (r0 r1 r2 r3 r4 : Vec Ideal S256x128 .f32)
    (r : Fin 256) (l : Fin 128) : (tile i w r0 r1 r2 r3 r4 (ix3 0 r l) : EReal)
      = laneOut (j.val < 8) (if j.val < 4 then Ideal.ofBits FTy.f32 0x3E000000#32 else 1)
        (fun x => silu (r0 (ix2 r x) * w (ix2 0 x) + r1 (ix2 r x) * w (ix2 1 x) + r2 (ix2 r x) * w (ix2 2 x) + r3 (ix2 r x) * w (ix2 3 x)
          + r4 (ix2 r x) * w (ix2 4 x))) l := by
  obtain ⟨h4, h8⟩ := flags j
  have ha := pay13_at w r0 r1 r2 r3 r4 r
  have hm := pay1_at r
  unfold tile k0_pay14 k0_pay2
  rw [hj]
  dsimp only
  rw [h4, h8, show k0_pay3 w = w from by unfold k0_pay3; exact shapeCast_id _ _]
  generalize k0_pay13 (F := Ideal) w r0 r1 r2 r3 r4 = y at ha ⊢
  unfold k0_pay15
  generalize k0_pay1 = mk at hm ⊢
  pointwise
  simp only [ha, hm]
  simp only [sel_if]
  unfold laneOut
  rfl

/-- Tokens stored with eight rows of zeros before and after them, read at a row. -/
theorem rows3 (v : View sig .tc .vmem S2064x128 .f32) (n o : ℕ) (ho : o = 8 + n) (i2 : ∀ a : Fin 2, (![o, 0] : Fin 2 → ℕ) a + (![8, 128] : Fin 2 → ℕ) a ≤ (![2064, 128] : Fin 2 → ℕ) a)
    (i1 : ∀ a : Fin 2, (![8, 0] : Fin 2 → ℕ) a + (![n, 128] : Fin 2 → ℕ) a ≤ (![2064, 128] : Fin 2 → ℕ) a)
    (i0 : ∀ a : Fin 2, (![0, 0] : Fin 2 → ℕ) a + (![8, 128] : Fin 2 → ℕ) a ≤ (![2064, 128] : Fin 2 → ℕ) a)
    (w2 w0 : Vec Ideal S8x128 .f32) (w1 : Vec Ideal ⟨2, ![n, 128]⟩ .f32) (L : List (View.Piece (Elt Ideal) S2064x128 .f32))
    (h2 : ∀ r l, w2 (ix2 r l) = (0 : EReal)) (h0 : ∀ r l, w0 (ix2 r l) = (0 : EReal)) (t : ℕ) (ht : t < 2064) (hn : t < n + 16) (x : Fin 128) :
    (View.canon ((⟨Rect.unit (s := S2064x128) ![o, 0] ![8, 128] i2, w2⟩ : View.Piece (Elt Ideal) S2064x128 .f32)
      :: (⟨Rect.unit (s := S2064x128) ![8, 0] ![n, 128] i1, w1⟩ : View.Piece (Elt Ideal) S2064x128 .f32)
      :: (⟨Rect.unit (s := S2064x128) ![0, 0] ![8, 128] i0, w0⟩ : View.Piece (Elt Ideal) S2064x128 .f32) :: L) (ix2 ⟨t, ht⟩ x : S2064x128.Idx) : EReal)
      = if h : 8 ≤ t ∧ t - 8 < n then w1 (ix2 ⟨t - 8, h.2⟩ x) else 0 := by
  subst ho
  rw [← View.read_writes_junk_eq_canon v]
  by_cases h : 8 + n ≤ t
  · refine (View.read_writes_cons_rows_of_mem (d := ![2064, 128]) (size := ![8, 128]) (o := 8 + n) v _ i2 w2 _ _ (ix2 ⟨t - (8 + n), by omega⟩ x : S8x128.Idx) rfl
      (by show t = 8 + n + (t - (8 + n)); omega) rfl).trans ?_
    rw [dif_neg (by omega)]
    exact h2 _ _
  · refine (View.read_writes_cons_rows_of_not_mem (d := ![2064, 128]) (size := ![8, 128]) (o := 8 + n) (W := 8) v _ i2 w2 _ _ rfl rfl
      (by show t < 8 + n ∨ _; omega)).trans ?_
    by_cases h' : 8 ≤ t
    · refine (View.read_writes_cons_rows_of_mem (d := ![2064, 128]) (size := ![n, 128]) (o := 8) v _ i1 w1 _ _ (ix2 ⟨t - 8, by omega⟩ x : (⟨2, ![n, 128]⟩ : Shape).Idx) rfl
        (by show t = 8 + (t - 8); omega) rfl).trans ?_
      rw [dif_pos ⟨h', by omega⟩]
    · refine (View.read_writes_cons_rows_of_not_mem (d := ![2064, 128]) (size := ![n, 128]) (o := 8) (W := n) v _ i1 w1 _ _ rfl rfl
        (by show t < 8 ∨ _; omega)).trans ?_
      refine (View.read_writes_cons_rows_of_mem (d := ![2064, 128]) (size := ![8, 128]) (o := 0) v _ i0 w0 _ _ (ix2 ⟨t, by omega⟩ x : S8x128.Idx) rfl
        (by show t = 0 + t; omega) rfl).trans ?_
      rw [dif_neg (by omega)]
      exact h0 _ _

section

variable (c : Dev nD) (i : grid0.Coords) (arg2 : Memref sig .tc .vmem S1x256x128 .f32) (harg2 : arg2.IsWhole)
  (arg3 : Memref sig .tc .vmem S1x2048x128 .f32) (harg3 : arg3.IsWhole) (arg4 : Memref sig .tc .vmem S8x128 .f32) (harg4 : arg4.IsWhole)
  (arg5 : Memref sig .tc .vmem S1x2304x128 .f32) (harg5 : arg5.IsWhole) (arg6 : Memref sig .tc .vmem S2064x128 .f32) (harg6 : arg6.IsWhole)
  (x0 : Vec Ideal S1x256x128 .f32) (x1 : Vec Ideal S1x2048x128 .f32) (x2 : Vec Ideal S8x128 .f32)

/-- The context's tokens as the body stores them. -/
theorem pay5_at (r : Fin 256) (x : Fin 128) : (k0_pay5 (View.readAt (Elt Ideal) arg2.view
    (Rect.unit ![0, 0, 0] ![1, 256, 128] inb_S1x256x128_S1x256x128_0_0_0).toLoadRect (harg2.unread x0)) (ix2 r x) : EReal) = x0 (ix3 0 r x) := by
  have h : View.readAt (Elt Ideal) arg2.view (Rect.unit ![0, 0, 0] ![1, 256, 128] inb_S1x256x128_S1x256x128_0_0_0).toLoadRect (harg2.unread x0) = x0 :=
    (View.readAt_eq_ld _ _ _).trans ((congrArg (fun z => View.ld z _) (harg2.read_unread x0)).trans
      (View.ld_unit_zero (by funext a; fin_cases a <;> rfl) _ _))
  rw [h]
  unfold k0_pay5
  pointwise

/-- The latent tokens as the body stores them. -/
theorem pay11_at (r : Fin 2048) (x : Fin 128) : (k0_pay11 (View.readAt (Elt Ideal) arg3.view
    (Rect.unit ![0, 0, 0] ![1, 2048, 128] inb_S1x2048x128_S1x2048x128_0_0_0).toLoadRect (harg3.unread x1)) (ix2 r x) : EReal) = x1 (ix3 0 r x) := by
  have h : View.readAt (Elt Ideal) arg3.view (Rect.unit ![0, 0, 0] ![1, 2048, 128] inb_S1x2048x128_S1x2048x128_0_0_0).toLoadRect (harg3.unread x1) = x1 :=
    (View.readAt_eq_ld _ _ _).trans ((congrArg (fun z => View.ld z _) (harg3.read_unread x1)).trans
      (View.ld_unit_zero (by funext a; fin_cases a <;> rfl) _ _))
  rw [h]
  unfold k0_pay11
  pointwise

/-- The four blocks of zeros. -/
theorem zeros_at (r : Fin 8) (l : Fin 128) : (k0_pay6 (F := Ideal) (ix2 r l) : EReal) = 0 ∧ (k0_pay4 (F := Ideal) (ix2 r l) : EReal) = 0
    ∧ (k0_pay12 (F := Ideal) (ix2 r l) : EReal) = 0 ∧ (k0_pay10 (k0_pay9 (F := Ideal)) (ix2 r l) : EReal) = 0 := by
  refine ⟨?_, ?_, ?_, ?_⟩
  · unfold k0_pay6; pointwise
  · unfold k0_pay4; pointwise
  · unfold k0_pay12; pointwise
  · unfold k0_pay10 k0_pay9; pointwise

include arg6 in
/-- The context's tokens in the scratch. -/
theorem ctx_row (t : ℕ) (ht : t < 272) (x : Fin 128) :
    (View.canon (kernelRun0_A.sl.HS0_3 c arg2 harg2 x0) (ix2 ⟨t, by omega⟩ x : S2064x128.Idx) : EReal)
      = if h : 8 ≤ t ∧ t - 8 < 256 then x0 (ix3 0 ⟨t - 8, h.2⟩ x) else 0 := by
  refine (rows3 arg6.view 256 264 rfl inb_S2064x128_S8x128_264_0 inb_S2064x128_S256x128_8_0 inb_S2064x128_S8x128_0_0 (k0_pay6 (F := Ideal)) (k0_pay4 (F := Ideal)) _ []
    (fun r l => (zeros_at r l).1) (fun r l => (zeros_at r l).2.1) t _ ht x).trans ?_
  simp only [pay5_at]

include arg6 in
/-- The latent tokens in the scratch. -/
theorem lat_row (t : ℕ) (ht : t < 2064) (x : Fin 128) :
    (View.canon (kernelRun0_A.sl.HS0_6 c arg2 harg2 arg3 harg3 x0 x1) (ix2 ⟨t, ht⟩ x : S2064x128.Idx) : EReal)
      = if h : 8 ≤ t ∧ t - 8 < 2048 then x1 (ix3 0 ⟨t - 8, h.2⟩ x) else 0 := by
  refine (rows3 arg6.view 2048 2056 rfl inb_S2064x128_S8x128_2056_0 inb_S2064x128_S2048x128_8_0 inb_S2064x128_S8x128_0_0 (k0_pay12 (F := Ideal)) (k0_pay10 (k0_pay9 (F := Ideal))) _ _
    (fun r l => (zeros_at r l).2.2.1) (fun r l => (zeros_at r l).2.2.2) t _ ht x).trans ?_
  simp only [pay11_at]

/-- The block's five rows of weights. -/
theorem w_read : View.readAt (Elt Ideal) arg4.view (Rect.unit (s := S8x128) ![0, 0] S8x128.size inb_S8x128_S8x128_0_0).toLoadRect (harg4.unread x2) = x2 :=
  (View.readAt_eq_ld _ _ _).trans ((congrArg (fun z => View.ld z _) (harg4.read_unread x2)).trans
    (View.ld_unit_zero (by funext a; fin_cases a <;> rfl) _ _))

/-- A tile of the scratch, read from the stores `L` at row `o`. -/
abbrev load (L : List (View.Piece (Elt Ideal) S2064x128 .f32)) (o : ℕ) (hb : ∀ a, (![o, 0] : Fin 2 → ℕ) a + S256x128.size a ≤ S2064x128.size a) :
    Vec Ideal S256x128 .f32 :=
  arg6.view.readCov L (Rect.unit (s := S2064x128) ![o, 0] S256x128.size hb).toLoadRect

/-- It is the scratch's row `o + r`. -/
theorem load_at (L : List (View.Piece (Elt Ideal) S2064x128 .f32)) (o : ℕ) (hb) (r : Fin 256) (x : Fin 128) (h : o + r.val < 2064) :
    (load arg6 L o hb (ix2 r x) : EReal) = View.canon L (ix2 ⟨o + r.val, h⟩ x : S2064x128.Idx) := by
  refine (congrFun (View.readCov_eq_canon' arg6.view L (Rect.unit (s := S2064x128) ![o, 0] S256x128.size hb).toLoadRect) (ix2 r x : S256x128.Idx)).trans (congrArg (View.canon L) ?_)
  funext a
  fin_cases a
  · exact Fin.ext (by show o + 1 * r.val = o + r.val; omega)
  · exact Fin.ext (by show 0 + 1 * x.val = x.val; omega)

/-- The block as a function of the index: the context's tokens first, then the latent ones. -/
def blockFn (j : Fin 12) : S1x2304x128.Idx → EReal := fun y =>
  laneOut (j.val < 8) (if j.val < 4 then Ideal.ofBits FTy.f32 0x3E000000#32 else 1)
    (fun x => if (y 1).val < 256 then act (fun s : Fin 256 => x0 (ix3 0 s x)) (fun k => x2 (ix2 ⟨k.val, by omega⟩ x)) (y 1).val
      else act (fun s : Fin 2048 => x1 (ix3 0 s x)) (fun k => x2 (ix2 ⟨k.val, by omega⟩ x)) ((y 1).val - 256)) (y 2)

/-- A tile of latent tokens. -/
theorem lat_tile (j : Fin 12) (hj : (i 1).val = j.val) (a : ℕ) (ha : 6 ≤ a) (ha' : a + 260 ≤ 2064) (b0 b1 b2 b3 b4)
    (ho : ∀ q : Fin 3, (![0, a + 250, 0] : Fin 3 → ℕ) q + S1x256x128.size q ≤ S1x2304x128.size q) (y : S1x256x128.Idx) :
    (tile i (View.readAt (Elt Ideal) arg4.view (Rect.unit (s := S8x128) ![0, 0] S8x128.size inb_S8x128_S8x128_0_0).toLoadRect (harg4.unread x2))
      (load arg6 (kernelRun0_A.sl.HS0_6 c arg2 harg2 arg3 harg3 x0 x1) a b0) (load arg6 (kernelRun0_A.sl.HS0_6 c arg2 harg2 arg3 harg3 x0 x1) (a + 1) b1)
      (load arg6 (kernelRun0_A.sl.HS0_6 c arg2 harg2 arg3 harg3 x0 x1) (a + 2) b2) (load arg6 (kernelRun0_A.sl.HS0_6 c arg2 harg2 arg3 harg3 x0 x1) (a + 3) b3)
      (load arg6 (kernelRun0_A.sl.HS0_6 c arg2 harg2 arg3 harg3 x0 x1) (a + 4) b4) y : EReal)
      = blockFn x0 x1 x2 j ((Rect.unit (s := S1x2304x128) ![0, a + 250, 0] S1x256x128.size ho).emb y) := by
  obtain ⟨u, r, l, rfl⟩ : ∃ (u : Fin 1) (r : Fin 256) (l : Fin 128), y = ix3 u r l := ⟨y 0, y 1, y 2, eq_ix3 y⟩
  obtain rfl : u = 0 := Subsingleton.elim _ _
  have hl : ∀ (k : ℕ) (hk : k ≤ 4) hb (x : Fin 128), (load arg6 (kernelRun0_A.sl.HS0_6 c arg2 harg2 arg3 harg3 x0 x1) (a + k) hb (ix2 r x) : EReal)
      = padded (fun s : Fin 2048 => x1 (ix3 0 s x)) (a - 6 + r.val + k) := by
    intro k hk hb x
    rw [load_at arg6 _ _ hb r x (by omega), lat_row c arg2 harg2 arg3 harg3 arg6 x0 x1 (a + k + r.val) (by omega) x]
    unfold padded
    by_cases h : 8 ≤ a + k + r.val ∧ a + k + r.val - 8 < 2048
    · rw [dif_pos h, dif_pos (by omega)]
      exact congrArg (fun s => x1 (ix3 0 s x)) (Fin.ext (by show a + k + r.val - 8 = a - 6 + r.val + k - 2; omega))
    · rw [dif_neg h, dif_neg (by omega)]
  rw [w_read arg4 harg4 x2, tile_at i j hj]
  unfold blockFn
  refine congrArg₂ (laneOut _ _) (funext fun x => ?_) (Fin.ext (by show l.val = 0 + 1 * l.val; omega))
  have hr : (((Rect.unit (s := S1x2304x128) ![0, a + 250, 0] S1x256x128.size ho).emb (ix3 0 r l)) 1).val = a + 250 + r.val := by
    show a + 250 + 1 * r.val = _
    omega
  rw [hr, if_neg (by omega), show a + 250 + r.val - 256 = a - 6 + r.val from by omega]
  rw [show load arg6 (kernelRun0_A.sl.HS0_6 c arg2 harg2 arg3 harg3 x0 x1) a b0 (ix2 r x) = _ from hl 0 (by omega) b0 x, hl 1 (by omega), hl 2 (by omega), hl 3 (by omega), hl 4 (by omega)]
  rfl

/-- The context's tile. -/
theorem ctx_tile (j : Fin 12) (hj : (i 1).val = j.val) (b0 b1 b2 b3 b4)
    (ho : ∀ q : Fin 3, (![0, 0, 0] : Fin 3 → ℕ) q + S1x256x128.size q ≤ S1x2304x128.size q) (y : S1x256x128.Idx) :
    (tile i (View.readAt (Elt Ideal) arg4.view (Rect.unit (s := S8x128) ![0, 0] S8x128.size inb_S8x128_S8x128_0_0).toLoadRect (harg4.unread x2))
      (load arg6 (kernelRun0_A.sl.HS0_3 c arg2 harg2 x0) 6 b0) (load arg6 (kernelRun0_A.sl.HS0_3 c arg2 harg2 x0) 7 b1)
      (load arg6 (kernelRun0_A.sl.HS0_3 c arg2 harg2 x0) 8 b2) (load arg6 (kernelRun0_A.sl.HS0_3 c arg2 harg2 x0) 9 b3)
      (load arg6 (kernelRun0_A.sl.HS0_3 c arg2 harg2 x0) 10 b4) y : EReal)
      = blockFn x0 x1 x2 j ((Rect.unit (s := S1x2304x128) ![0, 0, 0] S1x256x128.size ho).emb y) := by
  obtain ⟨u, r, l, rfl⟩ : ∃ (u : Fin 1) (r : Fin 256) (l : Fin 128), y = ix3 u r l := ⟨y 0, y 1, y 2, eq_ix3 y⟩
  obtain rfl : u = 0 := Subsingleton.elim _ _
  have hl : ∀ (k : ℕ) (hk : k ≤ 4) hb (x : Fin 128), (load arg6 (kernelRun0_A.sl.HS0_3 c arg2 harg2 x0) (6 + k) hb (ix2 r x) : EReal)
      = padded (fun s : Fin 256 => x0 (ix3 0 s x)) (r.val + k) := by
    intro k hk hb x
    rw [load_at arg6 _ _ hb r x (by omega), ctx_row c arg2 harg2 arg6 x0 (6 + k + r.val) (by omega) x]
    unfold padded
    by_cases h : 8 ≤ 6 + k + r.val ∧ 6 + k + r.val - 8 < 256
    · rw [dif_pos h, dif_pos (by omega)]
      exact congrArg (fun s => x0 (ix3 0 s x)) (Fin.ext (by show 6 + k + r.val - 8 = r.val + k - 2; omega))
    · rw [dif_neg h, dif_neg (by omega)]
  rw [w_read arg4 harg4 x2, tile_at i j hj]
  unfold blockFn
  refine congrArg₂ (laneOut _ _) (funext fun x => ?_) (Fin.ext (by show l.val = 0 + 1 * l.val; omega))
  have hr : (((Rect.unit (s := S1x2304x128) ![0, 0, 0] S1x256x128.size ho).emb (ix3 0 r l)) 1).val = r.val := by
    show 0 + 1 * r.val = _
    omega
  rw [hr, if_pos r.isLt]
  rw [show load arg6 (kernelRun0_A.sl.HS0_3 c arg2 harg2 x0) 6 b0 (ix2 r x) = _ from hl 0 (by omega) b0 x,
    show load arg6 (kernelRun0_A.sl.HS0_3 c arg2 harg2 x0) 7 b1 (ix2 r x) = _ from hl 1 (by omega) b1 x,
    show load arg6 (kernelRun0_A.sl.HS0_3 c arg2 harg2 x0) 8 b2 (ix2 r x) = _ from hl 2 (by omega) b2 x,
    show load arg6 (kernelRun0_A.sl.HS0_3 c arg2 harg2 x0) 9 b3 (ix2 r x) = _ from hl 3 (by omega) b3 x,
    show load arg6 (kernelRun0_A.sl.HS0_3 c arg2 harg2 x0) 10 b4 (ix2 r x) = _ from hl 4 (by omega) b4 x]
  rfl

/-- What the body leaves in its output block. -/
theorem out3 (j : Fin 12) (hj : (i 1).val = j.val) (y : S1x2304x128.Idx) :
    (out0_A_3 c i arg2 harg2 arg3 harg3 arg4 harg4 arg5 harg5 arg6 harg6 x0 x1 x2 y : EReal) = blockFn x0 x1 x2 j y := by
  unfold out0_A_3
  rw [View.read_writes_junk_eq_canon]
  refine View.canon_apply_of_pieces (Val := Elt Ideal) (e := .f32) (blockFn x0 x1 x2 j) _ ?_ y (cover0_A_3 _ _ _ _ _ _ _ _ _ _ _ _ _ _ _ _)
  have key := lat_tile c i arg2 harg2 arg3 harg3 arg4 harg4 arg6 x0 x1 x2 j hj
  unfold kernelRun0_A
  dsimp only
  refine List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, List.forall_mem_cons.2 ⟨?_,
    List.forall_mem_cons.2 ⟨?_, fun p hp => by cases hp⟩⟩⟩⟩⟩⟩⟩⟩⟩
  · exact fun y => key 1798 (by decide) (by decide) _ _ _ _ _ inb_S1x2304x128_S1x256x128_0_2048_0 y
  · exact fun y => key 1542 (by decide) (by decide) _ _ _ _ _ inb_S1x2304x128_S1x256x128_0_1792_0 y
  · exact fun y => key 1286 (by decide) (by decide) _ _ _ _ _ inb_S1x2304x128_S1x256x128_0_1536_0 y
  · exact fun y => key 1030 (by decide) (by decide) _ _ _ _ _ inb_S1x2304x128_S1x256x128_0_1280_0 y
  · exact fun y => key 774 (by decide) (by decide) _ _ _ _ _ inb_S1x2304x128_S1x256x128_0_1024_0 y
  · exact fun y => key 518 (by decide) (by decide) _ _ _ _ _ inb_S1x2304x128_S1x256x128_0_768_0 y
  · exact fun y => key 262 (by decide) (by decide) _ _ _ _ _ inb_S1x2304x128_S1x256x128_0_512_0 y
  · exact fun y => key 6 (by decide) (by decide) _ _ _ _ _ inb_S1x2304x128_S1x256x128_0_256_0 y
  · exact fun y => ctx_tile c i arg2 harg2 arg4 harg4 arg6 x0 x1 x2 j hj _ _ _ _ _ inb_S1x2304x128_S1x256x128_0_0_0 y

end

end Cert.Kernel8Ideal.ConvValue
-- ==== Proof.ConvArray.lean ====
/-
  The convolution kernel's whole result: what its wrapper prepares, and the blocks, one for each batch element and group of 128
  lanes, that tile its array.
-/
module

public import proofs.«01_k».proof.Proof.ConvBlock
public import Idealize.ShloMosaic.Lib.KernelVsHost

@[expose] public section

set_option maxRecDepth 16384
noncomputable section

namespace Cert.Kernel8Ideal.ConvValue

open Cert.Kernel8Ideal Cert.Kernel8Ideal.Gen Idealize.ShloMosaic Idealize.ShloMosaic.TcCoe Idealize.SL.Sem
open Idealize.ShloMosaic.Pipeline (Dat)
open Cert.Softmax Cert.Conv

variable (m : (ℓ : Loc nD τ sig) → Buf (Elt Ideal) ℓ) (c : Dev nD)

/-- The weights in eight rows: the five, and three of zeros. -/
def eightRows (w : FVec Ideal S1x5x1536 .f32) : FVec Ideal S8x1536 .f32 :=
  pad S8x1536 ![0, 0] ![3, 0] ![0, 0] (shapeCast S5x1536 w shapeCasts_S1x5x1536_S5x1536)
    (sitofp .f32 (constantI S_ 32 0#32) : FVec Ideal S_ .f32) pads_S5x1536_S8x1536_030_000 h_S_

/-- The first five rows. -/
theorem eightRows_at (w : FVec Ideal S1x5x1536 .f32) (k : Fin 5) (n : Fin 1536) :
    (eightRows w (ix2 ⟨k.val, by omega⟩ n) : EReal) = w (ix3 0 k n) := by
  unfold eightRows
  pointwise

/-- The weights in the wrapper's eight rows. -/
theorem v1_at (k : Fin 5) (n : Fin 1536) : (V m c main_v1 : S8x1536.Idx → EReal) (ix2 ⟨k.val, by omega⟩ n)
    = (m ((c : Thread nD τ).loc main_arg2) : S1x5x1536.Idx → EReal) (ix3 0 k n) := by
  have h : V m c main_v1 = eightRows (m ((c : Thread nD τ).loc main_arg2)) := by
    simp only [V, hostOps0, hostOps0_1, List.flatten_cons, List.flatten_nil, List.append_nil, List.cons_append, List.nil_append]
    after_results_simp <;> rfl
  rw [h]
  exact eightRows_at _ k n

/-- The context's tokens are the kernel's first argument. -/
theorem a0 : V m c main_arg0 = m ((c : Thread nD τ).loc main_arg0) := by
  simp only [V, hostOps0, hostOps0_1, List.flatten_cons, List.flatten_nil, List.append_nil, List.cons_append, List.nil_append]
  after_results_simp <;> rfl

/-- The latent tokens are its second. -/
theorem a1 : V m c main_arg1 = m ((c : Thread nD τ).loc main_arg1) := by
  simp only [V, hostOps0, hostOps0_1, List.flatten_cons, List.flatten_nil, List.append_nil, List.cons_append, List.nil_append]
  after_results_simp <;> rfl

/-- The block at a point is a batch element's, and a group of 128 lanes. -/
theorem ind : ∀ t : Fin cfg0.N, win0_0.index t = ![t.val / 12, 0, t.val % 12] ∧ win0_1.index t = ![t.val / 12, 0, t.val % 12]
    ∧ win0_2.index t = ![0, t.val % 12] ∧ win0_3.index t = ![t.val / 12, 0, t.val % 12] ∧ ((grid0.coords t) 1).val = t.val % 12 :=
  (by decide +kernel : ∀ t : Fin grid0.N, win0_0.index t = ![t.val / 12, 0, t.val % 12] ∧ win0_1.index t = ![t.val / 12, 0, t.val % 12]
    ∧ win0_2.index t = ![0, t.val % 12] ∧ win0_3.index t = ![t.val / 12, 0, t.val % 12] ∧ ((grid0.coords t) 1).val = t.val % 12)

/-- A grid point is one of 96. -/
theorem lt96 (t : Fin cfg0.N) : t.val < 96 := t.isLt

/-- The point's batch element. -/
abbrev bOf (t : Fin cfg0.N) : Fin 8 := ⟨t.val / 12, by have := lt96 t; omega⟩

/-- Its group of lanes. -/
abbrev jOf (t : Fin cfg0.N) : Fin 12 := ⟨t.val % 12, by omega⟩

/-- Lane `l` of the group. -/
abbrev laneOf (t : Fin cfg0.N) (l : Fin 128) : Fin 1536 := ⟨(jOf t).val * 128 + l.val, by have := (jOf t).isLt; omega⟩

/-- The context tokens' block. -/
theorem b0 (t : Fin cfg0.N) (s : Fin 256) (l : Fin 128) : (iblk m c 0 t : S1x256x128.Idx → EReal) (ix3 0 s l)
    = (m ((c : Thread nD τ).loc main_arg0) : S8x256x1536.Idx → EReal) (ix3 (bOf t) s (laneOf t l)) := by
  blk_simp [iblk]
  refine Eq.trans (congrArg (V m c main_arg0) ?_) (congrFun (a0 m c) _)
  blk_ext [(ind t).1]

/-- The latent tokens' block. -/
theorem b1 (t : Fin cfg0.N) (s : Fin 2048) (l : Fin 128) : (iblk m c 1 t : S1x2048x128.Idx → EReal) (ix3 0 s l)
    = (m ((c : Thread nD τ).loc main_arg1) : S8x2048x1536.Idx → EReal) (ix3 (bOf t) s (laneOf t l)) := by
  blk_simp [iblk]
  refine Eq.trans (congrArg (V m c main_arg1) ?_) (congrFun (a1 m c) _)
  blk_ext [(ind t).2.1]

/-- The weights' block. -/
theorem b2 (t : Fin cfg0.N) (k : Fin 5) (l : Fin 128) : (iblk m c 2 t : S8x128.Idx → EReal) (ix2 ⟨k.val, by omega⟩ l)
    = (m ((c : Thread nD τ).loc main_arg2) : S1x5x1536.Idx → EReal) (ix3 0 k (laneOf t l)) := by
  blk_simp [iblk]
  refine Eq.trans (congrArg (V m c main_v1) ?_) (v1_at m c k (laneOf t l))
  blk_ext [(ind t).2.2.1]

/-- The delta branch's inputs. -/
theorem final3 (xc : Ctx) (hc : xc = m ((c : Thread nD τ).loc main_arg0)) (xl : Lat) (hl : xl = m ((c : Thread nD τ).loc main_arg1))
    (w : WConv) (hw : w = m ((c : Thread nD τ).loc main_arg2)) : (dats m 0 c).arrAt 3 cfg0.N = conv xc xl w := by
  refine (dats m 0 c).arrAt_eq_of_covers 3 _ (by decide +kernel) fun t hf y => ?_
  blk_simp
  rw [after0_3]
  obtain ⟨u, r, l, rfl⟩ : ∃ (u : Fin 1) (r : Fin 2304) (l : Fin 128), y = (ix3 u r l : S1x2304x128.Idx) := ⟨y 0, y 1, y 2, eq_ix3 y⟩
  obtain rfl : u = 0 := Subsingleton.elim _ _
  have hy : (win0_3.blk t).view.emb (ix3 0 r l : S1x2304x128.Idx) = (ix3 (bOf t) r (laneOf t l) : S8x2304x1536.Idx) := by
    blk_ext [(ind t).2.2.2.1]
  refine Eq.trans ?_ (congrArg (conv xc xl w) hy).symm
  refine (out3 _ _ _ _ _ _ _ _ _ _ _ _ _ _ _ (jOf t) (ind t).2.2.2.2 _).trans ?_
  unfold blockFn
  simp only [b0, b1, b2, ← hc, ← hl, ← hw]
  show laneOut _ _ (fun x => if r.val < 256 then act (fun s : Fin 256 => xc (ix3 (bOf t) s (laneOf t x))) (fun k => w (ix3 0 k (laneOf t x))) r.val
    else act (fun s : Fin 2048 => xl (ix3 (bOf t) s (laneOf t x))) (fun k => w (ix3 0 k (laneOf t x))) (r.val - 256)) l
    = if r.val < 256 then headed (fun c => act (fun s : Fin 256 => xc (ix3 (bOf t) s c)) (fun k => w (ix3 0 k c)) r.val) (laneOf t l)
      else headed (fun c => act (fun s : Fin 2048 => xl (ix3 (bOf t) s c)) (fun k => w (ix3 0 k c)) (r.val - 256)) (laneOf t l)
  by_cases h : r.val < 256
  · simp only [if_pos h]
    exact laneOut_eq (fun c => act (fun s : Fin 256 => xc (ix3 (bOf t) s c)) (fun k => w (ix3 0 k c)) r.val) (jOf t) l
  · simp only [if_neg h]
    exact laneOut_eq (fun c => act (fun s : Fin 2048 => xl (ix3 (bOf t) s c)) (fun k => w (ix3 0 k c)) (r.val - 256)) (jOf t) l

end Cert.Kernel8Ideal.ConvValue
-- ==== Proof.ConvRef.lean ====
/-
  The reference's inputs of the delta branch read operation by operation: its result is the function `Cert.Conv.conv`.
-/
module

public import proofs.«01_k».proof.Proof.Gen.Reference8Ideal.Read
public import proofs.«01_k».proof.Proof.Conv
public import proofs.«01_k».proof.Proof.Rope
public import Idealize.ShloMosaic.Lib.KernelVsHost
public import Idealize.ShloMosaic.Lib.Pointwise

@[expose] public section

set_option maxRecDepth 16384
noncomputable section

namespace Cert.Reference8Ideal.ConvRef

open Cert.Reference8Ideal Cert.Reference8Ideal.Gen Cert.Reference8Ideal.Read Idealize.ShloMosaic Idealize.ShloMosaic.TcCoe Idealize.SL.Sem
open Cert.Softmax Cert.Conv
open Cert.Merge (silu)

variable (xc : Ctx) (xl : Lat) (w : WConv)

/-- The context's tokens with two zeros before and after them. -/
theorem padC_at (b : Fin 8) (t : Fin 260) (c : Fin 1536) : (val_main_v0 (F := Ideal) xc (ix3 b t c) : EReal)
    = padded (fun s => xc (ix3 b s c)) t.val := by
  unfold val_main_v0 val_main_call0_v0 val_main_c
  pointwise
  rw [Cert.Rope.sitofp_zero]
  rfl

/-- The context's activations. -/
theorem actC_at (b : Fin 8) (t : Fin 256) (c : Fin 1536) : (val_main_v37 (F := Ideal) xc w (ix3 b t c) : EReal)
    = act (fun s => xc (ix3 b s c)) (fun k => w (ix3 0 k c)) t.val := by
  have e := padC_at xc b
  unfold val_main_v37 val_main_call1_v5 val_main_call1_v4 val_main_call1_v3 val_main_call1_v2 val_main_call1_v1 val_main_call1_v0 val_main_call1_cst val_main_call1_cst_0 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_cst
  generalize val_main_v0 (F := Ideal) xc = y at e ⊢
  pointwise
  simp only [e, Nat.add_comm _ t.val]
  rfl

/-- The sum of the squares of the context's queries' head. -/
theorem qSumC_at (b : Fin 8) (t : Fin 256) (h : Fin 8) : (val_main_v43 (F := Ideal) xc w (ix3 b t h) : EReal)
    = ∑ d : Fin 64, (val_main_v41 (F := Ideal) xc w (ix4 b t h d) : EReal) * (val_main_v41 (F := Ideal) xc w (ix4 b t h d) : EReal) := by
  have hi : ∀ d : Fin 64, idx_main_v43 (ix3 b t h) d = ix4 b t h d := fun d => by
    funext a
    fin_cases a <;> rfl
  have h0 : (val_main_cst_0 (F := Ideal) (Shape.Idx.first h_S_) : EReal) = 0 := by
    unfold val_main_cst_0
    pointwise
  rw [val_main_v43_apply]
  refine ((congrArg (fun z : EReal => z + _) h0).trans (zero_add _)).trans (Finset.sum_congr rfl fun d _ => ?_)
  rw [hi, val_main_v42_apply]
  rfl

/-- Lane `d` of the context's queries' head `h`, normed. -/
theorem qNormC_at (b : Fin 8) (t : Fin 256) (h : Fin 8) (d : Fin 64) : (val_main_v51 (F := Ideal) xc w (ix4 b t h d) : EReal)
    = (val_main_v41 (F := Ideal) xc w (ix4 b t h d) : EReal) * inv (fun x => (val_main_v41 (F := Ideal) xc w (ix4 b t h x) : EReal)) * Ideal.ofBits FTy.f32 0x3E000000#32 := by
  have hi : idx_main_v44 (idx_main_v48 (ix4 b t h d)) = ix3 b t h := by
    funext a
    fin_cases a <;> rfl
  rw [val_main_v51_apply, val_main_v49_apply, val_main_v48_apply, val_main_v47_apply, val_main_v46_apply, val_main_v44_apply, hi, qSumC_at, val_main_v45_apply, val_main_cst_1_apply, val_main_v50_apply, val_main_cst_2_apply]
  generalize val_main_v41 (F := Ideal) xc w = y
  rfl

/-- Lane `c` of the context's queries, normed. -/
theorem qC_at (b : Fin 8) (t : Fin 256) (c : Fin 512) : (val_main_v61 (F := Ideal) xc w (ix3 b t c) : EReal)
    = (val_main_v38 (F := Ideal) xc w (ix3 b t ⟨c.val / 64 * 64 + c.val % 64, by omega⟩) : EReal)
      * inv (fun x => (val_main_v38 (F := Ideal) xc w (ix3 b t ⟨c.val / 64 * 64 + x.val, by omega⟩) : EReal)) * Ideal.ofBits FTy.f32 0x3E000000#32 := by
  unfold val_main_v61
  refine (join_at _ _ b t c).trans ?_
  rw [qNormC_at]
  unfold val_main_v41
  generalize val_main_v38 (F := Ideal) xc w = y
  have e := split_at y shapeCasts_S8x256x512_S8x256x8x64 b t
  generalize shapeCast _ y shapeCasts_S8x256x512_S8x256x8x64 = z at e ⊢
  simp only [e]

/-- The sum of the squares of the context's keys' head. -/
theorem kSumC_at (b : Fin 8) (t : Fin 256) (h : Fin 8) : (val_main_v54 (F := Ideal) xc w (ix3 b t h) : EReal)
    = ∑ d : Fin 64, (val_main_v52 (F := Ideal) xc w (ix4 b t h d) : EReal) * (val_main_v52 (F := Ideal) xc w (ix4 b t h d) : EReal) := by
  have hi : ∀ d : Fin 64, idx_main_v54 (ix3 b t h) d = ix4 b t h d := fun d => by
    funext a
    fin_cases a <;> rfl
  have h0 : (val_main_cst_3 (F := Ideal) (Shape.Idx.first h_S_) : EReal) = 0 := by
    unfold val_main_cst_3
    pointwise
  rw [val_main_v54_apply]
  refine ((congrArg (fun z : EReal => z + _) h0).trans (zero_add _)).trans (Finset.sum_congr rfl fun d _ => ?_)
  rw [hi, val_main_v53_apply]
  rfl

/-- Lane `d` of the context's keys' head `h`, normed. -/
theorem kNormC_at (b : Fin 8) (t : Fin 256) (h : Fin 8) (d : Fin 64) : (val_main_v60 (F := Ideal) xc w (ix4 b t h d) : EReal)
    = (val_main_v52 (F := Ideal) xc w (ix4 b t h d) : EReal) * inv (fun x => (val_main_v52 (F := Ideal) xc w (ix4 b t h x) : EReal)) := by
  have hi : idx_main_v55 (idx_main_v59 (ix4 b t h d)) = ix3 b t h := by
    funext a
    fin_cases a <;> rfl
  rw [val_main_v60_apply, val_main_v59_apply, val_main_v58_apply, val_main_v57_apply, val_main_v55_apply, hi, kSumC_at, val_main_v56_apply, val_main_cst_4_apply]
  generalize val_main_v52 (F := Ideal) xc w = y
  rfl

/-- Lane `c` of the context's keys, normed. -/
theorem kC_at (b : Fin 8) (t : Fin 256) (c : Fin 512) : (val_main_v62 (F := Ideal) xc w (ix3 b t c) : EReal)
    = (val_main_v39 (F := Ideal) xc w (ix3 b t ⟨c.val / 64 * 64 + c.val % 64, by omega⟩) : EReal)
      * inv (fun x => (val_main_v39 (F := Ideal) xc w (ix3 b t ⟨c.val / 64 * 64 + x.val, by omega⟩) : EReal)) := by
  unfold val_main_v62
  refine (join_at _ _ b t c).trans ?_
  rw [kNormC_at]
  unfold val_main_v52
  generalize val_main_v39 (F := Ideal) xc w = y
  have e := split_at y shapeCasts_S8x256x512_S8x256x8x64 b t
  generalize shapeCast _ y shapeCasts_S8x256x512_S8x256x8x64 = z at e ⊢
  simp only [e]

/-- The context's inputs. -/
theorem inC_at (b : Fin 8) (t : Fin 256) (c : Fin 1536) : (val_main_v63 (F := Ideal) xc w (ix3 b t c) : EReal)
    = inputs (fun s c => xc (ix3 b s c)) (fun k c => w (ix3 0 k c)) t.val c := by
  have e := actC_at xc w b t
  have eq := qC_at xc w b t
  have ek := kC_at xc w b t
  have hq : ∀ d : Fin 512, (val_main_v38 (F := Ideal) xc w (ix3 b t d) : EReal) = (val_main_v37 (F := Ideal) xc w (ix3 b t ⟨d.val, by omega⟩) : EReal) := fun d => by
    unfold val_main_v38
    generalize val_main_v37 (F := Ideal) xc w = y
    pointwise
  have hk : ∀ d : Fin 512, (val_main_v39 (F := Ideal) xc w (ix3 b t d) : EReal) = (val_main_v37 (F := Ideal) xc w (ix3 b t ⟨512 + d.val, by omega⟩) : EReal) := fun d => by
    unfold val_main_v39
    generalize val_main_v37 (F := Ideal) xc w = y
    pointwise
  have hv : ∀ d : Fin 512, (val_main_v40 (F := Ideal) xc w (ix3 b t d) : EReal) = (val_main_v37 (F := Ideal) xc w (ix3 b t ⟨1024 + d.val, by omega⟩) : EReal) := fun d => by
    unfold val_main_v40
    generalize val_main_v37 (F := Ideal) xc w = y
    pointwise
  simp only [hq, hk, e] at eq ek hv
  unfold val_main_v63
  generalize val_main_v61 (F := Ideal) xc w = y1 at eq ⊢
  generalize val_main_v62 (F := Ideal) xc w = y2 at ek ⊢
  generalize val_main_v40 (F := Ideal) xc w = y3 at hv ⊢
  pointwise
  simp only [eq, ek, hv]
  exact heads_eq (fun c => act (fun s => xc (ix3 b s c)) (fun k => w (ix3 0 k c)) t.val) c

/-- The latent tokens with two zeros before and after them. -/
theorem padL_at (b : Fin 8) (t : Fin 2052) (c : Fin 1536) : (val_main_v64 (F := Ideal) xl (ix3 b t c) : EReal)
    = padded (fun s => xl (ix3 b s c)) t.val := by
  unfold val_main_v64 val_main_call2_v0 val_main_c_5
  pointwise
  rw [Cert.Rope.sitofp_zero]
  rfl

/-- The latent activations. -/
theorem actL_at (b : Fin 8) (t : Fin 2048) (c : Fin 1536) : (val_main_v101 (F := Ideal) xl w (ix3 b t c) : EReal)
    = act (fun s => xl (ix3 b s c)) (fun k => w (ix3 0 k c)) t.val := by
  have e := padL_at xl b
  unfold val_main_v101 val_main_call3_v5 val_main_call3_v4 val_main_call3_v3 val_main_call3_v2 val_main_call3_v1 val_main_call3_v0 val_main_call3_cst val_main_call3_cst_0 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_cst_6
  generalize val_main_v64 (F := Ideal) xl = y at e ⊢
  pointwise
  simp only [e, Nat.add_comm _ t.val]
  rfl

/-- The sum of the squares of the latent queries' head. -/
theorem qSumL_at (b : Fin 8) (t : Fin 2048) (h : Fin 8) : (val_main_v107 (F := Ideal) xl w (ix3 b t h) : EReal)
    = ∑ d : Fin 64, (val_main_v105 (F := Ideal) xl w (ix4 b t h d) : EReal) * (val_main_v105 (F := Ideal) xl w (ix4 b t h d) : EReal) := by
  have hi : ∀ d : Fin 64, idx_main_v107 (ix3 b t h) d = ix4 b t h d := fun d => by
    funext a
    fin_cases a <;> rfl
  have h0 : (val_main_cst_7 (F := Ideal) (Shape.Idx.first h_S_) : EReal) = 0 := by
    unfold val_main_cst_7
    pointwise
  rw [val_main_v107_apply]
  refine ((congrArg (fun z : EReal => z + _) h0).trans (zero_add _)).trans (Finset.sum_congr rfl fun d _ => ?_)
  rw [hi, val_main_v106_apply]
  rfl

/-- Lane `d` of the latent queries' head `h`, normed. -/
theorem qNormL_at (b : Fin 8) (t : Fin 2048) (h : Fin 8) (d : Fin 64) : (val_main_v115 (F := Ideal) xl w (ix4 b t h d) : EReal)
    = (val_main_v105 (F := Ideal) xl w (ix4 b t h d) : EReal) * inv (fun x => (val_main_v105 (F := Ideal) xl w (ix4 b t h x) : EReal)) * Ideal.ofBits FTy.f32 0x3E000000#32 := by
  have hi : idx_main_v108 (idx_main_v112 (ix4 b t h d)) = ix3 b t h := by
    funext a
    fin_cases a <;> rfl
  rw [val_main_v115_apply, val_main_v113_apply, val_main_v112_apply, val_main_v111_apply, val_main_v110_apply, val_main_v108_apply, hi, qSumL_at, val_main_v109_apply, val_main_cst_8_apply, val_main_v114_apply, val_main_cst_9_apply]
  generalize val_main_v105 (F := Ideal) xl w = y
  rfl

/-- Lane `c` of the latent queries, normed. -/
theorem qL_at (b : Fin 8) (t : Fin 2048) (c : Fin 512) : (val_main_v125 (F := Ideal) xl w (ix3 b t c) : EReal)
    = (val_main_v102 (F := Ideal) xl w (ix3 b t ⟨c.val / 64 * 64 + c.val % 64, by omega⟩) : EReal)
      * inv (fun x => (val_main_v102 (F := Ideal) xl w (ix3 b t ⟨c.val / 64 * 64 + x.val, by omega⟩) : EReal)) * Ideal.ofBits FTy.f32 0x3E000000#32 := by
  unfold val_main_v125
  refine (join_at _ _ b t c).trans ?_
  rw [qNormL_at]
  unfold val_main_v105
  generalize val_main_v102 (F := Ideal) xl w = y
  have e := split_at y shapeCasts_S8x2048x512_S8x2048x8x64 b t
  generalize shapeCast _ y shapeCasts_S8x2048x512_S8x2048x8x64 = z at e ⊢
  simp only [e]

/-- The sum of the squares of the latent keys' head. -/
theorem kSumL_at (b : Fin 8) (t : Fin 2048) (h : Fin 8) : (val_main_v118 (F := Ideal) xl w (ix3 b t h) : EReal)
    = ∑ d : Fin 64, (val_main_v116 (F := Ideal) xl w (ix4 b t h d) : EReal) * (val_main_v116 (F := Ideal) xl w (ix4 b t h d) : EReal) := by
  have hi : ∀ d : Fin 64, idx_main_v118 (ix3 b t h) d = ix4 b t h d := fun d => by
    funext a
    fin_cases a <;> rfl
  have h0 : (val_main_cst_10 (F := Ideal) (Shape.Idx.first h_S_) : EReal) = 0 := by
    unfold val_main_cst_10
    pointwise
  rw [val_main_v118_apply]
  refine ((congrArg (fun z : EReal => z + _) h0).trans (zero_add _)).trans (Finset.sum_congr rfl fun d _ => ?_)
  rw [hi, val_main_v117_apply]
  rfl

/-- Lane `d` of the latent keys' head `h`, normed. -/
theorem kNormL_at (b : Fin 8) (t : Fin 2048) (h : Fin 8) (d : Fin 64) : (val_main_v124 (F := Ideal) xl w (ix4 b t h d) : EReal)
    = (val_main_v116 (F := Ideal) xl w (ix4 b t h d) : EReal) * inv (fun x => (val_main_v116 (F := Ideal) xl w (ix4 b t h x) : EReal)) := by
  have hi : idx_main_v119 (idx_main_v123 (ix4 b t h d)) = ix3 b t h := by
    funext a
    fin_cases a <;> rfl
  rw [val_main_v124_apply, val_main_v123_apply, val_main_v122_apply, val_main_v121_apply, val_main_v119_apply, hi, kSumL_at, val_main_v120_apply, val_main_cst_11_apply]
  generalize val_main_v116 (F := Ideal) xl w = y
  rfl

/-- Lane `c` of the latent keys, normed. -/
theorem kL_at (b : Fin 8) (t : Fin 2048) (c : Fin 512) : (val_main_v126 (F := Ideal) xl w (ix3 b t c) : EReal)
    = (val_main_v103 (F := Ideal) xl w (ix3 b t ⟨c.val / 64 * 64 + c.val % 64, by omega⟩) : EReal)
      * inv (fun x => (val_main_v103 (F := Ideal) xl w (ix3 b t ⟨c.val / 64 * 64 + x.val, by omega⟩) : EReal)) := by
  unfold val_main_v126
  refine (join_at _ _ b t c).trans ?_
  rw [kNormL_at]
  unfold val_main_v116
  generalize val_main_v103 (F := Ideal) xl w = y
  have e := split_at y shapeCasts_S8x2048x512_S8x2048x8x64 b t
  generalize shapeCast _ y shapeCasts_S8x2048x512_S8x2048x8x64 = z at e ⊢
  simp only [e]

/-- The latent inputs. -/
theorem inL_at (b : Fin 8) (t : Fin 2048) (c : Fin 1536) : (val_main_v127 (F := Ideal) xl w (ix3 b t c) : EReal)
    = inputs (fun s c => xl (ix3 b s c)) (fun k c => w (ix3 0 k c)) t.val c := by
  have e := actL_at xl w b t
  have eq := qL_at xl w b t
  have ek := kL_at xl w b t
  have hq : ∀ d : Fin 512, (val_main_v102 (F := Ideal) xl w (ix3 b t d) : EReal) = (val_main_v101 (F := Ideal) xl w (ix3 b t ⟨d.val, by omega⟩) : EReal) := fun d => by
    unfold val_main_v102
    generalize val_main_v101 (F := Ideal) xl w = y
    pointwise
  have hk : ∀ d : Fin 512, (val_main_v103 (F := Ideal) xl w (ix3 b t d) : EReal) = (val_main_v101 (F := Ideal) xl w (ix3 b t ⟨512 + d.val, by omega⟩) : EReal) := fun d => by
    unfold val_main_v103
    generalize val_main_v101 (F := Ideal) xl w = y
    pointwise
  have hv : ∀ d : Fin 512, (val_main_v104 (F := Ideal) xl w (ix3 b t d) : EReal) = (val_main_v101 (F := Ideal) xl w (ix3 b t ⟨1024 + d.val, by omega⟩) : EReal) := fun d => by
    unfold val_main_v104
    generalize val_main_v101 (F := Ideal) xl w = y
    pointwise
  simp only [hq, hk, e] at eq ek hv
  unfold val_main_v127
  generalize val_main_v125 (F := Ideal) xl w = y1 at eq ⊢
  generalize val_main_v126 (F := Ideal) xl w = y2 at ek ⊢
  generalize val_main_v104 (F := Ideal) xl w = y3 at hv ⊢
  pointwise
  simp only [eq, ek, hv]
  exact heads_eq (fun c => act (fun s => xl (ix3 b s c)) (fun k => w (ix3 0 k c)) t.val) c

/-- The reference's result is the delta branch's inputs. -/
theorem conv_eq : val_main_v128 (F := Ideal) xc xl w = conv xc xl w := by
  funext i
  obtain ⟨b, t, c, rfl⟩ : ∃ (b : Fin 8) (t : Fin 2304) (c : Fin 1536), i = ix3 b t c := ⟨i 0, i 1, i 2, eq_ix3 i⟩
  have h1 := inC_at xc w b
  have h2 := inL_at xl w b
  unfold val_main_v128
  generalize val_main_v63 (F := Ideal) xc w = y1 at h1 ⊢
  generalize val_main_v127 (F := Ideal) xl w = y2 at h2 ⊢
  pointwise
  simp only [h1, h2]
  rfl

end Cert.Reference8Ideal.ConvRef
-- ==== Proof.ConvClaim.lean ====
/-
  The convolution claim: the kernel and its reference leave the same array.
-/
module

public import proofs.«01_k».proof.Defs
public import proofs.«01_k».proof.Proof.ConvArray
public import proofs.«01_k».proof.Proof.ConvRef

@[expose] public section

set_option maxRecDepth 16384
noncomputable section

namespace Cert.ConvClaim

open Idealize.ShloMosaic Idealize.ShloMosaic.TcCoe Idealize.SL.Sem
open Cert.Softmax Cert.Conv

/-- For every argument, the kernel leaves the delta branch's inputs, and so does the reference, the arguments unchanged. -/
theorem algebraic : Cert.algebraic_Kernel8Ideal_Reference8Ideal
    (hKernel8Ideal := Cert.Kernel8Ideal.Gen.facts) (hReference8Ideal := Cert.Reference8Ideal.Gen.facts) := by
  intro m g m' g' _ harg
  refine ⟨fun c => conv (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1))
    (m ((c.tc : Thread Cert.Kernel8Ideal.nD Cert.Kernel8Ideal.τ).loc Cert.Kernel8Ideal.main_arg2)), ?_, ?_⟩
  · refine (θ_run _ _ _).mono (fun r h c => ?_) (Cert.Kernel8Ideal.Value.run_blocks m g)
    obtain ⟨h0, hrest⟩ := h c
    exact ⟨h0.trans (Cert.Kernel8Ideal.ConvValue.final3 m c _ rfl _ rfl _ rfl), hrest⟩
  · refine (θ_run _ _ _).mono (fun r h c => ?_) (Cert.Reference8Ideal.Value.run (F := Ideal) m' g')
    obtain ⟨h0, hrest⟩ := h c
    obtain ⟨a0, a1, a2⟩ := harg c
    refine ⟨h0.trans ?_, hrest⟩
    rw [Cert.Reference8Ideal.Read.val_main_v128_eq, Cert.Reference8Ideal.ConvRef.conv_eq, a0, a1, a2]

end Cert.ConvClaim
-- ==== Proof.InprojCtxBlock.lean ====
/-
  One block of the context projection kernel read at an index: each of its four results is a product of the normed and modulated
  rows of the block with a group of columns of the re-laid weights.
-/
module

public import proofs.«01_k».proof.Proof.Gen.Kernel9Ideal.Value
public import Idealize.ShloMosaic.Lib.Pointwise
public import proofs.«01_k».proof.Proof.Softmax

@[expose] public section

set_option maxRecDepth 16384
noncomputable section

namespace Cert.Kernel9Ideal.InprojValue

open Cert.Kernel9Ideal Cert.Kernel9Ideal.Gen Idealize.ShloMosaic Idealize.ShloMosaic.TcCoe Idealize.SL.Sem
open Cert.Softmax

/-- Lane `k` of row `r` of a block after the norm and the modulation; `mod`'s row 1 is the scale, its row 0 the shift. -/
def blkRow (x : S1x256x1024.Idx → EReal) (mod : S1x8x1024.Idx → EReal) (nw : S1x1024.Idx → EReal) (r : Fin 256) (k : Fin 1024) :
    EReal :=
  x (ix3 0 r k) * Ideal.rsqrt (Ideal.div (∑ j : Fin 1024, x (ix3 0 r j) * x (ix3 0 r j)) (Ideal.ofBits FTy.f32 0x44800000#32)
      + Ideal.ofBits FTy.f32 0x358637BD#32) * nw (ix2 0 k) * (1 + mod (ix3 0 1 k)) + mod (ix3 0 0 k)

variable (x0 : Vec Ideal S1x256x1024 .f32) (x1 : Vec Ideal S1x8x1024 .f32) (x2 : Vec Ideal S1x1024 .f32)
  (x3 : Vec Ideal S1024x2048 .bf16)

/-- Three zero offsets are the zero offsets. -/
theorem zero3 {s : Fin 3 → ℕ} (h : s = ![0, 0, 0]) : s = fun _ => 0 := by
  rw [h]; funext a; fin_cases a <;> rfl

/-- The compressed keys and values of a block are its product with columns 0 … 255. -/
theorem out4 (r : Fin 256) (l : Fin 256) : (out0_4 x0 x1 x2 x3 (ix3 0 r l) : EReal)
    = ∑ k : Fin 1024, blkRow x0 x1 x2 r k * x3 (ix2 k ⟨l.val, by omega⟩) := by
  unfold_out out0_4
  rw [View.canon_unit_zero (zero3 rfl)]
  unfold k0_pay5 k0_pay4
  pointwise
  rfl

/-- The rotary keys of a block are its product with columns 256 … 383. -/
theorem out5 (r : Fin 256) (l : Fin 128) : (out0_5 x0 x1 x2 x3 (ix3 0 r l) : EReal)
    = ∑ k : Fin 1024, blkRow x0 x1 x2 r k * x3 (ix2 k ⟨256 + l.val, by omega⟩) := by
  unfold_out out0_5
  rw [View.canon_unit_zero (zero3 rfl)]
  unfold k0_pay1 k0_pay4
  pointwise
  rfl

/-- The delta rule's queries, keys and values of a block are its product with columns 384 … 1919. -/
theorem out6 (r : Fin 256) (l : Fin 1536) : (out0_6 x0 x1 x2 x3 (ix3 0 r l) : EReal)
    = ∑ k : Fin 1024, blkRow x0 x1 x2 r k * x3 (ix2 k ⟨384 + l.val, by omega⟩) := by
  unfold_out out0_6
  rw [View.canon_unit_zero (zero3 rfl)]
  unfold k0_pay2 k0_pay4
  pointwise
  rfl

/-- The delta rule's gates of a block are its product with columns 1920 … 2047. -/
theorem out7 (r : Fin 256) (l : Fin 128) : (out0_7 x0 x1 x2 x3 (ix3 0 r l) : EReal)
    = ∑ k : Fin 1024, blkRow x0 x1 x2 r k * x3 (ix2 k ⟨1920 + l.val, by omega⟩) := by
  unfold_out out0_7
  rw [View.canon_unit_zero (zero3 rfl)]
  unfold k0_pay3 k0_pay4
  pointwise
  rfl

end Cert.Kernel9Ideal.InprojValue
-- ==== Proof.InprojCtxHost.lean ====
/-
  What the context projection kernel's wrapper prepares before the kernel starts: the context's modulation row padded to eight and
  repeated for every example, the norm weights, and the weight matrix with the context's groups of columns side by side.
-/
module

public import proofs.«01_k».proof.Proof.Gen.Kernel9Ideal.Value
public import proofs.«01_k».proof.Proof.InprojCols
public import Idealize.ShloMosaic.Lib.Pipeline.ValueKit
public import Idealize.ShloMosaic.Lib.KernelVsHost
public import Idealize.ShloMosaic.Lib.Pointwise

@[expose] public section

set_option maxRecDepth 16384
noncomputable section

namespace Cert.Kernel9Ideal.Host

open Cert.Kernel9Ideal Cert.Kernel9Ideal.Gen Idealize.ShloMosaic Idealize.ShloMosaic.TcCoe Idealize.SL.Sem
open Cert.Softmax Cert.InprojCols

variable (m : (ℓ : Loc nD τ sig) → Buf (Elt Ideal) ℓ) (c : Dev nD)

/-- The weights argument. -/
abbrev wArg : S1x1024x5312.Idx → EReal := m ((c : Thread nD τ).loc main_arg3)

/-- The rotary key columns between zero columns. -/
abbrev rope : Vec Ideal S1024x128 .f32 := ropeCols (wArg m c) shapeCasts_S1x1024x5312_S1024x5312 bcast_S_S1024x64
  slices_S1024x5312_S1024x32_0_640 bcast_S_S1024x32 concatenates_S1024x64_S1024x32_S1024x32_S1024x128_d1
/-- The two groups of gate columns, then zero columns. -/
abbrev gate : Vec Ideal S1024x128 .f32 := gateCols (wArg m c) shapeCasts_S1x1024x5312_S1024x5312 slices_S1024x5312_S1024x16_0_3232
  slices_S1024x5312_S1024x16_0_3248 bcast_S_S1024x96 concatenates_S1024x16_S1024x16_S1024x96_S1024x128_d1
/-- The three delta-rule groups of columns. -/
abbrev delta : Vec Ideal S1024x1536 .f32 := deltaCols (wArg m c) shapeCasts_S1x1024x5312_S1024x5312 slices_S1024x5312_S1024x512_0_1184
  slices_S1024x5312_S1024x512_0_1696 slices_S1024x5312_S1024x512_0_2208 concatenates_S1024x512_S1024x512_S1024x512_S1024x1536_d1

/-- The weights the kernel multiplies by are four groups of columns side by side. -/
theorem V_v20 : (V m c main_v20 : S1024x2048.Idx → EReal) = concatenate S1024x2048 1
    [⟨S1024x256, cols (wArg m c) shapeCasts_S1x1024x5312_S1024x5312 256 384 slices_S1024x5312_S1024x256_0_384⟩,
     ⟨S1024x128, rope m c⟩, ⟨S1024x1536, delta m c⟩, ⟨S1024x128, gate m c⟩]
    concatenates_S1024x256_S1024x128_S1024x1536_S1024x128_S1024x2048_d1 := by
  simp only [V, hostOps0, hostOps0_1, hostOps0_2, List.flatten_cons, List.flatten_nil, List.append_nil, List.cons_append, List.nil_append]
  after_results_simp <;> (try dsimp only [Matrix.cons_val]) <;> (try after_results_simp) <;> rfl

/-- The argument at a column. -/
abbrev col (k : Fin 1024) (n : Fin 5312) : EReal := wArg m c (ix3 0 k n)

/-- The columns of the compressed keys and values. -/
theorem w_ckv (k : Fin 1024) (j : Fin 256) : (V m c main_v20 : S1024x2048.Idx → EReal) (ix2 k ⟨0 + j.val, by omega⟩) = col m c k ⟨384 + j.val, by omega⟩ := by
  rw [V_v20]
  exact (piece_at k 0 0 _ _ _ (Nat.le_of_ble_eq_true rfl) rfl rfl j _).trans (slice_at _ _ _ (by decide) k j)

/-- The columns of the rotary keys, zero outside their lanes. -/
theorem w_kr (k : Fin 1024) (j : Fin 128) : (V m c main_v20 : S1024x2048.Idx → EReal) (ix2 k ⟨256 + j.val, by omega⟩)
    = if h : 64 ≤ j.val ∧ j.val < 96 then col m c k ⟨640 + (j.val - 64), by omega⟩ else 0 := by
  rw [V_v20]
  exact (piece_at k 1 256 _ _ _ (Nat.le_of_ble_eq_true rfl) rfl rfl j _).trans (rope_at _ _ _ _ _ _ k j)

/-- The columns of the delta rule's queries, keys and values. -/
theorem w_delta (k : Fin 1024) (j : Fin 1536) : (V m c main_v20 : S1024x2048.Idx → EReal) (ix2 k ⟨384 + j.val, by omega⟩) = col m c k ⟨1184 + j.val, by omega⟩ := by
  rw [V_v20]
  exact (piece_at k 2 384 _ _ _ (Nat.le_of_ble_eq_true rfl) rfl rfl j _).trans (delta_at _ _ _ _ _ _ k j)

/-- The columns of the delta rule's gates, zero outside their lanes. -/
theorem w_g (k : Fin 1024) (j : Fin 128) : (V m c main_v20 : S1024x2048.Idx → EReal) (ix2 k ⟨1920 + j.val, by omega⟩)
    = if h : j.val < 32 then col m c k ⟨3232 + j.val, by omega⟩ else 0 := by
  rw [V_v20]
  exact (piece_at k 3 1920 _ _ _ (Nat.le_of_ble_eq_true rfl) rfl rfl j _).trans (gate_at _ _ _ _ _ _ k j)

/-- The modulation rows of every example are those of example 8. -/
theorem v5_at (b : Fin 8) (s : Fin 3) (k : Fin 1024) : (V m c main_v5 : S8x8x1024.Idx → EReal) (ix3 b ⟨s.val, by omega⟩ k)
    = (m ((c : Thread nD τ).loc main_arg1) : S16x3072.Idx → EReal) (ix2 8 ⟨1024 * s.val + k.val, by omega⟩) := by
  have h : V m c main_v5 = broadcastInDim S8x8x1024 ![0, 1, 2] bcast_S1x8x1024_S8x8x1024_0_1_2
    (extractStridedSlice S1x8x1024 ![8, 0, 0]
      (pad S16x8x1024 ![0, 0, 0] ![0, 5, 0] ![0, 0, 0]
        (shapeCast S16x3x1024 (m ((c : Thread nD τ).loc main_arg1)) shapeCasts_S16x3072_S16x3x1024)
        (V m c main_call0_v0) pads_S16x3x1024_S16x8x1024_000_050_000 h_S_) slices_S16x8x1024_S1x8x1024_8_0_0) := by
    simp only [V, hostOps0, hostOps0_1, hostOps0_2, List.flatten_cons, List.flatten_nil, List.append_nil, List.cons_append, List.nil_append]
    after_results_simp <;> rfl
  rw [h]
  pointwise
  exact congrArg (fun n => (m ((c : Thread nD τ).loc main_arg1) : S16x3072.Idx → EReal) (ix2 8 n)) (Fin.ext (by simp only []; omega))

/-- The norm weights pass through unchanged. -/
theorem v21_at (k : Fin 1024) : (V m c main_v21 : S1x1024.Idx → EReal) (ix2 0 k)
    = (m ((c : Thread nD τ).loc main_arg2) : S1x1024.Idx → EReal) (ix2 0 k) := by
  have h : V m c main_v21 = shapeCast S1x1024 (shapeCast S1024 (m ((c : Thread nD τ).loc main_arg2)) shapeCasts_S1x1024_S1024) shapeCasts_S1024_S1x1024 := by
    simp only [V, hostOps0, hostOps0_1, hostOps0_2, List.flatten_cons, List.flatten_nil, List.append_nil, List.cons_append, List.nil_append]
    after_results_simp <;> rfl
  rw [h]
  pointwise

end Cert.Kernel9Ideal.Host
-- ==== Proof.InprojCtxArray.lean ====
/-
  The context projection kernel's four whole results: the 8 blocks of each tile its array, and each block is the block of one
  function of the four arguments.
-/
module

public import proofs.«01_k».proof.Proof.InprojCtxBlock
public import proofs.«01_k».proof.Proof.InprojCtxHost
public import proofs.«01_k».proof.Proof.Inproj
public import Idealize.ShloMosaic.Lib.Pipeline.ValueKit

@[expose] public section

set_option maxRecDepth 16384
noncomputable section

namespace Cert.Kernel9Ideal.InprojValue

open Cert.Kernel9Ideal Cert.Kernel9Ideal.Gen Idealize.ShloMosaic Idealize.ShloMosaic.TcCoe Idealize.SL.Sem
open Idealize.ShloMosaic.Pipeline (Dat)
open Cert.Softmax Cert.Inproj

/-- Grid point `t` takes the rows of example `t` and its modulation, and the whole of the norm weights and of the weights. -/
theorem indIn : ∀ t : Fin cfg0.N, win0_0.index t = ![t.val, 0, 0] ∧ win0_1.index t = ![t.val, 0, 0]
    ∧ win0_2.index t = ![0, 0] ∧ win0_3.index t = ![0, 0] :=
  (by decide +kernel : ∀ t : Fin grid0.N, win0_0.index t = ![t.val, 0, 0] ∧ win0_1.index t = ![t.val, 0, 0]
    ∧ win0_2.index t = ![0, 0] ∧ win0_3.index t = ![0, 0])
/-- Every result's block at point `t` is example `t`. -/
theorem indOut : ∀ t : Fin cfg0.N, win0_4.index t = ![t.val, 0, 0] ∧ win0_5.index t = ![t.val, 0, 0]
    ∧ win0_6.index t = ![t.val, 0, 0] ∧ win0_7.index t = ![t.val, 0, 0] :=
  (by decide +kernel : ∀ t : Fin grid0.N, win0_4.index t = ![t.val, 0, 0] ∧ win0_5.index t = ![t.val, 0, 0]
    ∧ win0_6.index t = ![t.val, 0, 0] ∧ win0_7.index t = ![t.val, 0, 0])

variable (m : (ℓ : Loc nD τ sig) → Buf (Elt Ideal) ℓ) (c : Dev nD)

/-- The example of a grid point. -/
abbrev ex (t : Fin cfg0.N) : Fin 8 := ⟨t.val, t.isLt⟩

/-- The block of rows at an index. -/
theorem x_apply (t : Fin cfg0.N) (r : Fin 256) (k : Fin 1024) :
    (iblk m c 0 t : S1x256x1024.Idx → EReal) (ix3 0 r k)
      = (m ((c : Thread nD τ).loc main_arg0) : S8x256x1024.Idx → EReal) (ix3 (ex t) r k) := by
  blk_simp [iblk]
  refine (congrFun (V_main_arg0 m c) _).trans (congrArg _ ?_)
  blk_ext [(indIn t).1]

/-- The modulation block at one of its first three rows. -/
theorem mod_apply (t : Fin cfg0.N) (s : Fin 3) (k : Fin 1024) :
    (iblk m c 1 t : S1x8x1024.Idx → EReal) (ix3 0 ⟨s.val, by omega⟩ k)
      = (m ((c : Thread nD τ).loc main_arg1) : S16x3072.Idx → EReal) (ix2 8 ⟨1024 * s.val + k.val, by omega⟩) := by
  blk_simp [iblk]
  refine Eq.trans (congrArg (V m c main_v5) ?_) (Host.v5_at m c (ex t) s k)
  blk_ext [(indIn t).2.1]

/-- The shift row of the modulation block. -/
theorem shift_apply (t : Fin cfg0.N) (k : Fin 1024) :
    (iblk m c 1 t : S1x8x1024.Idx → EReal) (ix3 0 0 k)
      = (m ((c : Thread nD τ).loc main_arg1) : S16x3072.Idx → EReal) (ix2 8 ⟨k.val, by omega⟩) :=
  (mod_apply m c t 0 k).trans (congrArg _ (congrArg (ix2 _) (Fin.ext (Nat.zero_add _))))

/-- The scale row of the modulation block. -/
theorem scale_apply (t : Fin cfg0.N) (k : Fin 1024) :
    (iblk m c 1 t : S1x8x1024.Idx → EReal) (ix3 0 1 k)
      = (m ((c : Thread nD τ).loc main_arg1) : S16x3072.Idx → EReal) (ix2 8 ⟨1024 + k.val, by omega⟩) :=
  mod_apply m c t 1 k

/-- The norm weights at an index. -/
theorem nw_apply (t : Fin cfg0.N) (k : Fin 1024) :
    (iblk m c 2 t : S1x1024.Idx → EReal) (ix2 0 k)
      = (m ((c : Thread nD τ).loc main_arg2) : S1x1024.Idx → EReal) (ix2 0 k) := by
  blk_simp [iblk]
  refine Eq.trans (congrArg (V m c main_v21) ?_) (Host.v21_at m c k)
  blk_ext [(indIn t).2.2.1]

/-- The weights' block is the whole re-laid matrix. -/
theorem w_apply (t : Fin cfg0.N) (k : Fin 1024) (n : Fin 2048) :
    (iblk m c 3 t : S1024x2048.Idx → EReal) (ix2 k n) = (V m c main_v20 : S1024x2048.Idx → EReal) (ix2 k n) := by
  blk_simp [iblk]
  refine congrArg (V m c main_v20) ?_
  blk_ext [(indIn t).2.2.2]

section

variable (x : Rows 256) (hx : x = m ((c : Thread nD τ).loc main_arg0)) (mod : Mod) (hmod : mod = m ((c : Thread nD τ).loc main_arg1))
  (nw : NW) (hnw : nw = m ((c : Thread nD τ).loc main_arg2)) (w : WIn) (hw : w = m ((c : Thread nD τ).loc main_arg3))

include hx hmod hnw in
/-- Row `r` of block `t` is row `r` of example `t`, with the context's modulation. -/
theorem blkRow_eq (t : Fin cfg0.N) (r : Fin 256) (k : Fin 1024) :
    blkRow (iblk m c 0 t) (iblk m c 1 t) (iblk m c 2 t) r k = row x (ctxMod mod) nw (ex t) r k := by
  unfold blkRow row ctxMod
  simp only [x_apply, nw_apply, shift_apply, scale_apply, ← hx, ← hmod, ← hnw]
  rfl

include hx hmod hnw hw in
/-- A column of the block's product whose weights are a column of the argument is that column of the projection. -/
theorem block_col (t : Fin cfg0.N) (r : Fin 256) (p : Fin 2048) (n : Fin 5312)
    (h : ∀ k, (V m c main_v20 : S1024x2048.Idx → EReal) (ix2 k p) = Host.col m c k n) :
    ∑ k : Fin 1024, blkRow (iblk m c 0 t) (iblk m c 1 t) (iblk m c 2 t) r k * (iblk m c 3 t : S1024x2048.Idx → EReal) (ix2 k p)
      = proj x (ctxMod mod) nw w (ex t) r n := by
  refine Finset.sum_congr (M := EReal) rfl fun k _ => congrArg₂ (fun a b : EReal => a * b) ?_ ?_
  · exact blkRow_eq m c x hx mod hmod nw hnw t r k
  · exact (w_apply m c t k p).trans ((h k).trans (congrFun hw.symm _))

/-- A column of the block's product whose weights are zero is zero. -/
theorem block_zero (t : Fin cfg0.N) (r : Fin 256) (p : Fin 2048)
    (h : ∀ k, (V m c main_v20 : S1024x2048.Idx → EReal) (ix2 k p) = (0 : EReal)) :
    ∑ k : Fin 1024, blkRow (iblk m c 0 t) (iblk m c 1 t) (iblk m c 2 t) r k * (iblk m c 3 t : S1024x2048.Idx → EReal) (ix2 k p)
      = 0 := by
  refine Finset.sum_eq_zero fun k _ => ?_
  rw [w_apply, h k]
  exact mul_zero (M₀ := EReal) _

include hx hmod hnw hw in
/-- The compressed keys and values. -/
theorem final4 : (dats m 0 c).arrAt 4 cfg0.N = slab 256 384 (by decide) x (ctxMod mod) nw w := by
  refine (dats m 0 c).arrAt_eq_of_covers 4 _ (by decide +kernel) fun t hf y => ?_
  blk_simp
  rw [after0_4]
  obtain ⟨r, l, rfl⟩ : ∃ (r : Fin 256) (l : Fin 256), y = (ix3 0 r l : S1x256x256.Idx) :=
    ⟨y 1, y 2, (eq_ix3 y).trans (by congr 1; exact Subsingleton.elim _ _)⟩
  have hy : (win0_4.blk t).view.emb (ix3 0 r l : S1x256x256.Idx) = (ix3 (ex t) r l : S8x256x256.Idx) := by
    blk_ext [(indOut t).1]
  refine Eq.trans ?_ (congrArg (slab 256 384 (by decide) x (ctxMod mod) nw w) hy).symm
  refine (out4 _ _ _ _ r l).trans (block_col m c x hx mod hmod nw hnw w hw t r _ _ fun k => Eq.trans ?_ (Host.w_ckv m c k l))
  exact congrArg (V m c main_v20) (congrArg (ix2 k) (Fin.ext (Nat.zero_add _).symm))

include hx hmod hnw hw in
/-- The rotary keys on their lanes. -/
theorem final5 : (dats m 0 c).arrAt 5 cfg0.N = keyRope x (ctxMod mod) nw w := by
  refine (dats m 0 c).arrAt_eq_of_covers 5 _ (by decide +kernel) fun t hf y => ?_
  blk_simp
  rw [after0_5]
  obtain ⟨r, l, rfl⟩ : ∃ (r : Fin 256) (l : Fin 128), y = (ix3 0 r l : S1x256x128.Idx) :=
    ⟨y 1, y 2, (eq_ix3 y).trans (by congr 1; exact Subsingleton.elim _ _)⟩
  have hy : (win0_5.blk t).view.emb (ix3 0 r l : S1x256x128.Idx) = (ix3 (ex t) r l : S8x256x128.Idx) := by
    blk_ext [(indOut t).2.1]
  refine Eq.trans ?_ (congrArg (keyRope x (ctxMod mod) nw w) hy).symm
  refine (out5 _ _ _ _ r l).trans ?_
  by_cases hl : 64 ≤ l.val ∧ l.val < 96
  · refine (block_col m c x hx mod hmod nw hnw w hw t r _ _ fun k => (Host.w_kr m c k l).trans (dif_pos hl)).trans ?_
    exact (keyRope_in x (ctxMod mod) nw w _ _ l hl).symm
  · refine (block_zero m c t r _ fun k => (Host.w_kr m c k l).trans (dif_neg hl)).trans ?_
    exact (keyRope_out x (ctxMod mod) nw w _ _ l hl).symm

include hx hmod hnw hw in
/-- The delta rule's queries, keys and values. -/
theorem final6 : (dats m 0 c).arrAt 6 cfg0.N = slab 1536 1184 (by decide) x (ctxMod mod) nw w := by
  refine (dats m 0 c).arrAt_eq_of_covers 6 _ (by decide +kernel) fun t hf y => ?_
  blk_simp
  rw [after0_6]
  obtain ⟨r, l, rfl⟩ : ∃ (r : Fin 256) (l : Fin 1536), y = (ix3 0 r l : S1x256x1536.Idx) :=
    ⟨y 1, y 2, (eq_ix3 y).trans (by congr 1; exact Subsingleton.elim _ _)⟩
  have hy : (win0_6.blk t).view.emb (ix3 0 r l : S1x256x1536.Idx) = (ix3 (ex t) r l : S8x256x1536.Idx) := by
    blk_ext [(indOut t).2.2.1]
  refine Eq.trans ?_ (congrArg (slab 1536 1184 (by decide) x (ctxMod mod) nw w) hy).symm
  exact (out6 _ _ _ _ r l).trans (block_col m c x hx mod hmod nw hnw w hw t r _ _ fun k => Host.w_delta m c k l)

include hx hmod hnw hw in
/-- The delta rule's decay and write gates on their lanes. -/
theorem final7 : (dats m 0 c).arrAt 7 cfg0.N = gateLanes x (ctxMod mod) nw w := by
  refine (dats m 0 c).arrAt_eq_of_covers 7 _ (by decide +kernel) fun t hf y => ?_
  blk_simp
  rw [after0_7]
  obtain ⟨r, l, rfl⟩ : ∃ (r : Fin 256) (l : Fin 128), y = (ix3 0 r l : S1x256x128.Idx) :=
    ⟨y 1, y 2, (eq_ix3 y).trans (by congr 1; exact Subsingleton.elim _ _)⟩
  have hy : (win0_7.blk t).view.emb (ix3 0 r l : S1x256x128.Idx) = (ix3 (ex t) r l : S8x256x128.Idx) := by
    blk_ext [(indOut t).2.2.2]
  refine Eq.trans ?_ (congrArg (gateLanes x (ctxMod mod) nw w) hy).symm
  refine (out7 _ _ _ _ r l).trans ?_
  by_cases hl : l.val < 32
  · refine (block_col m c x hx mod hmod nw hnw w hw t r _ _ fun k => (Host.w_g m c k l).trans (dif_pos hl)).trans ?_
    exact (gateLanes_in x (ctxMod mod) nw w _ _ l hl).symm
  · refine (block_zero m c t r _ fun k => (Host.w_g m c k l).trans (dif_neg hl)).trans ?_
    exact (gateLanes_out x (ctxMod mod) nw w _ _ l hl).symm

end

end Cert.Kernel9Ideal.InprojValue
-- ==== Proof.InprojCtxRef.lean ====
/-
  The reference projection of the context rows read operation by operation: its four results are the functions of `Cert.Inproj`
  of the context's modulation.
-/
module

public import proofs.«01_k».proof.Proof.Gen.Reference9Ideal.Read
public import proofs.«01_k».proof.Proof.Inproj
public import Idealize.ShloMosaic.Lib.KernelVsHost
public import Idealize.ShloMosaic.Lib.Pointwise

@[expose] public section

set_option maxRecDepth 16384
noncomputable section

namespace Cert.Reference9Ideal.InprojRef

open Cert.Reference9Ideal Cert.Reference9Ideal.Gen Cert.Reference9Ideal.Read Idealize.ShloMosaic Idealize.ShloMosaic.TcCoe Idealize.SL.Sem
open Cert.Softmax Cert.Inproj

variable (x : Rows 256) (mod : Mod) (nw : NW) (w : WIn)

/-- The reference's normed and modulated row at a lane. -/
theorem row_at (b : Fin 8) (t : Fin 256) (k : Fin 1024) :
    val_main_v27 (F := Ideal) x mod nw (ix3 b t k) = row x (ctxMod mod) nw b t k := by
  unfold val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v5 val_main_v4 val_main_v3 val_main_v2 val_main_v0 val_main_cst val_main_cst_0 val_main_cst_1 val_main_cst_2
  pointwise
  rfl

/-- The reference's projection at a column. -/
theorem proj_at (b : Fin 8) (t : Fin 256) (n : Fin 5312) :
    val_main_v28 (F := Ideal) x mod nw w (ix3 b t n) = proj x (ctxMod mod) nw w b t n := by
  rw [val_main_v28_apply]
  refine Finset.sum_congr (M := EReal) rfl fun k _ => congrArg₂ (fun a b : EReal => a * b) ?_ ?_
  · exact (congrArg (val_main_v27 (F := Ideal) x mod nw) (funext fun a => by fin_cases a <;> rfl)).trans (row_at x mod nw b t k)
  · rw [val_main_v1_apply]
    refine congrArg w (funext fun a => Fin.ext ?_)
    fin_cases a <;> simp [ix3] <;> omega

/-- The projection at an index given by its coordinates. -/
theorem proj_of (j : S8x256x5312.Idx) (b : Fin 8) (t : Fin 256) (n : Fin 5312) (h0 : (j 0).val = b.val) (h1 : (j 1).val = t.val)
    (h2 : (j 2).val = n.val) : val_main_v28 (F := Ideal) x mod nw w j = proj x (ctxMod mod) nw w b t n := by
  refine (congrArg (val_main_v28 (F := Ideal) x mod nw w) (funext fun a => Fin.ext ?_)).trans (proj_at x mod nw w b t n)
  fin_cases a
  · exact h0
  · exact h1
  · exact h2

/-- The integer zero a pad is filled with is the number zero. -/
theorem sitofp_zero : (FloatOps.sitofp (F := Ideal) FTy.f32 0#32 : EReal) = 0 := by
  show (((0#32 : BitVec 32).toInt : ℝ) : EReal) = 0
  simp

/-- The compressed keys and values. -/
theorem ckv_eq : val_main_v43 (F := Ideal) x mod nw w = slab 256 384 (by decide) x (ctxMod mod) nw w := funext fun i =>
  (val_main_v30_apply (F := Ideal) x mod nw w i).trans (proj_of x mod nw w _ _ _ _ rfl rfl rfl)

/-- The rotary keys on their lanes. -/
theorem kr_eq : val_main_v40 (F := Ideal) x mod nw w = keyRope x (ctxMod mod) nw w := by
  funext i
  obtain ⟨b, t, l, rfl⟩ : ∃ (b : Fin 8) (t : Fin 256) (l : Fin 128), i = ix3 b t l := ⟨i 0, i 1, i 2, eq_ix3 i⟩
  unfold val_main_v40 val_main_call0_v0 val_main_c
  have h31 := val_main_v31_apply (F := Ideal) x mod nw w
  generalize val_main_v31 (F := Ideal) x mod nw w = y at h31 ⊢
  pointwise
  by_cases hl : 64 ≤ l.val ∧ l.val < 96
  · rw [dif_pos ⟨hl.1, by omega⟩, keyRope_in x (ctxMod mod) nw w b t l hl, h31]
    exact proj_of x mod nw w _ _ _ _ rfl rfl rfl
  · rw [dif_neg (by omega), keyRope_out x (ctxMod mod) nw w b t l hl]
    exact sitofp_zero

/-- The delta rule's gates on their lanes. -/
theorem g_eq : val_main_v42 (F := Ideal) x mod nw w = gateLanes x (ctxMod mod) nw w := by
  funext i
  obtain ⟨b, t, l, rfl⟩ : ∃ (b : Fin 8) (t : Fin 256) (l : Fin 128), i = ix3 b t l := ⟨i 0, i 1, i 2, eq_ix3 i⟩
  unfold val_main_v42 val_main_call1_v0 val_main_c_3 val_main_v41
  have h37 := val_main_v37_apply (F := Ideal) x mod nw w
  have h38 := val_main_v38_apply (F := Ideal) x mod nw w
  generalize val_main_v37 (F := Ideal) x mod nw w = y at h37 ⊢
  generalize val_main_v38 (F := Ideal) x mod nw w = z at h38 ⊢
  pointwise
  by_cases hl : l.val < 32
  · rw [dif_pos hl, gateLanes_in x (ctxMod mod) nw w b t l hl]
    by_cases hl' : l.val < 16
    · rw [dif_pos hl', h37]
      exact proj_of x mod nw w _ _ _ _ rfl rfl rfl
    · rw [dif_neg hl', h38]
      exact proj_of x mod nw w _ _ _ _ rfl rfl (show 3248 + (l.val - 16) = 3232 + l.val by omega)
  · rw [dif_neg hl, gateLanes_out x (ctxMod mod) nw w b t l hl]
    exact sitofp_zero

/-- The delta rule's queries, keys and values. -/
theorem delta_eq : val_main_v44 (F := Ideal) x mod nw w = slab 1536 1184 (by decide) x (ctxMod mod) nw w := by
  funext i
  obtain ⟨b, t, l, rfl⟩ : ∃ (b : Fin 8) (t : Fin 256) (l : Fin 1536), i = ix3 b t l := ⟨i 0, i 1, i 2, eq_ix3 i⟩
  unfold val_main_v44
  have h33 := val_main_v33_apply (F := Ideal) x mod nw w
  have h34 := val_main_v34_apply (F := Ideal) x mod nw w
  have h35 := val_main_v35_apply (F := Ideal) x mod nw w
  generalize val_main_v33 (F := Ideal) x mod nw w = y at h33 ⊢
  generalize val_main_v34 (F := Ideal) x mod nw w = z at h34 ⊢
  generalize val_main_v35 (F := Ideal) x mod nw w = u at h35 ⊢
  pointwise
  by_cases hl : l.val < 512
  · rw [dif_pos hl, h33]
    exact proj_of x mod nw w _ _ _ _ rfl rfl rfl
  · rw [dif_neg hl]
    by_cases hl' : l.val - 512 < 512
    · rw [dif_pos hl', h34]
      exact proj_of x mod nw w _ _ _ _ rfl rfl (show 1696 + (l.val - 512) = 1184 + l.val by omega)
    · rw [dif_neg hl', h35]
      exact proj_of x mod nw w _ _ _ _ rfl rfl (show 2208 + (l.val - 512 - 512) = 1184 + l.val by omega)

end Cert.Reference9Ideal.InprojRef
-- ==== Proof.InprojCtxClaim.lean ====
/-
  The context projection claim: the kernel and its reference leave the same four arrays, groups of columns of the projection of
  the normed and modulated context rows.
-/
module

public import proofs.«01_k».proof.Defs
public import proofs.«01_k».proof.Proof.InprojCtxArray
public import proofs.«01_k».proof.Proof.InprojCtxRef

@[expose] public section

set_option maxRecDepth 16384
noncomputable section

namespace Cert.InprojCtxClaim

open Idealize.ShloMosaic Idealize.ShloMosaic.TcCoe Idealize.SL.Sem
open Cert.Softmax Cert.Inproj

section

variable (m : (ℓ : Loc Cert.Kernel9Ideal.nD Cert.Kernel9Ideal.τ Cert.Kernel9Ideal.sig) → Buf (Elt Ideal) ℓ) (c : Dev Cert.Kernel9Ideal.nD)

/-- The kernel's context rows. -/
abbrev xArg : Rows 256 := m ((c.tc : Thread Cert.Kernel9Ideal.nD Cert.Kernel9Ideal.τ).loc Cert.Kernel9Ideal.main_arg0)
/-- The context's modulation. -/
abbrev modArg : Mod := ctxMod (m ((c.tc : Thread Cert.Kernel9Ideal.nD Cert.Kernel9Ideal.τ).loc Cert.Kernel9Ideal.main_arg1))
/-- The kernel's norm weights. -/
abbrev nwArg : NW := m ((c.tc : Thread Cert.Kernel9Ideal.nD Cert.Kernel9Ideal.τ).loc Cert.Kernel9Ideal.main_arg2)
/-- The kernel's projection weights. -/
abbrev wArg : WIn := m ((c.tc : Thread Cert.Kernel9Ideal.nD Cert.Kernel9Ideal.τ).loc Cert.Kernel9Ideal.main_arg3)

end

/-- For every argument, the kernel leaves the four groups of columns of the context's projection, and so does the reference, the
    arguments unchanged. -/
theorem algebraic : Cert.algebraic_Kernel9Ideal_Reference9Ideal
    (hKernel9Ideal := Cert.Kernel9Ideal.Gen.facts) (hReference9Ideal := Cert.Reference9Ideal.Gen.facts) := by
  intro m g m' g' _ harg
  refine ⟨fun c => slab 256 384 (by decide) (xArg m c) (modArg m c) (nwArg m c) (wArg m c),
    fun c => keyRope (xArg m c) (modArg m c) (nwArg m c) (wArg m c),
    fun c => slab 1536 1184 (by decide) (xArg m c) (modArg m c) (nwArg m c) (wArg m c),
    fun c => gateLanes (xArg m c) (modArg m c) (nwArg m c) (wArg m c), ?_, ?_⟩
  · refine (θ_run _ _ _).mono (fun r h c => ?_) (Cert.Kernel9Ideal.Value.run_blocks m g)
    obtain ⟨h0, h1, h2, h3, hrest⟩ := h c
    exact ⟨h0.trans (Cert.Kernel9Ideal.InprojValue.final4 m c _ rfl _ rfl _ rfl _ rfl),
      h1.trans (Cert.Kernel9Ideal.InprojValue.final5 m c _ rfl _ rfl _ rfl _ rfl),
      h2.trans (Cert.Kernel9Ideal.InprojValue.final6 m c _ rfl _ rfl _ rfl _ rfl),
      h3.trans (Cert.Kernel9Ideal.InprojValue.final7 m c _ rfl _ rfl _ rfl _ rfl), hrest⟩
  · refine (θ_run _ _ _).mono (fun r h c => ?_) (Cert.Reference9Ideal.Value.run (F := Ideal) m' g')
    obtain ⟨h0, h1, h2, h3, hrest⟩ := h c
    obtain ⟨a0, a1, a2, a3⟩ := harg c
    refine ⟨h0.trans ?_, h1.trans ?_, h2.trans ?_, h3.trans ?_, hrest⟩
    · rw [Cert.Reference9Ideal.Read.val_main_v43_eq, Cert.Reference9Ideal.InprojRef.ckv_eq, a0, a1, a2, a3]
    · rw [Cert.Reference9Ideal.Read.val_main_v40_eq, Cert.Reference9Ideal.InprojRef.kr_eq, a0, a1, a2, a3]
    · rw [Cert.Reference9Ideal.Read.val_main_v44_eq, Cert.Reference9Ideal.InprojRef.delta_eq, a0, a1, a2, a3]
    · rw [Cert.Reference9Ideal.Read.val_main_v42_eq, Cert.Reference9Ideal.InprojRef.g_eq, a0, a1, a2, a3]

end Cert.InprojCtxClaim
-- ==== Proof.Gates.lean ====
/-
  The delta rule's decays as functions of the arguments, on the extended reals: the log decay of a token and lane, and its sums
  within chunks of 64 tokens, forward and backward. The sums got by doubling, as one program gets them, and those over a window of
  64 places, as the other does, are shown to be these.
-/
module

public import proofs.«01_k».proof.Proof.Merge
public import Idealize.ShloMosaic.Lib.KernelVsHost
public import Idealize.ShloMosaic.Lib.Pointwise

@[expose] public section

set_option maxRecDepth 16384

noncomputable section

namespace Cert.Gates

open Idealize.ShloMosaic

/-- The logarithm of 1 + eᶻ, written so that no exponential overflows. -/
def softplus (z : EReal) : EReal := max z 0 + Ideal.log1p (Ideal.exp (-max z (-z)))

/-- The log decay. -/
def decay (x a d : EReal) : EReal := -Ideal.exp a * softplus (x + d)

/-- An exponential is not negative. -/
theorem exp_nonneg (x : EReal) : 0 ≤ Ideal.exp x := by
  induction x with
  | bot => exact le_refl 0
  | top => exact le_top
  | coe r => exact EReal.coe_nonneg.2 (Real.exp_pos r).le

/-- Nor is the logarithm of a number from 1 on. -/
theorem log1p_nonneg (x : EReal) (h : 0 ≤ x) : 0 ≤ Ideal.log1p x := by
  unfold Ideal.log1p
  induction x with
  | bot => exact absurd h (by simp)
  | top => exact le_top
  | coe r =>
    have hr : 0 ≤ r := EReal.coe_nonneg.1 h
    have e : (1 : EReal) + (r : EReal) = ((1 + r : ℝ) : EReal) := rfl
    rw [e]
    show 0 ≤ (if 1 + r ≤ 0 then (⊥ : EReal) else (Real.log (1 + r) : EReal))
    rw [if_neg (by linarith)]
    exact EReal.coe_nonneg.2 (Real.log_nonneg (by linarith))

/-- A log decay is not plus infinity. -/
theorem decay_ne_top (x a d : EReal) : decay x a d ≠ ⊤ := by
  have h1 : 0 ≤ softplus (x + d) := add_nonneg (le_max_right _ _) (log1p_nonneg _ (exp_nonneg _))
  have h2 : decay x a d ≤ 0 := by
    unfold decay
    rw [EReal.neg_mul]
    exact EReal.neg_le_zero.2 (mul_nonneg (exp_nonneg a) h1)
  exact ne_of_lt (lt_of_le_of_lt h2 (by simp))

/-- The sum from the token's chunk's first token up to the token. -/
def fwd (f : ℕ → EReal) (t : ℕ) : EReal := ∑ i ∈ Finset.range (t % 64 + 1), f (t / 64 * 64 + i)

/-- The sum from the token up to its chunk's last. -/
def bwd (f : ℕ → EReal) (t : ℕ) : EReal := ∑ i ∈ Finset.range (64 - t % 64), f (t + i)

/-- The sum over the token's chunk. -/
def whole (f : ℕ → EReal) (t : ℕ) : EReal := ∑ i ∈ Finset.range 64, f (t / 64 * 64 + i)

/-- The sums forward, by doubling. -/
def pre (f : ℕ → EReal) : ℕ → ℕ → EReal
  | 0, t => f t
  | k + 1, t => pre f k t + if 2 ^ k ≤ t % 64 then pre f k (t - 2 ^ k) else 0

/-- The sums backward, by doubling. -/
def suf (f : ℕ → EReal) : ℕ → ℕ → EReal
  | 0, t => f t
  | k + 1, t => suf f k t + if t % 64 < 64 - 2 ^ k then suf f k (t + 2 ^ k) else 0

/-- After `k` steps forward the last 2ᵏ of the chunk's tokens up to this one are summed. -/
theorem pre_eq (f : ℕ → EReal) (k t : ℕ) : pre f k t = ∑ j ∈ Finset.range (2 ^ k), if j ≤ t % 64 then f (t - j) else 0 := by
  induction k generalizing t with
  | zero => simp [pre]
  | succ k ih =>
    show pre f k t + (if 2 ^ k ≤ t % 64 then pre f k (t - 2 ^ k) else 0) = _
    rw [ih, ih, pow_succ, Nat.mul_two, Finset.sum_range_add]
    generalize 2 ^ k = s
    refine congrArg₂ (· + ·) rfl ?_
    by_cases h : s ≤ t % 64
    · rw [if_pos h]
      refine Finset.sum_congr rfl fun j _ => ?_
      by_cases h' : j ≤ (t - s) % 64
      · rw [if_pos h', if_pos (by omega)]
        exact congrArg f (by omega)
      · rw [if_neg h', if_neg (by omega)]
    · rw [if_neg h]
      exact (Finset.sum_eq_zero fun j _ => if_neg (by omega)).symm

/-- And likewise backward. -/
theorem suf_eq (f : ℕ → EReal) (k t : ℕ) : suf f k t = ∑ j ∈ Finset.range (2 ^ k), if t % 64 + j < 64 then f (t + j) else 0 := by
  induction k generalizing t with
  | zero => simp [suf, Nat.mod_lt]
  | succ k ih =>
    show suf f k t + (if t % 64 < 64 - 2 ^ k then suf f k (t + 2 ^ k) else 0) = _
    rw [ih, ih, pow_succ, Nat.mul_two, Finset.sum_range_add]
    generalize 2 ^ k = s
    refine congrArg₂ (· + ·) rfl ?_
    by_cases h : t % 64 < 64 - s
    · rw [if_pos h]
      refine Finset.sum_congr rfl fun j _ => ?_
      by_cases h' : (t + s) % 64 + j < 64
      · rw [if_pos h', if_pos (by omega)]
        exact congrArg f (by omega)
      · rw [if_neg h', if_neg (by omega)]
    · rw [if_neg h]
      exact (Finset.sum_eq_zero fun j _ => if_neg (by omega)).symm

/-- Six steps forward are the sum up to the token. -/
theorem pre_six (f : ℕ → EReal) (t : ℕ) : pre f 6 t = fwd f t := by
  rw [pre_eq]
  unfold fwd
  have h64 : (2 : ℕ) ^ 6 = (t % 64 + 1) + (63 - t % 64) := by omega
  rw [h64, Finset.sum_range_add, Finset.sum_eq_zero (s := Finset.range (63 - t % 64)) fun j _ => if_neg (by omega), add_zero,
    ← Finset.sum_range_reflect (fun i => f (t / 64 * 64 + i))]
  refine Finset.sum_congr rfl fun j hj => ?_
  have hj' := Finset.mem_range.1 hj
  rw [if_pos (by omega)]
  exact congrArg f (by omega)

/-- Six steps backward are the sum from the token on. -/
theorem suf_six (f : ℕ → EReal) (t : ℕ) : suf f 6 t = bwd f t := by
  rw [suf_eq]
  unfold bwd
  have h64 : (2 : ℕ) ^ 6 = (64 - t % 64) + t % 64 := by omega
  rw [h64, Finset.sum_range_add, Finset.sum_eq_zero (s := Finset.range (t % 64)) fun j _ => if_neg (by omega), add_zero]
  refine Finset.sum_congr rfl fun j hj => ?_
  have hj' := Finset.mem_range.1 hj
  rw [if_pos (by omega)]

/-- The sums up to a token and from it on, the token itself taken away once, are the chunk's sum. -/
theorem whole_eq (f : ℕ → EReal) (t : ℕ) (h : f t ≠ ⊤) : fwd f t + bwd f t - f t = whole f t := by
  have e1 : fwd f t = (∑ i ∈ Finset.range (t % 64), f (t / 64 * 64 + i)) + f t := by
    unfold fwd
    rw [Finset.sum_range_succ]
    exact congrArg (fun z => _ + f z) (by omega)
  have e2 : bwd f t = (∑ i ∈ Finset.range (63 - t % 64), f (t + (i + 1))) + f t := by
    unfold bwd
    rw [show 64 - t % 64 = (63 - t % 64) + 1 by omega, Finset.sum_range_succ']
    rfl
  have e3 : whole f t = (∑ i ∈ Finset.range (t % 64), f (t / 64 * 64 + i)) + bwd f t := by
    unfold whole bwd
    refine (congrArg (fun n => ∑ i ∈ Finset.range n, f (t / 64 * 64 + i)) (show 64 = t % 64 + (64 - t % 64) by omega)).trans
      ((Finset.sum_range_add _ _ _).trans ?_)
    refine congrArg₂ (· + ·) ?_ (Finset.sum_congr rfl fun j _ => congrArg f ?_)
    · rfl
    · omega
  rw [e3, e1, e2]
  generalize (∑ i ∈ Finset.range (t % 64), f (t / 64 * 64 + i)) = a
  generalize (∑ i ∈ Finset.range (63 - t % 64), f (t + (i + 1))) = b
  generalize f t = g at h
  induction g with
  | bot => simp
  | top => exact absurd rfl h
  | coe r => rw [show a + (r : EReal) + (b + (r : EReal)) = (a + (b + (r : EReal))) + (r : EReal) by ac_rfl]; exact EReal.add_sub_cancel_right

/-- The chunk's sum is what the sum up to its last token is. -/
theorem fwd_last (f : ℕ → EReal) (t : ℕ) : fwd f (t / 64 * 64 + 63) = whole f t := by
  unfold fwd whole
  rw [show (t / 64 * 64 + 63) % 64 + 1 = 64 by omega, show (t / 64 * 64 + 63) / 64 * 64 = t / 64 * 64 by omega]

/-- And the sum from its first token on. -/
theorem bwd_first (f : ℕ → EReal) (t : ℕ) : bwd f (t / 64 * 64) = whole f t := by
  unfold bwd whole
  rw [show 64 - t / 64 * 64 % 64 = 64 by omega]

/-! ### The sum over a window of 64 places -/

/-- A sum by a fold from the left. -/
theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The window's shape. -/
abbrev Win : Shape := ⟨4, ![1, 1, 64, 1]⟩

/-- Its place `n` is at `n` along the third axis. -/
theorem win_symm (n : Fin Win.numel) : (Win.rowMajor.symm n 0).val = 0 ∧ (Win.rowMajor.symm n 1).val = 0
    ∧ (Win.rowMajor.symm n 2).val = n.val ∧ (Win.rowMajor.symm n 3).val = 0 := by
  have h := Shape.rowMajor_val_four (Win.rowMajor.symm n)
  rw [Equiv.apply_symm_apply] at h
  have h0 : (Win.rowMajor.symm n 0).val < 1 := (Win.rowMajor.symm n 0).isLt
  have h1 : (Win.rowMajor.symm n 1).val < 1 := (Win.rowMajor.symm n 1).isLt
  have h3 : (Win.rowMajor.symm n 3).val < 1 := (Win.rowMajor.symm n 3).isLt
  change n.val = (((Win.rowMajor.symm n 0).val * 1 + (Win.rowMajor.symm n 1).val) * 64 + (Win.rowMajor.symm n 2).val) * 1 + (Win.rowMajor.symm n 3).val at h
  omega

/-- The sums along the third axis, of 64 places, as a window's sums with 63 zeros put before. -/
theorem window_at {N : ℕ} (x : (⟨4, ![8, N, 64, 128]⟩ : Shape).Idx → EReal) (v : (⟨0, ![]⟩ : Shape).Idx → EReal) (hv : ∀ i, v i = 0)
    (h : (⟨4, ![8, N, 64, 128]⟩ : Shape).ReduceWindows ![1, 1, 64, 1] ![1, 1, 1, 1] ![0, 0, 63, 0] ![0, 0, 0, 0] ⟨4, ![8, N, 64, 128]⟩)
    (hu : 0 < (⟨0, ![]⟩ : Shape).numel) (b : Fin 8) (k : Fin N) (p : Fin 64) (l : Fin 128) :
    (Host.reduceWindowAdd (F := Ideal) (φ := .f32) ![1, 1, 64, 1] ![1, 1, 1, 1] ![0, 0, 63, 0] ![0, 0, 0, 0] x v h hu (ix4 b k p l) : EReal)
      = ∑ i ∈ Finset.range (p.val + 1), if hi : i < 64 then x (ix4 b k ⟨i, hi⟩ l) else 0 := by
  have hw : Win.numel = 64 := by decide
  show Host.reduceWindow (· + ·) ![1, 1, 64, 1] ![1, 1, 1, 1] ![0, 0, 63, 0] ![0, 0, 0, 0] x (fun _ : (⟨0, ![]⟩ : Shape).Idx => v (Shape.Idx.first hu)) h
    (by decide) (ix4 b k p l) = _
  unfold Host.reduceWindow
  dsimp only
  rw [hv]
  refine (foldl_add _ _ _).trans ?_
  rw [zero_add, ← Fin.sum_univ_def]
  refine (Finset.sum_congr (g := fun n : Fin Win.numel => (fun q : ℕ => if 63 ≤ p.val + q then
    (if hi : p.val + q - 63 < 64 then x (ix4 b k ⟨p.val + q - 63, hi⟩ l) else 0) else 0) n.val) rfl fun n _ => ?_).trans ?_
  · obtain ⟨w0, w1, w2, w3⟩ := win_symm n
    have hn : n.val < 64 := lt_of_lt_of_eq n.isLt hw
    have hp := p.isLt
    have hb := b.isLt
    have hk := k.isLt
    have hl := l.isLt
    have c0 : ∀ q : ℕ, q = 63 → (0 ≤ b.val * 1 + (Win.rowMajor.symm n 0).val ∧ b.val * 1 + (Win.rowMajor.symm n 0).val - 0 < 8) := fun _ _ => by omega
    by_cases hc : 63 ≤ p.val + n.val
    · rw [dif_pos (fun a => by
        match a with
        | ⟨0, _⟩ => exact c0 63 rfl
        | ⟨1, _⟩ =>
          show 0 ≤ k.val * 1 + (Win.rowMajor.symm n 1).val ∧ k.val * 1 + (Win.rowMajor.symm n 1).val - 0 < N
          omega
        | ⟨2, _⟩ =>
          show 63 ≤ p.val * 1 + (Win.rowMajor.symm n 2).val ∧ p.val * 1 + (Win.rowMajor.symm n 2).val - 63 < 64
          omega
        | ⟨3, _⟩ =>
          show 0 ≤ l.val * 1 + (Win.rowMajor.symm n 3).val ∧ l.val * 1 + (Win.rowMajor.symm n 3).val - 0 < 128
          omega)]
      show _ = if 63 ≤ p.val + n.val then (if hi : p.val + n.val - 63 < 64 then x (ix4 b k ⟨p.val + n.val - 63, hi⟩ l) else 0) else 0
      rw [if_pos hc, dif_pos (by omega)]
      refine congrArg x (funext fun a => Fin.ext ?_)
      match a with
      | ⟨0, _⟩ => show b.val * 1 + (Win.rowMajor.symm n 0).val - 0 = b.val; omega
      | ⟨1, _⟩ => show k.val * 1 + (Win.rowMajor.symm n 1).val - 0 = k.val; omega
      | ⟨2, _⟩ => show p.val * 1 + (Win.rowMajor.symm n 2).val - 63 = p.val + n.val - 63; omega
      | ⟨3, _⟩ => show l.val * 1 + (Win.rowMajor.symm n 3).val - 0 = l.val; omega
    · rw [dif_neg (fun hin => hc (by
        have h2 := (hin 2).1
        change 63 ≤ p.val * 1 + (Win.rowMajor.symm n 2).val at h2
        omega))]
      show _ = if 63 ≤ p.val + n.val then (if hi : p.val + n.val - 63 < 64 then x (ix4 b k ⟨p.val + n.val - 63, hi⟩ l) else 0) else 0
      rw [if_neg hc]
  · rw [Fin.sum_univ_eq_sum_range (fun q : ℕ => if 63 ≤ p.val + q then (if hi : p.val + q - 63 < 64 then x (ix4 b k ⟨p.val + q - 63, hi⟩ l) else 0) else 0) Win.numel, hw]
    have hp := p.isLt
    rw [show Finset.range 64 = Finset.range ((63 - p.val) + (p.val + 1)) from congrArg Finset.range (by omega), Finset.sum_range_add]
    rw [Finset.sum_eq_zero (s := Finset.range (63 - p.val)) fun q hq => if_neg (by have := Finset.mem_range.1 hq; omega), zero_add]
    refine Finset.sum_congr rfl fun i hi => ?_
    have hi' := Finset.mem_range.1 hi
    rw [if_pos (by omega)]
    simp only [show p.val + (63 - p.val + i) - 63 = i by omega]

/-! ### The doubling of whole blocks of rows -/

/-- A block of `L` rows. -/
abbrev Rows (L : ℕ) : Shape := ⟨2, ![L, 128]⟩

/-- A step forward: each row and the one `s` above it, where that is in the same chunk. -/
def stepF {L : ℕ} (pos : IVec (Rows L) 32) (s : BitVec 32) (h : (Rows L).Rotates 0 none) (v : FVec Ideal (Rows L) .f32) : FVec Ideal (Rows L) .f32 :=
  addf v (select (cmpi .sge pos (broadcast (Rows L) s)) (dynamicRotate 0 s none v h) (broadcast (Rows L) (Scalar.ofBits .f32 0x00000000#32)))

/-- A step backward: each row and the one `L - n` below it, where that is in the same chunk. -/
def stepB {L : ℕ} (pos : IVec (Rows L) 32) (m n : BitVec 32) (h : (Rows L).Rotates 0 none) (v : FVec Ideal (Rows L) .f32) : FVec Ideal (Rows L) .f32 :=
  addf v (select (cmpi .slt pos (broadcast (Rows L) m)) (dynamicRotate 0 n none v h) (broadcast (Rows L) (Scalar.ofBits .f32 0x00000000#32)))

/-- Six steps forward. -/
def chainF {L : ℕ} (pos : IVec (Rows L) 32) (h : (Rows L).Rotates 0 none) (v : FVec Ideal (Rows L) .f32) : FVec Ideal (Rows L) .f32 :=
  stepF pos 32#32 h (stepF pos 16#32 h (stepF pos 8#32 h (stepF pos 4#32 h (stepF pos 2#32 h (stepF pos 1#32 h v)))))

/-- Six steps backward. -/
def chainB {L : ℕ} (pos : IVec (Rows L) 32) (n : ℕ → BitVec 32) (h : (Rows L).Rotates 0 none) (v : FVec Ideal (Rows L) .f32) : FVec Ideal (Rows L) .f32 :=
  stepB pos 32#32 (n 32) h (stepB pos 48#32 (n 16) h (stepB pos 56#32 (n 8) h (stepB pos 60#32 (n 4) h (stepB pos 62#32 (n 2) h (stepB pos 63#32 (n 1) h v)))))

/-- Whether a place in a chunk is from 2ᵏ on. -/
theorem sge_pow : ∀ (k : Fin 6) (p : Fin 64), Scalar.cmpi .sge (BitVec.ofNat 32 p.val) (BitVec.ofNat 32 (2 ^ k.val)) = if 2 ^ k.val ≤ p.val then 1#1 else 0#1 := by
  decide +kernel

/-- Whether it is before 64 − 2ᵏ. -/
theorem slt_pow : ∀ (k : Fin 6) (p : Fin 64), Scalar.cmpi .slt (BitVec.ofNat 32 p.val) (BitVec.ofNat 32 (64 - 2 ^ k.val)) = if p.val < 64 - 2 ^ k.val then 1#1 else 0#1 := by
  decide +kernel

/-- The powers of 2 below 64. -/
theorem pow_le : ∀ k : Fin 6, 2 ^ k.val ≤ 32 := by decide

section

variable {L : ℕ} (hL : L % 64 = 0) (hL' : L < 4096) (pos : IVec (Rows L) 32)
  (hpos : ∀ (r : Fin L) (l : Fin 128), pos (ix2 r l) = BitVec.ofNat 32 (r.val % 64)) (h : (Rows L).Rotates 0 none)
  (f : ℕ → EReal) (l : Fin 128)

include hL hpos in
/-- A step forward on sums after `k` steps. -/
theorem stepF_at (k : Fin 6) (z : BitVec 32) (hs : z = BitVec.ofNat 32 (2 ^ k.val)) (v : FVec Ideal (Rows L) .f32)
    (hv : ∀ r : Fin L, (v (ix2 r l) : EReal) = pre f k.val r.val) (r : Fin L) : (stepF pos z h v (ix2 r l) : EReal) = pre f (k.val + 1) r.val := by
  have hk := pow_le k
  have hr := r.isLt
  have hc := sge_pow k ⟨r.val % 64, Nat.mod_lt _ (by decide)⟩
  subst hs
  show (v (ix2 r l) : EReal) + Scalar.select (Scalar.cmpi .sge (pos (ix2 r l)) (BitVec.ofNat 32 (2 ^ k.val)))
    (dynamicRotate 0 (BitVec.ofNat 32 (2 ^ k.val)) none v h (ix2 r l)) (Ideal.ofBits FTy.f32 0x00000000#32)
    = pre f k.val r.val + if 2 ^ k.val ≤ r.val % 64 then pre f k.val (r.val - 2 ^ k.val) else 0
  rw [hpos, hc, hv]
  refine congrArg₂ (· + ·) rfl ?_
  dsimp only
  generalize 2 ^ k.val = s at *
  by_cases hq : s ≤ r.val % 64
  · rw [if_pos hq, if_pos hq]
    refine Eq.trans (?_ : _ = dynamicRotate 0 (BitVec.ofNat 32 (s)) none v h (ix2 r l)) ?_
    · rfl
    · refine (dynamicRotate_apply 0 (BitVec.ofNat 32 (s)) v h (ix2 r l) (ix2 ⟨r.val - s, by omega⟩ l) fun b => ?_).trans (hv _)
      match b with
      | ⟨0, _⟩ =>
        show r.val - s = (r.val + L - (BitVec.ofNat 32 (s)).toNat % L) % L
        rw [BitVec.toNat_ofNat, Nat.mod_eq_of_lt (a := s) (b := 2 ^ 32) (by omega), Nat.mod_eq_of_lt (a := s) (b := L) (by omega),
          show r.val + L - s = (r.val - s) + L by omega, Nat.add_mod_right, Nat.mod_eq_of_lt (by omega)]
      | ⟨1, _⟩ => rfl
  · rw [if_neg hq, if_neg hq]
    refine Eq.trans (?_ : _ = Ideal.ofBits FTy.f32 0x00000000#32) ?_
    · rfl
    · pointwise

include hL hL' hpos in
/-- A step backward on sums after `k` steps. -/
theorem stepB_at (k : Fin 6) (m n : BitVec 32) (hm : m = BitVec.ofNat 32 (64 - 2 ^ k.val)) (hn : n = BitVec.ofNat 32 (L - 2 ^ k.val)) (v : FVec Ideal (Rows L) .f32)
    (hv : ∀ r : Fin L, (v (ix2 r l) : EReal) = suf f k.val r.val) (r : Fin L) : (stepB pos m n h v (ix2 r l) : EReal) = suf f (k.val + 1) r.val := by
  have hk := pow_le k
  have hk0 : 0 < 2 ^ k.val := Nat.pow_pos (by decide)
  have hr := r.isLt
  have hc := slt_pow k ⟨r.val % 64, Nat.mod_lt _ (by decide)⟩
  subst hm hn
  show (v (ix2 r l) : EReal) + Scalar.select (Scalar.cmpi .slt (pos (ix2 r l)) (BitVec.ofNat 32 (64 - 2 ^ k.val)))
    (dynamicRotate 0 (BitVec.ofNat 32 (L - 2 ^ k.val)) none v h (ix2 r l)) (Ideal.ofBits FTy.f32 0x00000000#32)
    = suf f k.val r.val + if r.val % 64 < 64 - 2 ^ k.val then suf f k.val (r.val + 2 ^ k.val) else 0
  rw [hpos, hc, hv]
  refine congrArg₂ (· + ·) rfl ?_
  dsimp only
  generalize 2 ^ k.val = s at *
  by_cases hq : r.val % 64 < 64 - s
  · rw [if_pos hq, if_pos hq]
    refine Eq.trans (?_ : _ = dynamicRotate 0 (BitVec.ofNat 32 (L - s)) none v h (ix2 r l)) ?_
    · rfl
    · refine (dynamicRotate_apply 0 (BitVec.ofNat 32 (L - s)) v h (ix2 r l) (ix2 ⟨r.val + s, by omega⟩ l) fun b => ?_).trans (hv _)
      match b with
      | ⟨0, _⟩ =>
        show r.val + s = (r.val + L - (BitVec.ofNat 32 (L - s)).toNat % L) % L
        rw [BitVec.toNat_ofNat, Nat.mod_eq_of_lt (a := L - s) (b := 2 ^ 32) (by omega), Nat.mod_eq_of_lt (a := L - s) (b := L) (by omega),
          show r.val + L - (L - s) = r.val + s by omega, Nat.mod_eq_of_lt (by omega)]
      | ⟨1, _⟩ => rfl
  · rw [if_neg hq, if_neg hq]
    refine Eq.trans (?_ : _ = Ideal.ofBits FTy.f32 0x00000000#32) ?_
    · rfl
    · pointwise

include hL hpos in
/-- Six steps forward are the sums up to each row. -/
theorem chainF_at (v : FVec Ideal (Rows L) .f32) (hv : ∀ r : Fin L, (v (ix2 r l) : EReal) = f r.val) (r : Fin L) :
    (chainF pos h v (ix2 r l) : EReal) = fwd f r.val := by
  rw [← pre_six]
  exact stepF_at hL pos hpos h f l 5 _ rfl _ (stepF_at hL pos hpos h f l 4 _ rfl _ (stepF_at hL pos hpos h f l 3 _ rfl _
    (stepF_at hL pos hpos h f l 2 _ rfl _ (stepF_at hL pos hpos h f l 1 _ rfl _ (stepF_at hL pos hpos h f l 0 _ rfl _ hv))))) r

include hL hL' hpos in
/-- Six steps backward are the sums from each row on. -/
theorem chainB_at (n : ℕ → BitVec 32) (hn : ∀ s, n s = BitVec.ofNat 32 (L - s)) (v : FVec Ideal (Rows L) .f32) (hv : ∀ r : Fin L, (v (ix2 r l) : EReal) = f r.val) (r : Fin L) :
    (chainB pos n h v (ix2 r l) : EReal) = bwd f r.val := by
  rw [← suf_six]
  exact stepB_at hL hL' pos hpos h f l 5 _ _ rfl (hn _) _ (stepB_at hL hL' pos hpos h f l 4 _ _ rfl (hn _) _ (stepB_at hL hL' pos hpos h f l 3 _ _ rfl (hn _) _
    (stepB_at hL hL' pos hpos h f l 2 _ _ rfl (hn _) _ (stepB_at hL hL' pos hpos h f l 1 _ _ rfl (hn _) _ (stepB_at hL hL' pos hpos h f l 0 _ _ rfl (hn _) _ hv))))) r

end

/-! ### The results -/

/-- The context tokens' rows. -/
abbrev Ctx : Type := (⟨3, ![8, 256, 128]⟩ : Shape).Idx → EReal
/-- The latent tokens' rows. -/
abbrev Lat : Type := (⟨3, ![8, 2048, 128]⟩ : Shape).Idx → EReal
/-- One number for each of the sixteen heads. -/
abbrev Heads : Type := (⟨3, ![1, 2, 8]⟩ : Shape).Idx → EReal
/-- The rows of all tokens. -/
abbrev Out : Type := (⟨3, ![8, 2304, 128]⟩ : Shape).Idx → EReal

/-- The heads' numbers on the lanes 16 to 31, among zeros. -/
def lanes (w : Heads) (l : Fin 128) : EReal :=
  if h : 16 ≤ l.val ∧ l.val < 32 then w (ix3 0 ⟨(l.val - 16) / 8, by omega⟩ ⟨(l.val - 16) % 8, by omega⟩) else 0

/-- A lane's log decays, token by token. -/
def col {L : ℕ} (x : Fin L → EReal) (a d : EReal) (t : ℕ) : EReal := if h : t < L then decay (x ⟨t, h⟩) a d else 0

/-- They are not plus infinity. -/
theorem col_ne_top {L : ℕ} (x : Fin L → EReal) (a d : EReal) (t : ℕ) : col x a d t ≠ ⊤ := by
  unfold col
  split
  · exact decay_ne_top _ _ _
  · exact EReal.zero_ne_top

/-- The sums: forward on the lanes before 24, backward on the others. -/
def sums (f : ℕ → EReal) (l : Fin 128) (t : ℕ) : EReal := if l.val < 24 then fwd f t else bwd f t

/-- A lane's write strengths. -/
def strength {L : ℕ} (x : Fin L → EReal) (t : ℕ) : EReal := if h : t < L then Ideal.logistic (x ⟨t, h⟩) else 0

/-- What of a lane is computed, for both kinds of tokens: from its rows, its rate's logarithm and its bias. -/
def stack (g : (L : ℕ) → (Fin L → EReal) → EReal → EReal → Fin 128 → ℕ → EReal) (xc : Ctx) (xl : Lat) (a d : Heads) : Out := fun i =>
  if (i 1).val < 256 then g 256 (fun s => xc (ix3 (i 0) s (i 2))) (lanes a (i 2)) (lanes d (i 2)) (i 2) (i 1).val
  else g 2048 (fun s => xl (ix3 (i 0) s (i 2))) (lanes a (i 2)) (lanes d (i 2)) (i 2) ((i 1).val - 256)

/-- The write strengths. -/
def g0 (L : ℕ) (x : Fin L → EReal) (_ _ : EReal) (_ : Fin 128) (t : ℕ) : EReal := strength x t
/-- The sums of the log decays. -/
def g1 (L : ℕ) (x : Fin L → EReal) (a d : EReal) (l : Fin 128) (t : ℕ) : EReal := sums (col x a d) l t
/-- Their exponentials. -/
def g2 (L : ℕ) (x : Fin L → EReal) (a d : EReal) (l : Fin 128) (t : ℕ) : EReal := Ideal.exp (sums (col x a d) l t)
/-- The exponentials of what remains of the chunk's. -/
def g3 (L : ℕ) (x : Fin L → EReal) (a d : EReal) (l : Fin 128) (t : ℕ) : EReal := Ideal.exp (whole (col x a d) t - sums (col x a d) l t)

end Cert.Gates
-- ==== Proof.GatesBlock.lean ====
/-
  One block of the decays' kernel read at an index: the rows of one batch element, the context's and the latent ones, and what the
  body leaves of them in its four output blocks.
-/
module

public import proofs.«01_k».proof.Proof.Gen.Kernel10Ideal.Value
public import Idealize.ShloMosaic.Lib.Pointwise
public import Idealize.ShloMosaic.Lib.Pipeline.ValueKit
public import Idealize.ShloMosaic.Lib.WritesUnit
public import proofs.«01_k».proof.Proof.Gates

@[expose] public section

set_option maxRecDepth 16384
noncomputable section

namespace Cert.Kernel10Ideal.GatesValue

open Cert.Kernel10Ideal Cert.Kernel10Ideal.Gen Idealize.ShloMosaic Idealize.ShloMosaic.TcCoe Idealize.SL.Sem
open Cert.Gates

/-- The log decays of the context's block. -/
theorem decayC_at (x : Vec Ideal S1x256x128 .f32) (d a : Vec Ideal S1x128 .f32) (r : Fin 256) (l : Fin 128) :
    (k0_pay9 (F := Ideal) x d a (ix2 r l) : EReal) = decay (x (ix3 0 r l)) (a (ix2 0 l)) (d (ix2 0 l)) := by
  unfold k0_pay9 k0_pay7
  pointwise
  rw [zero_sub, zero_sub]
  rfl

/-- The log decays of the latent block. -/
theorem decayL_at (x : Vec Ideal S1x2048x128 .f32) (d a : Vec Ideal S1x128 .f32) (r : Fin 2048) (l : Fin 128) :
    (k0_pay27 (F := Ideal) (k0_pay25 x d) (k0_pay26 a) (ix2 r l) : EReal) = decay (x (ix3 0 r l)) (a (ix2 0 l)) (d (ix2 0 l)) := by
  unfold k0_pay27 k0_pay26 k0_pay25 k0_pay23
  pointwise
  rw [zero_sub, zero_sub]
  rfl

/-- The places in the chunks, of the context's rows. -/
def posC : IVec S256x128 32 := k0_pay12 (Scalar.select (Scalar.cmpi .eq 64#32 0#32) 1#32 64#32) k0_pay10 k0_pay11

/-- Row `r` is at place `r mod 64`. -/
theorem posC_at (r : Fin 256) (l : Fin 128) : posC (ix2 r l) = BitVec.ofNat 32 (r.val % 64) := by
  unfold posC k0_pay12 k0_pay11 k0_pay10
  pointwise
  revert r
  decide +kernel

/-- And so of the latent ones. -/
theorem posL_at (r : Fin 2048) (l : Fin 128) : k0_pay28 (ix2 r l) = BitVec.ofNat 32 (r.val % 64) := by
  unfold k0_pay28
  pointwise
  revert r
  decide +kernel

/-- The lanes of the forward heads. -/
theorem lane_at : ∀ l : Fin 128, IntOp.cmpi .slt (BitVec.ofNat 32 l.val) 24#32 = if l.val < 24 then 1#1 else 0#1 := by
  decide +kernel

/-- The sums of the context's block. -/
def sumsC (v : FVec Ideal S256x128 .f32) : FVec Ideal S256x128 .f32 :=
  k0_pay18 posC (k0_pay13 v (Scalar.select (Scalar.cmpi .eq 64#32 0#32) 1#32 64#32) k0_pay10 k0_pay11)
    (k0_pay14 v (Scalar.select (Scalar.cmpi .eq 64#32 0#32) 1#32 64#32) k0_pay10 k0_pay11)
    (k0_pay15 (Scalar.select (Scalar.cmpi .eq 64#32 0#32) 1#32 64#32) k0_pay10 k0_pay11)

/-- The chunk sums of the context's block. -/
def totC (v : FVec Ideal S256x128 .f32) : FVec Ideal S256x128 .f32 :=
  k0_pay19 v posC (k0_pay13 v (Scalar.select (Scalar.cmpi .eq 64#32 0#32) 1#32 64#32) k0_pay10 k0_pay11)
    (k0_pay14 v (Scalar.select (Scalar.cmpi .eq 64#32 0#32) 1#32 64#32) k0_pay10 k0_pay11)
    (k0_pay15 (Scalar.select (Scalar.cmpi .eq 64#32 0#32) 1#32 64#32) k0_pay10 k0_pay11)

/-- Six steps forward on the context's block. -/
abbrev fC (v : FVec Ideal S256x128 .f32) : FVec Ideal S256x128 .f32 := chainF (L := 256) posC rotates_S256x128_d0 v
/-- Six steps backward on it. -/
abbrev bC (v : FVec Ideal S256x128 .f32) : FVec Ideal S256x128 .f32 := chainB (L := 256) posC (fun s => BitVec.ofNat 32 (256 - s)) rotates_S256x128_d0 v

/-- The context's sums are by doubling. -/
theorem sumsC_eq (v : FVec Ideal S256x128 .f32) : sumsC v
    = select (cmpi .slt (iota .tc S256x128 32 [1] iota_S256x128_d1_w32) (broadcast S256x128 24#32)) (fC v) (bC v) := rfl

/-- So are its chunk sums. -/
theorem totC_eq (v : FVec Ideal S256x128 .f32) : totC v = subf (addf (fC v) (bC v)) v := rfl

/-- The latent block's arguments of the last steps. -/
abbrev fL (v : FVec Ideal S2048x128 .f32) : FVec Ideal S2048x128 .f32 := chainF (L := 2048) k0_pay28 rotates_S2048x128_d0 v
/-- Six steps backward on it. -/
abbrev bL (v : FVec Ideal S2048x128 .f32) : FVec Ideal S2048x128 .f32 := chainB (L := 2048) k0_pay28 (fun s => BitVec.ofNat 32 (2048 - s)) rotates_S2048x128_d0 v

/-- The sums of the latent block. -/
def sumsL (v : FVec Ideal S2048x128 .f32) : FVec Ideal S2048x128 .f32 :=
  select (cmpi .slt (iota .tc S2048x128 32 [1] iota_S2048x128_d1_w32) (broadcast S2048x128 24#32)) (fL v) (bL v)

/-- A choice by a decided bit. -/
theorem sel_if (p : Prop) [Decidable p] (a b : EReal) : (Scalar.select (if p then 1#1 else 0#1) a b : EReal) = if p then a else b := by
  by_cases h : p
  · rw [if_pos h, if_pos h]; rfl
  · rw [if_neg h, if_neg h]; rfl

section

variable (f : ℕ → EReal) (l : Fin 128)

/-- The context's six steps forward. -/
theorem fC_at (v : FVec Ideal S256x128 .f32) (hv : ∀ r : Fin 256, (v (ix2 r l) : EReal) = f r.val) (r : Fin 256) :
    (fC v (ix2 r l) : EReal) = fwd f r.val := chainF_at (by decide) posC posC_at rotates_S256x128_d0 f l v hv r

/-- The context's six steps backward. -/
theorem bC_at (v : FVec Ideal S256x128 .f32) (hv : ∀ r : Fin 256, (v (ix2 r l) : EReal) = f r.val) (r : Fin 256) :
    (bC v (ix2 r l) : EReal) = bwd f r.val :=
  chainB_at (by decide) (by decide) posC posC_at rotates_S256x128_d0 f l _ (fun _ => rfl) v hv r

/-- The latent tokens' six steps forward. -/
theorem fL_at (v : FVec Ideal S2048x128 .f32) (hv : ∀ r : Fin 2048, (v (ix2 r l) : EReal) = f r.val) (r : Fin 2048) :
    (fL v (ix2 r l) : EReal) = fwd f r.val := chainF_at (by decide) k0_pay28 posL_at rotates_S2048x128_d0 f l v hv r

/-- The latent tokens' six steps backward. -/
theorem bL_at (v : FVec Ideal S2048x128 .f32) (hv : ∀ r : Fin 2048, (v (ix2 r l) : EReal) = f r.val) (r : Fin 2048) :
    (bL v (ix2 r l) : EReal) = bwd f r.val :=
  chainB_at (by decide) (by decide) k0_pay28 posL_at rotates_S2048x128_d0 f l _ (fun _ => rfl) v hv r

/-- The context's sums at an index. -/
theorem sumsC_at (v : FVec Ideal S256x128 .f32) (hv : ∀ r : Fin 256, (v (ix2 r l) : EReal) = f r.val) (r : Fin 256) :
    (sumsC v (ix2 r l) : EReal) = sums f l r.val := by
  rw [sumsC_eq]
  pointwise
  rw [lane_at, fC_at f l v hv r, bC_at f l v hv r, sel_if]
  rfl

/-- The latent sums at an index. -/
theorem sumsL_at (v : FVec Ideal S2048x128 .f32) (hv : ∀ r : Fin 2048, (v (ix2 r l) : EReal) = f r.val) (r : Fin 2048) :
    (sumsL v (ix2 r l) : EReal) = sums f l r.val := by
  unfold sumsL
  pointwise
  rw [lane_at, fL_at f l v hv r, bL_at f l v hv r, sel_if]
  rfl

/-- The context's chunk sums at an index. -/
theorem totC_at (v : FVec Ideal S256x128 .f32) (hv : ∀ r : Fin 256, (v (ix2 r l) : EReal) = f r.val) (r : Fin 256) (ht : f r.val ≠ ⊤) :
    (totC v (ix2 r l) : EReal) = whole f r.val := by
  rw [totC_eq, ← whole_eq f r.val ht]
  show (fC v (ix2 r l) : EReal) + (bC v (ix2 r l) : EReal) - (v (ix2 r l) : EReal) = _
  rw [fC_at f l v hv r, bC_at f l v hv r, hv]

/-- The latent chunk sums at an index. -/
theorem totL_at (v : FVec Ideal S2048x128 .f32) (hv : ∀ r : Fin 2048, (v (ix2 r l) : EReal) = f r.val) (r : Fin 2048) (ht : f r.val ≠ ⊤) :
    (subf (addf (fL v) (bL v)) v (ix2 r l) : EReal) = whole f r.val := by
  rw [← whole_eq f r.val ht]
  show (fL v (ix2 r l) : EReal) + (bL v (ix2 r l) : EReal) - (v (ix2 r l) : EReal) = _
  rw [fL_at f l v hv r, bL_at f l v hv r, hv]

end

/-- The log decays of a context's block, from its rows, the rates' logarithms and the biases. -/
abbrev decC (x : Vec Ideal S1x256x128 .f32) (a d : Vec Ideal S1x128 .f32) : FVec Ideal S256x128 .f32 := k0_pay9 x d a
/-- Those of a latent block. -/
abbrev decL (x : Vec Ideal S1x2048x128 .f32) (a d : Vec Ideal S1x128 .f32) : FVec Ideal S2048x128 .f32 := k0_pay27 (k0_pay25 x d) (k0_pay26 a)

section

variable (x : Vec Ideal S1x256x128 .f32) (z : Vec Ideal S1x2048x128 .f32) (a d : Vec Ideal S1x128 .f32) (l : Fin 128)

/-- A lane's log decays, in the context's block. -/
theorem decC_col (r : Fin 256) : (decC x a d (ix2 r l) : EReal) = col (fun s : Fin 256 => x (ix3 0 s l)) (a (ix2 0 l)) (d (ix2 0 l)) r.val := by
  refine (decayC_at x d a r l).trans ?_
  unfold col
  rw [dif_pos r.isLt]

/-- A lane's log decays, in the latent block. -/
theorem decL_col (r : Fin 2048) : (decL z a d (ix2 r l) : EReal) = col (fun s : Fin 2048 => z (ix3 0 s l)) (a (ix2 0 l)) (d (ix2 0 l)) r.val := by
  refine (decayL_at z d a r l).trans ?_
  unfold col
  rw [dif_pos r.isLt]

/-- The context's write strengths. -/
theorem c0_at (r : Fin 256) : (k0_pay8 (F := Ideal) x (ix3 0 r l) : EReal)
    = g0 256 (fun s => x (ix3 0 s l)) (a (ix2 0 l)) (d (ix2 0 l)) l r.val := by
  unfold k0_pay8 k0_pay7 g0 strength
  rw [dif_pos r.isLt]
  pointwise

/-- The context's sums. -/
theorem c1_at (r : Fin 256) : (k0_pay20 (F := Ideal) (sumsC (decC x a d)) (ix3 0 r l) : EReal)
    = g1 256 (fun s => x (ix3 0 s l)) (a (ix2 0 l)) (d (ix2 0 l)) l r.val := by
  unfold k0_pay20 g1
  pointwise
  exact sumsC_at _ l _ (decC_col x a d l) r

/-- Their exponentials. -/
theorem c2_at (r : Fin 256) : (k0_pay21 (F := Ideal) (sumsC (decC x a d)) (ix3 0 r l) : EReal)
    = g2 256 (fun s => x (ix3 0 s l)) (a (ix2 0 l)) (d (ix2 0 l)) l r.val := by
  unfold k0_pay21 g2
  pointwise
  rw [sumsC_at _ l _ (decC_col x a d l) r]

/-- The exponentials of what remains. -/
theorem c3_at (r : Fin 256) : (k0_pay22 (F := Ideal) (sumsC (decC x a d)) (totC (decC x a d)) (ix3 0 r l) : EReal)
    = g3 256 (fun s => x (ix3 0 s l)) (a (ix2 0 l)) (d (ix2 0 l)) l r.val := by
  unfold k0_pay22 g3
  pointwise
  rw [sumsC_at _ l _ (decC_col x a d l) r, totC_at _ l _ (decC_col x a d l) r (col_ne_top _ _ _ _)]

/-- The latent write strengths. -/
theorem l0_at (r : Fin 2048) : (k0_pay24 (F := Ideal) z (ix3 0 r l) : EReal)
    = g0 2048 (fun s => z (ix3 0 s l)) (a (ix2 0 l)) (d (ix2 0 l)) l r.val := by
  unfold k0_pay24 k0_pay23 g0 strength
  rw [dif_pos r.isLt]
  pointwise

/-- What the last steps on the latent tokens leave. -/
abbrev lastL (p : IVec S2048x128 32 → FVec Ideal S2048x128 .f32 → FVec Ideal S2048x128 .f32 → IVec S2048x128 1 → FVec Ideal S2048x128 .f32 → Ideal .f32
    → FVec Ideal S1x2048x128 .f32) : FVec Ideal S1x2048x128 .f32 :=
  p k0_pay28 (k0_pay31 k0_pay28 (k0_pay29 (k0_pay25 z d) (k0_pay26 a))) (k0_pay32 k0_pay28 (k0_pay30 (k0_pay25 z d) (k0_pay26 a)))
    (k0_pay33 k0_pay28) (k0_pay34 k0_pay28 (k0_pay29 (k0_pay25 z d) (k0_pay26 a))) (Scalar.ofBits .f32 0x00000000#32)

/-- The latent sums. -/
theorem l1_at (r : Fin 2048) : (lastL z a d k0_pay4 (ix3 0 r l) : EReal)
    = g1 2048 (fun s => z (ix3 0 s l)) (a (ix2 0 l)) (d (ix2 0 l)) l r.val := by
  have h : lastL z a d k0_pay4 = shapeCast S1x2048x128 (sumsL (decL z a d)) shapeCasts_S2048x128_S1x2048x128 := rfl
  rw [h]
  unfold g1
  pointwise
  exact sumsL_at _ l _ (decL_col z a d l) r

/-- Their exponentials. -/
theorem l2_at (r : Fin 2048) : (lastL z a d k0_pay5 (ix3 0 r l) : EReal)
    = g2 2048 (fun s => z (ix3 0 s l)) (a (ix2 0 l)) (d (ix2 0 l)) l r.val := by
  have h : lastL z a d k0_pay5 = shapeCast S1x2048x128 (exp (sumsL (decL z a d))) shapeCasts_S2048x128_S1x2048x128 := rfl
  rw [h]
  unfold g2
  pointwise
  rw [sumsL_at _ l _ (decL_col z a d l) r]

/-- The exponentials of what remains. -/
theorem l3_at (r : Fin 2048) : (lastL z a d (k0_pay6 (decL z a d)) (ix3 0 r l) : EReal)
    = g3 2048 (fun s => z (ix3 0 s l)) (a (ix2 0 l)) (d (ix2 0 l)) l r.val := by
  have h : lastL z a d (k0_pay6 (decL z a d)) = shapeCast S1x2048x128
      (exp (subf (subf (addf (fL (decL z a d)) (bL (decL z a d))) (decL z a d)) (sumsL (decL z a d)))) shapeCasts_S2048x128_S1x2048x128 := rfl
  rw [h]
  have h1 := sumsL_at _ l _ (decL_col z a d l) r
  have h2 := totL_at _ l _ (decL_col z a d l) r (col_ne_top _ _ _ _)
  refine (show _ = (Ideal.exp ((subf (subf (addf (fL (decL z a d)) (bL (decL z a d))) (decL z a d)) (sumsL (decL z a d)) (ix2 r l) : EReal)) : EReal) from ?_).trans ?_
  · pointwise
  · unfold g3
    rw [← h1, ← h2]
    rfl

/-- What of one block is left, both kinds of tokens. -/
def blockFn (g : (L : ℕ) → (Fin L → EReal) → EReal → EReal → Fin 128 → ℕ → EReal) (y : S1x2304x128.Idx) : EReal :=
  if (y 1).val < 256 then g 256 (fun s => x (ix3 0 s (y 2))) (a (ix2 0 (y 2))) (d (ix2 0 (y 2))) (y 2) (y 1).val
  else g 2048 (fun s => z (ix3 0 s (y 2))) (a (ix2 0 (y 2))) (d (ix2 0 (y 2))) (y 2) ((y 1).val - 256)

/-- The context's part of it. -/
theorem ctx_part (g : (L : ℕ) → (Fin L → EReal) → EReal → EReal → Fin 128 → ℕ → EReal) (w : Vec Ideal S1x256x128 .f32)
    (hw : ∀ (r : Fin 256) (l : Fin 128), (w (ix3 0 r l) : EReal) = g 256 (fun s => x (ix3 0 s l)) (a (ix2 0 l)) (d (ix2 0 l)) l r.val)
    (ho : ∀ q : Fin 3, (![0, 0, 0] : Fin 3 → ℕ) q + S1x256x128.size q ≤ S1x2304x128.size q) (y : S1x256x128.Idx) :
    (w y : EReal) = blockFn x z a d g ((Rect.unit (s := S1x2304x128) ![0, 0, 0] S1x256x128.size ho).emb y) := by
  obtain ⟨u, r, l, rfl⟩ : ∃ (u : Fin 1) (r : Fin 256) (l : Fin 128), y = ix3 u r l := ⟨y 0, y 1, y 2, eq_ix3 y⟩
  obtain rfl : u = 0 := Subsingleton.elim _ _
  have hr : (((Rect.unit (s := S1x2304x128) ![0, 0, 0] S1x256x128.size ho).emb (ix3 0 r l)) 1).val = r.val := by
    show 0 + 1 * r.val = _
    omega
  have hl : ((Rect.unit (s := S1x2304x128) ![0, 0, 0] S1x256x128.size ho).emb (ix3 0 r l)) 2 = l :=
    Fin.ext (by show 0 + 1 * l.val = l.val; omega)
  unfold blockFn
  rw [hr, if_pos r.isLt, hl]
  exact hw r l

/-- The latent part of it. -/
theorem lat_part (g : (L : ℕ) → (Fin L → EReal) → EReal → EReal → Fin 128 → ℕ → EReal) (w : Vec Ideal S1x2048x128 .f32)
    (hw : ∀ (r : Fin 2048) (l : Fin 128), (w (ix3 0 r l) : EReal) = g 2048 (fun s => z (ix3 0 s l)) (a (ix2 0 l)) (d (ix2 0 l)) l r.val)
    (ho : ∀ q : Fin 3, (![0, 256, 0] : Fin 3 → ℕ) q + S1x2048x128.size q ≤ S1x2304x128.size q) (y : S1x2048x128.Idx) :
    (w y : EReal) = blockFn x z a d g ((Rect.unit (s := S1x2304x128) ![0, 256, 0] S1x2048x128.size ho).emb y) := by
  obtain ⟨u, r, l, rfl⟩ : ∃ (u : Fin 1) (r : Fin 2048) (l : Fin 128), y = ix3 u r l := ⟨y 0, y 1, y 2, eq_ix3 y⟩
  obtain rfl : u = 0 := Subsingleton.elim _ _
  have hr : (((Rect.unit (s := S1x2304x128) ![0, 256, 0] S1x2048x128.size ho).emb (ix3 0 r l)) 1).val = 256 + r.val := by
    show 256 + 1 * r.val = _
    omega
  have hl : ((Rect.unit (s := S1x2304x128) ![0, 256, 0] S1x2048x128.size ho).emb (ix3 0 r l)) 2 = l :=
    Fin.ext (by show 0 + 1 * l.val = l.val; omega)
  unfold blockFn
  rw [hr, if_neg (by omega), hl, Nat.add_sub_cancel_left]
  exact hw r l

end

section

variable (c : Dev nD) (i : grid0.Coords) (arg1 : Memref sig .tc .vmem S1x256x128 .f32) (harg1 : arg1.IsWhole) (arg2 : Memref sig .tc .vmem S1x2048x128 .f32) (harg2 : arg2.IsWhole)
  (arg3 : Memref sig .tc .vmem S1x128 .f32) (harg3 : arg3.IsWhole) (arg4 : Memref sig .tc .vmem S1x128 .f32) (harg4 : arg4.IsWhole)
  (arg5 : Memref sig .tc .vmem S1x2304x128 .f32) (harg5 : arg5.IsWhole) (arg6 : Memref sig .tc .vmem S1x2304x128 .f32) (harg6 : arg6.IsWhole)
  (arg7 : Memref sig .tc .vmem S1x2304x128 .f32) (harg7 : arg7.IsWhole) (arg8 : Memref sig .tc .vmem S1x2304x128 .f32) (harg8 : arg8.IsWhole)
  (x0 : Vec Ideal S1x256x128 .f32) (x1 : Vec Ideal S1x2048x128 .f32) (x2 x3 : Vec Ideal S1x128 .f32)

/-- The load of the context's rows. -/
abbrev ldC : Vec Ideal S1x256x128 .f32 :=
  View.readAt (Elt Ideal) arg1.view (Rect.unit (s := S1x256x128) ![0, 0, 0] S1x256x128.size inb_S1x256x128_S1x256x128_0_0_0).toLoadRect (harg1.unread x0)
/-- The load of the latent rows. -/
abbrev ldL : Vec Ideal S1x2048x128 .f32 :=
  View.readAt (Elt Ideal) arg2.view (Rect.unit (s := S1x2048x128) ![0, 0, 0] S1x2048x128.size inb_S1x2048x128_S1x2048x128_0_0_0).toLoadRect (harg2.unread x1)
/-- The load of the rates' logarithms, or of the biases. -/
abbrev ldH : Vec Ideal S1x128 .f32 :=
  View.readAt (Elt Ideal) arg3.view (Rect.unit (s := S1x128) ![0, 0] S1x128.size inb_S1x128_S1x128_0_0).toLoadRect (harg3.unread x2)

/-- It reads the block's rows. -/
theorem ldC_eq : ldC arg1 harg1 x0 = x0 :=
  (View.readAt_eq_ld _ _ _).trans ((congrArg (fun z => View.ld z _) (harg1.read_unread x0)).trans
    (View.ld_unit_zero (by funext a; fin_cases a <;> rfl) _ _))
/-- It reads the block's rows. -/
theorem ldL_eq : ldL arg2 harg2 x1 = x1 :=
  (View.readAt_eq_ld _ _ _).trans ((congrArg (fun z => View.ld z _) (harg2.read_unread x1)).trans
    (View.ld_unit_zero (by funext a; fin_cases a <;> rfl) _ _))
/-- It reads the whole row. -/
theorem ldH_eq : ldH arg3 harg3 x2 = x2 :=
  (View.readAt_eq_ld _ _ _).trans ((congrArg (fun z => View.ld z _) (harg3.read_unread x2)).trans
    (View.ld_unit_zero (by funext a; fin_cases a <;> rfl) _ _))

/-- The write strengths a block leaves. -/
theorem out4 (y : S1x2304x128.Idx) : (out0_A_4 c i arg1 harg1 arg2 harg2 arg3 harg3 arg4 harg4 arg5 harg5 arg6 harg6 arg7 harg7 arg8 harg8 x0 x1 x2 x3 y : EReal) = blockFn x0 x1 x2 x3 g0 y := by
  have hc := c0_at (ldC arg1 harg1 x0) (ldH arg3 harg3 x2) (ldH arg4 harg4 x3)
  have hl := l0_at (ldL arg2 harg2 x1) (ldH arg3 harg3 x2) (ldH arg4 harg4 x3)
  unfold out0_A_4
  rw [View.read_writes_junk_eq_canon]
  refine View.canon_apply_of_pieces (Val := Elt Ideal) (e := .f32) (blockFn x0 x1 x2 x3 g0) _ ?_ y (cover0_A_4 _ _ _ _ _ _ _ _ _ _ _ _ _ _ _ _ _ _ _ _ _ _ _)
  unfold kernelRun0_A
  dsimp only
  refine List.forall_mem_cons.2 ⟨?_, List.forall_mem_cons.2 ⟨?_, fun p hp => by cases hp⟩⟩
  · exact fun y => lat_part x0 x1 x2 x3 g0 _ (fun r l => (hl l r).trans (by rw [ldL_eq, ldH_eq, ldH_eq])) inb_S1x2304x128_S1x2048x128_0_256_0 y
  · exact fun y => ctx_part x0 x1 x2 x3 g0 _ (fun r l => (hc l r).trans (by rw [ldC_eq, ldH_eq, ldH_eq])) inb_S1x2304x128_S1x256x128_0_0_0 y

/-- The sums it leaves. -/
theorem out5 (y : S1x2304x128.Idx) : (out0_A_5 c i arg1 harg1 arg2 harg2 arg3 harg3 arg4 harg4 arg5 harg5 arg6 harg6 arg7 harg7 arg8 harg8 x0 x1 x2 x3 y : EReal) = blockFn x0 x1 x2 x3 g1 y := by
  have hc := c1_at (ldC arg1 harg1 x0) (ldH arg3 harg3 x2) (ldH arg4 harg4 x3)
  have hl := l1_at (ldL arg2 harg2 x1) (ldH arg3 harg3 x2) (ldH arg4 harg4 x3)
  unfold out0_A_5
  rw [View.read_writes_junk_eq_canon]
  refine View.canon_apply_of_pieces (Val := Elt Ideal) (e := .f32) (blockFn x0 x1 x2 x3 g1) _ ?_ y (cover0_A_5 _ _ _ _ _ _ _ _ _ _ _ _ _ _ _ _ _ _ _ _ _ _ _)
  unfold kernelRun0_A
  dsimp only
  refine List.forall_mem_cons.2 ⟨?_, List.forall_mem_cons.2 ⟨?_, fun p hp => by cases hp⟩⟩
  · exact fun y => lat_part x0 x1 x2 x3 g1 _ (fun r l => (hl l r).trans (by rw [ldL_eq, ldH_eq, ldH_eq])) inb_S1x2304x128_S1x2048x128_0_256_0 y
  · exact fun y => ctx_part x0 x1 x2 x3 g1 _ (fun r l => (hc l r).trans (by rw [ldC_eq, ldH_eq, ldH_eq])) inb_S1x2304x128_S1x256x128_0_0_0 y

/-- Their exponentials. -/
theorem out6 (y : S1x2304x128.Idx) : (out0_A_6 c i arg1 harg1 arg2 harg2 arg3 harg3 arg4 harg4 arg5 harg5 arg6 harg6 arg7 harg7 arg8 harg8 x0 x1 x2 x3 y : EReal) = blockFn x0 x1 x2 x3 g2 y := by
  have hc := c2_at (ldC arg1 harg1 x0) (ldH arg3 harg3 x2) (ldH arg4 harg4 x3)
  have hl := l2_at (ldL arg2 harg2 x1) (ldH arg3 harg3 x2) (ldH arg4 harg4 x3)
  unfold out0_A_6
  rw [View.read_writes_junk_eq_canon]
  refine View.canon_apply_of_pieces (Val := Elt Ideal) (e := .f32) (blockFn x0 x1 x2 x3 g2) _ ?_ y (cover0_A_6 _ _ _ _ _ _ _ _ _ _ _ _ _ _ _ _ _ _ _ _ _ _ _)
  unfold kernelRun0_A
  dsimp only
  refine List.forall_mem_cons.2 ⟨?_, List.forall_mem_cons.2 ⟨?_, fun p hp => by cases hp⟩⟩
  · exact fun y => lat_part x0 x1 x2 x3 g2 _ (fun r l => (hl l r).trans (by rw [ldL_eq, ldH_eq, ldH_eq])) inb_S1x2304x128_S1x2048x128_0_256_0 y
  · exact fun y => ctx_part x0 x1 x2 x3 g2 _ (fun r l => (hc l r).trans (by rw [ldC_eq, ldH_eq, ldH_eq])) inb_S1x2304x128_S1x256x128_0_0_0 y

/-- The exponentials of what remains. -/
theorem out7 (y : S1x2304x128.Idx) : (out0_A_7 c i arg1 harg1 arg2 harg2 arg3 harg3 arg4 harg4 arg5 harg5 arg6 harg6 arg7 harg7 arg8 harg8 x0 x1 x2 x3 y : EReal) = blockFn x0 x1 x2 x3 g3 y := by
  have hc := c3_at (ldC arg1 harg1 x0) (ldH arg3 harg3 x2) (ldH arg4 harg4 x3)
  have hl := l3_at (ldL arg2 harg2 x1) (ldH arg3 harg3 x2) (ldH arg4 harg4 x3)
  unfold out0_A_7
  rw [View.read_writes_junk_eq_canon]
  refine View.canon_apply_of_pieces (Val := Elt Ideal) (e := .f32) (blockFn x0 x1 x2 x3 g3) _ ?_ y (cover0_A_7 _ _ _ _ _ _ _ _ _ _ _ _ _ _ _ _ _ _ _ _ _ _ _)
  unfold kernelRun0_A
  dsimp only
  refine List.forall_mem_cons.2 ⟨?_, List.forall_mem_cons.2 ⟨?_, fun p hp => by cases hp⟩⟩
  · exact fun y => lat_part x0 x1 x2 x3 g3 _ (fun r l => (hl l r).trans (by rw [ldL_eq, ldH_eq, ldH_eq])) inb_S1x2304x128_S1x2048x128_0_256_0 y
  · exact fun y => ctx_part x0 x1 x2 x3 g3 _ (fun r l => (hc l r).trans (by rw [ldC_eq, ldH_eq, ldH_eq])) inb_S1x2304x128_S1x256x128_0_0_0 y

end

end Cert.Kernel10Ideal.GatesValue
-- ==== Proof.GatesArray.lean ====
/-
  The decays' kernel's whole results: the rows its wrapper prepares, and the blocks, one for each batch element, that tile its arrays.
-/
module

public import proofs.«01_k».proof.Proof.GatesBlock
public import proofs.«01_k».proof.Proof.Rope
public import Idealize.ShloMosaic.Lib.KernelVsHost

@[expose] public section

set_option maxRecDepth 16384
noncomputable section

namespace Cert.Kernel10Ideal.GatesValue

open Cert.Kernel10Ideal Cert.Kernel10Ideal.Gen Idealize.ShloMosaic Idealize.ShloMosaic.TcCoe Idealize.SL.Sem
open Idealize.ShloMosaic.Pipeline (Dat)
open Cert.Gates

variable (m : (ℓ : Loc nD τ sig) → Buf (Elt Ideal) ℓ) (c : Dev nD)

/-- The heads' numbers, in the order of the lanes. -/
def flatHeads (w : FVec Ideal S1x2x8 .f32) : FVec Ideal S1x16 .f32 :=
  shapeCast S1x16 (shapeCast S2x8 w shapeCasts_S1x2x8_S2x8) shapeCasts_S2x8_S1x16

/-- Head `n % 8` of direction `n / 8` is at place `n`. -/
theorem flatHeads_at (w : FVec Ideal S1x2x8 .f32) (n : Fin 16) :
    (flatHeads w (ix2 0 n) : EReal) = w (ix3 0 ⟨n.val / 8, by omega⟩ ⟨n.val % 8, by omega⟩) := by
  unfold flatHeads
  refine (shapeCast_apply (shapeCast S2x8 w shapeCasts_S1x2x8_S2x8 : S2x8.Idx → EReal) shapeCasts_S2x8_S1x16
    _ (ix2 (⟨n.val / 8, by omega⟩ : Fin 2) (⟨n.val % 8, by omega⟩ : Fin 8) : S2x8.Idx) ?_).trans ?_
  · rw [Shape.rowMajor_val_two, Shape.rowMajor_val_two]
    show n.val / 8 * 8 + n.val % 8 = 0 * 16 + n.val
    omega
  · pointwise

/-- The heads' numbers on their lanes. -/
def padLanes (w : FVec Ideal S1x2x8 .f32) : FVec Ideal S1x128 .f32 :=
  pad S1x128 ![0, 16] ![0, 96] ![0, 0] (flatHeads w)
    (sitofp .f32 (constantI S_ 32 0#32) : FVec Ideal S_ .f32) pads_S1x16_S1x128_000_16960 h_S_

/-- The lanes. -/
theorem padLanes_at (w : FVec Ideal S1x2x8 .f32) (l : Fin 128) : (padLanes w (ix2 0 l) : EReal) = lanes w l := by
  unfold padLanes lanes
  pointwise
  rw [Cert.Rope.sitofp_zero]
  by_cases h : 16 ≤ l.val ∧ l.val < 32
  · rw [dif_pos h, dif_pos (by omega), flatHeads_at]
  · rw [dif_neg h, dif_neg (by omega)]

/-- The rates' logarithms. -/
theorem v3_at (l : Fin 128) : (V m c main_v3 : S1x128.Idx → EReal) (ix2 0 l) = lanes (m ((c : Thread nD τ).loc main_arg2)) l := by
  have h : V m c main_v3 = padLanes (m ((c : Thread nD τ).loc main_arg2)) := by
    simp only [V, hostOps0, hostOps0_1, hostOps0_2, hostOps0_3, List.flatten_cons, List.flatten_nil, List.append_nil, List.cons_append, List.nil_append]
    after_results_simp <;> rfl
  rw [h]
  exact padLanes_at _ l

/-- The biases. -/
theorem v5_at (l : Fin 128) : (V m c main_v5 : S1x128.Idx → EReal) (ix2 0 l) = lanes (m ((c : Thread nD τ).loc main_arg3)) l := by
  have h : V m c main_v5 = padLanes (m ((c : Thread nD τ).loc main_arg3)) := by
    simp only [V, hostOps0, hostOps0_1, hostOps0_2, hostOps0_3, List.flatten_cons, List.flatten_nil, List.append_nil, List.cons_append, List.nil_append]
    after_results_simp <;> rfl
  rw [h]
  exact padLanes_at _ l

/-- The context's tokens are the kernel's first argument. -/
theorem a0 : V m c main_arg0 = m ((c : Thread nD τ).loc main_arg0) := by
  simp only [V, hostOps0, hostOps0_1, hostOps0_2, hostOps0_3, List.flatten_cons, List.flatten_nil, List.append_nil, List.cons_append, List.nil_append]
  after_results_simp <;> rfl

/-- The latent tokens are its second. -/
theorem a1 : V m c main_arg1 = m ((c : Thread nD τ).loc main_arg1) := by
  simp only [V, hostOps0, hostOps0_1, hostOps0_2, hostOps0_3, List.flatten_cons, List.flatten_nil, List.append_nil, List.cons_append, List.nil_append]
  after_results_simp <;> rfl

/-- The block at a point is a batch element's. -/
theorem ind : ∀ t : Fin cfg0.N, win0_0.index t = ![t.val, 0, 0] ∧ win0_1.index t = ![t.val, 0, 0]
    ∧ win0_2.index t = ![0, 0] ∧ win0_3.index t = ![0, 0] ∧ win0_4.index t = ![t.val, 0, 0] ∧ win0_5.index t = ![t.val, 0, 0]
    ∧ win0_6.index t = ![t.val, 0, 0] ∧ win0_7.index t = ![t.val, 0, 0] :=
  (by decide +kernel : ∀ t : Fin grid0.N, win0_0.index t = ![t.val, 0, 0] ∧ win0_1.index t = ![t.val, 0, 0]
    ∧ win0_2.index t = ![0, 0] ∧ win0_3.index t = ![0, 0] ∧ win0_4.index t = ![t.val, 0, 0] ∧ win0_5.index t = ![t.val, 0, 0]
    ∧ win0_6.index t = ![t.val, 0, 0] ∧ win0_7.index t = ![t.val, 0, 0])

/-- The point's batch element. -/
abbrev bOf (t : Fin cfg0.N) : Fin 8 := ⟨t.val, t.isLt⟩

/-- The context tokens' block. -/
theorem b0 (t : Fin cfg0.N) (s : Fin 256) (l : Fin 128) : (iblk m c 0 t : S1x256x128.Idx → EReal) (ix3 0 s l)
    = (m ((c : Thread nD τ).loc main_arg0) : S8x256x128.Idx → EReal) (ix3 (bOf t) s l) := by
  blk_simp [iblk]
  refine Eq.trans (congrArg (V m c main_arg0) ?_) (congrFun (a0 m c) _)
  blk_ext [(ind t).1]

/-- The latent tokens' block. -/
theorem b1 (t : Fin cfg0.N) (s : Fin 2048) (l : Fin 128) : (iblk m c 1 t : S1x2048x128.Idx → EReal) (ix3 0 s l)
    = (m ((c : Thread nD τ).loc main_arg1) : S8x2048x128.Idx → EReal) (ix3 (bOf t) s l) := by
  blk_simp [iblk]
  refine Eq.trans (congrArg (V m c main_arg1) ?_) (congrFun (a1 m c) _)
  blk_ext [(ind t).2.1]

/-- The rates' logarithms' block. -/
theorem b2 (t : Fin cfg0.N) (l : Fin 128) : (iblk m c 2 t : S1x128.Idx → EReal) (ix2 0 l)
    = lanes (m ((c : Thread nD τ).loc main_arg2)) l := by
  blk_simp [iblk]
  refine Eq.trans (congrArg (V m c main_v3) ?_) (v3_at m c l)
  blk_ext [(ind t).2.2.1]

/-- The biases' block. -/
theorem b3 (t : Fin cfg0.N) (l : Fin 128) : (iblk m c 3 t : S1x128.Idx → EReal) (ix2 0 l)
    = lanes (m ((c : Thread nD τ).loc main_arg3)) l := by
  blk_simp [iblk]
  refine Eq.trans (congrArg (V m c main_v5) ?_) (v5_at m c l)
  blk_ext [(ind t).2.2.2.1]

/-- A point's blocks are the batch element's part of the whole. -/
theorem block_eq (g : (L : ℕ) → (Fin L → EReal) → EReal → EReal → Fin 128 → ℕ → EReal) (t : Fin cfg0.N) (r : Fin 2304) (l : Fin 128) :
    blockFn (iblk m c 0 t) (iblk m c 1 t) (iblk m c 2 t) (iblk m c 3 t) g (ix3 0 r l)
      = stack g (m ((c : Thread nD τ).loc main_arg0)) (m ((c : Thread nD τ).loc main_arg1)) (m ((c : Thread nD τ).loc main_arg2))
        (m ((c : Thread nD τ).loc main_arg3)) (ix3 (bOf t) r l) := by
  unfold blockFn stack
  simp only [ix3_0, ix3_1, ix3_2]
  show (if r.val < 256 then _ else _) = (if r.val < 256 then _ else _)
  simp only [b0, b1, b2, b3]

/-- The write strengths. -/
theorem final4 : (dats m 0 c).arrAt 4 cfg0.N = stack g0 (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  dsimp only
  obtain ⟨u, r, l, rfl⟩ : ∃ (u : Fin 1) (r : Fin 2304) (l : Fin 128), y = (ix3 u r l : S1x2304x128.Idx) := ⟨y 0, y 1, y 2, eq_ix3 y⟩
  obtain rfl : u = 0 := Subsingleton.elim _ _
  have hy : (win0_4.blk t).view.emb (ix3 0 r l : S1x2304x128.Idx) = (ix3 (bOf t) r l : S8x2304x128.Idx) := by
    blk_ext [(ind t).2.2.2.2.1]
  refine Eq.trans ?_ (congrArg (stack g0 _ _ _ _) hy).symm
  refine (out4 _ _ _ _ _ _ _ _ _ _ _ _ _ _ _ _ _ _ _ _ _ _ (ix3 0 r l)).trans ?_
  exact block_eq m c g0 t r l

/-- The sums. -/
theorem final5 : (dats m 0 c).arrAt 5 cfg0.N = stack g1 (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  dsimp only
  obtain ⟨u, r, l, rfl⟩ : ∃ (u : Fin 1) (r : Fin 2304) (l : Fin 128), y = (ix3 u r l : S1x2304x128.Idx) := ⟨y 0, y 1, y 2, eq_ix3 y⟩
  obtain rfl : u = 0 := Subsingleton.elim _ _
  have hy : (win0_5.blk t).view.emb (ix3 0 r l : S1x2304x128.Idx) = (ix3 (bOf t) r l : S8x2304x128.Idx) := by
    blk_ext [(ind t).2.2.2.2.2.1]
  refine Eq.trans ?_ (congrArg (stack g1 _ _ _ _) hy).symm
  refine (out5 _ _ _ _ _ _ _ _ _ _ _ _ _ _ _ _ _ _ _ _ _ _ (ix3 0 r l)).trans ?_
  exact block_eq m c g1 t r l

/-- Their exponentials. -/
theorem final6 : (dats m 0 c).arrAt 6 cfg0.N = stack g2 (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  dsimp only
  obtain ⟨u, r, l, rfl⟩ : ∃ (u : Fin 1) (r : Fin 2304) (l : Fin 128), y = (ix3 u r l : S1x2304x128.Idx) := ⟨y 0, y 1, y 2, eq_ix3 y⟩
  obtain rfl : u = 0 := Subsingleton.elim _ _
  have hy : (win0_6.blk t).view.emb (ix3 0 r l : S1x2304x128.Idx) = (ix3 (bOf t) r l : S8x2304x128.Idx) := by
    blk_ext [(ind t).2.2.2.2.2.2.1]
  refine Eq.trans ?_ (congrArg (stack g2 _ _ _ _) hy).symm
  refine (out6 _ _ _ _ _ _ _ _ _ _ _ _ _ _ _ _ _ _ _ _ _ _ (ix3 0 r l)).trans ?_
  exact block_eq m c g2 t r l

/-- The exponentials of what remains. -/
theorem final7 : (dats m 0 c).arrAt 7 cfg0.N = stack g3 (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]
  unfold outsAt0
  dsimp only
  obtain ⟨u, r, l, rfl⟩ : ∃ (u : Fin 1) (r : Fin 2304) (l : Fin 128), y = (ix3 u r l : S1x2304x128.Idx) := ⟨y 0, y 1, y 2, eq_ix3 y⟩
  obtain rfl : u = 0 := Subsingleton.elim _ _
  have hy : (win0_7.blk t).view.emb (ix3 0 r l : S1x2304x128.Idx) = (ix3 (bOf t) r l : S8x2304x128.Idx) := by
    blk_ext [(ind t).2.2.2.2.2.2.2]
  refine Eq.trans ?_ (congrArg (stack g3 _ _ _ _) hy).symm
  refine (out7 _ _ _ _ _ _ _ _ _ _ _ _ _ _ _ _ _ _ _ _ _ _ (ix3 0 r l)).trans ?_
  exact block_eq m c g3 t r l

end Cert.Kernel10Ideal.GatesValue
-- ==== Proof.GatesRef.lean ====
/-
  The decays' reference read at an index: sums over windows of 64 tokens, forward, and backward over the reversed chunks.
-/
module

public import proofs.«01_k».proof.Proof.Gen.Reference10Ideal.Read
public import Idealize.ShloMosaic.Lib.Pointwise
public import proofs.«01_k».proof.Proof.Gates
public import proofs.«01_k».proof.Proof.Rope

@[expose] public section

set_option maxRecDepth 16384
noncomputable section

namespace Cert.Reference10Ideal.GatesRef

open Cert.Reference10Ideal Cert.Reference10Ideal.Gen Cert.Reference10Ideal.Read Idealize.ShloMosaic Idealize.ShloMosaic.TcCoe Idealize.SL.Sem
open Cert.Gates

variable (xc : Ctx) (xl : Lat) (a d : Heads)

/-- The rates' logarithms on their lanes. -/
theorem rates_at (l : Fin 128) : (val_main_v1 (F := Ideal) a (ix1 l) : EReal) = lanes a l := by
  unfold val_main_v1 val_main_call0_v0 val_main_c val_main_v0 lanes
  pointwise
  rw [Cert.Rope.sitofp_zero]
  by_cases h : 16 ≤ l.val ∧ l.val < 32
  · rw [dif_pos h, dif_pos (by omega)]
  · rw [dif_neg h, dif_neg (by omega)]

/-- The biases on theirs. -/
theorem biases_at (l : Fin 128) : (val_main_v4 (F := Ideal) d (ix1 l) : EReal) = lanes d l := by
  unfold val_main_v4 val_main_call1_v0 val_main_c_0 val_main_v3 lanes
  pointwise
  rw [Cert.Rope.sitofp_zero]
  by_cases h : 16 ≤ l.val ∧ l.val < 32
  · rw [dif_pos h, dif_pos (by omega)]
  · rw [dif_neg h, dif_neg (by omega)]

/-- The context's log decays. -/
theorem decC_at (b : Fin 8) (t : Fin 256) (l : Fin 128) :
    (val_main_v12 (F := Ideal) xc a d (ix3 b t l) : EReal) = decay (xc (ix3 b t l)) (lanes a l) (lanes d l) := by
  have e1 := rates_at a l
  have e2 := biases_at d l
  unfold val_main_v12 val_main_v11 val_main_v10 val_main_v9 val_main_call2_v11 val_main_call2_v10 val_main_call2_v9 val_main_call2_v8 val_main_call2_v7 val_main_call2_v6 val_main_call2_v5 val_main_call2_v4 val_main_call2_v3 val_main_call2_v2 val_main_call2_v1 val_main_call2_v0 val_main_call2_cst val_main_v8 val_main_v7 val_main_v6 val_main_v5 val_main_v2
  generalize val_main_v1 (F := Ideal) a = y at e1 ⊢
  generalize val_main_v4 (F := Ideal) d = z at e2 ⊢
  pointwise
  rw [e1, e2, if_neg (fun h => h rfl)]
  rfl

/-- The latent log decays. -/
theorem decL_at (b : Fin 8) (t : Fin 2048) (l : Fin 128) :
    (val_main_v44 (F := Ideal) xl a d (ix3 b t l) : EReal) = decay (xl (ix3 b t l)) (lanes a l) (lanes d l) := by
  have e1 := rates_at a l
  have e2 := biases_at d l
  unfold val_main_v44 val_main_v43 val_main_v42 val_main_v41 val_main_call7_v11 val_main_call7_v10 val_main_call7_v9 val_main_call7_v8 val_main_call7_v7 val_main_call7_v6 val_main_call7_v5 val_main_call7_v4 val_main_call7_v3 val_main_call7_v2 val_main_call7_v1 val_main_call7_v0 val_main_call7_cst val_main_v40 val_main_v39 val_main_v38 val_main_v37 val_main_v2
  generalize val_main_v1 (F := Ideal) a = y at e1 ⊢
  generalize val_main_v4 (F := Ideal) d = z at e2 ⊢
  pointwise
  rw [e1, e2, if_neg (fun h => h rfl)]
  rfl

section

variable {N : ℕ} (D : (⟨4, ![8, N, 64, 128]⟩ : Shape).Idx → EReal) (f : ℕ → EReal) (b : Fin 8) (k : Fin N) (l : Fin 128)
  (v : (⟨0, ![]⟩ : Shape).Idx → EReal) (hv : ∀ i, v i = 0) (hD : ∀ p : Fin 64, D (ix4 b k p l) = f (k.val * 64 + p.val))
  (h : (⟨4, ![8, N, 64, 128]⟩ : Shape).ReduceWindows ![1, 1, 64, 1] ![1, 1, 1, 1] ![0, 0, 63, 0] ![0, 0, 0, 0] ⟨4, ![8, N, 64, 128]⟩)
  (hu : 0 < (⟨0, ![]⟩ : Shape).numel)

/-- A chunk reversed. -/
theorem rev_at (p : Fin 64) : Host.reverse [2] D (ix4 b k p l) = D (ix4 b k ⟨63 - p.val, by omega⟩ l) := by
  refine congrArg D (funext fun q => ?_)
  fin_cases q
  · rfl
  · rfl
  · exact Fin.ext (by show 64 - (p.val + 1) = 63 - p.val; omega)
  · rfl

include hv hD in
/-- The sums over windows are forward. -/
theorem fwd_at (p : Fin 64) :
    (Host.reduceWindowAdd (F := Ideal) (φ := .f32) ![1, 1, 64, 1] ![1, 1, 1, 1] ![0, 0, 63, 0] ![0, 0, 0, 0] D v h hu (ix4 b k p l) : EReal)
      = fwd f (k.val * 64 + p.val) := by
  rw [window_at D v hv h hu b k p l]
  unfold fwd
  rw [show (k.val * 64 + p.val) % 64 = p.val by omega, show (k.val * 64 + p.val) / 64 * 64 = k.val * 64 by omega]
  refine Finset.sum_congr rfl fun i hi => ?_
  have := Finset.mem_range.1 hi
  rw [dif_pos (by omega), hD]

include hv hD in
/-- Of the reversed chunks, reversed again, they are backward. -/
theorem bwd_at (p : Fin 64) :
    (Host.reverse [2] (Host.reduceWindowAdd (F := Ideal) (φ := .f32) ![1, 1, 64, 1] ![1, 1, 1, 1] ![0, 0, 63, 0] ![0, 0, 0, 0] (Host.reverse [2] D) v h hu)
      (ix4 b k p l) : EReal) = bwd f (k.val * 64 + p.val) := by
  rw [rev_at, window_at (Host.reverse [2] D) v hv h hu b k _ l, ← Finset.sum_range_reflect]
  unfold bwd
  rw [show (k.val * 64 + p.val) % 64 = p.val by omega]
  refine (Finset.sum_congr (congrArg Finset.range (by show 63 - p.val + 1 = 64 - p.val; omega)) fun i hi => ?_)
  have := Finset.mem_range.1 hi
  rw [dif_pos (by omega), rev_at, hD]
  exact congrArg f (by show k.val * 64 + (63 - (63 - p.val + 1 - 1 - i)) = k.val * 64 + p.val + i; omega)

end

/-- The zeros the windows start from. -/
theorem zero3 (i : S_.Idx) : (val_main_call3_call0_v0 (F := Ideal) i : EReal) = 0 := by
  unfold val_main_call3_call0_v0 val_main_call3_call0_cst
  pointwise

/-- The zeros the backward windows start from. -/
theorem zero5 (i : S_.Idx) : (val_main_call5_call0_v0 (F := Ideal) i : EReal) = 0 := by
  unfold val_main_call5_call0_v0 val_main_call5_call0_cst
  pointwise

/-- The zeros the latent windows start from. -/
theorem zero8 (i : S_.Idx) : (val_main_call8_call0_v0 (F := Ideal) i : EReal) = 0 := by
  unfold val_main_call8_call0_v0 val_main_call8_call0_cst
  pointwise

/-- The zeros the latent backward windows start from. -/
theorem zero10 (i : S_.Idx) : (val_main_call10_call0_v0 (F := Ideal) i : EReal) = 0 := by
  unfold val_main_call10_call0_v0 val_main_call10_call0_cst
  pointwise

/-- A lane of the context: its log decays, token by token. -/
abbrev fc (b : Fin 8) (l : Fin 128) : ℕ → EReal := col (fun s : Fin 256 => xc (ix3 b s l)) (lanes a l) (lanes d l)

/-- A lane of the latent tokens. -/
abbrev fl (b : Fin 8) (l : Fin 128) : ℕ → EReal := col (fun s : Fin 2048 => xl (ix3 b s l)) (lanes a l) (lanes d l)

/-- The context's log decays in chunks. -/
theorem chunkC (b : Fin 8) (k : Fin 4) (l : Fin 128) (p : Fin 64) :
    (val_main_v13 (F := Ideal) xc a d (ix4 b k p l) : EReal) = fc xc a d b l (k.val * 64 + p.val) := by
  have e := decC_at xc a d b ⟨k.val * 64 + p.val, by omega⟩ l
  unfold val_main_v13 fc col
  generalize val_main_v12 (F := Ideal) xc a d = y at e ⊢
  rw [dif_pos (by omega), ← e]
  refine shapeCast_apply y _ _ _ ?_
  rw [Shape.rowMajor_val_three, Shape.rowMajor_val_four]
  show (b.val * 256 + (k.val * 64 + p.val)) * 128 + l.val = ((b.val * 4 + k.val) * 64 + p.val) * 128 + l.val
  omega

/-- The latent log decays in chunks. -/
theorem chunkL (b : Fin 8) (k : Fin 32) (l : Fin 128) (p : Fin 64) :
    (val_main_v45 (F := Ideal) xl a d (ix4 b k p l) : EReal) = fl xl a d b l (k.val * 64 + p.val) := by
  have e := decL_at xl a d b ⟨k.val * 64 + p.val, by omega⟩ l
  unfold val_main_v45 fl col
  generalize val_main_v44 (F := Ideal) xl a d = y at e ⊢
  rw [dif_pos (by omega), ← e]
  refine shapeCast_apply y _ _ _ ?_
  rw [Shape.rowMajor_val_three, Shape.rowMajor_val_four]
  show (b.val * 2048 + (k.val * 64 + p.val)) * 128 + l.val = ((b.val * 32 + k.val) * 64 + p.val) * 128 + l.val
  omega

/-- The context's forward sums. -/
theorem fwdC (b : Fin 8) (k : Fin 4) (l : Fin 128) (p : Fin 64) :
    (val_main_v14 (F := Ideal) xc a d (ix4 b k p l) : EReal) = fwd (fc xc a d b l) (k.val * 64 + p.val) := by
  unfold val_main_v14
  exact fwd_at _ _ b k l _ zero3 (chunkC xc a d b k l) _ _ p

/-- The context's backward sums. -/
theorem bwdC (b : Fin 8) (k : Fin 4) (l : Fin 128) (p : Fin 64) :
    (val_main_v17 (F := Ideal) xc a d (ix4 b k p l) : EReal) = bwd (fc xc a d b l) (k.val * 64 + p.val) := by
  unfold val_main_v17 val_main_v16 val_main_v15
  exact bwd_at _ _ b k l _ zero5 (chunkC xc a d b k l) _ _ p

/-- The latent forward sums. -/
theorem fwdL (b : Fin 8) (k : Fin 32) (l : Fin 128) (p : Fin 64) :
    (val_main_v46 (F := Ideal) xl a d (ix4 b k p l) : EReal) = fwd (fl xl a d b l) (k.val * 64 + p.val) := by
  unfold val_main_v46
  exact fwd_at _ _ b k l _ zero8 (chunkL xl a d b k l) _ _ p

/-- The latent backward sums. -/
theorem bwdL (b : Fin 8) (k : Fin 32) (l : Fin 128) (p : Fin 64) :
    (val_main_v49 (F := Ideal) xl a d (ix4 b k p l) : EReal) = bwd (fl xl a d b l) (k.val * 64 + p.val) := by
  unfold val_main_v49 val_main_v48 val_main_v47
  exact bwd_at _ _ b k l _ zero10 (chunkL xl a d b k l) _ _ p

/-- The context's sums. -/
theorem sumsC (b : Fin 8) (k : Fin 4) (p : Fin 64) (l : Fin 128) :
    (val_main_v20 (F := Ideal) xc a d (ix4 b k p l) : EReal) = sums (fc xc a d b l) l (k.val * 64 + p.val) := by
  have e1 := fwdC xc a d b k l p
  have e2 := bwdC xc a d b k l p
  unfold val_main_v20 val_main_v19 val_main_v18 sums
  generalize val_main_v14 (F := Ideal) xc a d = y at e1 ⊢
  generalize val_main_v17 (F := Ideal) xc a d = z at e2 ⊢
  pointwise
  by_cases h : l.val < 24
  · rw [dif_pos h, if_pos h, e1]
  · rw [dif_neg h, if_neg h, ← e2]
    exact congrArg (fun q => z (ix4 b k p q)) (Fin.ext (by show 24 + (l.val - 24) = l.val; omega))

/-- The latent sums. -/
theorem sumsL (b : Fin 8) (k : Fin 32) (p : Fin 64) (l : Fin 128) :
    (val_main_v52 (F := Ideal) xl a d (ix4 b k p l) : EReal) = sums (fl xl a d b l) l (k.val * 64 + p.val) := by
  have e1 := fwdL xl a d b k l p
  have e2 := bwdL xl a d b k l p
  unfold val_main_v52 val_main_v51 val_main_v50 sums
  generalize val_main_v46 (F := Ideal) xl a d = y at e1 ⊢
  generalize val_main_v49 (F := Ideal) xl a d = z at e2 ⊢
  pointwise
  by_cases h : l.val < 24
  · rw [dif_pos h, if_pos h, e1]
  · rw [dif_neg h, if_neg h, ← e2]
    exact congrArg (fun q => z (ix4 b k p q)) (Fin.ext (by show 24 + (l.val - 24) = l.val; omega))

/-- The context's chunk sums. -/
theorem wholeC (b : Fin 8) (k : Fin 4) (p : Fin 64) (l : Fin 128) :
    (val_main_v23 (F := Ideal) xc a d (ix4 b k 0 l) : EReal) = whole (fc xc a d b l) (k.val * 64 + p.val) := by
  have e1 := fwdC xc a d b k l 63
  have e2 := bwdC xc a d b k l 0
  unfold val_main_v23 val_main_v22 val_main_v21
  generalize val_main_v14 (F := Ideal) xc a d = y at e1 ⊢
  generalize val_main_v17 (F := Ideal) xc a d = z at e2 ⊢
  pointwise
  have q : (k.val * 64 + p.val) / 64 * 64 = k.val * 64 := by omega
  by_cases h : l.val < 24
  · rw [dif_pos h, e1, ← fwd_last, q]
    rfl
  · rw [dif_neg h, ← bwd_first, q]
    refine Eq.trans ?_ e2
    exact congrArg (fun q => z (ix4 b k 0 q)) (Fin.ext (by show 24 + (l.val - 24) = l.val; omega))

/-- The latent chunk sums. -/
theorem wholeL (b : Fin 8) (k : Fin 32) (p : Fin 64) (l : Fin 128) :
    (val_main_v55 (F := Ideal) xl a d (ix4 b k 0 l) : EReal) = whole (fl xl a d b l) (k.val * 64 + p.val) := by
  have e1 := fwdL xl a d b k l 63
  have e2 := bwdL xl a d b k l 0
  unfold val_main_v55 val_main_v54 val_main_v53
  generalize val_main_v46 (F := Ideal) xl a d = y at e1 ⊢
  generalize val_main_v49 (F := Ideal) xl a d = z at e2 ⊢
  pointwise
  have q : (k.val * 64 + p.val) / 64 * 64 = k.val * 64 := by omega
  by_cases h : l.val < 24
  · rw [dif_pos h, e1, ← fwd_last, q]
    rfl
  · rw [dif_neg h, ← bwd_first, q]
    refine Eq.trans ?_ e2
    exact congrArg (fun q => z (ix4 b k 0 q)) (Fin.ext (by show 24 + (l.val - 24) = l.val; omega))

/-- Chunks put one after another. -/
theorem flat_at {N L : ℕ} (hN : N * 64 = L) (y : (⟨4, ![8, N, 64, 128]⟩ : Shape).Idx → EReal)
    (hs : (⟨4, ![8, N, 64, 128]⟩ : Shape).ShapeCasts ⟨3, ![8, L, 128]⟩) (b : Fin 8) (r : Fin L) (l : Fin 128) :
    shapeCast ⟨3, ![8, L, 128]⟩ y hs (ix3 b r l) = y (ix4 b ⟨r.val / 64, by omega⟩ ⟨r.val % 64, by omega⟩ l) := by
  subst hN
  refine shapeCast_apply y hs _ _ ?_
  rw [Shape.rowMajor_val_three, Shape.rowMajor_val_four]
  show ((b.val * N + r.val / 64) * 64 + r.val % 64) * 128 + l.val = (b.val * (N * 64) + r.val) * 128 + l.val
  have h1 : b.val * (N * 64) = b.val * N * 64 := (Nat.mul_assoc _ _ _).symm
  rw [h1]
  generalize b.val * N = q
  omega

/-- Place `r % 64` of chunk `r / 64` is token `r`. -/
theorem token (r : ℕ) : r / 64 * 64 + r % 64 = r := by omega

/-- The context's results and the latent tokens', one after another. -/
theorem joined (g : (L : ℕ) → (Fin L → EReal) → EReal → EReal → Fin 128 → ℕ → EReal) (y : S8x256x128.Idx → EReal) (z : S8x2048x128.Idx → EReal)
    (hy : ∀ (b : Fin 8) (r : Fin 256) (l : Fin 128), y (ix3 b r l) = g 256 (fun s => xc (ix3 b s l)) (lanes a l) (lanes d l) l r.val)
    (hz : ∀ (b : Fin 8) (r : Fin 2048) (l : Fin 128), z (ix3 b r l) = g 2048 (fun s => xl (ix3 b s l)) (lanes a l) (lanes d l) l r.val) :
    concatenate S8x2304x128 1 [⟨S8x256x128, y⟩, ⟨S8x2048x128, z⟩] concatenates_S8x256x128_S8x2048x128_S8x2304x128_d1 = stack g xc xl a d := by
  funext i
  obtain ⟨b, r, l, rfl⟩ : ∃ (b : Fin 8) (r : Fin 2304) (l : Fin 128), i = ix3 b r l := ⟨i 0, i 1, i 2, eq_ix3 i⟩
  pointwise
  show _ = if r.val < 256 then g 256 (fun s => xc (ix3 b s l)) (lanes a l) (lanes d l) l r.val
    else g 2048 (fun s => xl (ix3 b s l)) (lanes a l) (lanes d l) l (r.val - 256)
  by_cases h : r.val < 256
  · rw [dif_pos h, if_pos h]
    exact hy b ⟨r.val, h⟩ l
  · rw [dif_neg h, if_neg h]
    exact hz b ⟨r.val - 256, by omega⟩ l

/-- The write strengths. -/
theorem beta_eq : val_main_v69 (F := Ideal) xc xl = stack g0 xc xl a d := by
  unfold val_main_v69
  refine joined xc xl a d g0 _ _ (fun b r l => ?_) (fun b r l => ?_)
  · unfold val_main_v29 val_main_v28 val_main_v27 val_main_v26 val_main_v25 val_main_v24 val_main_cst val_main_cst_1 g0 strength
    rw [dif_pos r.isLt]
    pointwise
    rfl
  · unfold val_main_v61 val_main_v60 val_main_v59 val_main_v58 val_main_v57 val_main_v56 val_main_cst_2 val_main_cst_3 g0 strength
    rw [dif_pos r.isLt]
    pointwise
    rfl

/-- The sums. -/
theorem gcum_eq : val_main_v70 (F := Ideal) xc xl a d = stack g1 xc xl a d := by
  unfold val_main_v70
  refine joined xc xl a d g1 _ _ (fun b r l => ?_) (fun b r l => ?_)
  · unfold val_main_v30 g1
    refine (flat_at (N := 4) rfl _ _ b r l).trans ((sumsC xc a d b _ _ l).trans ?_)
    exact congrArg (sums _ l) (token r.val)
  · unfold val_main_v62 g1
    refine (flat_at (N := 32) rfl _ _ b r l).trans ((sumsL xl a d b _ _ l).trans ?_)
    exact congrArg (sums _ l) (token r.val)

/-- Their exponentials. -/
theorem egc_eq : val_main_v71 (F := Ideal) xc xl a d = stack g2 xc xl a d := by
  unfold val_main_v71
  refine joined xc xl a d g2 _ _ (fun b r l => ?_) (fun b r l => ?_)
  · unfold val_main_v32 val_main_v31 g2
    refine (flat_at (N := 4) rfl _ _ b r l).trans (congrArg Ideal.exp ((sumsC xc a d b _ _ l).trans ?_))
    exact congrArg (sums _ l) (token r.val)
  · unfold val_main_v64 val_main_v63 g2
    refine (flat_at (N := 32) rfl _ _ b r l).trans (congrArg Ideal.exp ((sumsL xl a d b _ _ l).trans ?_))
    exact congrArg (sums _ l) (token r.val)

/-- What of a chunk's decay remains, in the context. -/
theorem restC (b : Fin 8) (k : Fin 4) (p : Fin 64) (l : Fin 128) :
    (val_main_v35 (F := Ideal) xc a d (ix4 b k p l) : EReal)
      = Ideal.exp (whole (fc xc a d b l) (k.val * 64 + p.val) - sums (fc xc a d b l) l (k.val * 64 + p.val)) := by
  have e1 := wholeC xc a d b k p l
  have e2 := sumsC xc a d b k p l
  unfold val_main_v35 val_main_v34 val_main_v33
  generalize val_main_v23 (F := Ideal) xc a d = y at e1 ⊢
  generalize val_main_v20 (F := Ideal) xc a d = z at e2 ⊢
  pointwise
  rw [e1, e2]

/-- What of a chunk's decay remains, in the latent tokens. -/
theorem restL (b : Fin 8) (k : Fin 32) (p : Fin 64) (l : Fin 128) :
    (val_main_v67 (F := Ideal) xl a d (ix4 b k p l) : EReal)
      = Ideal.exp (whole (fl xl a d b l) (k.val * 64 + p.val) - sums (fl xl a d b l) l (k.val * 64 + p.val)) := by
  have e1 := wholeL xl a d b k p l
  have e2 := sumsL xl a d b k p l
  unfold val_main_v67 val_main_v66 val_main_v65
  generalize val_main_v55 (F := Ideal) xl a d = y at e1 ⊢
  generalize val_main_v52 (F := Ideal) xl a d = z at e2 ⊢
  pointwise
  rw [e1, e2]

/-- The exponentials of what remains. -/
theorem etg_eq : val_main_v72 (F := Ideal) xc xl a d = stack g3 xc xl a d := by
  unfold val_main_v72
  refine joined xc xl a d g3 _ _ (fun b r l => ?_) (fun b r l => ?_)
  · unfold val_main_v36 g3
    refine (flat_at (N := 4) rfl _ _ b r l).trans ((restC xc a d b _ _ l).trans ?_)
    exact congrArg (fun t => Ideal.exp (whole _ t - sums _ l t)) (token r.val)
  · unfold val_main_v68 g3
    refine (flat_at (N := 32) rfl _ _ b r l).trans ((restL xl a d b _ _ l).trans ?_)
    exact congrArg (fun t => Ideal.exp (whole _ t - sums _ l t)) (token r.val)

end Cert.Reference10Ideal.GatesRef
-- ==== Proof.GatesClaim.lean ====
/-
  The claim about the decays: the kernel and the reference leave the same write strengths and the same decays for every argument.
-/
module

public import proofs.«01_k».proof.Defs
public import proofs.«01_k».proof.Proof.GatesArray
public import proofs.«01_k».proof.Proof.GatesRef

@[expose] public section

set_option maxRecDepth 16384
noncomputable section

namespace Cert.GatesClaim

open Idealize.ShloMosaic Idealize.ShloMosaic.TcCoe Idealize.SL.Sem
open Cert.Gates

section

variable (m : (ℓ : Loc Cert.Kernel10Ideal.nD Cert.Kernel10Ideal.τ Cert.Kernel10Ideal.sig) → Buf (Elt Ideal) ℓ) (c : Dev Cert.Kernel10Ideal.nD)

/-- What `g` says of the kernel's arguments. -/
abbrev left (g : (L : ℕ) → (Fin L → EReal) → EReal → EReal → Fin 128 → ℕ → EReal) : Out :=
  stack g (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2))
    (m ((c.tc : Thread Cert.Kernel10Ideal.nD Cert.Kernel10Ideal.τ).loc Cert.Kernel10Ideal.main_arg3))

end

/-- For every argument, the kernel leaves the write strengths, the sums of the log decays in their chunks, their exponentials and
    the exponentials of what remains of the chunk's, and so does the reference, the arguments unchanged. -/
theorem algebraic : Cert.algebraic_Kernel10Ideal_Reference10Ideal
    (hKernel10Ideal := Cert.Kernel10Ideal.Gen.facts) (hReference10Ideal := Cert.Reference10Ideal.Gen.facts) := by
  intro m g m' g' _ harg
  refine ⟨fun c => left m c g0, fun c => left m c g1, fun c => left m c g2, fun c => left m c g3, ?_, ?_⟩
  · refine (θ_run _ _ _).mono (fun r h c => ?_) (Cert.Kernel10Ideal.Value.run_blocks m g)
    obtain ⟨h0, h1, h2, h3, hrest⟩ := h c
    exact ⟨h0.trans (Cert.Kernel10Ideal.GatesValue.final4 m c), h1.trans (Cert.Kernel10Ideal.GatesValue.final5 m c),
      h2.trans (Cert.Kernel10Ideal.GatesValue.final6 m c), h3.trans (Cert.Kernel10Ideal.GatesValue.final7 m c), hrest⟩
  · refine (θ_run _ _ _).mono (fun r h c => ?_) (Cert.Reference10Ideal.Value.run (F := Ideal) m' g')
    obtain ⟨h0, h1, h2, h3, hrest⟩ := h c
    obtain ⟨a0, a1, a2, a3⟩ := harg c
    refine ⟨h0.trans ?_, h1.trans ?_, h2.trans ?_, h3.trans ?_, hrest⟩
    · rw [Cert.Reference10Ideal.Read.val_main_v69_eq, Cert.Reference10Ideal.GatesRef.beta_eq _ _
        (m ((c.tc : Thread Cert.Kernel10Ideal.nD Cert.Kernel10Ideal.τ).loc Cert.Kernel10Ideal.main_arg2))
        (m ((c.tc : Thread Cert.Kernel10Ideal.nD Cert.Kernel10Ideal.τ).loc Cert.Kernel10Ideal.main_arg3)), a0, a1]
    · rw [Cert.Reference10Ideal.Read.val_main_v70_eq, Cert.Reference10Ideal.GatesRef.gcum_eq, a0, a1, a2, a3]
    · rw [Cert.Reference10Ideal.Read.val_main_v71_eq, Cert.Reference10Ideal.GatesRef.egc_eq, a0, a1, a2, a3]
    · rw [Cert.Reference10Ideal.Read.val_main_v72_eq, Cert.Reference10Ideal.GatesRef.etg_eq, a0, a1, a2, a3]

end Cert.GatesClaim
-- ==== Proof.lean ====
/-
  The proof of `Cert.Claim` (Defs.lean beside this file): for each of the calls the frames of the printed kernel, of the
  kernel over the extended reals and of its reference, and the equality of what the last two leave in their results. The
  frames of the kernels are the generated ones; a reference's is its run read at the arguments. The equalities are proved in
  the modules named `…Claim` under Proof/.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference5Ideal
public import proofs.«01_k».proof.Proof.Gen.Reference5Ideal.Run
public import proofs.«01_k».proof.Proof.Gen.Reference5Ideal.Read
public import proofs.«01_k».proof.Proof.Gen.Reference6Ideal
public import proofs.«01_k».proof.Proof.Gen.Reference6Ideal.Run
public import proofs.«01_k».proof.Proof.Gen.Reference6Ideal.Read
public import proofs.«01_k».proof.Proof.Gen.Reference7Ideal
public import proofs.«01_k».proof.Proof.Gen.Reference7Ideal.Run
public import proofs.«01_k».proof.Proof.Gen.Reference7Ideal.Read
public import proofs.«01_k».proof.Proof.Gen.Reference8Ideal
public import proofs.«01_k».proof.Proof.Gen.Reference8Ideal.Run
public import proofs.«01_k».proof.Proof.Gen.Reference8Ideal.Read
public import proofs.«01_k».proof.Proof.Gen.Reference9Ideal
public import proofs.«01_k».proof.Proof.Gen.Reference9Ideal.Run
public import proofs.«01_k».proof.Proof.Gen.Reference9Ideal.Read
public import proofs.«01_k».proof.Proof.Gen.Reference10Ideal
public import proofs.«01_k».proof.Proof.Gen.Reference10Ideal.Run
public import proofs.«01_k».proof.Proof.Gen.Reference10Ideal.Read
public import proofs.«01_k».proof.Proof.AttnClaim
public import proofs.«01_k».proof.Proof.InprojClaim
public import proofs.«01_k».proof.Proof.MergeClaim
public import proofs.«01_k».proof.Proof.QueryClaim
public import proofs.«01_k».proof.Proof.KvClaim
public import proofs.«01_k».proof.Proof.KvCtxClaim
public import proofs.«01_k».proof.Proof.ModClaim
public import proofs.«01_k».proof.Proof.ConvClaim
public import proofs.«01_k».proof.Proof.InprojCtxClaim
public import proofs.«01_k».proof.Proof.GatesClaim
public import Idealize.ShloMosaic.Adequacy
public import Idealize.ShloMosaic.Init

@[expose] public section

noncomputable section

namespace Cert.Proof

open Idealize.ShloMosaic Idealize.SL.Sem

/-- The attention reference terminates with its arguments unchanged, and it has no semaphore. -/
theorem frame_Reference : Cert.quiescent_ReferenceIdeal (hReferenceIdeal := Cert.ReferenceIdeal.Gen.facts) := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The input-projection reference terminates with its arguments unchanged, and it has no semaphore. -/
theorem frame_Reference2 : Cert.quiescent_Reference2Ideal (hReference2Ideal := Cert.Reference2Ideal.Gen.facts) := fun m ρ _ =>
  (θ_run Cert.Reference2Ideal.defs _ _).mono (fun r h => ⟨fun c => (h c).2.2.2.2.2.2.2.2,
    Idealize.ShloMosaic.sem_eq_zero_of_no_sems (by decide) r.2⟩) (Cert.Reference2Ideal.Value.run (F := Ideal) m ρ)

/-- The merge reference terminates with its arguments unchanged, and it has no semaphore. -/
theorem frame_Reference3 : Cert.quiescent_Reference3Ideal (hReference3Ideal := Cert.Reference3Ideal.Gen.facts) := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

/-- The query reference terminates with its arguments unchanged, and it has no semaphore. -/
theorem frame_Reference4 : Cert.quiescent_Reference4Ideal (hReference4Ideal := Cert.Reference4Ideal.Gen.facts) := fun m ρ _ =>
  (θ_run Cert.Reference4Ideal.defs _ _).mono (fun r h => ⟨fun c => (h c).2,
    Idealize.ShloMosaic.sem_eq_zero_of_no_sems (by decide) r.2⟩) (Cert.Reference4Ideal.Value.run (F := Ideal) m ρ)

/-- The key and value reference terminates with its arguments unchanged, and it has no semaphore. -/
theorem frame_Reference5 : Cert.quiescent_Reference5Ideal (hReference5Ideal := Cert.Reference5Ideal.Gen.facts) := fun m ρ _ =>
  (θ_run Cert.Reference5Ideal.defs _ _).mono (fun r h => ⟨fun c => (h c).2.2,
    Idealize.ShloMosaic.sem_eq_zero_of_no_sems (by decide) r.2⟩) (Cert.Reference5Ideal.Value.run (F := Ideal) m ρ)

/-- The context key and value reference terminates with its arguments unchanged, and it has no semaphore. -/
theorem frame_Reference6 : Cert.quiescent_Reference6Ideal (hReference6Ideal := Cert.Reference6Ideal.Gen.facts) := fun m ρ _ =>
  (θ_run Cert.Reference6Ideal.defs _ _).mono (fun r h => ⟨fun c => (h c).2.2,
    Idealize.ShloMosaic.sem_eq_zero_of_no_sems (by decide) r.2⟩) (Cert.Reference6Ideal.Value.run (F := Ideal) m ρ)

/-- The modulation reference terminates with its arguments unchanged, and it has no semaphore. -/
theorem frame_Reference7 : Cert.quiescent_Reference7Ideal (hReference7Ideal := Cert.Reference7Ideal.Gen.facts) := fun m ρ _ =>
  (θ_run Cert.Reference7Ideal.defs _ _).mono (fun r h => ⟨fun c => (h c).2,
    Idealize.ShloMosaic.sem_eq_zero_of_no_sems (by decide) r.2⟩) (Cert.Reference7Ideal.Value.run (F := Ideal) m ρ)

/-- The convolution reference terminates with its arguments unchanged, and it has no semaphore. -/
theorem frame_Reference8 : Cert.quiescent_Reference8Ideal (hReference8Ideal := Cert.Reference8Ideal.Gen.facts) := fun m ρ _ =>
  (θ_run Cert.Reference8Ideal.defs _ _).mono (fun r h => ⟨fun c => (h c).2,
    Idealize.ShloMosaic.sem_eq_zero_of_no_sems (by decide) r.2⟩) (Cert.Reference8Ideal.Value.run (F := Ideal) m ρ)

/-- The context projection reference terminates with its arguments unchanged, and it has no semaphore. -/
theorem frame_Reference9 : Cert.quiescent_Reference9Ideal (hReference9Ideal := Cert.Reference9Ideal.Gen.facts) := fun m ρ _ =>
  (θ_run Cert.Reference9Ideal.defs _ _).mono (fun r h => ⟨fun c => (h c).2.2.2.2,
    Idealize.ShloMosaic.sem_eq_zero_of_no_sems (by decide) r.2⟩) (Cert.Reference9Ideal.Value.run (F := Ideal) m ρ)

/-- The decay reference terminates with its arguments unchanged, and it has no semaphore. -/
theorem frame_Reference10 : Cert.quiescent_Reference10Ideal (hReference10Ideal := Cert.Reference10Ideal.Gen.facts) := fun m ρ _ =>
  (θ_run Cert.Reference10Ideal.defs _ _).mono (fun r h => ⟨fun c => (h c).2.2.2.2,
    Idealize.ShloMosaic.sem_eq_zero_of_no_sems (by decide) r.2⟩) (Cert.Reference10Ideal.Value.run (F := Ideal) m ρ)

/-- Everything the certificate claims. -/
theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.AttnClaim.preFacts,
   Cert.KvClaim.preFacts,
   Cert.KvCtxClaim.preFacts,
   fun m ρ _ => Cert.Kernel.Gen.frame m ρ,
   fun m ρ _ => Cert.KernelIdeal.Gen.frame m ρ,
   fun m ρ _ => Cert.KernelIdeal.Gen.frame m ρ,
   frame_Reference,
   fun m ρ _ => frame_Reference m ρ trivial,
   fun m ρ _ => Cert.Kernel2.Gen.frame m ρ,
   fun m ρ _ => Cert.Kernel2Ideal.Gen.frame m ρ,
   frame_Reference2,
   fun m ρ _ => Cert.Kernel3.Gen.frame m ρ,
   fun m ρ _ => Cert.Kernel3Ideal.Gen.frame m ρ,
   frame_Reference3,
   fun m ρ _ => Cert.Kernel4.Gen.frame m ρ,
   fun m ρ _ => Cert.Kernel4Ideal.Gen.frame m ρ,
   frame_Reference4,
   fun m ρ _ => Cert.Kernel5.Gen.frame m ρ,
   fun m ρ _ => Cert.Kernel5Ideal.Gen.frame m ρ,
   fun m ρ _ => Cert.Kernel5Ideal.Gen.frame m ρ,
   frame_Reference5,
   fun m ρ _ => frame_Reference5 m ρ trivial,
   fun m ρ _ => Cert.Kernel6.Gen.frame m ρ,
   fun m ρ _ => Cert.Kernel6Ideal.Gen.frame m ρ,
   fun m ρ _ => Cert.Kernel6Ideal.Gen.frame m ρ,
   frame_Reference6,
   fun m ρ _ => frame_Reference6 m ρ trivial,
   fun m ρ _ => Cert.Kernel7.Gen.frame m ρ,
   fun m ρ _ => Cert.Kernel7Ideal.Gen.frame m ρ,
   frame_Reference7,
   fun m ρ _ => Cert.Kernel8.Gen.frame m ρ,
   fun m ρ _ => Cert.Kernel8Ideal.Gen.frame m ρ,
   frame_Reference8,
   fun m ρ _ => Cert.Kernel9.Gen.frame m ρ,
   fun m ρ _ => Cert.Kernel9Ideal.Gen.frame m ρ,
   frame_Reference9,
   fun m ρ _ => Cert.Kernel10.Gen.frame m ρ,
   fun m ρ _ => Cert.Kernel10Ideal.Gen.frame m ρ,
   frame_Reference10,
   trivial,
   Cert.AttnClaim.algebraic,
   trivial,
   Cert.InprojClaim.algebraic,
   trivial,
   Cert.MergeClaim.algebraic,
   Cert.QueryClaim.preserves,
   Cert.QueryClaim.algebraic,
   Cert.KvClaim.preserves,
   Cert.KvClaim.algebraic,
   Cert.KvCtxClaim.preserves,
   Cert.KvCtxClaim.algebraic,
   trivial,
   Cert.ModClaim.algebraic,
   trivial,
   Cert.ConvClaim.algebraic,
   trivial,
   Cert.InprojCtxClaim.algebraic,
   trivial,
   Cert.GatesClaim.algebraic⟩

end Cert.Proof

end
